-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_qk [hPre_finite_qk : Cert.Pre_finite_qk.Facts] (m : (ℓ : Loc Cert.AttnIdeal.nD Cert.AttnIdeal.τ Cert.AttnIdeal.sig) → Buf (Elt Ideal) ℓ) : Prop :=
  ∀ c : Dev Cert.AttnIdeal.nD,
    (Cert.Pre_finite_qk.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_qk [hPre_finite_qk : Cert.Pre_finite_qk.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_qk.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Experts [hPre_routed : Cert.Pre_routed.Facts] (m : (ℓ : Loc Cert.Experts.nD Cert.Experts.τ Cert.Experts.sig) → Buf (Elt Bits) ℓ) : Prop :=
  ∀ c : Dev Cert.Experts.nD,
    (Cert.Pre_routed.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5))) = (fun _ => 1#1)

def Pre_ExpertsIdeal [hPre_routed : Cert.Pre_routed.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_routed.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_routed [hPre_routed : Cert.Pre_routed.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_routed.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_qk [hAttnIdeal : Cert.AttnIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_qk m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_qk [hAttnRefIdeal : Cert.AttnRefIdeal.Facts] [hPre_finite_qk : Cert.Pre_finite_qk.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_qk m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Experts [hExperts : Cert.Experts.Facts] [hPre_routed : Cert.Pre_routed.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_ExpertsRefIdeal_pre_routed [hExpertsRefIdeal : Cert.ExpertsRefIdeal.Facts] [hPre_routed : Cert.Pre_routed.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_routed m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def preserves_Attn_AttnIdeal : Prop :=
  True

def algebraic_AttnIdeal_AttnRefIdeal_pre_finite_qk [hAttnIdeal : Cert.AttnIdeal.Facts] [hAttnRefIdeal : Cert.AttnRefIdeal.Facts] [hPre_finite_qk : Cert.Pre_finite_qk.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_qk m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v5_0)) (v1 : (c : Dev Cert.AttnIdeal.nD) → Buf (Elt Ideal) ((c.tc : Thread Cert.AttnIdeal.nD Cert.AttnIdeal.τ).loc Cert.AttnIdeal.main_v5_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v5_0) = v0 c
          ∧ r.2.mem ((c.tc : Thread Cert.AttnIdeal.nD Cert.AttnIdeal.τ).loc Cert.AttnIdeal.main_v5_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v36) = v0 c
          ∧ r.2.mem ((c.tc : Thread Cert.AttnRefIdeal.nD Cert.AttnRefIdeal.τ).loc Cert.AttnRefIdeal.main_v59) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Experts_ExpertsIdeal : Prop :=
  True

def algebraic_ExpertsIdeal_ExpertsRefIdeal [hExpertsIdeal : Cert.ExpertsIdeal.Facts] [hExpertsRefIdeal : Cert.ExpertsRefIdeal.Facts] [hPre_routed : Cert.Pre_routed.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v20) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v31) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v28) = v0 c
          ∧ r.2.mem ((c.tc : Thread Cert.OutRefIdeal.nD Cert.OutRefIdeal.τ).loc Cert.OutRefIdeal.main_v66) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def Claim : Prop :=
  ∃ (hAttn : Cert.Attn.Facts) (hAttnIdeal : Cert.AttnIdeal.Facts) (hAttnRefIdeal : Cert.AttnRefIdeal.Facts) (hExperts : Cert.Experts.Facts) (hExpertsIdeal : Cert.ExpertsIdeal.Facts) (hExpertsRefIdeal : Cert.ExpertsRefIdeal.Facts) (hFfn : Cert.Ffn.Facts) (hFfnIdeal : Cert.FfnIdeal.Facts) (hFfnRefIdeal : Cert.FfnRefIdeal.Facts) (hOut : Cert.Out.Facts) (hOutIdeal : Cert.OutIdeal.Facts) (hOutRefIdeal : Cert.OutRefIdeal.Facts) (hPre_finite_qk : Cert.Pre_finite_qk.Facts) (hPre_routed : Cert.Pre_routed.Facts),
    quiescent_Attn (hAttn := hAttn)
    ∧ quiescent_AttnIdeal (hAttnIdeal := hAttnIdeal)
    ∧ quiescent_AttnIdeal_pre_finite_qk (hAttnIdeal := hAttnIdeal) (hPre_finite_qk := hPre_finite_qk)
    ∧ quiescent_AttnRefIdeal (hAttnRefIdeal := hAttnRefIdeal)
    ∧ quiescent_AttnRefIdeal_pre_finite_qk (hAttnRefIdeal := hAttnRefIdeal) (hPre_finite_qk := hPre_finite_qk)
    ∧ quiescent_Experts (hExperts := hExperts) (hPre_routed := hPre_routed)
    ∧ quiescent_ExpertsIdeal (hExpertsIdeal := hExpertsIdeal) (hPre_routed := hPre_routed)
    ∧ quiescent_ExpertsRefIdeal (hExpertsRefIdeal := hExpertsRefIdeal)
    ∧ quiescent_ExpertsRefIdeal_pre_routed (hExpertsRefIdeal := hExpertsRefIdeal) (hPre_routed := hPre_routed)
    ∧ quiescent_Ffn (hFfn := hFfn)
    ∧ quiescent_FfnIdeal (hFfnIdeal := hFfnIdeal)
    ∧ quiescent_FfnRefIdeal (hFfnRefIdeal := hFfnRefIdeal)
    ∧ quiescent_Out (hOut := hOut)
    ∧ quiescent_OutIdeal (hOutIdeal := hOutIdeal)
    ∧ quiescent_OutRefIdeal (hOutRefIdeal := hOutRefIdeal)
    ∧ preserves_Attn_AttnIdeal
    ∧ algebraic_AttnIdeal_AttnRefIdeal_pre_finite_qk (hAttnIdeal := hAttnIdeal) (hAttnRefIdeal := hAttnRefIdeal) (hPre_finite_qk := hPre_finite_qk)
    ∧ preserves_Experts_ExpertsIdeal
    ∧ algebraic_ExpertsIdeal_ExpertsRefIdeal (hExpertsIdeal := hExpertsIdeal) (hExpertsRefIdeal := hExpertsRefIdeal) (hPre_routed := hPre_routed)
    ∧ preserves_Ffn_FfnIdeal
    ∧ algebraic_FfnIdeal_FfnRefIdeal (hFfnIdeal := hFfnIdeal) (hFfnRefIdeal := hFfnRefIdeal)
    ∧ preserves_Out_OutIdeal
    ∧ algebraic_OutIdeal_OutRefIdeal (hOutIdeal := hOutIdeal) (hOutRefIdeal := hOutRefIdeal)
-- ==== Pre_finite_qk.lean ====
abbrev S17408x2048 : Shape := ⟨2, ![17408, 2048]⟩
abbrev S17408x1024 : Shape := ⟨2, ![17408, 1024]⟩
abbrev S_ : Shape := ⟨0, ![]⟩

class Facts : Prop where
  bitsLt_bf16_f32 : FTy.bits .bf16 < FTy.bits .f32
  bcast_S_S17408x2048 : S_.BroadcastsInDim S17408x2048 (![] : Fin 0 → Fin S17408x2048.rank)
  reducesTo_S17408x2048_S_d0_1 : S17408x2048.ReducesTo [0, 1] S_
  h_S_ : 0 < S_.numel

variable [Facts]

def fn {F : FTy → Type} [FloatOps F] (main_arg0 : FVec F S17408x2048 .bf16) (main_arg1 : FVec F S17408x2048 .bf16) (main_arg2 : FVec F S17408x1024 .bf16) : IVec S_ 1 :=
  let main_v0 : FVec F S17408x2048 .f32 := (extf .f32 · bitsLt_bf16_f32) main_arg0
  let main_v1 : FVec F S17408x2048 .f32 := Host.absf main_v0
  let main_cst : FVec F S_ .f32 := constant S_ .f32 0x7F800000#32
  let main_v2 : FVec F S17408x2048 .f32 := broadcastInDim S17408x2048 ![] bcast_S_S17408x2048 main_cst
  let main_v3 : IVec S17408x2048 1 := cmpf .olt main_v1 main_v2
  let main_c : IVec S_ 1 := constantI S_ 1 1#1
  let main_v4 : IVec S_ 1 := (fun x v => Host.reduce IntOp.andi x v reducesTo_S17408x2048_S_d0_1 h_S_) main_v3 main_c
  let main_v5 : FVec F S17408x2048 .f32 := (extf .f32 · bitsLt_bf16_f32) main_arg1
  let main_v6 : FVec F S17408x2048 .f32 := Host.absf main_v5
  let main_cst_0 : FVec F S_ .f32 := constant S_ .f32 0x7F800000#32
  let main_v7 : FVec F S17408x2048 .f32 := broadcastInDim S17408x2048 ![] bcast_S_S17408x2048 main_cst_0
  let main_v8 : IVec S17408x2048 1 := cmpf .olt main_v6 main_v7
  let main_c_1 : IVec S_ 1 := constantI S_ 1 1#1
  let main_v9 : IVec S_ 1 := (fun x v => Host.reduce IntOp.andi x v reducesTo_S17408x2048_S_d0_1 h_S_) main_v8 main_c_1
  let main_v10 : IVec S_ 1 := andi main_v4 main_v9
  main_v10
-- ==== Pre_routed.lean ====
abbrev S72 : Shape := ⟨1, ![72]⟩
abbrev S1 : Shape := ⟨1, ![1]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S72 : S_.BroadcastsInDim S72 (![] : Fin 0 → Fin S72.rank)
  reducesTo_S72_S_d0 : S72.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S72 32) (main_arg1 : IVec S1 32) (main_arg2 : FVec F S36864x1024 .f32) (main_arg3 : FVec F S8x1024x3584 .bf16) (main_arg4 : FVec F S8x1024x3584 .bf16) (main_arg5 : FVec F S8x3584x1024 .bf16) : IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 1 := constantI S_ 1 1#1
  let main_v2 : IVec S_ 1 := (fun x v => Host.reduce IntOp.andi x v reducesTo_S72_S_d0 h_S_) main_v1 main_c_0
  let main_c_1 : IVec S_ 32 := constantI S_ 32 8#32
  let main_v3 : IVec S72 32 := broadcastInDim S72 ![] bcast_S_S72 main_c_1
  let main_v4 : IVec S72 1 := cmpi .slt main_arg0 main_v3
  let main_c_2 : IVec S_ 1 := constantI S_ 1 1#1
  let main_v5 : IVec S_ 1 := (fun x v => Host.reduce IntOp.andi x v reducesTo_S72_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  let main_c_5 : IVec S_ 32 := constantI S_ 32 72#32
  let main_v11 : IVec S1 32 := broadcastInDim S1 ![] bcast_S_S1 main_c_5
  let main_v12 : IVec S1 1 := cmpi .sle main_arg1 main_v11
  let main_c_6 : IVec S_ 1 := constantI S_ 1 1#1
  let main_v13 : IVec S_ 1 := (fun x v => Host.reduce IntOp.andi x v reducesTo_S1_S_d0 h_S_) main_v12 main_c_6
  let main_v14 : IVec S_ 1 := andi main_v10 main_v13
  main_v14
-- ==== Attn.lean ====
abbrev S17408x2048 : Shape := ⟨2, ![17408, 2048]⟩
abbrev S17408x1024 : Shape := ⟨2, ![17408, 1024]⟩
abbrev S1024x17408 : Shape := ⟨2, ![1024, 17408]⟩
abbrev S16x64x17408 : Shape := ⟨3, ![16, 64, 17408]⟩
abbrev S_ : Shape := ⟨0, ![]⟩
abbrev S16x16x17408 : Shape := ⟨3, ![16, 16, 17408]⟩
abbrev S16x80x17408 : Shape := ⟨3, ![16, 80, 17408]⟩
abbrev S1280x17408 : Shape := ⟨2, ![1280, 17408]⟩
abbrev S16384x1024 : Shape := ⟨2, ![16384, 1024]⟩
abbrev S1024x1024 : Shape := ⟨2, ![1024, 1024]⟩
abbrev S4096x512 : Shape := ⟨2, ![4096, 512]⟩
abbrev S256x512 : Shape := ⟨2, ![256, 512]⟩
abbrev S320x256 : Shape := ⟨2, ![320, 256]⟩
abbrev S320x4096 : Shape := ⟨2, ![320, 4096]⟩
abbrev S4096x256 : Shape := ⟨2, ![4096, 256]⟩
abbrev S256x256 : Shape := ⟨2, ![256, 256]⟩
abbrev S4x1024x256 : Shape := ⟨3, ![4, 1024, 256]⟩
abbrev S1x256 : Shape := ⟨2, ![1, 256]⟩
abbrev S80x256 : Shape := ⟨2, ![80, 256]⟩
abbrev S256x128 : Shape := ⟨2, ![256, 128]⟩
abbrev S1024x128 : Shape := ⟨2, ![1024, 128]⟩
abbrev S1024x256 : Shape := ⟨2, ![1024, 256]⟩
abbrev S1x1024x256 : Shape := ⟨3, ![1, 1024, 256]⟩
abbrev S256 : Shape := ⟨1, ![256]⟩
abbrev S80x1024 : Shape := ⟨2, ![80, 1024]⟩
abbrev S1x256x256 : Shape := ⟨3, ![1, 256, 256]⟩
abbrev S64x256 : Shape := ⟨2, ![64, 256]⟩

abbrev nBuf : Space → Nat
  | .hbm => 11
  | .vmem => 18
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S17408x1024, .bf16⟩
  | .hbm, ⟨3, _⟩ => ⟨S1024x17408, .bf16⟩
  | .hbm, ⟨4, _⟩ => ⟨S16x64x17408, .bf16⟩
  | .hbm, ⟨5, _⟩ => ⟨S_, .bf16⟩
  | .hbm, ⟨6, _⟩ => ⟨S16x16x17408, .bf16⟩
  | .hbm, ⟨7, _⟩ => ⟨S16x80x17408, .bf16⟩
  | .hbm, ⟨8, _⟩ => ⟨S1280x17408, .bf16⟩
  | .hbm, ⟨9, _⟩ => ⟨S16384x1024, .bf16⟩
  | .hbm, ⟨10, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S4096x512, .bf16⟩
  | .local _ .vmem, ⟨7, _⟩ => ⟨S4096x512, .bf16⟩
  | .local _ .vmem, ⟨8, _⟩ => ⟨S320x256, .bf16⟩
  | .local _ .vmem, ⟨9, _⟩ => ⟨S320x256, .bf16⟩
  | .local _ .vmem, ⟨10, _⟩ => ⟨S320x4096, .bf16⟩
  | .local _ .vmem, ⟨11, _⟩ => ⟨S320x4096, .bf16⟩
  | .local _ .vmem, ⟨12, _⟩ => ⟨S4096x256, .bf16⟩
  | .local _ .vmem, ⟨13, _⟩ => ⟨S4096x256, .bf16⟩
  | .local _ .vmem, ⟨14, _⟩ => ⟨S256x256, .bf16⟩
  | .local _ .vmem, ⟨15, _⟩ => ⟨S256x256, .bf16⟩
  | .local _ .vmem, ⟨16, _⟩ => ⟨S4x1024x256, .f32⟩
  | .local _ .vmem, ⟨17, _⟩ => ⟨S4x1024x256, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_mult1 : BitVec 32 :=
  let c0_i32 : BitVec 32 := 0#32
  c0_i32
def k0_mult2 : BitVec 32 :=
  let c0_i32_8 : BitVec 32 := 0#32
  c0_i32_8
def k0_mult3 : BitVec 32 :=
  let c0_i32_15 : BitVec 32 := 0#32
  c0_i32_15
def k0_mult4 : BitVec 32 :=
  let c0_i32_22 : BitVec 32 := 0#32
  c0_i32_22
@[reducible] def k0_t1_loop : Scf.Loop 32 :=
  let c0_i32_29 : BitVec 32 := 0#32
  let c8_i32 : BitVec 32 := 8#32
  let v42 : BitVec 32 := Scalar.addi c0_i32_29 c8_i32
  let c1_i32 : BitVec 32 := 1#32
  ⟨c0_i32_29, v42, c1_i32⟩
def k0_mult5 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32 : BitVec 32 := 256#32
  let v159 : BitVec 32 := Scalar.muli v156 c256_i32
  v159
def k0_off1 (k0_t1 : Fin k0_t1_loop.trips) : Fin 2 → Nat :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32 : BitVec 32 := 256#32
  let v159 : BitVec 32 := Scalar.muli v156 c256_i32
  let v160 : BitVec 32 := v159
  let v161 : Index := Scalar.indexCast v160
  let c0_92 : Index := 0#32
  ![v161.toNat, 0]
def k0_mult6 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_105 : BitVec 32 := 256#32
  let v185 : BitVec 32 := Scalar.muli v156 c256_i32_105
  v185
def k0_off2 (k0_t1 : Fin k0_t1_loop.trips) : Fin 2 → Nat :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_105 : BitVec 32 := 256#32
  let v185 : BitVec 32 := Scalar.muli v156 c256_i32_105
  let v186 : BitVec 32 := v185
  let v187 : Index := Scalar.indexCast v186
  let c128_106 : Index := 128#32
  ![v187.toNat, 128]
def k0_mult7 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_120 : BitVec 32 := 256#32
  let v211 : BitVec 32 := Scalar.muli v156 c256_i32_120
  v211
def k0_off3 (k0_t1 : Fin k0_t1_loop.trips) : Fin 2 → Nat :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_120 : BitVec 32 := 256#32
  let v211 : BitVec 32 := Scalar.muli v156 c256_i32_120
  let v212 : BitVec 32 := v211
  let v213 : Index := Scalar.indexCast v212
  let c256_121 : Index := 256#32
  ![v213.toNat, 256]
def k0_mult8 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_135 : BitVec 32 := 256#32
  let v237 : BitVec 32 := Scalar.muli v156 c256_i32_135
  v237
def k0_off4 (k0_t1 : Fin k0_t1_loop.trips) : Fin 2 → Nat :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_135 : BitVec 32 := 256#32
  let v237 : BitVec 32 := Scalar.muli v156 c256_i32_135
  let v238 : BitVec 32 := v237
  let v239 : Index := Scalar.indexCast v238
  let c384_136 : Index := 384#32
  ![v239.toNat, 384]
def k0_mult9 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_150 : BitVec 32 := 256#32
  let v263 : BitVec 32 := Scalar.muli v156 c256_i32_150
  v263
def k0_mult10 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_164 : BitVec 32 := 256#32
  let v289 : BitVec 32 := Scalar.muli v156 c256_i32_164
  v289
def k0_mult11 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_179 : BitVec 32 := 256#32
  let v315 : BitVec 32 := Scalar.muli v156 c256_i32_179
  v315
def k0_mult12 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_194 : BitVec 32 := 256#32
  let v341 : BitVec 32 := Scalar.muli v156 c256_i32_194
  v341
def k0_mult13 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_209 : BitVec 32 := 256#32
  let v367 : BitVec 32 := Scalar.muli v156 c256_i32_209
  v367
def k0_mult14 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_223 : BitVec 32 := 256#32
  let v393 : BitVec 32 := Scalar.muli v156 c256_i32_223
  v393
def k0_mult15 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_238 : BitVec 32 := 256#32
  let v419 : BitVec 32 := Scalar.muli v156 c256_i32_238
  v419
def k0_mult16 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_253 : BitVec 32 := 256#32
  let v445 : BitVec 32 := Scalar.muli v156 c256_i32_253
  v445
def k0_mult17 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_268 : BitVec 32 := 256#32
  let v471 : BitVec 32 := Scalar.muli v156 c256_i32_268
  v471
def k0_mult18 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_283 : BitVec 32 := 256#32
  let v497 : BitVec 32 := Scalar.muli v156 c256_i32_283
  v497
def k0_mult19 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_298 : BitVec 32 := 256#32
  let v523 : BitVec 32 := Scalar.muli v156 c256_i32_298
  v523
def k0_mult20 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_313 : BitVec 32 := 256#32
  let v549 : BitVec 32 := Scalar.muli v156 c256_i32_313
  v549
def k0_mult21 (k0_t1 : Fin k0_t1_loop.trips) : BitVec 32 :=
  let c2_i32_90 : BitVec 32 := 2#32
  let c0_i32_29 : BitVec 32 := 0#32
  let c1_i32 : BitVec 32 := 1#32
  let arg12 : BitVec 32 := Scf.iv c0_i32_29 c1_i32 k0_t1
  let v157 : BitVec 32 := Scalar.muli c2_i32_90 arg12
  let c1_i32_91 : BitVec 32 := 1#32
  let v158 : BitVec 32 := Scalar.addi v157 c1_i32_91
  let c256_i32_328 : BitVec 32 := 256#32
  let v575 : BitVec 32 := Scalar.muli v158 c256_i32_328
  v575
def k0_off5 (k0_t1 : Fin k0_t1_loop.trips) : Fin 2 → Nat :=
  let c2_i32_90 : BitVec 32 := 2#32
  let c0_i32_29 : BitVec 32 := 0#32
  let c1_i32 : BitVec 32 := 1#32
  let arg12 : BitVec 32 := Scf.iv c0_i32_29 c1_i32 k0_t1
  let v157 : BitVec 32 := Scalar.muli c2_i32_90 arg12
  let c1_i32_91 : BitVec 32 := 1#32
  let v158 : BitVec 32 := Scalar.addi v157 c1_i32_91
  let c256_i32_328 : BitVec 32 := 256#32
  let v575 : BitVec 32 := Scalar.muli v158 c256_i32_328
  let v576 : BitVec 32 := v575
  let v577 : Index := Scalar.indexCast v576
  let c0_329 : Index := 0#32
  ![v577.toNat, 0]
def k0_mult22 (k0_t1 : Fin k0_t1_loop.trips) : BitVec 32 :=
  let c2_i32_90 : BitVec 32 := 2#32
  let c0_i32_29 : BitVec 32 := 0#32
  let c1_i32 : BitVec 32 := 1#32
  let arg12 : BitVec 32 := Scf.iv c0_i32_29 c1_i32 k0_t1
  let v157 : BitVec 32 := Scalar.muli c2_i32_90 arg12
  let c1_i32_91 : BitVec 32 := 1#32
  let v158 : BitVec 32 := Scalar.addi v157 c1_i32_91
  let c256_i32_343 : BitVec 32 := 256#32
  let v601 : BitVec 32 := Scalar.muli v158 c256_i32_343
  v601
def k0_off6 (k0_t1 : Fin k0_t1_loop.trips) : Fin 2 → Nat :=
  let c2_i32_90 : BitVec 32 := 2#32
  let c0_i32_29 : BitVec 32 := 0#32
  let c1_i32 : BitVec 32 := 1#32
  let arg12 : BitVec 32 := Scf.iv c0_i32_29 c1_i32 k0_t1
  let v157 : BitVec 32 := Scalar.muli c2_i32_90 arg12
  let c1_i32_91 : BitVec 32 := 1#32
  let v158 : BitVec 32 := Scalar.addi v157 c1_i32_91
  let c256_i32_343 : BitVec 32 := 256#32
  let v601 : BitVec 32 := Scalar.muli v158 c256_i32_343
  let v602 : BitVec 32 := v601
  let v603 : Index := Scalar.indexCast v602
  let c128_344 : Index := 128#32
  ![v603.toNat, 128]
def k0_mult23 (k0_t1 : Fin k0_t1_loop.trips) : BitVec 32 :=
  let c2_i32_90 : BitVec 32 := 2#32
  let c0_i32_29 : BitVec 32 := 0#32
  let c1_i32 : BitVec 32 := 1#32
  let arg12 : BitVec 32 := Scf.iv c0_i32_29 c1_i32 k0_t1
  let v157 : BitVec 32 := Scalar.muli c2_i32_90 arg12
  let c1_i32_91 : BitVec 32 := 1#32
  let v158 : BitVec 32 := Scalar.addi v157 c1_i32_91
  let c256_i32_358 : BitVec 32 := 256#32
  let v627 : BitVec 32 := Scalar.muli v158 c256_i32_358
  v627
def k0_off7 (k0_t1 : Fin k0_t1_loop.trips) : Fin 2 → Nat :=
  let c2_i32_90 : BitVec 32 := 2#32
  let c0_i32_29 : BitVec 32 := 0#32
  let c1_i32 : BitVec 32 := 1#32
  let arg12 : BitVec 32 := Scf.iv c0_i32_29 c1_i32 k0_t1
  let v157 : BitVec 32 := Scalar.muli c2_i32_90 arg12
  let c1_i32_91 : BitVec 32 := 1#32
  let v158 : BitVec 32 := Scalar.addi v157 c1_i32_91
  let c256_i32_358 : BitVec 32 := 256#32
  let v627 : BitVec 32 := Scalar.muli v158 c256_i32_358
  let v628 : BitVec 32 := v627
  let v629 : Index := Scalar.indexCast v628
  let c256_359 : Index := 256#32
  ![v629.toNat, 256]
def k0_mult24 (k0_t1 : Fin k0_t1_loop.trips) : BitVec 32 :=
  let c2_i32_90 : BitVec 32 := 2#32
  let c0_i32_29 : BitVec 32 := 0#32
  let c1_i32 : BitVec 32 := 1#32
  let arg12 : BitVec 32 := Scf.iv c0_i32_29 c1_i32 k0_t1
  let v157 : BitVec 32 := Scalar.muli c2_i32_90 arg12
  let c1_i32_91 : BitVec 32 := 1#32
  let v158 : BitVec 32 := Scalar.addi v157 c1_i32_91
  let c256_i32_373 : BitVec 32 := 256#32
  let v653 : BitVec 32 := Scalar.muli v158 c256_i32_373
  v653
def k0_off8 (k0_t1 : Fin k0_t1_loop.trips) : Fin 2 → Nat :=
  let c2_i32_90 : BitVec 32 := 2#32
  let c0_i32_29 : BitVec 32 := 0#32
  let c1_i32 : BitVec 32 := 1#32
  let arg12 : BitVec 32 := Scf.iv c0_i32_29 c1_i32 k0_t1
  let v157 : BitVec 32 := Scalar.muli c2_i32_90 arg12
  let c1_i32_91 : BitVec 32 := 1#32
  let v158 : BitVec 32 := Scalar.addi v157 c1_i32_91
  let c256_i32_373 : BitVec 32 := 256#32
  let v653 : BitVec 32 := Scalar.muli v158 c256_i32_373
  let v654 : BitVec 32 := v653
  let v655 : Index := Scalar.indexCast v654
  let c384_374 : Index := 384#32
  ![v655.toNat, 384]
def k0_mult25 (k0_t1 : Fin k0_t1_loop.trips) : BitVec 32 :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_388 : BitVec 32 := 256#32
  let v698 : BitVec 32 := Scalar.muli v156 c256_i32_388
  v698
def k0_off9 (k0_t1 : Fin k0_t1_loop.trips) : Fin 2 → Nat :=
  let c2_i32 : BitVec 32 := 2#32
  let c0_i32_29 : BitVec 32 := 0#32
  let c1_i32 : BitVec 32 := 1#32
  let arg12 : BitVec 32 := Scf.iv c0_i32_29 c1_i32 k0_t1
  let v156 : BitVec 32 := Scalar.muli c2_i32 arg12
  let c256_i32_388 : BitVec 32 := 256#32
  let v698 : BitVec 32 := Scalar.muli v156 c256_i32_388
  let v699 : BitVec 32 := v698
  let v700 : Index := Scalar.indexCast v699
  let c0_389 : Index := 0#32
  ![v700.toNat, 0]
def k0_mult26 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_394 : BitVec 32 := 256#32
  let v707 : BitVec 32 := Scalar.muli v703 c256_i32_394
  v707
def k0_mult27 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_409 : BitVec 32 := 256#32
  let v733 : BitVec 32 := Scalar.muli v703 c256_i32_409
  v733
def k0_mult28 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_424 : BitVec 32 := 256#32
  let v759 : BitVec 32 := Scalar.muli v703 c256_i32_424
  v759
def k0_mult29 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_439 : BitVec 32 := 256#32
  let v785 : BitVec 32 := Scalar.muli v703 c256_i32_439
  v785
def k0_mult30 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_454 : BitVec 32 := 256#32
  let v811 : BitVec 32 := Scalar.muli v703 c256_i32_454
  v811
def k0_mult31 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_469 : BitVec 32 := 256#32
  let v837 : BitVec 32 := Scalar.muli v703 c256_i32_469
  v837
def k0_mult32 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_484 : BitVec 32 := 256#32
  let v863 : BitVec 32 := Scalar.muli v703 c256_i32_484
  v863
def k0_mult33 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_499 : BitVec 32 := 256#32
  let v889 : BitVec 32 := Scalar.muli v703 c256_i32_499
  v889
def k0_mult34 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_514 : BitVec 32 := 256#32
  let v915 : BitVec 32 := Scalar.muli v703 c256_i32_514
  v915
def k0_mult35 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_529 : BitVec 32 := 256#32
  let v941 : BitVec 32 := Scalar.muli v703 c256_i32_529
  v941
def k0_mult36 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_544 : BitVec 32 := 256#32
  let v967 : BitVec 32 := Scalar.muli v703 c256_i32_544
  v967
def k0_mult37 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_559 : BitVec 32 := 256#32
  let v993 : BitVec 32 := Scalar.muli v703 c256_i32_559
  v993
def k0_mult38 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_574 : BitVec 32 := 256#32
  let v1019 : BitVec 32 := Scalar.muli v703 c256_i32_574
  v1019
def k0_mult39 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_589 : BitVec 32 := 256#32
  let v1045 : BitVec 32 := Scalar.muli v703 c256_i32_589
  v1045
def k0_mult40 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_604 : BitVec 32 := 256#32
  let v1071 : BitVec 32 := Scalar.muli v703 c256_i32_604
  v1071
def k0_mult41 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_619 : BitVec 32 := 256#32
  let v1097 : BitVec 32 := Scalar.muli v703 c256_i32_619
  v1097
def k0_mult42 (k0_t1 : Fin k0_t1_loop.trips) : BitVec 32 :=
  let c2_i32_392 : BitVec 32 := 2#32
  let c0_i32_29 : BitVec 32 := 0#32
  let c1_i32 : BitVec 32 := 1#32
  let arg12 : BitVec 32 := Scf.iv c0_i32_29 c1_i32 k0_t1
  let v704 : BitVec 32 := Scalar.muli c2_i32_392 arg12
  let c2_i32_393 : BitVec 32 := 2#32
  let v705 : BitVec 32 := Scalar.addi v704 c2_i32_393
  let c15_i32 : BitVec 32 := 15#32
  let v706 : BitVec 32 := Scalar.minsi v705 c15_i32
  let c256_i32_634 : BitVec 32 := 256#32
  let v1123 : BitVec 32 := Scalar.muli v706 c256_i32_634
  v1123
def k0_off10 (k0_t1 : Fin k0_t1_loop.trips) : Fin 2 → Nat :=
  let c2_i32_392 : BitVec 32 := 2#32
  let c0_i32_29 : BitVec 32 := 0#32
  let c1_i32 : BitVec 32 := 1#32
  let arg12 : BitVec 32 := Scf.iv c0_i32_29 c1_i32 k0_t1
  let v704 : BitVec 32 := Scalar.muli c2_i32_392 arg12
  let c2_i32_393 : BitVec 32 := 2#32
  let v705 : BitVec 32 := Scalar.addi v704 c2_i32_393
  let c15_i32 : BitVec 32 := 15#32
  let v706 : BitVec 32 := Scalar.minsi v705 c15_i32
  let c256_i32_634 : BitVec 32 := 256#32
  let v1123 : BitVec 32 := Scalar.muli v706 c256_i32_634
  let v1124 : BitVec 32 := v1123
  let v1125 : Index := Scalar.indexCast v1124
  let c0_635 : Index := 0#32
  ![v1125.toNat, 0]
def k0_mult43 (k0_t1 : Fin k0_t1_loop.trips) : BitVec 32 :=
  let c2_i32_392 : BitVec 32 := 2#32
  let c0_i32_29 : BitVec 32 := 0#32
  let c1_i32 : BitVec 32 := 1#32
  let arg12 : BitVec 32 := Scf.iv c0_i32_29 c1_i32 k0_t1
  let v704 : BitVec 32 := Scalar.muli c2_i32_392 arg12
  let c2_i32_393 : BitVec 32 := 2#32
  let v705 : BitVec 32 := Scalar.addi v704 c2_i32_393
  let c15_i32 : BitVec 32 := 15#32
  let v706 : BitVec 32 := Scalar.minsi v705 c15_i32
  let c256_i32_649 : BitVec 32 := 256#32
  let v1149 : BitVec 32 := Scalar.muli v706 c256_i32_649
  v1149
def k0_off11 (k0_t1 : Fin k0_t1_loop.trips) : Fin 2 → Nat :=
  let c2_i32_392 : BitVec 32 := 2#32
  let c0_i32_29 : BitVec 32 := 0#32
  let c1_i32 : BitVec 32 := 1#32
  let arg12 : BitVec 32 := Scf.iv c0_i32_29 c1_i32 k0_t1
  let v704 : BitVec 32 := Scalar.muli c2_i32_392 arg12
  let c2_i32_393 : BitVec 32 := 2#32
  let v705 : BitVec 32 := Scalar.addi v704 c2_i32_393
  let c15_i32 : BitVec 32 := 15#32
  let v706 : BitVec 32 := Scalar.minsi v705 c15_i32
  let c256_i32_649 : BitVec 32 := 256#32
  let v1149 : BitVec 32 := Scalar.muli v706 c256_i32_649
  let v1150 : BitVec 32 := v1149
  let v1151 : Index := Scalar.indexCast v1150
  let c128_650 : Index := 128#32
  ![v1151.toNat, 128]
def k0_mult44 (k0_t1 : Fin k0_t1_loop.trips) : BitVec 32 :=
  let c2_i32_392 : BitVec 32 := 2#32
  let c0_i32_29 : BitVec 32 := 0#32
  let c1_i32 : BitVec 32 := 1#32
  let arg12 : BitVec 32 := Scf.iv c0_i32_29 c1_i32 k0_t1
  let v704 : BitVec 32 := Scalar.muli c2_i32_392 arg12
  let c2_i32_393 : BitVec 32 := 2#32
  let v705 : BitVec 32 := Scalar.addi v704 c2_i32_393
  let c15_i32 : BitVec 32 := 15#32
  let v706 : BitVec 32 := Scalar.minsi v705 c15_i32
  let c256_i32_664 : BitVec 32 := 256#32
  let v1175 : BitVec 32 := Scalar.muli v706 c256_i32_664
  v1175
def k0_off12 (k0_t1 : Fin k0_t1_loop.trips) : Fin 2 → Nat :=
  let c2_i32_392 : BitVec 32 := 2#32
  let c0_i32_29 : BitVec 32 := 0#32
  let c1_i32 : BitVec 32 := 1#32
  let arg12 : BitVec 32 := Scf.iv c0_i32_29 c1_i32 k0_t1
  let v704 : BitVec 32 := Scalar.muli c2_i32_392 arg12
  let c2_i32_393 : BitVec 32 := 2#32
  let v705 : BitVec 32 := Scalar.addi v704 c2_i32_393
  let c15_i32 : BitVec 32 := 15#32
  let v706 : BitVec 32 := Scalar.minsi v705 c15_i32
  let c256_i32_664 : BitVec 32 := 256#32
  let v1175 : BitVec 32 := Scalar.muli v706 c256_i32_664
  let v1176 : BitVec 32 := v1175
  let v1177 : Index := Scalar.indexCast v1176
  let c256_665 : Index := 256#32
  ![v1177.toNat, 256]
def k0_mult45 (k0_t1 : Fin k0_t1_loop.trips) : BitVec 32 :=
  let c2_i32_392 : BitVec 32 := 2#32
  let c0_i32_29 : BitVec 32 := 0#32
  let c1_i32 : BitVec 32 := 1#32
  let arg12 : BitVec 32 := Scf.iv c0_i32_29 c1_i32 k0_t1
  let v704 : BitVec 32 := Scalar.muli c2_i32_392 arg12
  let c2_i32_393 : BitVec 32 := 2#32
  let v705 : BitVec 32 := Scalar.addi v704 c2_i32_393
  let c15_i32 : BitVec 32 := 15#32
  let v706 : BitVec 32 := Scalar.minsi v705 c15_i32
  let c256_i32_679 : BitVec 32 := 256#32
  let v1201 : BitVec 32 := Scalar.muli v706 c256_i32_679
  v1201
def k0_off13 (k0_t1 : Fin k0_t1_loop.trips) : Fin 2 → Nat :=
  let c2_i32_392 : BitVec 32 := 2#32
  let c0_i32_29 : BitVec 32 := 0#32
  let c1_i32 : BitVec 32 := 1#32
  let arg12 : BitVec 32 := Scf.iv c0_i32_29 c1_i32 k0_t1
  let v704 : BitVec 32 := Scalar.muli c2_i32_392 arg12
  let c2_i32_393 : BitVec 32 := 2#32
  let v705 : BitVec 32 := Scalar.addi v704 c2_i32_393
  let c15_i32 : BitVec 32 := 15#32
  let v706 : BitVec 32 := Scalar.minsi v705 c15_i32
  let c256_i32_679 : BitVec 32 := 256#32
  let v1201 : BitVec 32 := Scalar.muli v706 c256_i32_679
  let v1202 : BitVec 32 := v1201
  let v1203 : Index := Scalar.indexCast v1202
  let c384_680 : Index := 384#32
  ![v1203.toNat, 384]
def k0_mult46 (k0_t1 : Fin k0_t1_loop.trips) : BitVec 32 :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_694 : BitVec 32 := 256#32
  let v1246 : BitVec 32 := Scalar.muli v703 c256_i32_694
  v1246
def k0_off14 (k0_t1 : Fin k0_t1_loop.trips) : Fin 2 → Nat :=
  let c2_i32_390 : BitVec 32 := 2#32
  let c0_i32_29 : BitVec 32 := 0#32
  let c1_i32 : BitVec 32 := 1#32
  let arg12 : BitVec 32 := Scf.iv c0_i32_29 c1_i32 k0_t1
  let v702 : BitVec 32 := Scalar.muli c2_i32_390 arg12
  let c1_i32_391 : BitVec 32 := 1#32
  let v703 : BitVec 32 := Scalar.addi v702 c1_i32_391
  let c256_i32_694 : BitVec 32 := 256#32
  let v1246 : BitVec 32 := Scalar.muli v703 c256_i32_694
  let v1247 : BitVec 32 := v1246
  let v1248 : Index := Scalar.indexCast v1247
  let c0_695 : Index := 0#32
  ![v1248.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S320x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S320x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnRefIdeal.lean ====
abbrev S17408x2048 : Shape := ⟨2, ![17408, 2048]⟩
abbrev S17408x1024 : Shape := ⟨2, ![17408, 1024]⟩
abbrev S16384x2048 : Shape := ⟨2, ![16384, 2048]⟩
abbrev S4x4096x16x128 : Shape := ⟨4, ![4, 4096, 16, 128]⟩
abbrev S4x16x4096x128 : Shape := ⟨4, ![4, 16, 4096, 128]⟩
abbrev S1024x2048 : Shape := ⟨2, ![1024, 2048]⟩
abbrev S4x256x16x128 : Shape := ⟨4, ![4, 256, 16, 128]⟩
abbrev S4x16x256x128 : Shape := ⟨4, ![4, 16, 256, 128]⟩
abbrev S16384x1024 : Shape := ⟨2, ![16384, 1024]⟩
abbrev S4x4096x16x64 : Shape := ⟨4, ![4, 4096, 16, 64]⟩
abbrev S4x16x4096x64 : Shape := ⟨4, ![4, 16, 4096, 64]⟩
abbrev S1024x1024 : Shape := ⟨2, ![1024, 1024]⟩
abbrev S4x256x16x64 : Shape := ⟨4, ![4, 256, 16, 64]⟩
abbrev S4x16x256x64 : Shape := ⟨4, ![4, 16, 256, 64]⟩
abbrev S4x16x4352x128 : Shape := ⟨4, ![4, 16, 4352, 128]⟩
abbrev S4x16x4352x64 : Shape := ⟨4, ![4, 16, 4352, 64]⟩
abbrev S4x16x4096x4352 : Shape := ⟨4, ![4, 16, 4096, 4352]⟩
abbrev S_ : Shape := ⟨0, ![]⟩
abbrev S4x16x4096 : Shape := ⟨3, ![4, 16, 4096]⟩
abbrev S4x16x4096x1 : Shape := ⟨4, ![4, 16, 4096, 1]⟩
abbrev S4x16x256x256 : Shape := ⟨4, ![4, 16, 256, 256]⟩
abbrev S4x16x256 : Shape := ⟨3, ![4, 16, 256]⟩
abbrev S4x16x256x1 : Shape := ⟨4, ![4, 16, 256, 1]⟩

abbrev nBuf : Space → Nat
  | .hbm => 71
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S17408x2048, .bf16⟩
  | .hbm, ⟨2, _⟩ => ⟨S17408x1024, .bf16⟩
  | .hbm, ⟨3, _⟩ => ⟨S16384x2048, .bf16⟩
  | .hbm, ⟨4, _⟩ => ⟨S4x4096x16x128, .bf16⟩
  | .hbm, ⟨5, _⟩ => ⟨S4x16x4096x128, .bf16⟩
  | .hbm, ⟨6, _⟩ => ⟨S1024x2048, .bf16⟩
  | .hbm, ⟨7, _⟩ => ⟨S4x256x16x128, .bf16⟩
  | .hbm, ⟨8, _⟩ => ⟨S4x16x256x128, .bf16⟩
  | .hbm, ⟨9, _⟩ => ⟨S16384x1024, .bf16⟩
  | .hbm, ⟨10, _⟩ => ⟨S4x4096x16x64, .bf16⟩
  | .hbm, ⟨11, _⟩ => ⟨S4x16x4096x64, .bf16⟩
  | .hbm, ⟨12, _⟩ => ⟨S1024x1024, .bf16⟩
  | .hbm, ⟨13, _⟩ => ⟨S4x256x16x64, .bf16⟩
  | .hbm, ⟨14, _⟩ => ⟨S4x16x256x64, .bf16⟩
  | .hbm, ⟨15, _⟩ => ⟨S4x16x4352x128, .bf16⟩
  | .hbm, ⟨16, _⟩ => ⟨S4x16x4352x64, .bf16⟩
  | .hbm, ⟨17, _⟩ => ⟨S16384x2048, .bf16⟩
  | .hbm, ⟨18, _⟩ => ⟨S4x4096x16x128, .bf16⟩
  | .hbm, ⟨19, _⟩ => ⟨S4x16x4096x128, .bf16⟩
  | .hbm, ⟨20, _⟩ => ⟨S4x16x4096x4352, .f32⟩
  | .hbm, ⟨21, _⟩ => ⟨S_, .f32⟩
  | .hbm, ⟨22, _⟩ => ⟨S_, .f32⟩
  | .hbm, ⟨23, _⟩ => ⟨S4x16x4096x4352, .f32⟩
  | .hbm, ⟨24, _⟩ => ⟨S4x16x4096x4352, .f32⟩
  | .hbm, ⟨25, _⟩ => ⟨S_, .f32⟩
  | .hbm, ⟨26, _⟩ => ⟨S4x16x4096, .f32⟩
  | .hbm, ⟨27, _⟩ => ⟨S_, .f32⟩
  | .hbm, ⟨28, _⟩ => ⟨S4x16x4096, .f32⟩
  | .hbm, ⟨29, _⟩ => ⟨S4x16x4096, .f32⟩
  | .hbm, ⟨30, _⟩ => ⟨S4x16x4096x1, .f32⟩
  | .hbm, ⟨31, _⟩ => ⟨S4x16x4096x4352, .f32⟩
  | .hbm, ⟨32, _⟩ => ⟨S4x16x4096x4352, .f32⟩
  | .hbm, ⟨33, _⟩ => ⟨S4x16x4096x4352, .f32⟩
  | .hbm, ⟨34, _⟩ => ⟨S_, .f32⟩
  | .hbm, ⟨35, _⟩ => ⟨S4x16x4096, .f32⟩
  | .hbm, ⟨36, _⟩ => ⟨S4x16x4096x1, .f32⟩
  | .hbm, ⟨37, _⟩ => ⟨S4x16x4096x4352, .f32⟩
  | .hbm, ⟨38, _⟩ => ⟨S4x16x4096x4352, .f32⟩
  | .hbm, ⟨39, _⟩ => ⟨S4x16x4096x4352, .bf16⟩
  | .hbm, ⟨40, _⟩ => ⟨S4x16x4096x64, .f32⟩
  | .hbm, ⟨41, _⟩ => ⟨S4x16x4096x64, .bf16⟩
  | .hbm, ⟨42, _⟩ => ⟨S4x4096x16x64, .bf16⟩
  | .hbm, ⟨43, _⟩ => ⟨S16384x1024, .bf16⟩
  | .hbm, ⟨44, _⟩ => ⟨S1024x2048, .bf16⟩
  | .hbm, ⟨45, _⟩ => ⟨S4x256x16x128, .bf16⟩
  | .hbm, ⟨46, _⟩ => ⟨S4x16x256x128, .bf16⟩
  | .hbm, ⟨47, _⟩ => ⟨S4x16x256x256, .f32⟩
  | .hbm, ⟨48, _⟩ => ⟨S_, .f32⟩
  | .hbm, ⟨49, _⟩ => ⟨S_, .f32⟩
  | .hbm, ⟨50, _⟩ => ⟨S4x16x256x256, .f32⟩
  | .hbm, ⟨51, _⟩ => ⟨S4x16x256x256, .f32⟩
  | .hbm, ⟨52, _⟩ => ⟨S_, .f32⟩
  | .hbm, ⟨53, _⟩ => ⟨S4x16x256, .f32⟩
  | .hbm, ⟨54, _⟩ => ⟨S_, .f32⟩
  | .hbm, ⟨55, _⟩ => ⟨S4x16x256, .f32⟩
  | .hbm, ⟨56, _⟩ => ⟨S4x16x256, .f32⟩
  | .hbm, ⟨57, _⟩ => ⟨S4x16x256x1, .f32⟩
  | .hbm, ⟨58, _⟩ => ⟨S4x16x256x256, .f32⟩
  | .hbm, ⟨59, _⟩ => ⟨S4x16x256x256, .f32⟩
  | .hbm, ⟨60, _⟩ => ⟨S4x16x256x256, .f32⟩
  | .hbm, ⟨61, _⟩ => ⟨S_, .f32⟩
  | .hbm, ⟨62, _⟩ => ⟨S4x16x256, .f32⟩
  | .hbm, ⟨63, _⟩ => ⟨S4x16x256x1, .f32⟩
  | .hbm, ⟨64, _⟩ => ⟨S4x16x256x256, .f32⟩
  | .hbm, ⟨65, _⟩ => ⟨S4x16x256x256, .f32⟩
  | .hbm, ⟨66, _⟩ => ⟨S4x16x256x256, .bf16⟩
  | .hbm, ⟨67, _⟩ => ⟨S4x16x256x64, .f32⟩
  | .hbm, ⟨68, _⟩ => ⟨S4x16x256x64, .bf16⟩
  | .hbm, ⟨69, _⟩ => ⟨S4x256x16x64, .bf16⟩
  | .hbm, ⟨70, _⟩ => ⟨S1024x1024, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_cst_1 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_cst_5 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]
-- ==== Experts.lean ====
abbrev S72 : Shape := ⟨1, ![72]⟩
abbrev S1 : Shape := ⟨1, ![1]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S512x1024 : Shape := ⟨2, ![512, 1024]⟩
abbrev S1x1024x1792 : Shape := ⟨3, ![1, 1024, 1792]⟩
abbrev S1x1792x1024 : Shape := ⟨3, ![1, 1792, 1024]⟩
abbrev S1x1024x512 : Shape := ⟨3, ![1, 1024, 512]⟩
abbrev S1024x512 : Shape := ⟨2, ![1024, 512]⟩
abbrev S512x512 : Shape := ⟨2, ![512, 512]⟩
abbrev S1x512x1024 : Shape := ⟨3, ![1, 512, 1024]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 5
  | .vmem => 11
  | .smem => 2
  | _ => 0

abbrev bufTy : (tb : Table) → Fin (tcTables nBuf tb) → BufTy
  | .hbm, ⟨0, _⟩ => ⟨S36864x1024, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S36864x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .smem, ⟨0, _⟩ => ⟨S72, .i32⟩
  | .local _ .smem, ⟨1, _⟩ => ⟨S1, .i32⟩
  | _, _ => ⟨S36864x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![72, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) (v0 : BitVec 32) : BitVec 1 :=
  let arg0 : BitVec 32 := BitVec.ofNat 32 (i 0).val
  let v1 : BitVec 1 := Scalar.cmpi .slt arg0 v0
  let v6 : BitVec 32 := Scalar.extui v1
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c0_i32_58 : BitVec 32 := 0#32
  let v85 : BitVec 1 := Scalar.cmpi .eq arg1 c0_i32_58
  let v86 : BitVec 32 := Scalar.extui v85
  let c0_i32_59 : BitVec 32 := 0#32
  let v87 : BitVec 1 := Scalar.cmpi .ne v86 c0_i32_59
  v87

def k0_cond4 (i : grid0.Coords) : BitVec 1 :=
  let arg1 : BitVec 32 := BitVec.ofNat 32 (i 1).val
  let c0_i32_60 : BitVec 32 := 0#32
  let v88 : BitVec 1 := Scalar.cmpi .sgt arg1 c0_i32_60
  let v89 : BitVec 32 := Scalar.extui v88
  let c0_i32_61 : BitVec 32 := 0#32
  let v90 : BitVec 1 := Scalar.cmpi .ne v89 c0_i32_61
  v90

def k0_cond5 (i : grid0.Coords) (v0 : BitVec 32) : BitVec 1 :=
  let arg0 : BitVec 32 := BitVec.ofNat 32 (i 0).val
  let v1 : BitVec 1 := Scalar.cmpi .slt arg0 v0
  let v_true : BitVec 1 := 1#1
  let v8 : BitVec 1 := Scalar.xori v1 v_true
  let arg1 : BitVec 32 := BitVec.ofNat 32 (i 1).val
  let c0_i32_2 : BitVec 32 := 0#32
  let v9 : BitVec 1 := Scalar.cmpi .eq arg1 c0_i32_2
  let v10 : BitVec 1 := Scalar.andi v8 v9
  let v11 : BitVec 32 := Scalar.extui v10
  let c0_i32_3 : BitVec 32 := 0#32
  let v12 : BitVec 1 := Scalar.cmpi .ne v11 c0_i32_3
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S72.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S72 : Shape := ⟨1, ![72]⟩
abbrev S1 : Shape := ⟨1, ![1]⟩
abbrev S36864x1024 : Shape := ⟨2, ![36864, 1024]⟩
abbrev S8x1024x3584 : Shape := ⟨3, ![8, 1024, 3584]⟩
abbrev S8x3584x1024 : Shape := ⟨3, ![8, 3584, 1024]⟩
abbrev S_ : Shape := ⟨0, ![]⟩
abbrev S72x1 : Shape := ⟨2, ![72, 1]⟩
abbrev S72x512 : Shape := ⟨2, ![72, 512]⟩
abbrev S36864 : Shape := ⟨1, ![36864]⟩
abbrev S36864x1 : Shape := ⟨2, ![36864, 1]⟩
abbrev S1x8 : Shape := ⟨2, ![1, 8]⟩
abbrev S36864x8 : Shape := ⟨2, ![36864, 8]⟩
abbrev S36864x8x3584 : Shape := ⟨3, ![36864, 8, 3584]⟩
abbrev S8x1024x36864 : Shape := ⟨3, ![8, 1024, 36864]⟩
abbrev S36864x8x1024 : Shape := ⟨3, ![36864, 8, 1024]⟩
abbrev S36864x8x1 : Shape := ⟨3, ![36864, 8, 1]⟩

abbrev nBuf : Space → Nat
  | .hbm => 44
  | .vmem => 0
  | .smem => 0
  | _ => 0

abbrev bufTy : (tb : Table) → Fin (tcTables nBuf tb) → BufTy
  | .hbm, ⟨0, _⟩ => ⟨S72, .i32⟩
  | .hbm, ⟨1, _⟩ => ⟨S1, .i32⟩
  | .hbm, ⟨2, _⟩ => ⟨S36864x1024, .f32⟩
  | .hbm, ⟨3, _⟩ => ⟨S8x1024x3584, .bf16⟩
  | .hbm, ⟨4, _⟩ => ⟨S8x1024x3584, .bf16⟩
  | .hbm, ⟨5, _⟩ => ⟨S8x3584x1024, .bf16⟩
  | .hbm, ⟨6, _⟩ => ⟨S72, .i32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S_, .i32⟩
  | .hbm, ⟨11, _⟩ => ⟨S_, .i32⟩
  | .hbm, ⟨12, _⟩ => ⟨S72, .i32⟩
  | .hbm, ⟨13, _⟩ => ⟨S72, .i32⟩
  | .hbm, ⟨14, _⟩ => ⟨S72x1, .i32⟩
  | .hbm, ⟨15, _⟩ => ⟨S72x512, .i32⟩
  | .hbm, ⟨16, _⟩ => ⟨S36864, .i32⟩
  | .hbm, ⟨17, _⟩ => ⟨S36864x1, .i32⟩
  | .hbm, ⟨18, _⟩ => ⟨S1x8, .i32⟩
  | .hbm, ⟨19, _⟩ => ⟨S36864x8, .i32⟩
  | .hbm, ⟨20, _⟩ => ⟨S36864x8, .i32⟩
  | .hbm, ⟨21, _⟩ => ⟨S36864x8, .i1⟩
  | .hbm, ⟨22, _⟩ => ⟨S36864x8, .f32⟩
  | .hbm, ⟨23, _⟩ => ⟨S36864x1024, .bf16⟩
  | .hbm, ⟨24, _⟩ => ⟨S36864x8x3584, .f32⟩
  | .hbm, ⟨25, _⟩ => ⟨S36864x8x3584, .f32⟩
  | .hbm, ⟨26, _⟩ => ⟨S36864x8x3584, .f32⟩
  | .hbm, ⟨27, _⟩ => ⟨S_, .f32⟩
  | .hbm, ⟨28, _⟩ => ⟨S36864x8x3584, .f32⟩
  | .hbm, ⟨29, _⟩ => ⟨S36864x8x3584, .f32⟩
  | .hbm, ⟨30, _⟩ => ⟨S_, .f32⟩
  | .hbm, ⟨31, _⟩ => ⟨S36864x8x3584, .f32⟩
  | .hbm, ⟨32, _⟩ => ⟨S36864x8x3584, .f32⟩
  | .hbm, ⟨33, _⟩ => ⟨S36864x8x3584, .f32⟩
  | .hbm, ⟨34, _⟩ => ⟨S36864x8x3584, .f32⟩
  | .hbm, ⟨35, _⟩ => ⟨S36864x8x3584, .f32⟩
  | .hbm, ⟨36, _⟩ => ⟨S36864x8x3584, .bf16⟩
  | .hbm, ⟨37, _⟩ => ⟨S8x1024x36864, .f32⟩
  | .hbm, ⟨38, _⟩ => ⟨S36864x8x1024, .f32⟩
  | .hbm, ⟨39, _⟩ => ⟨S36864x8x1, .f32⟩
  | .hbm, ⟨40, _⟩ => ⟨S36864x8x1024, .f32⟩
  | .hbm, ⟨41, _⟩ => ⟨S36864x8x1024, .f32⟩
  | .hbm, ⟨42, _⟩ => ⟨S_, .f32⟩
  | .hbm, ⟨43, _⟩ => ⟨S36864x1024, .f32⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call2_v0 : Ref sig .tc := ⟨.hbm, 25, rfl⟩
abbrev main_call2_v1 : Ref sig .tc := ⟨.hbm, 26, rfl⟩
abbrev main_call2_cst : Ref sig .tc := ⟨.hbm, 27, rfl⟩
abbrev main_call2_v2 : Ref sig .tc := ⟨.hbm, 28, rfl⟩
abbrev main_call2_v3 : Ref sig .tc := ⟨.hbm, 29, rfl⟩
abbrev main_call2_cst_0 : Ref sig .tc := ⟨.hbm, 30, rfl⟩
abbrev main_call2_v4 : Ref sig .tc := ⟨.hbm, 31, rfl⟩
abbrev main_call2_v5 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst : Ref sig .tc := ⟨.hbm, 42, rfl⟩
abbrev main_v20 : Ref sig .tc := ⟨.hbm, 43, rfl⟩

abbrev nD : Nat := 1
abbrev τ : Topo := Topo.v7x

variable {F : FTy → Type} [FloatOps F]
-- ==== Ffn.lean ====
abbrev S17408x1024 : Shape := ⟨2, ![17408, 1024]⟩
abbrev S1024x2816 : Shape := ⟨2, ![1024, 2816]⟩
abbrev S2816x1024 : Shape := ⟨2, ![2816, 1024]⟩
abbrev S2x8x6x1024 : Shape := ⟨4, ![2, 8, 6, 1024]⟩
abbrev S4x1024 : Shape := ⟨2, ![4, 1024]⟩
abbrev S512x1024 : Shape := ⟨2, ![512, 1024]⟩
abbrev S1x1x6x1024 : Shape := ⟨4, ![1, 1, 6, 1024]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S17408x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S17408x1024, .f32⟩
  | .hbm, ⟨5, _⟩ => ⟨S2x8x6x1024, .f32⟩
  | .hbm, ⟨6, _⟩ => ⟨S4x1024, .f32⟩
  | .hbm, ⟨7, _⟩ => ⟨S17408x1024, .f32⟩
  | .local _ .vmem, ⟨0, _⟩ => ⟨S512x1024, .bf16⟩
  | .local _ .vmem, ⟨1, _⟩ => ⟨S512x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S512x1024, .f32⟩
  | .local _ .vmem, ⟨6, _⟩ => ⟨S512x1024, .f32⟩
  | .local _ .vmem, ⟨7, _⟩ => ⟨S1x1x6x1024, .f32⟩
  | .local _ .vmem, ⟨8, _⟩ => ⟨S1x1x6x1024, .f32⟩
  | .local _ .vmem, ⟨9, _⟩ => ⟨S4x1024, .f32⟩
  | .local _ .vmem, ⟨10, _⟩ => ⟨S512x1024, .f32⟩
  | .local _ .vmem, ⟨11, _⟩ => ⟨S512x1024, .f32⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c0_i32_4 : BitVec 32 := 0#32
  let c0_i32_5 : BitVec 32 := 0#32
  let c0_i32_6 : BitVec 32 := 0#32
  let c0_i32_7 : BitVec 32 := 0#32
  ![c0_i32_4.toNat, v19.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnRefIdeal.lean ====
abbrev S17408x1024 : Shape := ⟨2, ![17408, 1024]⟩
abbrev S1024x2816 : Shape := ⟨2, ![1024, 2816]⟩
abbrev S2816x1024 : Shape := ⟨2, ![2816, 1024]⟩
abbrev S2x8x6x1024 : Shape := ⟨4, ![2, 8, 6, 1024]⟩
abbrev S4x1024 : Shape := ⟨2, ![4, 1024]⟩
abbrev S17408x2816 : Shape := ⟨2, ![17408, 2816]⟩
abbrev S_ : Shape := ⟨0, ![]⟩
abbrev S1x4x1x1024 : Shape := ⟨4, ![1, 4, 1, 1024]⟩
abbrev S4x1x1024 : Shape := ⟨3, ![4, 1, 1024]⟩
abbrev S4x4096x1024 : Shape := ⟨3, ![4, 4096, 1024]⟩
abbrev S16384x1024 : Shape := ⟨2, ![16384, 1024]⟩
abbrev S1x1x1x1024 : Shape := ⟨4, ![1, 1, 1, 1024]⟩
abbrev S1024 : Shape := ⟨1, ![1024]⟩
abbrev S1024x1024 : Shape := ⟨2, ![1024, 1024]⟩
abbrev S1x1024 : Shape := ⟨2, ![1, 1024]⟩
abbrev S17408 : Shape := ⟨1, ![17408]⟩
abbrev S17408x1 : Shape := ⟨2, ![17408, 1]⟩

abbrev nBuf : Space → Nat
  | .hbm => 50
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S17408x1024, .f32⟩
  | .hbm, ⟨5, _⟩ => ⟨S2x8x6x1024, .f32⟩
  | .hbm, ⟨6, _⟩ => ⟨S4x1024, .f32⟩
  | .hbm, ⟨7, _⟩ => ⟨S17408x2816, .f32⟩
  | .hbm, ⟨8, _⟩ => ⟨S17408x2816, .f32⟩
  | .hbm, ⟨9, _⟩ => ⟨S17408x2816, .f32⟩
  | .hbm, ⟨10, _⟩ => ⟨S_, .f32⟩
  | .hbm, ⟨11, _⟩ => ⟨S17408x2816, .f32⟩
  | .hbm, ⟨12, _⟩ => ⟨S17408x2816, .f32⟩
  | .hbm, ⟨13, _⟩ => ⟨S_, .f32⟩
  | .hbm, ⟨14, _⟩ => ⟨S17408x2816, .f32⟩
  | .hbm, ⟨15, _⟩ => ⟨S17408x2816, .f32⟩
  | .hbm, ⟨16, _⟩ => ⟨S17408x2816, .f32⟩
  | .hbm, ⟨17, _⟩ => ⟨S17408x2816, .f32⟩
  | .hbm, ⟨18, _⟩ => ⟨S17408x2816, .f32⟩
  | .hbm, ⟨19, _⟩ => ⟨S17408x2816, .bf16⟩
  | .hbm, ⟨20, _⟩ => ⟨S17408x1024, .f32⟩
  | .hbm, ⟨21, _⟩ => ⟨S1x4x1x1024, .f32⟩
  | .hbm, ⟨22, _⟩ => ⟨S4x1024, .f32⟩
  | .hbm, ⟨23, _⟩ => ⟨S4x1x1024, .f32⟩
  | .hbm, ⟨24, _⟩ => ⟨S4x4096x1024, .f32⟩
  | .hbm, ⟨25, _⟩ => ⟨S16384x1024, .f32⟩
  | .hbm, ⟨26, _⟩ => ⟨S1x1x1x1024, .f32⟩
  | .hbm, ⟨27, _⟩ => ⟨S1024, .f32⟩
  | .hbm, ⟨28, _⟩ => ⟨S1024x1024, .f32⟩
  | .hbm, ⟨29, _⟩ => ⟨S17408x1024, .f32⟩
  | .hbm, ⟨30, _⟩ => ⟨S1x1024, .f32⟩
  | .hbm, ⟨31, _⟩ => ⟨S1024, .f32⟩
  | .hbm, ⟨32, _⟩ => ⟨S17408x1024, .f32⟩
  | .hbm, ⟨33, _⟩ => ⟨S_, .f32⟩
  | .hbm, ⟨34, _⟩ => ⟨S17408, .f32⟩
  | .hbm, ⟨35, _⟩ => ⟨S17408x1, .f32⟩
  | .hbm, ⟨36, _⟩ => ⟨S_, .f32⟩
  | .hbm, ⟨37, _⟩ => ⟨S17408x1, .f32⟩
  | .hbm, ⟨38, _⟩ => ⟨S17408x1, .f32⟩
  | .hbm, ⟨39, _⟩ => ⟨S_, .f32⟩
  | .hbm, ⟨40, _⟩ => ⟨S17408x1, .f32⟩
  | .hbm, ⟨41, _⟩ => ⟨S17408x1, .f32⟩
  | .hbm, ⟨42, _⟩ => ⟨S17408x1, .f32⟩
  | .hbm, ⟨43, _⟩ => ⟨S17408x1024, .f32⟩
  | .hbm, ⟨44, _⟩ => ⟨S17408x1024, .f32⟩
  | .hbm, ⟨45, _⟩ => ⟨S1x1024, .f32⟩
  | .hbm, ⟨46, _⟩ => ⟨S17408x1024, .f32⟩
  | .hbm, ⟨47, _⟩ => ⟨S17408x1024, .f32⟩
  | .hbm, ⟨48, _⟩ => ⟨S17408x1024, .f32⟩
  | .hbm, ⟨49, _⟩ => ⟨S17408x1024, .f32⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩

abbrev nD : Nat := 1
abbrev τ : Topo := Topo.v7x

variable {F : FTy → Type} [FloatOps F]
-- ==== Out.lean ====
abbrev S16384x1024 : Shape := ⟨2, ![16384, 1024]⟩
abbrev S1024x1024 : Shape := ⟨2, ![1024, 1024]⟩
abbrev S2x8x6x1024 : Shape := ⟨4, ![2, 8, 6, 1024]⟩
abbrev S4x1024 : Shape := ⟨2, ![4, 1024]⟩
abbrev S17408x1024 : Shape := ⟨2, ![17408, 1024]⟩
abbrev S512x1024 : Shape := ⟨2, ![512, 1024]⟩
abbrev S1x1x6x1024 : Shape := ⟨4, ![1, 1, 6, 1024]⟩
abbrev S1x1x1x1024 : Shape := ⟨4, ![1, 1, 1, 1024]⟩
abbrev S1x1024 : Shape := ⟨2, ![1, 1024]⟩
abbrev S512 : Shape := ⟨1, ![512]⟩
abbrev S512x1 : Shape := ⟨2, ![512, 1]⟩

abbrev nBuf : Space → Nat
  | .hbm => 9
  | .vmem => 16
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024x1024, .bf16⟩
  | .hbm, ⟨3, _⟩ => ⟨S16384x1024, .f32⟩
  | .hbm, ⟨4, _⟩ => ⟨S1024x1024, .f32⟩
  | .hbm, ⟨5, _⟩ => ⟨S2x8x6x1024, .f32⟩
  | .hbm, ⟨6, _⟩ => ⟨S4x1024, .f32⟩
  | .hbm, ⟨7, _⟩ => ⟨S17408x1024, .f32⟩
  | .hbm, ⟨8, _⟩ => ⟨S17408x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1x6x1024, .f32⟩
  | .local _ .vmem, ⟨10, _⟩ => ⟨S1x1x6x1024, .f32⟩
  | .local _ .vmem, ⟨11, _⟩ => ⟨S4x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 4 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 1 := Scalar.cmpi .slt v0 c16384_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c4_i32 : BitVec 32 := 4#32
  let v19 : BitVec 32 := Scalar.select v1 v18 c4_i32
  let c0_i32_4 : BitVec 32 := 0#32
  let c0_i32_5 : BitVec 32 := 0#32
  let c0_i32_6 : BitVec 32 := 0#32
  let c0_i32_7 : BitVec 32 := 0#32
  ![c0_i32_4.toNat, v19.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x6x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutRefIdeal.lean ====
abbrev S16384x1024 : Shape := ⟨2, ![16384, 1024]⟩
abbrev S1024x1024 : Shape := ⟨2, ![1024, 1024]⟩
abbrev S2x8x6x1024 : Shape := ⟨4, ![2, 8, 6, 1024]⟩
abbrev S4x1024 : Shape := ⟨2, ![4, 1024]⟩
abbrev S17408x1024 : Shape := ⟨2, ![17408, 1024]⟩
abbrev S1x4x1x1024 : Shape := ⟨4, ![1, 4, 1, 1024]⟩
abbrev S4x1x1024 : Shape := ⟨3, ![4, 1, 1024]⟩
abbrev S4x4096x1024 : Shape := ⟨3, ![4, 4096, 1024]⟩
abbrev S1x1x1x1024 : Shape := ⟨4, ![1, 1, 1, 1024]⟩
abbrev S1024 : Shape := ⟨1, ![1024]⟩
abbrev S1x1024 : Shape := ⟨2, ![1, 1024]⟩
abbrev S_ : Shape := ⟨0, ![]⟩
abbrev S17408 : Shape := ⟨1, ![17408]⟩
abbrev S17408x1 : Shape := ⟨2, ![17408, 1]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S1024x1024, .bf16⟩
  | .hbm, ⟨3, _⟩ => ⟨S16384x1024, .f32⟩
  | .hbm, ⟨4, _⟩ => ⟨S1024x1024, .f32⟩
  | .hbm, ⟨5, _⟩ => ⟨S2x8x6x1024, .f32⟩
  | .hbm, ⟨6, _⟩ => ⟨S4x1024, .f32⟩
  | .hbm, ⟨7, _⟩ => ⟨S17408x1024, .bf16⟩
  | .hbm, ⟨8, _⟩ => ⟨S17408x1024, .f32⟩
  | .hbm, ⟨9, _⟩ => ⟨S17408x1024, .f32⟩
  | .hbm, ⟨10, _⟩ => ⟨S1x4x1x1024, .f32⟩
  | .hbm, ⟨11, _⟩ => ⟨S4x1024, .f32⟩
  | .hbm, ⟨12, _⟩ => ⟨S4x1x1024, .f32⟩
  | .hbm, ⟨13, _⟩ => ⟨S4x4096x1024, .f32⟩
  | .hbm, ⟨14, _⟩ => ⟨S16384x1024, .f32⟩
  | .hbm, ⟨15, _⟩ => ⟨S1x1x1x1024, .f32⟩
  | .hbm, ⟨16, _⟩ => ⟨S1024, .f32⟩
  | .hbm, ⟨17, _⟩ => ⟨S1024x1024, .f32⟩
  | .hbm, ⟨18, _⟩ => ⟨S17408x1024, .f32⟩
  | .hbm, ⟨19, _⟩ => ⟨S1x1024, .f32⟩
  | .hbm, ⟨20, _⟩ => ⟨S1024, .f32⟩
  | .hbm, ⟨21, _⟩ => ⟨S17408x1024, .f32⟩
  | .hbm, ⟨22, _⟩ => ⟨S_, .f32⟩
  | .hbm, ⟨23, _⟩ => ⟨S17408, .f32⟩
  | .hbm, ⟨24, _⟩ => ⟨S17408x1, .f32⟩
  | .hbm, ⟨25, _⟩ => ⟨S_, .f32⟩
  | .hbm, ⟨26, _⟩ => ⟨S17408x1, .f32⟩
  | .hbm, ⟨27, _⟩ => ⟨S17408x1, .f32⟩
  | .hbm, ⟨28, _⟩ => ⟨S_, .f32⟩
  | .hbm, ⟨29, _⟩ => ⟨S17408x1, .f32⟩
  | .hbm, ⟨30, _⟩ => ⟨S17408x1, .f32⟩
  | .hbm, ⟨31, _⟩ => ⟨S17408x1, .f32⟩
  | .hbm, ⟨32, _⟩ => ⟨S17408x1024, .f32⟩
  | .hbm, ⟨33, _⟩ => ⟨S17408x1024, .f32⟩
  | .hbm, ⟨34, _⟩ => ⟨S1x1024, .f32⟩
  | .hbm, ⟨35, _⟩ => ⟨S17408x1024, .f32⟩
  | .hbm, ⟨36, _⟩ => ⟨S17408x1024, .f32⟩
  | .hbm, ⟨37, _⟩ => ⟨S17408x1024, .f32⟩
  | .hbm, ⟨38, _⟩ => ⟨S17408x1024, .f32⟩
  | .hbm, ⟨39, _⟩ => ⟨S1x1024, .f32⟩
  | .hbm, ⟨40, _⟩ => ⟨S1024, .f32⟩
  | .hbm, ⟨41, _⟩ => ⟨S17408x1024, .f32⟩
  | .hbm, ⟨42, _⟩ => ⟨S_, .f32⟩
  | .hbm, ⟨43, _⟩ => ⟨S17408, .f32⟩
  | .hbm, ⟨44, _⟩ => ⟨S17408x1, .f32⟩
  | .hbm, ⟨45, _⟩ => ⟨S_, .f32⟩
  | .hbm, ⟨46, _⟩ => ⟨S17408x1, .f32⟩
  | .hbm, ⟨47, _⟩ => ⟨S17408x1, .f32⟩
  | .hbm, ⟨48, _⟩ => ⟨S_, .f32⟩
  | .hbm, ⟨49, _⟩ => ⟨S17408x1, .f32⟩
  | .hbm, ⟨50, _⟩ => ⟨S17408x1, .f32⟩
  | .hbm, ⟨51, _⟩ => ⟨S17408x1, .f32⟩
  | .hbm, ⟨52, _⟩ => ⟨S17408x1024, .f32⟩
  | .hbm, ⟨53, _⟩ => ⟨S17408x1024, .f32⟩
  | .hbm, ⟨54, _⟩ => ⟨S1x1024, .f32⟩
  | .hbm, ⟨55, _⟩ => ⟨S17408x1024, .f32⟩
  | .hbm, ⟨56, _⟩ => ⟨S17408x1024, .f32⟩
  | .hbm, ⟨57, _⟩ => ⟨S1x4x1x1024, .f32⟩
  | .hbm, ⟨58, _⟩ => ⟨S4x1024, .f32⟩
  | .hbm, ⟨59, _⟩ => ⟨S4x1x1024, .f32⟩
  | .hbm, ⟨60, _⟩ => ⟨S4x4096x1024, .f32⟩
  | .hbm, ⟨61, _⟩ => ⟨S16384x1024, .f32⟩
  | .hbm, ⟨62, _⟩ => ⟨S1x1x1x1024, .f32⟩
  | .hbm, ⟨63, _⟩ => ⟨S1024, .f32⟩
  | .hbm, ⟨64, _⟩ => ⟨S1024x1024, .f32⟩
  | .hbm, ⟨65, _⟩ => ⟨S17408x1024, .f32⟩
  | .hbm, ⟨66, _⟩ => ⟨S_, .f32⟩
  | .hbm, ⟨67, _⟩ => ⟨S17408x1024, .f32⟩
  | .hbm, ⟨68, _⟩ => ⟨S17408x1024, .f32⟩
  | .hbm, ⟨69, _⟩ => ⟨S17408x1024, .f32⟩
  | .hbm, ⟨70, _⟩ => ⟨S1x4x1x1024, .f32⟩
  | .hbm, ⟨71, _⟩ => ⟨S4x1024, .f32⟩
  | .hbm, ⟨72, _⟩ => ⟨S4x1x1024, .f32⟩
  | .hbm, ⟨73, _⟩ => ⟨S4x4096x1024, .f32⟩
  | .hbm, ⟨74, _⟩ => ⟨S16384x1024, .f32⟩
  | .hbm, ⟨75, _⟩ => ⟨S1x1x1x1024, .f32⟩
  | .hbm, ⟨76, _⟩ => ⟨S1024, .f32⟩
  | .hbm, ⟨77, _⟩ => ⟨S1024x1024, .f32⟩
  | .hbm, ⟨78, _⟩ => ⟨S17408x1024, .f32⟩
  | .hbm, ⟨79, _⟩ => ⟨S17408x1024, .f32⟩
  | .hbm, ⟨80, _⟩ => ⟨S17408x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_5 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩

abbrev nD : Nat := 1
abbrev τ : Topo := Topo.v7x

variable {F : FTy → Type} [FloatOps F]
-- ==== Proof.Attention.Tile.lean ====
/-
  What the attention body computes for one tile of 256 queries, as functions of whole vectors: the scores of a chunk of
  keys, their maximum per query, one step of the running softmax over a chunk, and the finished tile of four heads.
  The body of the kernel is these functions in some order of issue; `Trip.lean` and `Run.lean` say so.
-/
module

public import proofs.«01_k».proof.Proof.Gen.AttnIdeal.Loops

@[expose] public section

set_option maxRecDepth 16384

noncomputable section

namespace Cert.AttnIdeal.Attention

open Cert.AttnIdeal Cert.AttnIdeal.Gen Idealize.ShloMosaic Idealize.ShloMosaic.TcCoe Idealize.SL.Sem

variable {F : FTy → Type} [FloatOps F]

/-- The scores of 1024 keys against 256 queries of one head: row `j`, column `r` is key `j` times query `r`. -/
def scores (q : Vec F S256x128 .bf16) (k : Vec F S1024x128 .bf16) : FVec F S1024x256 .f32 :=
  matmul dot_S1024x128_S256x128_S1024x256_1_1_0_0_n_n none k q (constant S1024x256 .f32 0x00000000#32)

/-- The scores of the 256 context keys. -/
def scoresCtx (q : Vec F S256x128 .bf16) (k : Vec F S256x128 .bf16) : FVec F S256x256 .f32 :=
  matmul dot_S256x128_S256x128_S256x256_1_1_0_0_n_n none k q (constant S256x256 .f32 0x00000000#32)

/-- Scores as the scratch keeps them, with a leading axis for the head. -/
def slab (s : FVec F S1024x256 .f32) : FVec F S1x1024x256 .f32 := shapeCast S1x1024x256 s shapeCasts_S1024x256_S1x1024x256

/-- The same for the context scores. -/
def slabCtx (s : FVec F S256x256 .f32) : FVec F S1x256x256 .f32 := shapeCast S1x256x256 s shapeCasts_S256x256_S1x256x256

/-- Per query, the largest score of a chunk. -/
def colMax (s : FVec F S1024x256 .f32) : FVec F S1x256 .f32 :=
  shapeCast S1x256 (multiReduction .maximumf [0] S256 s 0xFF800000#32 reduces_S1024x256_S256 (.inl rfl) rfl) shapeCasts_S256_S1x256

/-- Per query, the largest context score. -/
def colMaxCtx (s : FVec F S256x256 .f32) : FVec F S1x256 .f32 :=
  shapeCast S1x256 (multiReduction .maximumf [0] S256 s 0xFF800000#32 reduces_S256x256_S256 (.inl rfl) rfl) shapeCasts_S256_S1x256

/-- The accumulator moved from the maximum `m` to the maximum `m'`. -/
def rescale (m m' : FVec F S1x256 .f32) (a : FVec F S80x256 .f32) : FVec F S80x256 .f32 :=
  mulf (broadcastTo S80x256 (exp2 (subf m m')) broadcasts_S1x256_S80x256) a

/-- One step of the running softmax: the accumulator `a` at the maximum `m`, a chunk with the largest scores `c`, the
    scores `s` and the values `w`. -/
def step (m c : FVec F S1x256 .f32) (a : FVec F S80x256 .f32) (s : Vec F S1x1024x256 .f32) (w : Vec F S80x1024 .bf16) :
    FVec F S80x256 .f32 :=
  addf (rescale m (maximumf m c) a)
    (matmul dot_S80x1024_S1024x256_S80x256_1_0_0_1_n_n none (shapeCast S80x1024 w shapeCasts_S80x1024_S80x1024)
      (truncf .bf16 (exp2 (subf (shapeCast S1024x256 s shapeCasts_S1x1024x256_S1024x256)
        (broadcastTo S1024x256 (maximumf m c) broadcasts_S1x256_S1024x256))) bitsLt_bf16_f32)
      (constant S80x256 .f32 0x00000000#32))

/-- The same step over the 256 context keys, from their scores. -/
def stepFlat (m c : FVec F S1x256 .f32) (a : FVec F S80x256 .f32) (s : FVec F S256x256 .f32) (w : Vec F S80x256 .bf16) :
    FVec F S80x256 .f32 :=
  addf (rescale m (maximumf m c) a)
    (matmul dot_S80x256_S256x256_S80x256_1_0_0_1_n_n none (shapeCast S80x256 w shapeCasts_S80x256_S80x256)
      (truncf .bf16 (exp2 (subf s (broadcastTo S256x256 (maximumf m c) broadcasts_S1x256_S256x256))) bitsLt_bf16_f32)
      (constant S80x256 .f32 0x00000000#32))

/-- The context step from scores kept in the scratch. -/
def stepCtx (m c : FVec F S1x256 .f32) (a : FVec F S80x256 .f32) (s : Vec F S1x256x256 .f32) (w : Vec F S80x256 .bf16) :
    FVec F S80x256 .f32 :=
  stepFlat m c a (shapeCast S256x256 s shapeCasts_S1x256x256_S256x256) w

/-- One head of a latent tile: four chunks of latent keys, then the context. -/
def head (m : FVec F S1x256 .f32) (a : FVec F S80x256 .f32) (c0 c1 c2 c3 cc : FVec F S1x256 .f32)
    (s0 s1 s2 s3 : Vec F S1x1024x256 .f32) (sc : Vec F S1x256x256 .f32) (w0 w1 w2 w3 : Vec F S80x1024 .bf16)
    (wc : Vec F S80x256 .bf16) : FVec F S80x256 .f32 :=
  stepCtx (maximumf (maximumf (maximumf (maximumf m c0) c1) c2) c3) cc
    (step (maximumf (maximumf (maximumf m c0) c1) c2) c3
      (step (maximumf (maximumf m c0) c1) c2
        (step (maximumf m c0) c1 (step m c0 a s0 w0) s1 w1) s2 w2) s3 w3) sc wc

/-- The rows of values divided by the row of sums. -/
def normed (a : FVec F S80x256 .f32) : FVec F S64x256 .f32 :=
  divf (extractStridedSlice S64x256 ![0, 0] a slices_S80x256_o0_0_S64x256)
    (broadcastTo S64x256 (extractStridedSlice S1x256 ![64, 0] a slices_S80x256_o64_0_S1x256) broadcasts_S1x256_S64x256)

/-- The finished tile of four heads, a row per query. -/
def tile (a0 a1 a2 a3 : FVec F S80x256 .f32) : FVec F S256x256 .bf16 :=
  truncf .bf16 (transpose S256x256 [1, 0] (concatenate S256x256 0 [⟨S64x256, normed a0⟩, ⟨S64x256, normed a1⟩,
    ⟨S64x256, normed a2⟩, ⟨S64x256, normed a3⟩] concatenates_S64x256_S64x256_S64x256_S64x256_S256x256_d0)
    transposes_S256x256_p1_0_S256x256) bitsLt_bf16_f32

/-! ## Loads of the body -/

/-- The queries of one tile and head. -/
abbrev ldQ (arg2 : Memref sig .tc .vmem S4096x512 .bf16) (X : BufTy.Contents (Elt F) arg2.view.ty) (off : Fin 2 → ℕ)
    (inb : ∀ a, off a + S256x128.size a ≤ S4096x512.size a) : Vec F S256x128 .bf16 :=
  View.readAt (Elt F) arg2.view (Rect.unit (s := S4096x512) off S256x128.size inb).toLoadRect X

/-- A chunk of latent keys of one head. -/
abbrev ldK (arg5 : Memref sig .tc .vmem S4096x512 .bf16) (X : BufTy.Contents (Elt F) arg5.view.ty) (off : Fin 2 → ℕ)
    (inb : ∀ a, off a + S1024x128.size a ≤ S4096x512.size a) : Vec F S1024x128 .bf16 :=
  View.readAt (Elt F) arg5.view (Rect.unit (s := S4096x512) off S1024x128.size inb).toLoadRect X

/-- The context keys (or queries) of one head. -/
abbrev ldC (arg4 : Memref sig .tc .vmem S256x512 .bf16) (X : BufTy.Contents (Elt F) arg4.view.ty) (off : Fin 2 → ℕ)
    (inb : ∀ a, off a + S256x128.size a ≤ S256x512.size a) : Vec F S256x128 .bf16 :=
  View.readAt (Elt F) arg4.view (Rect.unit (s := S256x512) off S256x128.size inb).toLoadRect X

/-- A chunk of latent values of one head, transposed, with its rows of ones. -/
abbrev ldV (arg7 : Memref sig .tc .vmem S320x4096 .bf16) (X : BufTy.Contents (Elt F) arg7.view.ty) (off : Fin 2 → ℕ)
    (inb : ∀ a, off a + S80x1024.size a ≤ S320x4096.size a) : Vec F S80x1024 .bf16 :=
  View.readAt (Elt F) arg7.view (Rect.unit (s := S320x4096) off S80x1024.size inb).toLoadRect X

/-- The context values of one head. -/
abbrev ldVC (arg6 : Memref sig .tc .vmem S320x256 .bf16) (X : BufTy.Contents (Elt F) arg6.view.ty) (off : Fin 2 → ℕ)
    (inb : ∀ a, off a + S80x256.size a ≤ S320x256.size a) : Vec F S80x256 .bf16 :=
  View.readAt (Elt F) arg6.view (Rect.unit (s := S320x256) off S80x256.size inb).toLoadRect X

/-- The scratch's scores of one head. -/
abbrev ldS (arg10 : Memref sig .tc .vmem S4x1024x256 .f32) (f : BufTy.Contents (Elt F) arg10.view.ty) (off : Fin 3 → ℕ)
    (inb : ∀ a, off a + S1x1024x256.size a ≤ S4x1024x256.size a) : Vec F S1x1024x256 .f32 :=
  View.readAt (Elt F) arg10.view (Rect.unit (s := S4x1024x256) off S1x1024x256.size inb).toLoadRect f

end Cert.AttnIdeal.Attention

end
-- ==== Proof.Attention.Trip.lean ====
/-
  One trip of the body's loop: two finished tiles of 256 queries, the scores of the first chunk of the tile after them
  and their maxima.
-/
module

public import proofs.«01_k».proof.Proof.Attention.Tile
public import Idealize.ShloMosaic.Lib.Pipeline.ReadBack

@[expose] public section

set_option maxRecDepth 16384

noncomputable section

namespace Cert.AttnIdeal.Attention

open Cert.AttnIdeal Cert.AttnIdeal.Gen Idealize.ShloMosaic Idealize.ShloMosaic.TcCoe Idealize.SL.Sem

variable {F : FTy → Type} [FloatOps F]

/-- Head 0's slab, read back after the four heads' were stored, is what was stored for it. -/
theorem row0 (v : View sig .tc .vmem S4x1024x256 .f32) (p0 p1 p2 p3 : Vec F S1x1024x256 .f32) (L : List (View.Piece (Elt F) S4x1024x256 .f32)) :
    v.readCov (⟨(Rect.unit (s := S4x1024x256) ![3, 0, 0] S1x1024x256.size inb_S4x1024x256_S1x1024x256_3_0_0), p3⟩ :: ⟨(Rect.unit (s := S4x1024x256) ![2, 0, 0] S1x1024x256.size inb_S4x1024x256_S1x1024x256_2_0_0), p2⟩ :: ⟨(Rect.unit (s := S4x1024x256) ![1, 0, 0] S1x1024x256.size inb_S4x1024x256_S1x1024x256_1_0_0), p1⟩ :: ⟨(Rect.unit (s := S4x1024x256) ![0, 0, 0] S1x1024x256.size inb_S4x1024x256_S1x1024x256_0_0_0), p0⟩ :: L) (Rect.unit (s := S4x1024x256) ![0, 0, 0] S1x1024x256.size inb_S4x1024x256_S1x1024x256_0_0_0).toLoadRect = p0 := by
  rw [View.readCov_skip _ _ _ _ _ rfl, View.readCov_skip _ _ _ _ _ rfl, View.readCov_skip _ _ _ _ _ rfl, View.readCov_cons_toLoadRect]

/-- Head 1's slab, read back after the four heads' were stored, is what was stored for it. -/
theorem row1 (v : View sig .tc .vmem S4x1024x256 .f32) (p0 p1 p2 p3 : Vec F S1x1024x256 .f32) (L : List (View.Piece (Elt F) S4x1024x256 .f32)) :
    v.readCov (⟨(Rect.unit (s := S4x1024x256) ![3, 0, 0] S1x1024x256.size inb_S4x1024x256_S1x1024x256_3_0_0), p3⟩ :: ⟨(Rect.unit (s := S4x1024x256) ![2, 0, 0] S1x1024x256.size inb_S4x1024x256_S1x1024x256_2_0_0), p2⟩ :: ⟨(Rect.unit (s := S4x1024x256) ![1, 0, 0] S1x1024x256.size inb_S4x1024x256_S1x1024x256_1_0_0), p1⟩ :: ⟨(Rect.unit (s := S4x1024x256) ![0, 0, 0] S1x1024x256.size inb_S4x1024x256_S1x1024x256_0_0_0), p0⟩ :: L) (Rect.unit (s := S4x1024x256) ![1, 0, 0] S1x1024x256.size inb_S4x1024x256_S1x1024x256_1_0_0).toLoadRect = p1 := by
  rw [View.readCov_skip _ _ _ _ _ rfl, View.readCov_skip _ _ _ _ _ rfl, View.readCov_cons_toLoadRect]

/-- Head 2's slab, read back after the four heads' were stored, is what was stored for it. -/
theorem row2 (v : View sig .tc .vmem S4x1024x256 .f32) (p0 p1 p2 p3 : Vec F S1x1024x256 .f32) (L : List (View.Piece (Elt F) S4x1024x256 .f32)) :
    v.readCov (⟨(Rect.unit (s := S4x1024x256) ![3, 0, 0] S1x1024x256.size inb_S4x1024x256_S1x1024x256_3_0_0), p3⟩ :: ⟨(Rect.unit (s := S4x1024x256) ![2, 0, 0] S1x1024x256.size inb_S4x1024x256_S1x1024x256_2_0_0), p2⟩ :: ⟨(Rect.unit (s := S4x1024x256) ![1, 0, 0] S1x1024x256.size inb_S4x1024x256_S1x1024x256_1_0_0), p1⟩ :: ⟨(Rect.unit (s := S4x1024x256) ![0, 0, 0] S1x1024x256.size inb_S4x1024x256_S1x1024x256_0_0_0), p0⟩ :: L) (Rect.unit (s := S4x1024x256) ![2, 0, 0] S1x1024x256.size inb_S4x1024x256_S1x1024x256_2_0_0).toLoadRect = p2 := by
  rw [View.readCov_skip _ _ _ _ _ rfl, View.readCov_cons_toLoadRect]

/-- Head 3's slab, read back after the four heads' were stored, is what was stored for it. -/
theorem row3 (v : View sig .tc .vmem S4x1024x256 .f32) (p0 p1 p2 p3 : Vec F S1x1024x256 .f32) (L : List (View.Piece (Elt F) S4x1024x256 .f32)) :
    v.readCov (⟨(Rect.unit (s := S4x1024x256) ![3, 0, 0] S1x1024x256.size inb_S4x1024x256_S1x1024x256_3_0_0), p3⟩ :: ⟨(Rect.unit (s := S4x1024x256) ![2, 0, 0] S1x1024x256.size inb_S4x1024x256_S1x1024x256_2_0_0), p2⟩ :: ⟨(Rect.unit (s := S4x1024x256) ![1, 0, 0] S1x1024x256.size inb_S4x1024x256_S1x1024x256_1_0_0), p1⟩ :: ⟨(Rect.unit (s := S4x1024x256) ![0, 0, 0] S1x1024x256.size inb_S4x1024x256_S1x1024x256_0_0_0), p0⟩ :: L) (Rect.unit (s := S4x1024x256) ![3, 0, 0] S1x1024x256.size inb_S4x1024x256_S1x1024x256_3_0_0).toLoadRect = p3 := by
  rw [View.readCov_cons_toLoadRect]

/-- Head 0's slab of context scores, read back after the four heads' were stored, is what was stored for it. -/
theorem row0Ctx (v : View sig .tc .vmem S4x1024x256 .f32) (p0 p1 p2 p3 : Vec F S1x256x256 .f32) (L : List (View.Piece (Elt F) S4x1024x256 .f32)) :
    v.readCov (⟨(Rect.unit (s := S4x1024x256) ![3, 0, 0] S1x256x256.size inb_S4x1024x256_S1x256x256_3_0_0), p3⟩ :: ⟨(Rect.unit (s := S4x1024x256) ![2, 0, 0] S1x256x256.size inb_S4x1024x256_S1x256x256_2_0_0), p2⟩ :: ⟨(Rect.unit (s := S4x1024x256) ![1, 0, 0] S1x256x256.size inb_S4x1024x256_S1x256x256_1_0_0), p1⟩ :: ⟨(Rect.unit (s := S4x1024x256) ![0, 0, 0] S1x256x256.size inb_S4x1024x256_S1x256x256_0_0_0), p0⟩ :: L) (Rect.unit (s := S4x1024x256) ![0, 0, 0] S1x256x256.size inb_S4x1024x256_S1x256x256_0_0_0).toLoadRect = p0 := by
  rw [View.readCov_skip _ _ _ _ _ rfl, View.readCov_skip _ _ _ _ _ rfl, View.readCov_skip _ _ _ _ _ rfl, View.readCov_cons_toLoadRect]

/-- Head 1's slab of context scores, read back after the four heads' were stored, is what was stored for it. -/
theorem row1Ctx (v : View sig .tc .vmem S4x1024x256 .f32) (p0 p1 p2 p3 : Vec F S1x256x256 .f32) (L : List (View.Piece (Elt F) S4x1024x256 .f32)) :
    v.readCov (⟨(Rect.unit (s := S4x1024x256) ![3, 0, 0] S1x256x256.size inb_S4x1024x256_S1x256x256_3_0_0), p3⟩ :: ⟨(Rect.unit (s := S4x1024x256) ![2, 0, 0] S1x256x256.size inb_S4x1024x256_S1x256x256_2_0_0), p2⟩ :: ⟨(Rect.unit (s := S4x1024x256) ![1, 0, 0] S1x256x256.size inb_S4x1024x256_S1x256x256_1_0_0), p1⟩ :: ⟨(Rect.unit (s := S4x1024x256) ![0, 0, 0] S1x256x256.size inb_S4x1024x256_S1x256x256_0_0_0), p0⟩ :: L) (Rect.unit (s := S4x1024x256) ![1, 0, 0] S1x256x256.size inb_S4x1024x256_S1x256x256_1_0_0).toLoadRect = p1 := by
  rw [View.readCov_skip _ _ _ _ _ rfl, View.readCov_skip _ _ _ _ _ rfl, View.readCov_cons_toLoadRect]

/-- Head 2's slab of context scores, read back after the four heads' were stored, is what was stored for it. -/
theorem row2Ctx (v : View sig .tc .vmem S4x1024x256 .f32) (p0 p1 p2 p3 : Vec F S1x256x256 .f32) (L : List (View.Piece (Elt F) S4x1024x256 .f32)) :
    v.readCov (⟨(Rect.unit (s := S4x1024x256) ![3, 0, 0] S1x256x256.size inb_S4x1024x256_S1x256x256_3_0_0), p3⟩ :: ⟨(Rect.unit (s := S4x1024x256) ![2, 0, 0] S1x256x256.size inb_S4x1024x256_S1x256x256_2_0_0), p2⟩ :: ⟨(Rect.unit (s := S4x1024x256) ![1, 0, 0] S1x256x256.size inb_S4x1024x256_S1x256x256_1_0_0), p1⟩ :: ⟨(Rect.unit (s := S4x1024x256) ![0, 0, 0] S1x256x256.size inb_S4x1024x256_S1x256x256_0_0_0), p0⟩ :: L) (Rect.unit (s := S4x1024x256) ![2, 0, 0] S1x256x256.size inb_S4x1024x256_S1x256x256_2_0_0).toLoadRect = p2 := by
  rw [View.readCov_skip _ _ _ _ _ rfl, View.readCov_cons_toLoadRect]

/-- Head 3's slab of context scores, read back after the four heads' were stored, is what was stored for it. -/
theorem row3Ctx (v : View sig .tc .vmem S4x1024x256 .f32) (p0 p1 p2 p3 : Vec F S1x256x256 .f32) (L : List (View.Piece (Elt F) S4x1024x256 .f32)) :
    v.readCov (⟨(Rect.unit (s := S4x1024x256) ![3, 0, 0] S1x256x256.size inb_S4x1024x256_S1x256x256_3_0_0), p3⟩ :: ⟨(Rect.unit (s := S4x1024x256) ![2, 0, 0] S1x256x256.size inb_S4x1024x256_S1x256x256_2_0_0), p2⟩ :: ⟨(Rect.unit (s := S4x1024x256) ![1, 0, 0] S1x256x256.size inb_S4x1024x256_S1x256x256_1_0_0), p1⟩ :: ⟨(Rect.unit (s := S4x1024x256) ![0, 0, 0] S1x256x256.size inb_S4x1024x256_S1x256x256_0_0_0), p0⟩ :: L) (Rect.unit (s := S4x1024x256) ![3, 0, 0] S1x256x256.size inb_S4x1024x256_S1x256x256_3_0_0).toLoadRect = p3 := by
  rw [View.readCov_cons_toLoadRect]

variable (𝒱 : Variants) (c : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4096x512 .bf16) (harg5 : arg5.IsWhole) (arg6 : Memref sig .tc .vmem S320x256 .bf16) (harg6 : arg6.IsWhole) (arg7 : Memref sig .tc .vmem S320x4096 .bf16) (harg7 : arg7.IsWhole) (arg8 : Memref sig .tc .vmem S4096x256 .bf16) (harg8 : arg8.IsWhole) (arg9 : Memref sig .tc .vmem S256x256 .bf16) (harg9 : arg9.IsWhole) (arg10 : Memref sig .tc .vmem S4x1024x256 .f32) (harg10 : arg10.IsWhole) (arg11 : Memref sig .tc .vmem S4x1024x256 .f32) (harg11 : arg11.IsWhole) (v0 : FVec F S1x256 .f32) (v1 : FVec F S80x256 .f32) (v11 : FVec F S1x256 .f32) (v21 : FVec F S1x256 .f32) (v26 : FVec F S1024x256 .f32) (v27 : Vec F S1x1024x256 .f32) (X_arg2 : BufTy.Contents (Elt F) arg2.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (k : Fin k0_t1_loop.trips)
variable (acc : FVec F S1x256 .f32 × FVec F S1x256 .f32 × FVec F S1x256 .f32 × FVec F S1x256 .f32)
  (f_arg8 : BufTy.Contents (Elt F) arg8.view.ty) (f_arg10 : BufTy.Contents (Elt F) arg10.view.ty) (f_arg11 : BufTy.Contents (Elt F) arg11.view.ty)

/-- The maxima a trip hands on: those of the first chunk of the next tile. -/
theorem trip_carried : (trip_k0_t1 (F := F) 𝒱 c bd i arg2 harg2 arg3 harg3 arg4 harg4 arg5 harg5 arg6 harg6 arg7 harg7 arg8 harg8 arg9 harg9 arg10 harg10 arg11 harg11 v0 v1 v11 v21 v26 v27 X_arg2 X_arg4 X_arg5 X_arg6 X_arg7 k).1 acc f_arg8 f_arg10 f_arg11 =
    (colMax (scores (ldQ arg2 X_arg2 (k0_off10 k) (k0_off10_inb k)) (ldK arg5 X_arg5 ![0, 0] inb_S4096x512_S1024x128_0_0)), colMax (scores (ldQ arg2 X_arg2 (k0_off11 k) (k0_off11_inb k)) (ldK arg5 X_arg5 ![0, 128] inb_S4096x512_S1024x128_0_128)), colMax (scores (ldQ arg2 X_arg2 (k0_off12 k) (k0_off12_inb k)) (ldK arg5 X_arg5 ![0, 256] inb_S4096x512_S1024x128_0_256)), colMax (scores (ldQ arg2 X_arg2 (k0_off13 k) (k0_off13_inb k)) (ldK arg5 X_arg5 ![0, 384] inb_S4096x512_S1024x128_0_384))) := by
  unfold trip_k0_t1; rfl

/-- The scores a trip leaves in the first scratch: those of the first chunk of the next tile, over whatever was there. -/
theorem trip_scores : ∃ L, (trip_k0_t1 (F := F) 𝒱 c bd i arg2 harg2 arg3 harg3 arg4 harg4 arg5 harg5 arg6 harg6 arg7 harg7 arg8 harg8 arg9 harg9 arg10 harg10 arg11 harg11 v0 v1 v11 v21 v26 v27 X_arg2 X_arg4 X_arg5 X_arg6 X_arg7 k).2.2.1 acc f_arg8 f_arg10 f_arg11 =
    ⟨(Rect.unit (s := S4x1024x256) ![3, 0, 0] S1x1024x256.size inb_S4x1024x256_S1x1024x256_3_0_0), slab (scores (ldQ arg2 X_arg2 (k0_off13 k) (k0_off13_inb k)) (ldK arg5 X_arg5 ![0, 384] inb_S4096x512_S1024x128_0_384))⟩ :: ⟨(Rect.unit (s := S4x1024x256) ![2, 0, 0] S1x1024x256.size inb_S4x1024x256_S1x1024x256_2_0_0), slab (scores (ldQ arg2 X_arg2 (k0_off12 k) (k0_off12_inb k)) (ldK arg5 X_arg5 ![0, 256] inb_S4096x512_S1024x128_0_256))⟩ :: ⟨(Rect.unit (s := S4x1024x256) ![1, 0, 0] S1x1024x256.size inb_S4x1024x256_S1x1024x256_1_0_0), slab (scores (ldQ arg2 X_arg2 (k0_off11 k) (k0_off11_inb k)) (ldK arg5 X_arg5 ![0, 128] inb_S4096x512_S1024x128_0_128))⟩ :: ⟨(Rect.unit (s := S4x1024x256) ![0, 0, 0] S1x1024x256.size inb_S4x1024x256_S1x1024x256_0_0_0), slab (scores (ldQ arg2 X_arg2 (k0_off10 k) (k0_off10_inb k)) (ldK arg5 X_arg5 ![0, 0] inb_S4096x512_S1024x128_0_0))⟩ :: L := by
  unfold trip_k0_t1; exact ⟨_, rfl⟩

/-- The two tiles a trip stores, over the scores it reads back from the scratch. -/
theorem trip_tiles_named : (trip_k0_t1 (F := F) 𝒱 c bd i arg2 harg2 arg3 harg3 arg4 harg4 arg5 harg5 arg6 harg6 arg7 harg7 arg8 harg8 arg9 harg9 arg10 harg10 arg11 harg11 v0 v1 v11 v21 v26 v27 X_arg2 X_arg4 X_arg5 X_arg6 X_arg7 k).2.1 acc f_arg8 f_arg10 f_arg11 =
    [⟨Rect.unit (s := S4096x256) (k0_off14 k) S256x256.size (k0_off14_inb k), (tile
    (head v0 v1
      (colMax (scores (ldQ arg2 X_arg2 (k0_off5 k) (k0_off5_inb k)) (ldK arg5 X_arg5 ![0, 0] inb_S4096x512_S1024x128_0_0)))
      (colMax (scores (ldQ arg2 X_arg2 (k0_off5 k) (k0_off5_inb k)) (ldK arg5 X_arg5 ![1024, 0] inb_S4096x512_S1024x128_1024_0)))
      (colMax (scores (ldQ arg2 X_arg2 (k0_off5 k) (k0_off5_inb k)) (ldK arg5 X_arg5 ![2048, 0] inb_S4096x512_S1024x128_2048_0)))
      (colMax (scores (ldQ arg2 X_arg2 (k0_off5 k) (k0_off5_inb k)) (ldK arg5 X_arg5 ![3072, 0] inb_S4096x512_S1024x128_3072_0)))
      (colMaxCtx (scoresCtx (ldQ arg2 X_arg2 (k0_off5 k) (k0_off5_inb k)) (ldC arg4 X_arg4 ![0, 0] inb_S256x512_S256x128_0_0)))
      (trip_k0_t1.sl.v719 arg2 arg5 arg11 X_arg2 X_arg5 k)
      (trip_k0_t1.sl.v823 arg2 arg4 arg5 arg10 X_arg2 X_arg4 X_arg5 k)
      (trip_k0_t1.sl.v927 arg2 arg5 arg11 X_arg2 X_arg5 k)
      (trip_k0_t1.sl.v1031 arg2 arg4 arg5 arg10 X_arg2 X_arg4 X_arg5 k)
      (trip_k0_t1.sl.v1135 arg2 arg4 arg5 arg11 X_arg2 X_arg4 X_arg5 k)
      (ldV arg7 X_arg7 ![0, 0] inb_S320x4096_S80x1024_0_0)
      (ldV arg7 X_arg7 ![0, 1024] inb_S320x4096_S80x1024_0_1024)
      (ldV arg7 X_arg7 ![0, 2048] inb_S320x4096_S80x1024_0_2048)
      (ldV arg7 X_arg7 ![0, 3072] inb_S320x4096_S80x1024_0_3072)
      (ldVC arg6 X_arg6 ![0, 0] inb_S320x256_S80x256_0_0))
    (head v0 v1
      (colMax (scores (ldQ arg2 X_arg2 (k0_off6 k) (k0_off6_inb k)) (ldK arg5 X_arg5 ![0, 128] inb_S4096x512_S1024x128_0_128)))
      (colMax (scores (ldQ arg2 X_arg2 (k0_off6 k) (k0_off6_inb k)) (ldK arg5 X_arg5 ![1024, 128] inb_S4096x512_S1024x128_1024_128)))
      (colMax (scores (ldQ arg2 X_arg2 (k0_off6 k) (k0_off6_inb k)) (ldK arg5 X_arg5 ![2048, 128] inb_S4096x512_S1024x128_2048_128)))
      (colMax (scores (ldQ arg2 X_arg2 (k0_off6 k) (k0_off6_inb k)) (ldK arg5 X_arg5 ![3072, 128] inb_S4096x512_S1024x128_3072_128)))
      (colMaxCtx (scoresCtx (ldQ arg2 X_arg2 (k0_off6 k) (k0_off6_inb k)) (ldC arg4 X_arg4 ![0, 128] inb_S256x512_S256x128_0_128)))
      (trip_k0_t1.sl.v745 arg2 arg5 arg11 X_arg2 X_arg5 k)
      (trip_k0_t1.sl.v849 arg2 arg4 arg5 arg10 X_arg2 X_arg4 X_arg5 k)
      (trip_k0_t1.sl.v953 arg2 arg5 arg11 X_arg2 X_arg5 k)
      (trip_k0_t1.sl.v1057 arg2 arg4 arg5 arg10 X_arg2 X_arg4 X_arg5 k)
      (trip_k0_t1.sl.v1161 arg2 arg4 arg5 arg11 X_arg2 X_arg4 X_arg5 k)
      (ldV arg7 X_arg7 ![80, 0] inb_S320x4096_S80x1024_80_0)
      (ldV arg7 X_arg7 ![80, 1024] inb_S320x4096_S80x1024_80_1024)
      (ldV arg7 X_arg7 ![80, 2048] inb_S320x4096_S80x1024_80_2048)
      (ldV arg7 X_arg7 ![80, 3072] inb_S320x4096_S80x1024_80_3072)
      (ldVC arg6 X_arg6 ![80, 0] inb_S320x256_S80x256_80_0))
    (head v0 v1
      (colMax (scores (ldQ arg2 X_arg2 (k0_off7 k) (k0_off7_inb k)) (ldK arg5 X_arg5 ![0, 256] inb_S4096x512_S1024x128_0_256)))
      (colMax (scores (ldQ arg2 X_arg2 (k0_off7 k) (k0_off7_inb k)) (ldK arg5 X_arg5 ![1024, 256] inb_S4096x512_S1024x128_1024_256)))
      (colMax (scores (ldQ arg2 X_arg2 (k0_off7 k) (k0_off7_inb k)) (ldK arg5 X_arg5 ![2048, 256] inb_S4096x512_S1024x128_2048_256)))
      (colMax (scores (ldQ arg2 X_arg2 (k0_off7 k) (k0_off7_inb k)) (ldK arg5 X_arg5 ![3072, 256] inb_S4096x512_S1024x128_3072_256)))
      (colMaxCtx (scoresCtx (ldQ arg2 X_arg2 (k0_off7 k) (k0_off7_inb k)) (ldC arg4 X_arg4 ![0, 256] inb_S256x512_S256x128_0_256)))
      (trip_k0_t1.sl.v771 arg2 arg5 arg11 X_arg2 X_arg5 k)
      (trip_k0_t1.sl.v875 arg2 arg4 arg5 arg10 X_arg2 X_arg4 X_arg5 k)
      (trip_k0_t1.sl.v979 arg2 arg5 arg11 X_arg2 X_arg5 k)
      (trip_k0_t1.sl.v1083 arg2 arg4 arg5 arg10 X_arg2 X_arg4 X_arg5 k)
      (trip_k0_t1.sl.v1187 arg2 arg4 arg5 arg11 X_arg2 X_arg4 X_arg5 k)
      (ldV arg7 X_arg7 ![160, 0] inb_S320x4096_S80x1024_160_0)
      (ldV arg7 X_arg7 ![160, 1024] inb_S320x4096_S80x1024_160_1024)
      (ldV arg7 X_arg7 ![160, 2048] inb_S320x4096_S80x1024_160_2048)
      (ldV arg7 X_arg7 ![160, 3072] inb_S320x4096_S80x1024_160_3072)
      (ldVC arg6 X_arg6 ![160, 0] inb_S320x256_S80x256_160_0))
    (head v0 v1
      (colMax (scores (ldQ arg2 X_arg2 (k0_off8 k) (k0_off8_inb k)) (ldK arg5 X_arg5 ![0, 384] inb_S4096x512_S1024x128_0_384)))
      (colMax (scores (ldQ arg2 X_arg2 (k0_off8 k) (k0_off8_inb k)) (ldK arg5 X_arg5 ![1024, 384] inb_S4096x512_S1024x128_1024_384)))
      (colMax (scores (ldQ arg2 X_arg2 (k0_off8 k) (k0_off8_inb k)) (ldK arg5 X_arg5 ![2048, 384] inb_S4096x512_S1024x128_2048_384)))
      (colMax (scores (ldQ arg2 X_arg2 (k0_off8 k) (k0_off8_inb k)) (ldK arg5 X_arg5 ![3072, 384] inb_S4096x512_S1024x128_3072_384)))
      (colMaxCtx (scoresCtx (ldQ arg2 X_arg2 (k0_off8 k) (k0_off8_inb k)) (ldC arg4 X_arg4 ![0, 384] inb_S256x512_S256x128_0_384)))
      (trip_k0_t1.sl.v797 arg2 arg5 arg11 X_arg2 X_arg5 k)
      (trip_k0_t1.sl.v901 arg2 arg4 arg5 arg10 X_arg2 X_arg4 X_arg5 k)
      (trip_k0_t1.sl.v1005 arg2 arg5 arg11 X_arg2 X_arg5 k)
      (trip_k0_t1.sl.v1109 arg2 arg4 arg5 arg10 X_arg2 X_arg4 X_arg5 k)
      (trip_k0_t1.sl.v1213 arg2 arg4 arg5 arg11 X_arg2 X_arg4 X_arg5 k)
      (ldV arg7 X_arg7 ![240, 0] inb_S320x4096_S80x1024_240_0)
      (ldV arg7 X_arg7 ![240, 1024] inb_S320x4096_S80x1024_240_1024)
      (ldV arg7 X_arg7 ![240, 2048] inb_S320x4096_S80x1024_240_2048)
      (ldV arg7 X_arg7 ![240, 3072] inb_S320x4096_S80x1024_240_3072)
      (ldVC arg6 X_arg6 ![240, 0] inb_S320x256_S80x256_240_0)))⟩,
      ⟨Rect.unit (s := S4096x256) (k0_off9 k) S256x256.size (k0_off9_inb k), (tile
    (head v0 v1
      acc.1
      (colMax (scores (ldQ arg2 X_arg2 (k0_off1 k) (k0_off1_inb k)) (ldK arg5 X_arg5 ![1024, 0] inb_S4096x512_S1024x128_1024_0)))
      (colMax (scores (ldQ arg2 X_arg2 (k0_off1 k) (k0_off1_inb k)) (ldK arg5 X_arg5 ![2048, 0] inb_S4096x512_S1024x128_2048_0)))
      (colMax (scores (ldQ arg2 X_arg2 (k0_off1 k) (k0_off1_inb k)) (ldK arg5 X_arg5 ![3072, 0] inb_S4096x512_S1024x128_3072_0)))
      (colMaxCtx (scoresCtx (ldQ arg2 X_arg2 (k0_off1 k) (k0_off1_inb k)) (ldC arg4 X_arg4 ![0, 0] inb_S256x512_S256x128_0_0)))
      (ldS arg10 f_arg10 ![0, 0, 0] inb_S4x1024x256_S1x1024x256_0_0_0)
      (trip_k0_t1.sl.v275 arg2 arg5 arg11 X_arg2 X_arg5 k)
      (trip_k0_t1.sl.v379 arg2 arg5 arg10 X_arg2 X_arg5 k)
      (trip_k0_t1.sl.v483 arg2 arg5 arg11 X_arg2 X_arg5 k)
      (trip_k0_t1.sl.v587 arg2 arg4 arg5 arg10 X_arg2 X_arg4 X_arg5 k)
      (ldV arg7 X_arg7 ![0, 0] inb_S320x4096_S80x1024_0_0)
      (ldV arg7 X_arg7 ![0, 1024] inb_S320x4096_S80x1024_0_1024)
      (ldV arg7 X_arg7 ![0, 2048] inb_S320x4096_S80x1024_0_2048)
      (ldV arg7 X_arg7 ![0, 3072] inb_S320x4096_S80x1024_0_3072)
      (ldVC arg6 X_arg6 ![0, 0] inb_S320x256_S80x256_0_0))
    (head v0 v1
      acc.2.1
      (colMax (scores (ldQ arg2 X_arg2 (k0_off2 k) (k0_off2_inb k)) (ldK arg5 X_arg5 ![1024, 128] inb_S4096x512_S1024x128_1024_128)))
      (colMax (scores (ldQ arg2 X_arg2 (k0_off2 k) (k0_off2_inb k)) (ldK arg5 X_arg5 ![2048, 128] inb_S4096x512_S1024x128_2048_128)))
      (colMax (scores (ldQ arg2 X_arg2 (k0_off2 k) (k0_off2_inb k)) (ldK arg5 X_arg5 ![3072, 128] inb_S4096x512_S1024x128_3072_128)))
      (colMaxCtx (scoresCtx (ldQ arg2 X_arg2 (k0_off2 k) (k0_off2_inb k)) (ldC arg4 X_arg4 ![0, 128] inb_S256x512_S256x128_0_128)))
      (ldS arg10 f_arg10 ![1, 0, 0] inb_S4x1024x256_S1x1024x256_1_0_0)
      (trip_k0_t1.sl.v301 arg2 arg5 arg11 X_arg2 X_arg5 k)
      (trip_k0_t1.sl.v405 arg2 arg5 arg10 X_arg2 X_arg5 k)
      (trip_k0_t1.sl.v509 arg2 arg5 arg11 X_arg2 X_arg5 k)
      (trip_k0_t1.sl.v613 arg2 arg4 arg5 arg10 X_arg2 X_arg4 X_arg5 k)
      (ldV arg7 X_arg7 ![80, 0] inb_S320x4096_S80x1024_80_0)
      (ldV arg7 X_arg7 ![80, 1024] inb_S320x4096_S80x1024_80_1024)
      (ldV arg7 X_arg7 ![80, 2048] inb_S320x4096_S80x1024_80_2048)
      (ldV arg7 X_arg7 ![80, 3072] inb_S320x4096_S80x1024_80_3072)
      (ldVC arg6 X_arg6 ![80, 0] inb_S320x256_S80x256_80_0))
    (head v0 v1
      acc.2.2.1
      (colMax (scores (ldQ arg2 X_arg2 (k0_off3 k) (k0_off3_inb k)) (ldK arg5 X_arg5 ![1024, 256] inb_S4096x512_S1024x128_1024_256)))
      (colMax (scores (ldQ arg2 X_arg2 (k0_off3 k) (k0_off3_inb k)) (ldK arg5 X_arg5 ![2048, 256] inb_S4096x512_S1024x128_2048_256)))
      (colMax (scores (ldQ arg2 X_arg2 (k0_off3 k) (k0_off3_inb k)) (ldK arg5 X_arg5 ![3072, 256] inb_S4096x512_S1024x128_3072_256)))
      (colMaxCtx (scoresCtx (ldQ arg2 X_arg2 (k0_off3 k) (k0_off3_inb k)) (ldC arg4 X_arg4 ![0, 256] inb_S256x512_S256x128_0_256)))
      (ldS arg10 f_arg10 ![2, 0, 0] inb_S4x1024x256_S1x1024x256_2_0_0)
      (trip_k0_t1.sl.v327 arg2 arg5 arg11 X_arg2 X_arg5 k)
      (trip_k0_t1.sl.v431 arg2 arg5 arg10 X_arg2 X_arg5 k)
      (trip_k0_t1.sl.v535 arg2 arg5 arg11 X_arg2 X_arg5 k)
      (trip_k0_t1.sl.v639 arg2 arg4 arg5 arg10 X_arg2 X_arg4 X_arg5 k)
      (ldV arg7 X_arg7 ![160, 0] inb_S320x4096_S80x1024_160_0)
      (ldV arg7 X_arg7 ![160, 1024] inb_S320x4096_S80x1024_160_1024)
      (ldV arg7 X_arg7 ![160, 2048] inb_S320x4096_S80x1024_160_2048)
      (ldV arg7 X_arg7 ![160, 3072] inb_S320x4096_S80x1024_160_3072)
      (ldVC arg6 X_arg6 ![160, 0] inb_S320x256_S80x256_160_0))
    (head v0 v1
      acc.2.2.2
      (colMax (scores (ldQ arg2 X_arg2 (k0_off4 k) (k0_off4_inb k)) (ldK arg5 X_arg5 ![1024, 384] inb_S4096x512_S1024x128_1024_384)))
      (colMax (scores (ldQ arg2 X_arg2 (k0_off4 k) (k0_off4_inb k)) (ldK arg5 X_arg5 ![2048, 384] inb_S4096x512_S1024x128_2048_384)))
      (colMax (scores (ldQ arg2 X_arg2 (k0_off4 k) (k0_off4_inb k)) (ldK arg5 X_arg5 ![3072, 384] inb_S4096x512_S1024x128_3072_384)))
      (colMaxCtx (scoresCtx (ldQ arg2 X_arg2 (k0_off4 k) (k0_off4_inb k)) (ldC arg4 X_arg4 ![0, 384] inb_S256x512_S256x128_0_384)))
      (ldS arg10 f_arg10 ![3, 0, 0] inb_S4x1024x256_S1x1024x256_3_0_0)
      (trip_k0_t1.sl.v353 arg2 arg5 arg11 X_arg2 X_arg5 k)
      (trip_k0_t1.sl.v457 arg2 arg5 arg10 X_arg2 X_arg5 k)
      (trip_k0_t1.sl.v561 arg2 arg5 arg11 X_arg2 X_arg5 k)
      (trip_k0_t1.sl.v665 arg2 arg4 arg5 arg10 X_arg2 X_arg4 X_arg5 k)
      (ldV arg7 X_arg7 ![240, 0] inb_S320x4096_S80x1024_240_0)
      (ldV arg7 X_arg7 ![240, 1024] inb_S320x4096_S80x1024_240_1024)
      (ldV arg7 X_arg7 ![240, 2048] inb_S320x4096_S80x1024_240_2048)
      (ldV arg7 X_arg7 ![240, 3072] inb_S320x4096_S80x1024_240_3072)
      (ldVC arg6 X_arg6 ![240, 0] inb_S320x256_S80x256_240_0)))⟩] := by
  unfold trip_k0_t1; rfl

/-- The two tiles a trip stores, over the queries, keys and values: only the first chunk of the first tile is read from
    what the trip before left. -/
theorem trip_tiles : (trip_k0_t1 (F := F) 𝒱 c bd i arg2 harg2 arg3 harg3 arg4 harg4 arg5 harg5 arg6 harg6 arg7 harg7 arg8 harg8 arg9 harg9 arg10 harg10 arg11 harg11 v0 v1 v11 v21 v26 v27 X_arg2 X_arg4 X_arg5 X_arg6 X_arg7 k).2.1 acc f_arg8 f_arg10 f_arg11 =
    [⟨Rect.unit (s := S4096x256) (k0_off14 k) S256x256.size (k0_off14_inb k), (tile
    (head v0 v1
      (colMax (scores (ldQ arg2 X_arg2 (k0_off5 k) (k0_off5_inb k)) (ldK arg5 X_arg5 ![0, 0] inb_S4096x512_S1024x128_0_0)))
      (colMax (scores (ldQ arg2 X_arg2 (k0_off5 k) (k0_off5_inb k)) (ldK arg5 X_arg5 ![1024, 0] inb_S4096x512_S1024x128_1024_0)))
      (colMax (scores (ldQ arg2 X_arg2 (k0_off5 k) (k0_off5_inb k)) (ldK arg5 X_arg5 ![2048, 0] inb_S4096x512_S1024x128_2048_0)))
      (colMax (scores (ldQ arg2 X_arg2 (k0_off5 k) (k0_off5_inb k)) (ldK arg5 X_arg5 ![3072, 0] inb_S4096x512_S1024x128_3072_0)))
      (colMaxCtx (scoresCtx (ldQ arg2 X_arg2 (k0_off5 k) (k0_off5_inb k)) (ldC arg4 X_arg4 ![0, 0] inb_S256x512_S256x128_0_0)))
      (slab (scores (ldQ arg2 X_arg2 (k0_off5 k) (k0_off5_inb k)) (ldK arg5 X_arg5 ![0, 0] inb_S4096x512_S1024x128_0_0)))
      (slab (scores (ldQ arg2 X_arg2 (k0_off5 k) (k0_off5_inb k)) (ldK arg5 X_arg5 ![1024, 0] inb_S4096x512_S1024x128_1024_0)))
      (slab (scores (ldQ arg2 X_arg2 (k0_off5 k) (k0_off5_inb k)) (ldK arg5 X_arg5 ![2048, 0] inb_S4096x512_S1024x128_2048_0)))
      (slab (scores (ldQ arg2 X_arg2 (k0_off5 k) (k0_off5_inb k)) (ldK arg5 X_arg5 ![3072, 0] inb_S4096x512_S1024x128_3072_0)))
      (slabCtx (scoresCtx (ldQ arg2 X_arg2 (k0_off5 k) (k0_off5_inb k)) (ldC arg4 X_arg4 ![0, 0] inb_S256x512_S256x128_0_0)))
      (ldV arg7 X_arg7 ![0, 0] inb_S320x4096_S80x1024_0_0)
      (ldV arg7 X_arg7 ![0, 1024] inb_S320x4096_S80x1024_0_1024)
      (ldV arg7 X_arg7 ![0, 2048] inb_S320x4096_S80x1024_0_2048)
      (ldV arg7 X_arg7 ![0, 3072] inb_S320x4096_S80x1024_0_3072)
      (ldVC arg6 X_arg6 ![0, 0] inb_S320x256_S80x256_0_0))
    (head v0 v1
      (colMax (scores (ldQ arg2 X_arg2 (k0_off6 k) (k0_off6_inb k)) (ldK arg5 X_arg5 ![0, 128] inb_S4096x512_S1024x128_0_128)))
      (colMax (scores (ldQ arg2 X_arg2 (k0_off6 k) (k0_off6_inb k)) (ldK arg5 X_arg5 ![1024, 128] inb_S4096x512_S1024x128_1024_128)))
      (colMax (scores (ldQ arg2 X_arg2 (k0_off6 k) (k0_off6_inb k)) (ldK arg5 X_arg5 ![2048, 128] inb_S4096x512_S1024x128_2048_128)))
      (colMax (scores (ldQ arg2 X_arg2 (k0_off6 k) (k0_off6_inb k)) (ldK arg5 X_arg5 ![3072, 128] inb_S4096x512_S1024x128_3072_128)))
      (colMaxCtx (scoresCtx (ldQ arg2 X_arg2 (k0_off6 k) (k0_off6_inb k)) (ldC arg4 X_arg4 ![0, 128] inb_S256x512_S256x128_0_128)))
      (slab (scores (ldQ arg2 X_arg2 (k0_off6 k) (k0_off6_inb k)) (ldK arg5 X_arg5 ![0, 128] inb_S4096x512_S1024x128_0_128)))
      (slab (scores (ldQ arg2 X_arg2 (k0_off6 k) (k0_off6_inb k)) (ldK arg5 X_arg5 ![1024, 128] inb_S4096x512_S1024x128_1024_128)))
      (slab (scores (ldQ arg2 X_arg2 (k0_off6 k) (k0_off6_inb k)) (ldK arg5 X_arg5 ![2048, 128] inb_S4096x512_S1024x128_2048_128)))
      (slab (scores (ldQ arg2 X_arg2 (k0_off6 k) (k0_off6_inb k)) (ldK arg5 X_arg5 ![3072, 128] inb_S4096x512_S1024x128_3072_128)))
      (slabCtx (scoresCtx (ldQ arg2 X_arg2 (k0_off6 k) (k0_off6_inb k)) (ldC arg4 X_arg4 ![0, 128] inb_S256x512_S256x128_0_128)))
      (ldV arg7 X_arg7 ![80, 0] inb_S320x4096_S80x1024_80_0)
      (ldV arg7 X_arg7 ![80, 1024] inb_S320x4096_S80x1024_80_1024)
      (ldV arg7 X_arg7 ![80, 2048] inb_S320x4096_S80x1024_80_2048)
      (ldV arg7 X_arg7 ![80, 3072] inb_S320x4096_S80x1024_80_3072)
      (ldVC arg6 X_arg6 ![80, 0] inb_S320x256_S80x256_80_0))
    (head v0 v1
      (colMax (scores (ldQ arg2 X_arg2 (k0_off7 k) (k0_off7_inb k)) (ldK arg5 X_arg5 ![0, 256] inb_S4096x512_S1024x128_0_256)))
      (colMax (scores (ldQ arg2 X_arg2 (k0_off7 k) (k0_off7_inb k)) (ldK arg5 X_arg5 ![1024, 256] inb_S4096x512_S1024x128_1024_256)))
      (colMax (scores (ldQ arg2 X_arg2 (k0_off7 k) (k0_off7_inb k)) (ldK arg5 X_arg5 ![2048, 256] inb_S4096x512_S1024x128_2048_256)))
      (colMax (scores (ldQ arg2 X_arg2 (k0_off7 k) (k0_off7_inb k)) (ldK arg5 X_arg5 ![3072, 256] inb_S4096x512_S1024x128_3072_256)))
      (colMaxCtx (scoresCtx (ldQ arg2 X_arg2 (k0_off7 k) (k0_off7_inb k)) (ldC arg4 X_arg4 ![0, 256] inb_S256x512_S256x128_0_256)))
      (slab (scores (ldQ arg2 X_arg2 (k0_off7 k) (k0_off7_inb k)) (ldK arg5 X_arg5 ![0, 256] inb_S4096x512_S1024x128_0_256)))
      (slab (scores (ldQ arg2 X_arg2 (k0_off7 k) (k0_off7_inb k)) (ldK arg5 X_arg5 ![1024, 256] inb_S4096x512_S1024x128_1024_256)))
      (slab (scores (ldQ arg2 X_arg2 (k0_off7 k) (k0_off7_inb k)) (ldK arg5 X_arg5 ![2048, 256] inb_S4096x512_S1024x128_2048_256)))
      (slab (scores (ldQ arg2 X_arg2 (k0_off7 k) (k0_off7_inb k)) (ldK arg5 X_arg5 ![3072, 256] inb_S4096x512_S1024x128_3072_256)))
      (slabCtx (scoresCtx (ldQ arg2 X_arg2 (k0_off7 k) (k0_off7_inb k)) (ldC arg4 X_arg4 ![0, 256] inb_S256x512_S256x128_0_256)))
      (ldV arg7 X_arg7 ![160, 0] inb_S320x4096_S80x1024_160_0)
      (ldV arg7 X_arg7 ![160, 1024] inb_S320x4096_S80x1024_160_1024)
      (ldV arg7 X_arg7 ![160, 2048] inb_S320x4096_S80x1024_160_2048)
      (ldV arg7 X_arg7 ![160, 3072] inb_S320x4096_S80x1024_160_3072)
      (ldVC arg6 X_arg6 ![160, 0] inb_S320x256_S80x256_160_0))
    (head v0 v1
      (colMax (scores (ldQ arg2 X_arg2 (k0_off8 k) (k0_off8_inb k)) (ldK arg5 X_arg5 ![0, 384] inb_S4096x512_S1024x128_0_384)))
      (colMax (scores (ldQ arg2 X_arg2 (k0_off8 k) (k0_off8_inb k)) (ldK arg5 X_arg5 ![1024, 384] inb_S4096x512_S1024x128_1024_384)))
      (colMax (scores (ldQ arg2 X_arg2 (k0_off8 k) (k0_off8_inb k)) (ldK arg5 X_arg5 ![2048, 384] inb_S4096x512_S1024x128_2048_384)))
      (colMax (scores (ldQ arg2 X_arg2 (k0_off8 k) (k0_off8_inb k)) (ldK arg5 X_arg5 ![3072, 384] inb_S4096x512_S1024x128_3072_384)))
      (colMaxCtx (scoresCtx (ldQ arg2 X_arg2 (k0_off8 k) (k0_off8_inb k)) (ldC arg4 X_arg4 ![0, 384] inb_S256x512_S256x128_0_384)))
      (slab (scores (ldQ arg2 X_arg2 (k0_off8 k) (k0_off8_inb k)) (ldK arg5 X_arg5 ![0, 384] inb_S4096x512_S1024x128_0_384)))
      (slab (scores (ldQ arg2 X_arg2 (k0_off8 k) (k0_off8_inb k)) (ldK arg5 X_arg5 ![1024, 384] inb_S4096x512_S1024x128_1024_384)))
      (slab (scores (ldQ arg2 X_arg2 (k0_off8 k) (k0_off8_inb k)) (ldK arg5 X_arg5 ![2048, 384] inb_S4096x512_S1024x128_2048_384)))
      (slab (scores (ldQ arg2 X_arg2 (k0_off8 k) (k0_off8_inb k)) (ldK arg5 X_arg5 ![3072, 384] inb_S4096x512_S1024x128_3072_384)))
      (slabCtx (scoresCtx (ldQ arg2 X_arg2 (k0_off8 k) (k0_off8_inb k)) (ldC arg4 X_arg4 ![0, 384] inb_S256x512_S256x128_0_384)))
      (ldV arg7 X_arg7 ![240, 0] inb_S320x4096_S80x1024_240_0)
      (ldV arg7 X_arg7 ![240, 1024] inb_S320x4096_S80x1024_240_1024)
      (ldV arg7 X_arg7 ![240, 2048] inb_S320x4096_S80x1024_240_2048)
      (ldV arg7 X_arg7 ![240, 3072] inb_S320x4096_S80x1024_240_3072)
      (ldVC arg6 X_arg6 ![240, 0] inb_S320x256_S80x256_240_0)))⟩,
      ⟨Rect.unit (s := S4096x256) (k0_off9 k) S256x256.size (k0_off9_inb k), (tile
    (head v0 v1
      acc.1
      (colMax (scores (ldQ arg2 X_arg2 (k0_off1 k) (k0_off1_inb k)) (ldK arg5 X_arg5 ![1024, 0] inb_S4096x512_S1024x128_1024_0)))
      (colMax (scores (ldQ arg2 X_arg2 (k0_off1 k) (k0_off1_inb k)) (ldK arg5 X_arg5 ![2048, 0] inb_S4096x512_S1024x128_2048_0)))
      (colMax (scores (ldQ arg2 X_arg2 (k0_off1 k) (k0_off1_inb k)) (ldK arg5 X_arg5 ![3072, 0] inb_S4096x512_S1024x128_3072_0)))
      (colMaxCtx (scoresCtx (ldQ arg2 X_arg2 (k0_off1 k) (k0_off1_inb k)) (ldC arg4 X_arg4 ![0, 0] inb_S256x512_S256x128_0_0)))
      (ldS arg10 f_arg10 ![0, 0, 0] inb_S4x1024x256_S1x1024x256_0_0_0)
      (slab (scores (ldQ arg2 X_arg2 (k0_off1 k) (k0_off1_inb k)) (ldK arg5 X_arg5 ![1024, 0] inb_S4096x512_S1024x128_1024_0)))
      (slab (scores (ldQ arg2 X_arg2 (k0_off1 k) (k0_off1_inb k)) (ldK arg5 X_arg5 ![2048, 0] inb_S4096x512_S1024x128_2048_0)))
      (slab (scores (ldQ arg2 X_arg2 (k0_off1 k) (k0_off1_inb k)) (ldK arg5 X_arg5 ![3072, 0] inb_S4096x512_S1024x128_3072_0)))
      (slabCtx (scoresCtx (ldQ arg2 X_arg2 (k0_off1 k) (k0_off1_inb k)) (ldC arg4 X_arg4 ![0, 0] inb_S256x512_S256x128_0_0)))
      (ldV arg7 X_arg7 ![0, 0] inb_S320x4096_S80x1024_0_0)
      (ldV arg7 X_arg7 ![0, 1024] inb_S320x4096_S80x1024_0_1024)
      (ldV arg7 X_arg7 ![0, 2048] inb_S320x4096_S80x1024_0_2048)
      (ldV arg7 X_arg7 ![0, 3072] inb_S320x4096_S80x1024_0_3072)
      (ldVC arg6 X_arg6 ![0, 0] inb_S320x256_S80x256_0_0))
    (head v0 v1
      acc.2.1
      (colMax (scores (ldQ arg2 X_arg2 (k0_off2 k) (k0_off2_inb k)) (ldK arg5 X_arg5 ![1024, 128] inb_S4096x512_S1024x128_1024_128)))
      (colMax (scores (ldQ arg2 X_arg2 (k0_off2 k) (k0_off2_inb k)) (ldK arg5 X_arg5 ![2048, 128] inb_S4096x512_S1024x128_2048_128)))
      (colMax (scores (ldQ arg2 X_arg2 (k0_off2 k) (k0_off2_inb k)) (ldK arg5 X_arg5 ![3072, 128] inb_S4096x512_S1024x128_3072_128)))
      (colMaxCtx (scoresCtx (ldQ arg2 X_arg2 (k0_off2 k) (k0_off2_inb k)) (ldC arg4 X_arg4 ![0, 128] inb_S256x512_S256x128_0_128)))
      (ldS arg10 f_arg10 ![1, 0, 0] inb_S4x1024x256_S1x1024x256_1_0_0)
      (slab (scores (ldQ arg2 X_arg2 (k0_off2 k) (k0_off2_inb k)) (ldK arg5 X_arg5 ![1024, 128] inb_S4096x512_S1024x128_1024_128)))
      (slab (scores (ldQ arg2 X_arg2 (k0_off2 k) (k0_off2_inb k)) (ldK arg5 X_arg5 ![2048, 128] inb_S4096x512_S1024x128_2048_128)))
      (slab (scores (ldQ arg2 X_arg2 (k0_off2 k) (k0_off2_inb k)) (ldK arg5 X_arg5 ![3072, 128] inb_S4096x512_S1024x128_3072_128)))
      (slabCtx (scoresCtx (ldQ arg2 X_arg2 (k0_off2 k) (k0_off2_inb k)) (ldC arg4 X_arg4 ![0, 128] inb_S256x512_S256x128_0_128)))
      (ldV arg7 X_arg7 ![80, 0] inb_S320x4096_S80x1024_80_0)
      (ldV arg7 X_arg7 ![80, 1024] inb_S320x4096_S80x1024_80_1024)
      (ldV arg7 X_arg7 ![80, 2048] inb_S320x4096_S80x1024_80_2048)
      (ldV arg7 X_arg7 ![80, 3072] inb_S320x4096_S80x1024_80_3072)
      (ldVC arg6 X_arg6 ![80, 0] inb_S320x256_S80x256_80_0))
    (head v0 v1
      acc.2.2.1
      (colMax (scores (ldQ arg2 X_arg2 (k0_off3 k) (k0_off3_inb k)) (ldK arg5 X_arg5 ![1024, 256] inb_S4096x512_S1024x128_1024_256)))
      (colMax (scores (ldQ arg2 X_arg2 (k0_off3 k) (k0_off3_inb k)) (ldK arg5 X_arg5 ![2048, 256] inb_S4096x512_S1024x128_2048_256)))
      (colMax (scores (ldQ arg2 X_arg2 (k0_off3 k) (k0_off3_inb k)) (ldK arg5 X_arg5 ![3072, 256] inb_S4096x512_S1024x128_3072_256)))
      (colMaxCtx (scoresCtx (ldQ arg2 X_arg2 (k0_off3 k) (k0_off3_inb k)) (ldC arg4 X_arg4 ![0, 256] inb_S256x512_S256x128_0_256)))
      (ldS arg10 f_arg10 ![2, 0, 0] inb_S4x1024x256_S1x1024x256_2_0_0)
      (slab (scores (ldQ arg2 X_arg2 (k0_off3 k) (k0_off3_inb k)) (ldK arg5 X_arg5 ![1024, 256] inb_S4096x512_S1024x128_1024_256)))
      (slab (scores (ldQ arg2 X_arg2 (k0_off3 k) (k0_off3_inb k)) (ldK arg5 X_arg5 ![2048, 256] inb_S4096x512_S1024x128_2048_256)))
      (slab (scores (ldQ arg2 X_arg2 (k0_off3 k) (k0_off3_inb k)) (ldK arg5 X_arg5 ![3072, 256] inb_S4096x512_S1024x128_3072_256)))
      (slabCtx (scoresCtx (ldQ arg2 X_arg2 (k0_off3 k) (k0_off3_inb k)) (ldC arg4 X_arg4 ![0, 256] inb_S256x512_S256x128_0_256)))
      (ldV arg7 X_arg7 ![160, 0] inb_S320x4096_S80x1024_160_0)
      (ldV arg7 X_arg7 ![160, 1024] inb_S320x4096_S80x1024_160_1024)
      (ldV arg7 X_arg7 ![160, 2048] inb_S320x4096_S80x1024_160_2048)
      (ldV arg7 X_arg7 ![160, 3072] inb_S320x4096_S80x1024_160_3072)
      (ldVC arg6 X_arg6 ![160, 0] inb_S320x256_S80x256_160_0))
    (head v0 v1
      acc.2.2.2
      (colMax (scores (ldQ arg2 X_arg2 (k0_off4 k) (k0_off4_inb k)) (ldK arg5 X_arg5 ![1024, 384] inb_S4096x512_S1024x128_1024_384)))
      (colMax (scores (ldQ arg2 X_arg2 (k0_off4 k) (k0_off4_inb k)) (ldK arg5 X_arg5 ![2048, 384] inb_S4096x512_S1024x128_2048_384)))
      (colMax (scores (ldQ arg2 X_arg2 (k0_off4 k) (k0_off4_inb k)) (ldK arg5 X_arg5 ![3072, 384] inb_S4096x512_S1024x128_3072_384)))
      (colMaxCtx (scoresCtx (ldQ arg2 X_arg2 (k0_off4 k) (k0_off4_inb k)) (ldC arg4 X_arg4 ![0, 384] inb_S256x512_S256x128_0_384)))
      (ldS arg10 f_arg10 ![3, 0, 0] inb_S4x1024x256_S1x1024x256_3_0_0)
      (slab (scores (ldQ arg2 X_arg2 (k0_off4 k) (k0_off4_inb k)) (ldK arg5 X_arg5 ![1024, 384] inb_S4096x512_S1024x128_1024_384)))
      (slab (scores (ldQ arg2 X_arg2 (k0_off4 k) (k0_off4_inb k)) (ldK arg5 X_arg5 ![2048, 384] inb_S4096x512_S1024x128_2048_384)))
      (slab (scores (ldQ arg2 X_arg2 (k0_off4 k) (k0_off4_inb k)) (ldK arg5 X_arg5 ![3072, 384] inb_S4096x512_S1024x128_3072_384)))
      (slabCtx (scoresCtx (ldQ arg2 X_arg2 (k0_off4 k) (k0_off4_inb k)) (ldC arg4 X_arg4 ![0, 384] inb_S256x512_S256x128_0_384)))
      (ldV arg7 X_arg7 ![240, 0] inb_S320x4096_S80x1024_240_0)
      (ldV arg7 X_arg7 ![240, 1024] inb_S320x4096_S80x1024_240_1024)
      (ldV arg7 X_arg7 ![240, 2048] inb_S320x4096_S80x1024_240_2048)
      (ldV arg7 X_arg7 ![240, 3072] inb_S320x4096_S80x1024_240_3072)
      (ldVC arg6 X_arg6 ![240, 0] inb_S320x256_S80x256_240_0)))⟩] := by
  have hv275 : (trip_k0_t1.sl.v275 arg2 arg5 arg11 X_arg2 X_arg5 k) = slab (scores (ldQ arg2 X_arg2 (k0_off1 k) (k0_off1_inb k)) (ldK arg5 X_arg5 ![1024, 0] inb_S4096x512_S1024x128_1024_0)) := row0 _ _ _ _ _ _
  have hv301 : (trip_k0_t1.sl.v301 arg2 arg5 arg11 X_arg2 X_arg5 k) = slab (scores (ldQ arg2 X_arg2 (k0_off2 k) (k0_off2_inb k)) (ldK arg5 X_arg5 ![1024, 128] inb_S4096x512_S1024x128_1024_128)) := row1 _ _ _ _ _ _
  have hv327 : (trip_k0_t1.sl.v327 arg2 arg5 arg11 X_arg2 X_arg5 k) = slab (scores (ldQ arg2 X_arg2 (k0_off3 k) (k0_off3_inb k)) (ldK arg5 X_arg5 ![1024, 256] inb_S4096x512_S1024x128_1024_256)) := row2 _ _ _ _ _ _
  have hv353 : (trip_k0_t1.sl.v353 arg2 arg5 arg11 X_arg2 X_arg5 k) = slab (scores (ldQ arg2 X_arg2 (k0_off4 k) (k0_off4_inb k)) (ldK arg5 X_arg5 ![1024, 384] inb_S4096x512_S1024x128_1024_384)) := row3 _ _ _ _ _ _
  have hv379 : (trip_k0_t1.sl.v379 arg2 arg5 arg10 X_arg2 X_arg5 k) = slab (scores (ldQ arg2 X_arg2 (k0_off1 k) (k0_off1_inb k)) (ldK arg5 X_arg5 ![2048, 0] inb_S4096x512_S1024x128_2048_0)) := row0 _ _ _ _ _ _
  have hv405 : (trip_k0_t1.sl.v405 arg2 arg5 arg10 X_arg2 X_arg5 k) = slab (scores (ldQ arg2 X_arg2 (k0_off2 k) (k0_off2_inb k)) (ldK arg5 X_arg5 ![2048, 128] inb_S4096x512_S1024x128_2048_128)) := row1 _ _ _ _ _ _
  have hv431 : (trip_k0_t1.sl.v431 arg2 arg5 arg10 X_arg2 X_arg5 k) = slab (scores (ldQ arg2 X_arg2 (k0_off3 k) (k0_off3_inb k)) (ldK arg5 X_arg5 ![2048, 256] inb_S4096x512_S1024x128_2048_256)) := row2 _ _ _ _ _ _
  have hv457 : (trip_k0_t1.sl.v457 arg2 arg5 arg10 X_arg2 X_arg5 k) = slab (scores (ldQ arg2 X_arg2 (k0_off4 k) (k0_off4_inb k)) (ldK arg5 X_arg5 ![2048, 384] inb_S4096x512_S1024x128_2048_384)) := row3 _ _ _ _ _ _
  have hv483 : (trip_k0_t1.sl.v483 arg2 arg5 arg11 X_arg2 X_arg5 k) = slab (scores (ldQ arg2 X_arg2 (k0_off1 k) (k0_off1_inb k)) (ldK arg5 X_arg5 ![3072, 0] inb_S4096x512_S1024x128_3072_0)) := row0 _ _ _ _ _ _
  have hv509 : (trip_k0_t1.sl.v509 arg2 arg5 arg11 X_arg2 X_arg5 k) = slab (scores (ldQ arg2 X_arg2 (k0_off2 k) (k0_off2_inb k)) (ldK arg5 X_arg5 ![3072, 128] inb_S4096x512_S1024x128_3072_128)) := row1 _ _ _ _ _ _
  have hv535 : (trip_k0_t1.sl.v535 arg2 arg5 arg11 X_arg2 X_arg5 k) = slab (scores (ldQ arg2 X_arg2 (k0_off3 k) (k0_off3_inb k)) (ldK arg5 X_arg5 ![3072, 256] inb_S4096x512_S1024x128_3072_256)) := row2 _ _ _ _ _ _
  have hv561 : (trip_k0_t1.sl.v561 arg2 arg5 arg11 X_arg2 X_arg5 k) = slab (scores (ldQ arg2 X_arg2 (k0_off4 k) (k0_off4_inb k)) (ldK arg5 X_arg5 ![3072, 384] inb_S4096x512_S1024x128_3072_384)) := row3 _ _ _ _ _ _
  have hv587 : (trip_k0_t1.sl.v587 arg2 arg4 arg5 arg10 X_arg2 X_arg4 X_arg5 k) = slabCtx (scoresCtx (ldQ arg2 X_arg2 (k0_off1 k) (k0_off1_inb k)) (ldC arg4 X_arg4 ![0, 0] inb_S256x512_S256x128_0_0)) := row0Ctx _ _ _ _ _ _
  have hv613 : (trip_k0_t1.sl.v613 arg2 arg4 arg5 arg10 X_arg2 X_arg4 X_arg5 k) = slabCtx (scoresCtx (ldQ arg2 X_arg2 (k0_off2 k) (k0_off2_inb k)) (ldC arg4 X_arg4 ![0, 128] inb_S256x512_S256x128_0_128)) := row1Ctx _ _ _ _ _ _
  have hv639 : (trip_k0_t1.sl.v639 arg2 arg4 arg5 arg10 X_arg2 X_arg4 X_arg5 k) = slabCtx (scoresCtx (ldQ arg2 X_arg2 (k0_off3 k) (k0_off3_inb k)) (ldC arg4 X_arg4 ![0, 256] inb_S256x512_S256x128_0_256)) := row2Ctx _ _ _ _ _ _
  have hv665 : (trip_k0_t1.sl.v665 arg2 arg4 arg5 arg10 X_arg2 X_arg4 X_arg5 k) = slabCtx (scoresCtx (ldQ arg2 X_arg2 (k0_off4 k) (k0_off4_inb k)) (ldC arg4 X_arg4 ![0, 384] inb_S256x512_S256x128_0_384)) := row3Ctx _ _ _ _ _ _
  have hv719 : (trip_k0_t1.sl.v719 arg2 arg5 arg11 X_arg2 X_arg5 k) = slab (scores (ldQ arg2 X_arg2 (k0_off5 k) (k0_off5_inb k)) (ldK arg5 X_arg5 ![0, 0] inb_S4096x512_S1024x128_0_0)) := row0 _ _ _ _ _ _
  have hv745 : (trip_k0_t1.sl.v745 arg2 arg5 arg11 X_arg2 X_arg5 k) = slab (scores (ldQ arg2 X_arg2 (k0_off6 k) (k0_off6_inb k)) (ldK arg5 X_arg5 ![0, 128] inb_S4096x512_S1024x128_0_128)) := row1 _ _ _ _ _ _
  have hv771 : (trip_k0_t1.sl.v771 arg2 arg5 arg11 X_arg2 X_arg5 k) = slab (scores (ldQ arg2 X_arg2 (k0_off7 k) (k0_off7_inb k)) (ldK arg5 X_arg5 ![0, 256] inb_S4096x512_S1024x128_0_256)) := row2 _ _ _ _ _ _
  have hv797 : (trip_k0_t1.sl.v797 arg2 arg5 arg11 X_arg2 X_arg5 k) = slab (scores (ldQ arg2 X_arg2 (k0_off8 k) (k0_off8_inb k)) (ldK arg5 X_arg5 ![0, 384] inb_S4096x512_S1024x128_0_384)) := row3 _ _ _ _ _ _
  have hv823 : (trip_k0_t1.sl.v823 arg2 arg4 arg5 arg10 X_arg2 X_arg4 X_arg5 k) = slab (scores (ldQ arg2 X_arg2 (k0_off5 k) (k0_off5_inb k)) (ldK arg5 X_arg5 ![1024, 0] inb_S4096x512_S1024x128_1024_0)) := row0 _ _ _ _ _ _
  have hv849 : (trip_k0_t1.sl.v849 arg2 arg4 arg5 arg10 X_arg2 X_arg4 X_arg5 k) = slab (scores (ldQ arg2 X_arg2 (k0_off6 k) (k0_off6_inb k)) (ldK arg5 X_arg5 ![1024, 128] inb_S4096x512_S1024x128_1024_128)) := row1 _ _ _ _ _ _
  have hv875 : (trip_k0_t1.sl.v875 arg2 arg4 arg5 arg10 X_arg2 X_arg4 X_arg5 k) = slab (scores (ldQ arg2 X_arg2 (k0_off7 k) (k0_off7_inb k)) (ldK arg5 X_arg5 ![1024, 256] inb_S4096x512_S1024x128_1024_256)) := row2 _ _ _ _ _ _
  have hv901 : (trip_k0_t1.sl.v901 arg2 arg4 arg5 arg10 X_arg2 X_arg4 X_arg5 k) = slab (scores (ldQ arg2 X_arg2 (k0_off8 k) (k0_off8_inb k)) (ldK arg5 X_arg5 ![1024, 384] inb_S4096x512_S1024x128_1024_384)) := row3 _ _ _ _ _ _
  have hv927 : (trip_k0_t1.sl.v927 arg2 arg5 arg11 X_arg2 X_arg5 k) = slab (scores (ldQ arg2 X_arg2 (k0_off5 k) (k0_off5_inb k)) (ldK arg5 X_arg5 ![2048, 0] inb_S4096x512_S1024x128_2048_0)) := row0 _ _ _ _ _ _
  have hv953 : (trip_k0_t1.sl.v953 arg2 arg5 arg11 X_arg2 X_arg5 k) = slab (scores (ldQ arg2 X_arg2 (k0_off6 k) (k0_off6_inb k)) (ldK arg5 X_arg5 ![2048, 128] inb_S4096x512_S1024x128_2048_128)) := row1 _ _ _ _ _ _
  have hv979 : (trip_k0_t1.sl.v979 arg2 arg5 arg11 X_arg2 X_arg5 k) = slab (scores (ldQ arg2 X_arg2 (k0_off7 k) (k0_off7_inb k)) (ldK arg5 X_arg5 ![2048, 256] inb_S4096x512_S1024x128_2048_256)) := row2 _ _ _ _ _ _
  have hv1005 : (trip_k0_t1.sl.v1005 arg2 arg5 arg11 X_arg2 X_arg5 k) = slab (scores (ldQ arg2 X_arg2 (k0_off8 k) (k0_off8_inb k)) (ldK arg5 X_arg5 ![2048, 384] inb_S4096x512_S1024x128_2048_384)) := row3 _ _ _ _ _ _
  have hv1031 : (trip_k0_t1.sl.v1031 arg2 arg4 arg5 arg10 X_arg2 X_arg4 X_arg5 k) = slab (scores (ldQ arg2 X_arg2 (k0_off5 k) (k0_off5_inb k)) (ldK arg5 X_arg5 ![3072, 0] inb_S4096x512_S1024x128_3072_0)) := row0 _ _ _ _ _ _
  have hv1057 : (trip_k0_t1.sl.v1057 arg2 arg4 arg5 arg10 X_arg2 X_arg4 X_arg5 k) = slab (scores (ldQ arg2 X_arg2 (k0_off6 k) (k0_off6_inb k)) (ldK arg5 X_arg5 ![3072, 128] inb_S4096x512_S1024x128_3072_128)) := row1 _ _ _ _ _ _
  have hv1083 : (trip_k0_t1.sl.v1083 arg2 arg4 arg5 arg10 X_arg2 X_arg4 X_arg5 k) = slab (scores (ldQ arg2 X_arg2 (k0_off7 k) (k0_off7_inb k)) (ldK arg5 X_arg5 ![3072, 256] inb_S4096x512_S1024x128_3072_256)) := row2 _ _ _ _ _ _
  have hv1109 : (trip_k0_t1.sl.v1109 arg2 arg4 arg5 arg10 X_arg2 X_arg4 X_arg5 k) = slab (scores (ldQ arg2 X_arg2 (k0_off8 k) (k0_off8_inb k)) (ldK arg5 X_arg5 ![3072, 384] inb_S4096x512_S1024x128_3072_384)) := row3 _ _ _ _ _ _
  have hv1135 : (trip_k0_t1.sl.v1135 arg2 arg4 arg5 arg11 X_arg2 X_arg4 X_arg5 k) = slabCtx (scoresCtx (ldQ arg2 X_arg2 (k0_off5 k) (k0_off5_inb k)) (ldC arg4 X_arg4 ![0, 0] inb_S256x512_S256x128_0_0)) := row0Ctx _ _ _ _ _ _
  have hv1161 : (trip_k0_t1.sl.v1161 arg2 arg4 arg5 arg11 X_arg2 X_arg4 X_arg5 k) = slabCtx (scoresCtx (ldQ arg2 X_arg2 (k0_off6 k) (k0_off6_inb k)) (ldC arg4 X_arg4 ![0, 128] inb_S256x512_S256x128_0_128)) := row1Ctx _ _ _ _ _ _
  have hv1187 : (trip_k0_t1.sl.v1187 arg2 arg4 arg5 arg11 X_arg2 X_arg4 X_arg5 k) = slabCtx (scoresCtx (ldQ arg2 X_arg2 (k0_off7 k) (k0_off7_inb k)) (ldC arg4 X_arg4 ![0, 256] inb_S256x512_S256x128_0_256)) := row2Ctx _ _ _ _ _ _
  have hv1213 : (trip_k0_t1.sl.v1213 arg2 arg4 arg5 arg11 X_arg2 X_arg4 X_arg5 k) = slabCtx (scoresCtx (ldQ arg2 X_arg2 (k0_off8 k) (k0_off8_inb k)) (ldC arg4 X_arg4 ![0, 384] inb_S256x512_S256x128_0_384)) := row3Ctx _ _ _ _ _ _
  rw [trip_tiles_named, hv275, hv301, hv327, hv353, hv379, hv405, hv431, hv457, hv483, hv509, hv535, hv561, hv587, hv613, hv639, hv665, hv719, hv745, hv771, hv797, hv823, hv849, hv875, hv901, hv927, hv953, hv979, hv1005, hv1031, hv1057, hv1083, hv1109, hv1135, hv1161, hv1187, hv1213]

end Cert.AttnIdeal.Attention

end
-- ==== Proof.Attention.Block.lean ====
/-
  The latent tiles and the context tile as functions of the body's input blocks, and what the body's loop leaves in its
  output: after eight trips every tile of 256 rows holds the attention of its queries.
-/
module

public import proofs.«01_k».proof.Proof.Attention.Trip
public import Idealize.ShloMosaic.Lib.ValueIdxCore
public import Idealize.ShloMosaic.Lib.WholeRead

@[expose] public section

set_option maxRecDepth 16384

noncomputable section

namespace Cert.AttnIdeal.Attention

open Cert.AttnIdeal Cert.AttnIdeal.Gen Idealize.ShloMosaic Idealize.ShloMosaic.TcCoe Idealize.SL.Sem
open Idealize.ShloMosaic.ValueIdx

variable {F : FTy → Type} [FloatOps F]

/-- The index a unit stride reaches. -/
theorem one_step (o n : ℕ) : o + 1 * n = o + n := by rw [Nat.one_mul]

/-! ## Blocks of the inputs -/

/-- Queries (or keys) of head `h`, rows `256 t` on. -/
def qOf (x : Vec F S4096x512 .bf16) (t : Fin 16) (h : Fin 4) : Vec F S256x128 .bf16 := fun j =>
  x (ix2 ⟨256 * t.val + (j 0).val, by have := idx2_lt0 j; omega⟩ ⟨128 * h.val + (j 1).val, by have := idx2_lt1 j; omega⟩)

/-- Chunk `c` of the latent keys of head `h`. -/
def kOf (x : Vec F S4096x512 .bf16) (c h : Fin 4) : Vec F S1024x128 .bf16 := fun j =>
  x (ix2 ⟨1024 * c.val + (j 0).val, by have := idx2_lt0 j; omega⟩ ⟨128 * h.val + (j 1).val, by have := idx2_lt1 j; omega⟩)

/-- The context keys or queries of head `h`. -/
def cOf (x : Vec F S256x512 .bf16) (h : Fin 4) : Vec F S256x128 .bf16 := fun j =>
  x (ix2 ⟨(j 0).val, idx2_lt0 j⟩ ⟨128 * h.val + (j 1).val, by have := idx2_lt1 j; omega⟩)

/-- Chunk `c` of the latent values of head `h`, transposed, with their rows of ones. -/
def vOf (x : Vec F S320x4096 .bf16) (c h : Fin 4) : Vec F S80x1024 .bf16 := fun j =>
  x (ix2 ⟨80 * h.val + (j 0).val, by have := idx2_lt0 j; omega⟩ ⟨1024 * c.val + (j 1).val, by have := idx2_lt1 j; omega⟩)

/-- The context values of head `h`. -/
def vcOf (x : Vec F S320x256 .bf16) (h : Fin 4) : Vec F S80x256 .bf16 := fun j =>
  x (ix2 ⟨80 * h.val + (j 0).val, by have := idx2_lt0 j; omega⟩ ⟨(j 1).val, idx2_lt1 j⟩)

theorem ldQ_eq {arg2 : Memref sig .tc .vmem S4096x512 .bf16} (harg2 : arg2.IsWhole) (x : Vec F S4096x512 .bf16) (off : Fin 2 → ℕ)
    (inb : ∀ a, off a + S256x128.size a ≤ S4096x512.size a) (t : Fin 16) (h : Fin 4) (e : off = ![256 * t.val, 128 * h.val]) :
    ldQ arg2 (harg2.unread x) off inb = qOf x t h := by
  subst e; funext j
  refine (congrFun (harg2.read_unread x) _).trans (congrArg x ?_)
  funext a; fin_cases a <;> exact Fin.ext (one_step _ _)

theorem ldK_eq {arg5 : Memref sig .tc .vmem S4096x512 .bf16} (harg5 : arg5.IsWhole) (x : Vec F S4096x512 .bf16) (off : Fin 2 → ℕ)
    (inb : ∀ a, off a + S1024x128.size a ≤ S4096x512.size a) (c h : Fin 4) (e : off = ![1024 * c.val, 128 * h.val]) :
    ldK arg5 (harg5.unread x) off inb = kOf x c h := by
  subst e; funext j
  refine (congrFun (harg5.read_unread x) _).trans (congrArg x ?_)
  funext a; fin_cases a <;> exact Fin.ext (one_step _ _)

theorem ldC_eq {arg4 : Memref sig .tc .vmem S256x512 .bf16} (harg4 : arg4.IsWhole) (x : Vec F S256x512 .bf16) (off : Fin 2 → ℕ)
    (inb : ∀ a, off a + S256x128.size a ≤ S256x512.size a) (h : Fin 4) (e : off = ![0, 128 * h.val]) :
    ldC arg4 (harg4.unread x) off inb = cOf x h := by
  subst e; funext j
  refine (congrFun (harg4.read_unread x) _).trans (congrArg x ?_)
  funext a; fin_cases a
  · exact Fin.ext ((one_step _ _).trans (Nat.zero_add _))
  · exact Fin.ext (one_step _ _)

theorem ldV_eq {arg7 : Memref sig .tc .vmem S320x4096 .bf16} (harg7 : arg7.IsWhole) (x : Vec F S320x4096 .bf16) (off : Fin 2 → ℕ)
    (inb : ∀ a, off a + S80x1024.size a ≤ S320x4096.size a) (c h : Fin 4) (e : off = ![80 * h.val, 1024 * c.val]) :
    ldV arg7 (harg7.unread x) off inb = vOf x c h := by
  subst e; funext j
  refine (congrFun (harg7.read_unread x) _).trans (congrArg x ?_)
  funext a; fin_cases a <;> exact Fin.ext (one_step _ _)

theorem ldVC_eq {arg6 : Memref sig .tc .vmem S320x256 .bf16} (harg6 : arg6.IsWhole) (x : Vec F S320x256 .bf16) (off : Fin 2 → ℕ)
    (inb : ∀ a, off a + S80x256.size a ≤ S320x256.size a) (h : Fin 4) (e : off = ![80 * h.val, 0]) :
    ldVC arg6 (harg6.unread x) off inb = vcOf x h := by
  subst e; funext j
  refine (congrFun (harg6.read_unread x) _).trans (congrArg x ?_)
  funext a; fin_cases a
  · exact Fin.ext (one_step _ _)
  · exact Fin.ext ((one_step _ _).trans (Nat.zero_add _))

/-! ## The two outputs -/

/-- One head of a latent tile from its queries, keys and values. -/
def headLat (q : Vec F S256x128 .bf16) (k0 k1 k2 k3 : Vec F S1024x128 .bf16) (kc : Vec F S256x128 .bf16)
    (w0 w1 w2 w3 : Vec F S80x1024 .bf16) (wc : Vec F S80x256 .bf16) : FVec F S80x256 .f32 :=
  head (k0_pay217 (F := F)) (k0_pay218 (F := F)) (colMax (scores q k0)) (colMax (scores q k1)) (colMax (scores q k2)) (colMax (scores q k3))
    (colMaxCtx (scoresCtx q kc)) (slab (scores q k0)) (slab (scores q k1)) (slab (scores q k2)) (slab (scores q k3))
    (slabCtx (scoresCtx q kc)) w0 w1 w2 w3 wc

/-- One head of the context tile: the context queries see the context keys alone. -/
def headCtx (q k : Vec F S256x128 .bf16) (w : Vec F S80x256 .bf16) : FVec F S80x256 .f32 :=
  stepCtx (k0_pay217 (F := F)) (colMaxCtx (scoresCtx q k)) (k0_pay218 (F := F)) (slabCtx (scoresCtx q k)) w

/-- Head `h` of latent tile `t`. -/
def headAt (x0 : Vec F S4096x512 .bf16) (x2 : Vec F S256x512 .bf16) (x3 : Vec F S4096x512 .bf16) (x4 : Vec F S320x256 .bf16)
    (x5 : Vec F S320x4096 .bf16) (t : Fin 16) (h : Fin 4) : FVec F S80x256 .f32 :=
  headLat (qOf x0 t h) (kOf x3 0 h) (kOf x3 1 h) (kOf x3 2 h) (kOf x3 3 h) (cOf x2 h) (vOf x5 0 h) (vOf x5 1 h) (vOf x5 2 h) (vOf x5 3 h)
    (vcOf x4 h)

/-- Latent tile `t`. -/
def tileLat (x0 : Vec F S4096x512 .bf16) (x2 : Vec F S256x512 .bf16) (x3 : Vec F S4096x512 .bf16) (x4 : Vec F S320x256 .bf16)
    (x5 : Vec F S320x4096 .bf16) (t : Fin 16) : FVec F S256x256 .bf16 :=
  tile (headAt x0 x2 x3 x4 x5 t 0) (headAt x0 x2 x3 x4 x5 t 1) (headAt x0 x2 x3 x4 x5 t 2) (headAt x0 x2 x3 x4 x5 t 3)

/-- The latent output of the body: row `r` is row `r % 256` of tile `r / 256`. -/
def outLat (x0 : Vec F S4096x512 .bf16) (x2 : Vec F S256x512 .bf16) (x3 : Vec F S4096x512 .bf16) (x4 : Vec F S320x256 .bf16)
    (x5 : Vec F S320x4096 .bf16) : Vec F S4096x256 .bf16 := fun y =>
  tileLat x0 x2 x3 x4 x5 ⟨(y 0).val / 256, by have := idx2_lt0 y; omega⟩ (ix2 ⟨(y 0).val % 256, Nat.mod_lt _ (by omega)⟩ ⟨(y 1).val, idx2_lt1 y⟩)

/-- The context output of the body. -/
def outCtx (x1 x2 : Vec F S256x512 .bf16) (x4 : Vec F S320x256 .bf16) : Vec F S256x256 .bf16 :=
  tile (headCtx (cOf x1 0) (cOf x2 0) (vcOf x4 0)) (headCtx (cOf x1 1) (cOf x2 1) (vcOf x4 1)) (headCtx (cOf x1 2) (cOf x2 2) (vcOf x4 2))
    (headCtx (cOf x1 3) (cOf x2 3) (vcOf x4 3))

theorem outLat_apply (x0 : Vec F S4096x512 .bf16) (x2 : Vec F S256x512 .bf16) (x3 : Vec F S4096x512 .bf16) (x4 : Vec F S320x256 .bf16)
    (x5 : Vec F S320x4096 .bf16) (t : Fin 16) (off : Fin 2 → ℕ) (inb : ∀ a, off a + S256x256.size a ≤ S4096x256.size a)
    (e : off = ![256 * t.val, 0]) (j : S256x256.Idx) :
    tileLat x0 x2 x3 x4 x5 t j = outLat x0 x2 x3 x4 x5 ((Rect.unit (s := S4096x256) off S256x256.size inb).emb j) := by
  subst e
  have h0 := idx2_lt0 j
  have e0 : (((Rect.unit (s := S4096x256) ![256 * t.val, 0] S256x256.size inb).emb j) 0).val = 256 * t.val + (j 0).val :=
    one_step _ _
  have e1 : (((Rect.unit (s := S4096x256) ![256 * t.val, 0] S256x256.size inb).emb j) 1).val = (j 1).val :=
    (one_step _ _).trans (Nat.zero_add _)
  have a1 : t = ⟨(((Rect.unit (s := S4096x256) ![256 * t.val, 0] S256x256.size inb).emb j) 0).val / 256, by have := t.isLt; omega⟩ := by
    apply Fin.ext; show t.val = (_ : ℕ) / 256; omega
  have a2 : j = ix2 ⟨(((Rect.unit (s := S4096x256) ![256 * t.val, 0] S256x256.size inb).emb j) 0).val % 256, Nat.mod_lt _ (by omega)⟩
      ⟨(((Rect.unit (s := S4096x256) ![256 * t.val, 0] S256x256.size inb).emb j) 1).val, by have := idx2_lt1 j; omega⟩ := by
    funext a; fin_cases a
    · apply Fin.ext; show (j 0).val = (_ : ℕ) % 256; omega
    · apply Fin.ext; exact e1.symm
  exact (congrFun (congrArg (tileLat x0 x2 x3 x4 x5) a1) j).trans (congrArg (tileLat x0 x2 x3 x4 x5 _) a2)

/-! ## The loop -/

/-- A load of one head's slab, the four heads' slabs having been stored last, over whatever was there before. -/
theorem ldS_front (arg10 : Memref sig .tc .vmem S4x1024x256 .f32) (G : BufTy.Contents (Elt F) arg10.view.ty)
    (p0 p1 p2 p3 : Vec F S1x1024x256 .f32) (L : List (View.Piece (Elt F) S4x1024x256 .f32)) :
    ldS arg10 (arg10.view.writes (Elt F) G (⟨Rect.unit (s := S4x1024x256) ![3, 0, 0] S1x1024x256.size inb_S4x1024x256_S1x1024x256_3_0_0, p3⟩ :: ⟨Rect.unit (s := S4x1024x256) ![2, 0, 0] S1x1024x256.size inb_S4x1024x256_S1x1024x256_2_0_0, p2⟩ :: ⟨Rect.unit (s := S4x1024x256) ![1, 0, 0] S1x1024x256.size inb_S4x1024x256_S1x1024x256_1_0_0, p1⟩ :: ⟨Rect.unit (s := S4x1024x256) ![0, 0, 0] S1x1024x256.size inb_S4x1024x256_S1x1024x256_0_0_0, p0⟩ :: L)) ![0, 0, 0] inb_S4x1024x256_S1x1024x256_0_0_0 = p0 ∧ ldS arg10 (arg10.view.writes (Elt F) G (⟨Rect.unit (s := S4x1024x256) ![3, 0, 0] S1x1024x256.size inb_S4x1024x256_S1x1024x256_3_0_0, p3⟩ :: ⟨Rect.unit (s := S4x1024x256) ![2, 0, 0] S1x1024x256.size inb_S4x1024x256_S1x1024x256_2_0_0, p2⟩ :: ⟨Rect.unit (s := S4x1024x256) ![1, 0, 0] S1x1024x256.size inb_S4x1024x256_S1x1024x256_1_0_0, p1⟩ :: ⟨Rect.unit (s := S4x1024x256) ![0, 0, 0] S1x1024x256.size inb_S4x1024x256_S1x1024x256_0_0_0, p0⟩ :: L)) ![1, 0, 0] inb_S4x1024x256_S1x1024x256_1_0_0 = p1 ∧ ldS arg10 (arg10.view.writes (Elt F) G (⟨Rect.unit (s := S4x1024x256) ![3, 0, 0] S1x1024x256.size inb_S4x1024x256_S1x1024x256_3_0_0, p3⟩ :: ⟨Rect.unit (s := S4x1024x256) ![2, 0, 0] S1x1024x256.size inb_S4x1024x256_S1x1024x256_2_0_0, p2⟩ :: ⟨Rect.unit (s := S4x1024x256) ![1, 0, 0] S1x1024x256.size inb_S4x1024x256_S1x1024x256_1_0_0, p1⟩ :: ⟨Rect.unit (s := S4x1024x256) ![0, 0, 0] S1x1024x256.size inb_S4x1024x256_S1x1024x256_0_0_0, p0⟩ :: L)) ![2, 0, 0] inb_S4x1024x256_S1x1024x256_2_0_0 = p2 ∧ ldS arg10 (arg10.view.writes (Elt F) G (⟨Rect.unit (s := S4x1024x256) ![3, 0, 0] S1x1024x256.size inb_S4x1024x256_S1x1024x256_3_0_0, p3⟩ :: ⟨Rect.unit (s := S4x1024x256) ![2, 0, 0] S1x1024x256.size inb_S4x1024x256_S1x1024x256_2_0_0, p2⟩ :: ⟨Rect.unit (s := S4x1024x256) ![1, 0, 0] S1x1024x256.size inb_S4x1024x256_S1x1024x256_1_0_0, p1⟩ :: ⟨Rect.unit (s := S4x1024x256) ![0, 0, 0] S1x1024x256.size inb_S4x1024x256_S1x1024x256_0_0_0, p0⟩ :: L)) ![3, 0, 0] inb_S4x1024x256_S1x1024x256_3_0_0 = p3 := by
  refine ⟨?_, ?_, ?_, ?_⟩
  · exact (View.readAt_writes_of_cover arg10.view G _ _ fun j => ⟨⟨Rect.unit (s := S4x1024x256) ![0, 0, 0] S1x1024x256.size inb_S4x1024x256_S1x1024x256_0_0_0, p0⟩, by simp, LoadRect.idx_mem _ j⟩).trans (row0 arg10.view p0 p1 p2 p3 L)
  · exact (View.readAt_writes_of_cover arg10.view G _ _ fun j => ⟨⟨Rect.unit (s := S4x1024x256) ![1, 0, 0] S1x1024x256.size inb_S4x1024x256_S1x1024x256_1_0_0, p1⟩, by simp, LoadRect.idx_mem _ j⟩).trans (row1 arg10.view p0 p1 p2 p3 L)
  · exact (View.readAt_writes_of_cover arg10.view G _ _ fun j => ⟨⟨Rect.unit (s := S4x1024x256) ![2, 0, 0] S1x1024x256.size inb_S4x1024x256_S1x1024x256_2_0_0, p2⟩, by simp, LoadRect.idx_mem _ j⟩).trans (row2 arg10.view p0 p1 p2 p3 L)
  · exact (View.readAt_writes_of_cover arg10.view G _ _ fun j => ⟨⟨Rect.unit (s := S4x1024x256) ![3, 0, 0] S1x1024x256.size inb_S4x1024x256_S1x1024x256_3_0_0, p3⟩, by simp, LoadRect.idx_mem _ j⟩).trans (row3 arg10.view p0 p1 p2 p3 L)

variable (𝒱 : Variants) (c : Dev nD) (bd : Option 𝒱.V) (i : grid0.Coords) (arg2 : Memref sig .tc .vmem S4096x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4096x512 .bf16) (harg5 : arg5.IsWhole) (arg6 : Memref sig .tc .vmem S320x256 .bf16) (harg6 : arg6.IsWhole) (arg7 : Memref sig .tc .vmem S320x4096 .bf16) (harg7 : arg7.IsWhole) (arg8 : Memref sig .tc .vmem S4096x256 .bf16) (harg8 : arg8.IsWhole) (arg9 : Memref sig .tc .vmem S256x256 .bf16) (harg9 : arg9.IsWhole) (arg10 : Memref sig .tc .vmem S4x1024x256 .f32) (harg10 : arg10.IsWhole) (arg11 : Memref sig .tc .vmem S4x1024x256 .f32) (harg11 : arg11.IsWhole) (v11 v21 : FVec F S1x256 .f32) (v26 : FVec F S1024x256 .f32) (v27 : Vec F S1x1024x256 .f32)
  (x0 : Vec F S4096x512 .bf16) (x2 : Vec F S256x512 .bf16) (x3 : Vec F S4096x512 .bf16) (x4 : Vec F S320x256 .bf16) (x5 : Vec F S320x4096 .bf16)

/-- The tile the loop works on next, before trip `k`. -/
def nextTile (k : ℕ) : Fin 16 := ⟨min (2 * k) 15, by omega⟩

/-- What the first scratch holds for the next tile `t`: the scores of its first chunk of keys. -/
def HoldsScores (f : BufTy.Contents (Elt F) arg10.view.ty) (t : Fin 16) : Prop :=
ldS arg10 f ![0, 0, 0] inb_S4x1024x256_S1x1024x256_0_0_0 = slab (scores (qOf x0 t 0) (kOf x3 0 0)) ∧ ldS arg10 f ![1, 0, 0] inb_S4x1024x256_S1x1024x256_1_0_0 = slab (scores (qOf x0 t 1) (kOf x3 0 1)) ∧ ldS arg10 f ![2, 0, 0] inb_S4x1024x256_S1x1024x256_2_0_0 = slab (scores (qOf x0 t 2) (kOf x3 0 2)) ∧ ldS arg10 f ![3, 0, 0] inb_S4x1024x256_S1x1024x256_3_0_0 = slab (scores (qOf x0 t 3) (kOf x3 0 3))

variable (k : Fin k0_t1_loop.trips)

/-- The first tile of trip `k`. -/
def tileA : Fin 16 := ⟨2 * k.val, by have := Nat.lt_of_lt_of_le k.isLt k0_t1_abs.2.1; omega⟩

/-- The second tile of trip `k`. -/
def tileB : Fin 16 := ⟨2 * k.val + 1, by have := Nat.lt_of_lt_of_le k.isLt k0_t1_abs.2.1; omega⟩

theorem nextTile_eq : nextTile k.val = tileA k := by
  have := Nat.lt_of_lt_of_le k.isLt k0_t1_abs.2.1
  apply Fin.ext; show min (2 * k.val) 15 = 2 * k.val; omega

theorem offN (h : Fin 4) (off : Fin 2 → ℕ) (e : off = ![256 * (min (2 * k.val + 2) 15), 128 * h.val]) : off = ![256 * (nextTile (k.val + 1)).val, 128 * h.val] := by
  rw [e]; rfl

theorem offA (h : Fin 4) (off : Fin 2 → ℕ) (e : off = ![512 * k.val, 128 * h.val]) : off = ![256 * (tileA k).val, 128 * h.val] := by
  rw [e]; exact congrArg (fun z => ![z, 128 * h.val]) (show 512 * k.val = 256 * (2 * k.val) by omega)

theorem offB (h : Fin 4) (off : Fin 2 → ℕ) (e : off = ![512 * k.val + 256, 128 * h.val]) : off = ![256 * (tileB k).val, 128 * h.val] := by
  rw [e]; exact congrArg (fun z => ![z, 128 * h.val]) (show 512 * k.val + 256 = 256 * (2 * k.val + 1) by omega)

theorem trip_carried_at (acc : FVec F S1x256 .f32 × FVec F S1x256 .f32 × FVec F S1x256 .f32 × FVec F S1x256 .f32)
    (f8 : BufTy.Contents (Elt F) arg8.view.ty) (f10 : BufTy.Contents (Elt F) arg10.view.ty) (f11 : BufTy.Contents (Elt F) arg11.view.ty) :
    (trip_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) k).1 acc f8 f10 f11 = (colMax (scores (qOf x0 (nextTile (k.val + 1)) 0) (kOf x3 0 0)), colMax (scores (qOf x0 (nextTile (k.val + 1)) 1) (kOf x3 0 1)), colMax (scores (qOf x0 (nextTile (k.val + 1)) 2) (kOf x3 0 2)), colMax (scores (qOf x0 (nextTile (k.val + 1)) 3) (kOf x3 0 3))) := by
  rw [trip_carried]
  rw [ldQ_eq harg2 x0 (k0_off10 k) (k0_off10_inb k) (nextTile (k.val + 1)) 0 (offN k 0 _ (k0_off10_eq k)), ldQ_eq harg2 x0 (k0_off11 k) (k0_off11_inb k) (nextTile (k.val + 1)) 1 (offN k 1 _ (k0_off11_eq k)), ldQ_eq harg2 x0 (k0_off12 k) (k0_off12_inb k) (nextTile (k.val + 1)) 2 (offN k 2 _ (k0_off12_eq k)), ldQ_eq harg2 x0 (k0_off13 k) (k0_off13_inb k) (nextTile (k.val + 1)) 3 (offN k 3 _ (k0_off13_eq k)), ldK_eq harg5 x3 ![0, 0] _ 0 0 rfl, ldK_eq harg5 x3 ![0, 128] _ 0 1 rfl, ldK_eq harg5 x3 ![0, 256] _ 0 2 rfl, ldK_eq harg5 x3 ![0, 384] _ 0 3 rfl]

theorem trip_scores_at (acc : FVec F S1x256 .f32 × FVec F S1x256 .f32 × FVec F S1x256 .f32 × FVec F S1x256 .f32)
    (f8 : BufTy.Contents (Elt F) arg8.view.ty) (f10 : BufTy.Contents (Elt F) arg10.view.ty) (f11 : BufTy.Contents (Elt F) arg11.view.ty) (G : BufTy.Contents (Elt F) arg10.view.ty) (L : List (View.Piece (Elt F) S4x1024x256 .f32)) :
    HoldsScores arg10 x0 x3 (arg10.view.writes (Elt F) G ((trip_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) k).2.2.1 acc f8 f10 f11 ++ L)) (nextTile (k.val + 1)) := by
  obtain ⟨L', h⟩ := trip_scores (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) k acc f8 f10 f11
  rw [h, List.cons_append, List.cons_append, List.cons_append, List.cons_append]
  rw [ldQ_eq harg2 x0 (k0_off10 k) (k0_off10_inb k) (nextTile (k.val + 1)) 0 (offN k 0 _ (k0_off10_eq k)), ldQ_eq harg2 x0 (k0_off11 k) (k0_off11_inb k) (nextTile (k.val + 1)) 1 (offN k 1 _ (k0_off11_eq k)), ldQ_eq harg2 x0 (k0_off12 k) (k0_off12_inb k) (nextTile (k.val + 1)) 2 (offN k 2 _ (k0_off12_eq k)), ldQ_eq harg2 x0 (k0_off13 k) (k0_off13_inb k) (nextTile (k.val + 1)) 3 (offN k 3 _ (k0_off13_eq k)), ldK_eq harg5 x3 ![0, 0] _ 0 0 rfl, ldK_eq harg5 x3 ![0, 128] _ 0 1 rfl, ldK_eq harg5 x3 ![0, 256] _ 0 2 rfl, ldK_eq harg5 x3 ![0, 384] _ 0 3 rfl]
  exact ldS_front arg10 G _ _ _ _ _

theorem trip_tiles_at (acc : FVec F S1x256 .f32 × FVec F S1x256 .f32 × FVec F S1x256 .f32 × FVec F S1x256 .f32)
    (f8 : BufTy.Contents (Elt F) arg8.view.ty) (f10 : BufTy.Contents (Elt F) arg10.view.ty) (f11 : BufTy.Contents (Elt F) arg11.view.ty)
    (ha : acc = (colMax (scores (qOf x0 (tileA k) 0) (kOf x3 0 0)), colMax (scores (qOf x0 (tileA k) 1) (kOf x3 0 1)), colMax (scores (qOf x0 (tileA k) 2) (kOf x3 0 2)), colMax (scores (qOf x0 (tileA k) 3) (kOf x3 0 3)))) (hs : HoldsScores arg10 x0 x3 f10 (tileA k)) :
    (trip_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) k).2.1 acc f8 f10 f11
      = [⟨Rect.unit (s := S4096x256) (k0_off14 k) S256x256.size (k0_off14_inb k), tileLat x0 x2 x3 x4 x5 (tileB k)⟩,
        ⟨Rect.unit (s := S4096x256) (k0_off9 k) S256x256.size (k0_off9_inb k), tileLat x0 x2 x3 x4 x5 (tileA k)⟩] := by
  subst ha
  rw [trip_tiles, hs.1, hs.2.1, hs.2.2.1, hs.2.2.2]
  simp only [ldQ_eq harg2 x0 (k0_off1 k) (k0_off1_inb k) (tileA k) 0 (offA k 0 _ (k0_off1_eq k)), ldQ_eq harg2 x0 (k0_off2 k) (k0_off2_inb k) (tileA k) 1 (offA k 1 _ (k0_off2_eq k)), ldQ_eq harg2 x0 (k0_off3 k) (k0_off3_inb k) (tileA k) 2 (offA k 2 _ (k0_off3_eq k)), ldQ_eq harg2 x0 (k0_off4 k) (k0_off4_inb k) (tileA k) 3 (offA k 3 _ (k0_off4_eq k)), ldQ_eq harg2 x0 (k0_off5 k) (k0_off5_inb k) (tileB k) 0 (offB k 0 _ (k0_off5_eq k)), ldQ_eq harg2 x0 (k0_off6 k) (k0_off6_inb k) (tileB k) 1 (offB k 1 _ (k0_off6_eq k)), ldQ_eq harg2 x0 (k0_off7 k) (k0_off7_inb k) (tileB k) 2 (offB k 2 _ (k0_off7_eq k)), ldQ_eq harg2 x0 (k0_off8 k) (k0_off8_inb k) (tileB k) 3 (offB k 3 _ (k0_off8_eq k)), ldK_eq harg5 x3 ![0, 0] _ 0 0 rfl, ldK_eq harg5 x3 ![0, 128] _ 0 1 rfl, ldK_eq harg5 x3 ![0, 256] _ 0 2 rfl, ldK_eq harg5 x3 ![0, 384] _ 0 3 rfl, ldK_eq harg5 x3 ![1024, 0] _ 1 0 rfl, ldK_eq harg5 x3 ![1024, 128] _ 1 1 rfl, ldK_eq harg5 x3 ![1024, 256] _ 1 2 rfl, ldK_eq harg5 x3 ![1024, 384] _ 1 3 rfl, ldK_eq harg5 x3 ![2048, 0] _ 2 0 rfl, ldK_eq harg5 x3 ![2048, 128] _ 2 1 rfl, ldK_eq harg5 x3 ![2048, 256] _ 2 2 rfl, ldK_eq harg5 x3 ![2048, 384] _ 2 3 rfl, ldK_eq harg5 x3 ![3072, 0] _ 3 0 rfl, ldK_eq harg5 x3 ![3072, 128] _ 3 1 rfl, ldK_eq harg5 x3 ![3072, 256] _ 3 2 rfl, ldK_eq harg5 x3 ![3072, 384] _ 3 3 rfl, ldC_eq harg4 x2 ![0, 0] _ 0 rfl, ldC_eq harg4 x2 ![0, 128] _ 1 rfl, ldC_eq harg4 x2 ![0, 256] _ 2 rfl, ldC_eq harg4 x2 ![0, 384] _ 3 rfl, ldV_eq harg7 x5 ![0, 0] _ 0 0 rfl, ldV_eq harg7 x5 ![0, 1024] _ 1 0 rfl, ldV_eq harg7 x5 ![0, 2048] _ 2 0 rfl, ldV_eq harg7 x5 ![0, 3072] _ 3 0 rfl, ldV_eq harg7 x5 ![80, 0] _ 0 1 rfl, ldV_eq harg7 x5 ![80, 1024] _ 1 1 rfl, ldV_eq harg7 x5 ![80, 2048] _ 2 1 rfl, ldV_eq harg7 x5 ![80, 3072] _ 3 1 rfl, ldV_eq harg7 x5 ![160, 0] _ 0 2 rfl, ldV_eq harg7 x5 ![160, 1024] _ 1 2 rfl, ldV_eq harg7 x5 ![160, 2048] _ 2 2 rfl, ldV_eq harg7 x5 ![160, 3072] _ 3 2 rfl, ldV_eq harg7 x5 ![240, 0] _ 0 3 rfl, ldV_eq harg7 x5 ![240, 1024] _ 1 3 rfl, ldV_eq harg7 x5 ![240, 2048] _ 2 3 rfl, ldV_eq harg7 x5 ![240, 3072] _ 3 3 rfl, ldVC_eq harg6 x4 ![0, 0] _ 0 rfl, ldVC_eq harg6 x4 ![80, 0] _ 1 rfl, ldVC_eq harg6 x4 ![160, 0] _ 2 rfl, ldVC_eq harg6 x4 ![240, 0] _ 3 rfl]
  rfl

/-- Before trip `k` the loop carries the next tile's maxima, keeps its first scores in the scratch, and has stored the
    tiles before it. -/
theorem loop_invariant (G8 : BufTy.Contents (Elt F) arg8.view.ty) (G10 : BufTy.Contents (Elt F) arg10.view.ty) (G11 : BufTy.Contents (Elt F) arg11.view.ty)
    (init : FVec F S1x256 .f32 × FVec F S1x256 .f32 × FVec F S1x256 .f32 × FVec F S1x256 .f32)
    (hi : init = (colMax (scores (qOf x0 0 0) (kOf x3 0 0)), colMax (scores (qOf x0 0 1) (kOf x3 0 1)), colMax (scores (qOf x0 0 2) (kOf x3 0 2)), colMax (scores (qOf x0 0 3) (kOf x3 0 3)))) (hs : HoldsScores arg10 x0 x3 G10 0) (n : ℕ) (hn : n ≤ k0_t1_loop.trips) :
    (st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init n).1 = (colMax (scores (qOf x0 (nextTile n) 0) (kOf x3 0 0)), colMax (scores (qOf x0 (nextTile n) 1) (kOf x3 0 1)), colMax (scores (qOf x0 (nextTile n) 2) (kOf x3 0 2)), colMax (scores (qOf x0 (nextTile n) 3) (kOf x3 0 3)))
    ∧ HoldsScores arg10 x0 x3 (arg10.view.writes (Elt F) G10 (st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init n).2.2.1) (nextTile n)
    ∧ (∀ p ∈ (st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init n).2.1, ∀ x, p.2 x = outLat x0 x2 x3 x4 x5 (p.1.emb x))
    ∧ (∀ y : S4096x256.Idx, (y 0).val < 512 * n → ∃ p ∈ (st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init n).2.1, y ∈ p.1.set) := by
  induction n with
  | zero =>
    refine ⟨hi, hs, ?_, ?_⟩
    · intro p hp; exact absurd hp (List.not_mem_nil)
    · intro y hy; omega
  | succ n ih =>
    obtain ⟨h1, h2, h3, h4⟩ := ih (Nat.le_of_succ_le hn)
    let k : Fin k0_t1_loop.trips := ⟨n, hn⟩
    have hk : n < 8 := Nat.lt_of_lt_of_le k.isLt k0_t1_abs.2.1
    have hs' := st_k0_t1_succ (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init k
    change st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init (n + 1) = _ at hs'
    rw [hs']
    have eT : nextTile n = tileA k := nextTile_eq k
    rw [eT] at h1 h2
    refine ⟨trip_carried_at 𝒱 c bd i arg2 harg2 arg3 harg3 arg4 harg4 arg5 harg5 arg6 harg6 arg7 harg7 arg8 harg8 arg9 harg9 arg10 harg10 arg11 harg11 v11 v21 v26 v27 x0 x2 x3 x4 x5 k _ _ _ _, trip_scores_at 𝒱 c bd i arg2 harg2 arg3 harg3 arg4 harg4 arg5 harg5 arg6 harg6 arg7 harg7 arg8 harg8 arg9 harg9 arg10 harg10 arg11 harg11 v11 v21 v26 v27 x0 x2 x3 x4 x5 k _ _ _ _ _ _, ?_, ?_⟩
    · intro p hp
      rcases List.mem_append.mp hp with hp | hp
      · have hT := trip_tiles_at 𝒱 c bd i arg2 harg2 arg3 harg3 arg4 harg4 arg5 harg5 arg6 harg6 arg7 harg7 arg8 harg8 arg9 harg9 arg10 harg10 arg11 harg11 v11 v21 v26 v27 x0 x2 x3 x4 x5 k _ (arg8.view.writes (Elt F) G8 (st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init n).2.1) _ (arg11.view.writes (Elt F) G11 (st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init n).2.2.2) h1 h2
        replace hp := (congrArg (fun L => p ∈ L) hT).mp hp
        rcases List.mem_cons.mp hp with rfl | hp
        · exact fun x => outLat_apply x0 x2 x3 x4 x5 (tileB k) _ (k0_off14_inb k) (offB k 0 _ (k0_off14_eq k)) x
        · obtain rfl := List.mem_singleton.mp hp
          exact fun x => outLat_apply x0 x2 x3 x4 x5 (tileA k) _ (k0_off9_inb k) (offA k 0 _ (k0_off9_eq k)) x
      · exact h3 p hp
    · intro y hy
      by_cases hlt : (y 0).val < 512 * n
      · obtain ⟨p, hp, hm⟩ := h4 y hlt
        exact ⟨p, List.mem_append_right _ hp, hm⟩
      · have hT := trip_tiles_at 𝒱 c bd i arg2 harg2 arg3 harg3 arg4 harg4 arg5 harg5 arg6 harg6 arg7 harg7 arg8 harg8 arg9 harg9 arg10 harg10 arg11 harg11 v11 v21 v26 v27 x0 x2 x3 x4 x5 k _ (arg8.view.writes (Elt F) G8 (st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init n).2.1) _ (arg11.view.writes (Elt F) G11 (st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init n).2.2.2) h1 h2
        have hy1 := idx2_lt1 y
        by_cases hB : (y 0).val < 512 * n + 256
        · refine ⟨⟨Rect.unit (s := S4096x256) (k0_off9 k) S256x256.size (k0_off9_inb k), tileLat x0 x2 x3 x4 x5 (tileA k)⟩,
            List.mem_append_left _ ((congrArg (fun L => _ ∈ L) hT).mpr (by simp)), ?_⟩
          rw [Rect.mem_set_unit]
          simp only [k0_off9_eq]
          intro a; fin_cases a
          · exact ⟨by show 512 * n ≤ (y 0).val; omega, by show (y 0).val < 512 * n + 256; omega⟩
          · exact ⟨by show 0 ≤ (y 1).val; omega, by show (y 1).val < 0 + 256; omega⟩
        · refine ⟨⟨Rect.unit (s := S4096x256) (k0_off14 k) S256x256.size (k0_off14_inb k), tileLat x0 x2 x3 x4 x5 (tileB k)⟩,
            List.mem_append_left _ ((congrArg (fun L => _ ∈ L) hT).mpr (by simp)), ?_⟩
          rw [Rect.mem_set_unit]
          simp only [k0_off14_eq]
          intro a; fin_cases a
          · exact ⟨by show 512 * n + 256 ≤ (y 0).val; omega, by show (y 0).val < 512 * n + 256 + 256; omega⟩
          · exact ⟨by show 0 ≤ (y 1).val; omega, by show (y 1).val < 0 + 256; omega⟩

/-- After the loop the latent output holds `outLat`, whatever it held before. -/
theorem loop_output (G8 : BufTy.Contents (Elt F) arg8.view.ty) (G10 : BufTy.Contents (Elt F) arg10.view.ty) (G11 : BufTy.Contents (Elt F) arg11.view.ty)
    (init : FVec F S1x256 .f32 × FVec F S1x256 .f32 × FVec F S1x256 .f32 × FVec F S1x256 .f32)
    (hi : init = (colMax (scores (qOf x0 0 0) (kOf x3 0 0)), colMax (scores (qOf x0 0 1) (kOf x3 0 1)), colMax (scores (qOf x0 0 2) (kOf x3 0 2)), colMax (scores (qOf x0 0 3) (kOf x3 0 3)))) (hs : HoldsScores arg10 x0 x3 G10 0) (n : ℕ) (hn : n = k0_t1_loop.trips) (h8 : n = 8) :
    arg8.view.read (Elt F) (arg8.view.writes (Elt F) G8 (st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init n).2.1) = outLat x0 x2 x3 x4 x5 := by
  obtain ⟨-, -, h3, h4⟩ := loop_invariant 𝒱 c bd i arg2 harg2 arg3 harg3 arg4 harg4 arg5 harg5 arg6 harg6 arg7 harg7 arg8 harg8 arg9 harg9 arg10 harg10 arg11 harg11 v11 v21 v26 v27 x0 x2 x3 x4 x5 G8 G10 G11 init hi hs n (le_of_eq hn)
  have hc : ∀ y : S4096x256.Idx, ∃ p ∈ (st_k0_t1 (F := F) 𝒱 c bd i arg2 harg2 arg3 harg3 arg4 harg4 arg5 harg5 arg6 harg6 arg7 harg7 arg8 harg8 arg9 harg9 arg10 harg10 arg11 harg11 (k0_pay217 (F := F)) (k0_pay218 (F := F)) v11 v21 v26 v27 (harg2.unread x0) (harg4.unread x2) (harg5.unread x3) (harg6.unread x4) (harg7.unread x5) G8 G10 G11 init n).2.1, y ∈ p.1.set := fun y => h4 y (by have := idx2_lt0 y; omega)
  rw [View.read_writes_eq_canon _ _ _ hc]
  exact funext fun y => View.canon_apply_of_pieces _ _ h3 y (hc y)

end Cert.AttnIdeal.Attention

end
-- ==== Proof.Attention.Run.lean ====
module

public import proofs.«01_k».proof.Proof.Gen.AttnIdeal.Frame.Runs
public import proofs.«01_k».proof.Proof.Attention.Block

@[expose] public section

-- membership in a rectangle of production extents (`View.cover_of_tiled`): the elaborator's structural look
-- recurses once per coordinate of the long axes
set_option maxRecDepth 16384

noncomputable section

namespace Cert.AttnIdeal.Attention

open Cert.AttnIdeal Cert.AttnIdeal.Gen Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body, run on whole staging buffers: the inputs end as they were, the scratch at something, and the two outputs at
    `outLat` and `outCtx` of the input blocks, whatever the buffers held before. -/
theorem body_run (c : Dev nD) (i : grid0.Coords) (arg2 : Memref sig .tc .vmem S4096x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S4096x512 .bf16) (harg5 : arg5.IsWhole) (arg6 : Memref sig .tc .vmem S320x256 .bf16) (harg6 : arg6.IsWhole) (arg7 : Memref sig .tc .vmem S320x4096 .bf16) (harg7 : arg7.IsWhole) (arg8 : Memref sig .tc .vmem S4096x256 .bf16) (harg8 : arg8.IsWhole) (arg9 : Memref sig .tc .vmem S256x256 .bf16) (harg9 : arg9.IsWhole) (arg10 : Memref sig .tc .vmem S4x1024x256 .f32) (harg10 : arg10.IsWhole) (arg11 : Memref sig .tc .vmem S4x1024x256 .f32) (harg11 : arg11.IsWhole)
    (x0 : Vec F S4096x512 .bf16) (x1 : Vec F S256x512 .bf16) (x2 : Vec F S256x512 .bf16) (x3 : Vec F S4096x512 .bf16) (x4 : Vec F S320x256 .bf16) (x5 : Vec F S320x4096 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (outLat x0 x2 x3 x4 x5) ∗ owns (c : Thread nD τ) arg9 fullShare (outCtx x1 x2 x4) ∗ (∃ d, owns (c : Thread nD τ) arg10 fullShare d) ∗ (∃ d, owns (c : Thread nD τ) arg11 fullShare d)) -∗ K ⟨⟩))
          ⊢ wp frame (wpE (defs₀ (F := F)) Variants.none c none) E (cc0_attention i arg2 harg2 arg3 harg3 arg4 harg4 arg5 harg5 arg6 harg6 arg7 harg7 arg8 harg8 arg9 harg9 arg10 harg10 arg11 harg11) K := by
  intro E K
  simp only [cc0_attention_eq_skeleton]; unfold cc0_attention_skel
  simp only [k0_part30_eq_skeleton, k0_part31_eq_skeleton, k0_part32_eq_skeleton, k0_part33_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; swap; · iexact H6
    ipureintro; refine loop_output _ _ _ _ _ harg2 _ harg3 _ harg4 _ harg5 _ harg6 _ harg7 _ harg8 _ harg9 _ harg10 _ harg11 _ _ _ _ x0 x2 x3 x4 x5 _ _ _ _ ?_ ?_ _ rfl (by decide +kernel)
    · rw [← ldQ_eq harg2 x0 ![0, 0] inb_S4096x512_S256x128_0_0 0 0 rfl, ← ldK_eq harg5 x3 ![0, 0] inb_S4096x512_S1024x128_0_0 0 0 rfl, ← ldQ_eq harg2 x0 ![0, 128] inb_S4096x512_S256x128_0_128 0 1 rfl, ← ldK_eq harg5 x3 ![0, 128] inb_S4096x512_S1024x128_0_128 0 1 rfl, ← ldQ_eq harg2 x0 ![0, 256] inb_S4096x512_S256x128_0_256 0 2 rfl, ← ldK_eq harg5 x3 ![0, 256] inb_S4096x512_S1024x128_0_256 0 2 rfl, ← ldQ_eq harg2 x0 ![0, 384] inb_S4096x512_S256x128_0_384 0 3 rfl, ← ldK_eq harg5 x3 ![0, 384] inb_S4096x512_S1024x128_0_384 0 3 rfl]
      rfl
    · unfold HoldsScores
      rw [← ldQ_eq harg2 x0 ![0, 0] inb_S4096x512_S256x128_0_0 0 0 rfl, ← ldK_eq harg5 x3 ![0, 0] inb_S4096x512_S1024x128_0_0 0 0 rfl, ← ldQ_eq harg2 x0 ![0, 128] inb_S4096x512_S256x128_0_128 0 1 rfl, ← ldK_eq harg5 x3 ![0, 128] inb_S4096x512_S1024x128_0_128 0 1 rfl, ← ldQ_eq harg2 x0 ![0, 256] inb_S4096x512_S256x128_0_256 0 2 rfl, ← ldK_eq harg5 x3 ![0, 256] inb_S4096x512_S1024x128_0_256 0 2 rfl, ← ldQ_eq harg2 x0 ![0, 384] inb_S4096x512_S256x128_0_384 0 3 rfl, ← ldK_eq harg5 x3 ![0, 384] inb_S4096x512_S1024x128_0_384 0 3 rfl]
      exact ⟨row0 arg10.view _ _ _ _ [], row1 arg10.view _ _ _ _ [], row2 arg10.view _ _ _ _ [], row3 arg10.view _ _ _ _ []⟩
  isplitl [H7]
  · iexists _; isplitr; swap; · iexact H7
    ipureintro
    unfold outCtx
    rw [← ldC_eq harg3 x1 ![0, 0] inb_S256x512_S256x128_0_0 0 rfl, ← ldC_eq harg4 x2 ![0, 0] inb_S256x512_S256x128_0_0 0 rfl, ← ldVC_eq harg6 x4 ![0, 0] inb_S320x256_S80x256_0_0 0 rfl, ← ldC_eq harg3 x1 ![0, 128] inb_S256x512_S256x128_0_128 1 rfl, ← ldC_eq harg4 x2 ![0, 128] inb_S256x512_S256x128_0_128 1 rfl, ← ldVC_eq harg6 x4 ![80, 0] inb_S320x256_S80x256_80_0 1 rfl, ← ldC_eq harg3 x1 ![0, 256] inb_S256x512_S256x128_0_256 2 rfl, ← ldC_eq harg4 x2 ![0, 256] inb_S256x512_S256x128_0_256 2 rfl, ← ldVC_eq harg6 x4 ![160, 0] inb_S320x256_S80x256_160_0 2 rfl, ← ldC_eq harg3 x1 ![0, 384] inb_S256x512_S256x128_0_384 3 rfl, ← ldC_eq harg4 x2 ![0, 384] inb_S256x512_S256x128_0_384 3 rfl, ← ldVC_eq harg6 x4 ![240, 0] inb_S320x256_S80x256_240_0 3 rfl]
    refine (View.read_writes_eq_canon _ _ _ fun y => ⟨_, List.mem_singleton_self _, ?_⟩).trans ((View.canon_unit_zero (by decide) _ _).trans ?_)
    · rw [Rect.mem_set_unit]
      have h0 := idx2_lt0 y
      have h1 := idx2_lt1 y
      intro a; fin_cases a
      · exact ⟨Nat.zero_le _, by show (y 0).val < 0 + 256; omega⟩
      · exact ⟨Nat.zero_le _, by show (y 1).val < 0 + 256; omega⟩
    have key : ∀ L : List (View.Piece (Elt F) S4x1024x256 .f32), tile (stepCtx (k0_pay217 (F := F)) (colMaxCtx (scoresCtx (ldC arg3 (harg3.unread x1) ![0, 0] inb_S256x512_S256x128_0_0) (ldC arg4 (harg4.unread x2) ![0, 0] inb_S256x512_S256x128_0_0))) (k0_pay218 (F := F)) (arg10.view.readCov (⟨(Rect.unit (s := S4x1024x256) ![3, 0, 0] S1x256x256.size inb_S4x1024x256_S1x256x256_3_0_0), slabCtx (scoresCtx (ldC arg3 (harg3.unread x1) ![0, 384] inb_S256x512_S256x128_0_384) (ldC arg4 (harg4.unread x2) ![0, 384] inb_S256x512_S256x128_0_384))⟩ :: ⟨(Rect.unit (s := S4x1024x256) ![2, 0, 0] S1x256x256.size inb_S4x1024x256_S1x256x256_2_0_0), slabCtx (scoresCtx (ldC arg3 (harg3.unread x1) ![0, 256] inb_S256x512_S256x128_0_256) (ldC arg4 (harg4.unread x2) ![0, 256] inb_S256x512_S256x128_0_256))⟩ :: ⟨(Rect.unit (s := S4x1024x256) ![1, 0, 0] S1x256x256.size inb_S4x1024x256_S1x256x256_1_0_0), slabCtx (scoresCtx (ldC arg3 (harg3.unread x1) ![0, 128] inb_S256x512_S256x128_0_128) (ldC arg4 (harg4.unread x2) ![0, 128] inb_S256x512_S256x128_0_128))⟩ :: ⟨(Rect.unit (s := S4x1024x256) ![0, 0, 0] S1x256x256.size inb_S4x1024x256_S1x256x256_0_0_0), slabCtx (scoresCtx (ldC arg3 (harg3.unread x1) ![0, 0] inb_S256x512_S256x128_0_0) (ldC arg4 (harg4.unread x2) ![0, 0] inb_S256x512_S256x128_0_0))⟩ :: L) (Rect.unit (s := S4x1024x256) ![0, 0, 0] S1x256x256.size inb_S4x1024x256_S1x256x256_0_0_0).toLoadRect) (ldVC arg6 (harg6.unread x4) ![0, 0] inb_S320x256_S80x256_0_0))
        (stepCtx (k0_pay217 (F := F)) (colMaxCtx (scoresCtx (ldC arg3 (harg3.unread x1) ![0, 128] inb_S256x512_S256x128_0_128) (ldC arg4 (harg4.unread x2) ![0, 128] inb_S256x512_S256x128_0_128))) (k0_pay218 (F := F)) (arg10.view.readCov (⟨(Rect.unit (s := S4x1024x256) ![3, 0, 0] S1x256x256.size inb_S4x1024x256_S1x256x256_3_0_0), slabCtx (scoresCtx (ldC arg3 (harg3.unread x1) ![0, 384] inb_S256x512_S256x128_0_384) (ldC arg4 (harg4.unread x2) ![0, 384] inb_S256x512_S256x128_0_384))⟩ :: ⟨(Rect.unit (s := S4x1024x256) ![2, 0, 0] S1x256x256.size inb_S4x1024x256_S1x256x256_2_0_0), slabCtx (scoresCtx (ldC arg3 (harg3.unread x1) ![0, 256] inb_S256x512_S256x128_0_256) (ldC arg4 (harg4.unread x2) ![0, 256] inb_S256x512_S256x128_0_256))⟩ :: ⟨(Rect.unit (s := S4x1024x256) ![1, 0, 0] S1x256x256.size inb_S4x1024x256_S1x256x256_1_0_0), slabCtx (scoresCtx (ldC arg3 (harg3.unread x1) ![0, 128] inb_S256x512_S256x128_0_128) (ldC arg4 (harg4.unread x2) ![0, 128] inb_S256x512_S256x128_0_128))⟩ :: ⟨(Rect.unit (s := S4x1024x256) ![0, 0, 0] S1x256x256.size inb_S4x1024x256_S1x256x256_0_0_0), slabCtx (scoresCtx (ldC arg3 (harg3.unread x1) ![0, 0] inb_S256x512_S256x128_0_0) (ldC arg4 (harg4.unread x2) ![0, 0] inb_S256x512_S256x128_0_0))⟩ :: L) (Rect.unit (s := S4x1024x256) ![1, 0, 0] S1x256x256.size inb_S4x1024x256_S1x256x256_1_0_0).toLoadRect) (ldVC arg6 (harg6.unread x4) ![80, 0] inb_S320x256_S80x256_80_0))
        (stepCtx (k0_pay217 (F := F)) (colMaxCtx (scoresCtx (ldC arg3 (harg3.unread x1) ![0, 256] inb_S256x512_S256x128_0_256) (ldC arg4 (harg4.unread x2) ![0, 256] inb_S256x512_S256x128_0_256))) (k0_pay218 (F := F)) (arg10.view.readCov (⟨(Rect.unit (s := S4x1024x256) ![3, 0, 0] S1x256x256.size inb_S4x1024x256_S1x256x256_3_0_0), slabCtx (scoresCtx (ldC arg3 (harg3.unread x1) ![0, 384] inb_S256x512_S256x128_0_384) (ldC arg4 (harg4.unread x2) ![0, 384] inb_S256x512_S256x128_0_384))⟩ :: ⟨(Rect.unit (s := S4x1024x256) ![2, 0, 0] S1x256x256.size inb_S4x1024x256_S1x256x256_2_0_0), slabCtx (scoresCtx (ldC arg3 (harg3.unread x1) ![0, 256] inb_S256x512_S256x128_0_256) (ldC arg4 (harg4.unread x2) ![0, 256] inb_S256x512_S256x128_0_256))⟩ :: ⟨(Rect.unit (s := S4x1024x256) ![1, 0, 0] S1x256x256.size inb_S4x1024x256_S1x256x256_1_0_0), slabCtx (scoresCtx (ldC arg3 (harg3.unread x1) ![0, 128] inb_S256x512_S256x128_0_128) (ldC arg4 (harg4.unread x2) ![0, 128] inb_S256x512_S256x128_0_128))⟩ :: ⟨(Rect.unit (s := S4x1024x256) ![0, 0, 0] S1x256x256.size inb_S4x1024x256_S1x256x256_0_0_0), slabCtx (scoresCtx (ldC arg3 (harg3.unread x1) ![0, 0] inb_S256x512_S256x128_0_0) (ldC arg4 (harg4.unread x2) ![0, 0] inb_S256x512_S256x128_0_0))⟩ :: L) (Rect.unit (s := S4x1024x256) ![2, 0, 0] S1x256x256.size inb_S4x1024x256_S1x256x256_2_0_0).toLoadRect) (ldVC arg6 (harg6.unread x4) ![160, 0] inb_S320x256_S80x256_160_0))
        (stepCtx (k0_pay217 (F := F)) (colMaxCtx (scoresCtx (ldC arg3 (harg3.unread x1) ![0, 384] inb_S256x512_S256x128_0_384) (ldC arg4 (harg4.unread x2) ![0, 384] inb_S256x512_S256x128_0_384))) (k0_pay218 (F := F)) (arg10.view.readCov (⟨(Rect.unit (s := S4x1024x256) ![3, 0, 0] S1x256x256.size inb_S4x1024x256_S1x256x256_3_0_0), slabCtx (scoresCtx (ldC arg3 (harg3.unread x1) ![0, 384] inb_S256x512_S256x128_0_384) (ldC arg4 (harg4.unread x2) ![0, 384] inb_S256x512_S256x128_0_384))⟩ :: ⟨(Rect.unit (s := S4x1024x256) ![2, 0, 0] S1x256x256.size inb_S4x1024x256_S1x256x256_2_0_0), slabCtx (scoresCtx (ldC arg3 (harg3.unread x1) ![0, 256] inb_S256x512_S256x128_0_256) (ldC arg4 (harg4.unread x2) ![0, 256] inb_S256x512_S256x128_0_256))⟩ :: ⟨(Rect.unit (s := S4x1024x256) ![1, 0, 0] S1x256x256.size inb_S4x1024x256_S1x256x256_1_0_0), slabCtx (scoresCtx (ldC arg3 (harg3.unread x1) ![0, 128] inb_S256x512_S256x128_0_128) (ldC arg4 (harg4.unread x2) ![0, 128] inb_S256x512_S256x128_0_128))⟩ :: ⟨(Rect.unit (s := S4x1024x256) ![0, 0, 0] S1x256x256.size inb_S4x1024x256_S1x256x256_0_0_0), slabCtx (scoresCtx (ldC arg3 (harg3.unread x1) ![0, 0] inb_S256x512_S256x128_0_0) (ldC arg4 (harg4.unread x2) ![0, 0] inb_S256x512_S256x128_0_0))⟩ :: L) (Rect.unit (s := S4x1024x256) ![3, 0, 0] S1x256x256.size inb_S4x1024x256_S1x256x256_3_0_0).toLoadRect) (ldVC arg6 (harg6.unread x4) ![240, 0] inb_S320x256_S80x256_240_0))
          = tile (headCtx (ldC arg3 (harg3.unread x1) ![0, 0] inb_S256x512_S256x128_0_0) (ldC arg4 (harg4.unread x2) ![0, 0] inb_S256x512_S256x128_0_0) (ldVC arg6 (harg6.unread x4) ![0, 0] inb_S320x256_S80x256_0_0))
        (headCtx (ldC arg3 (harg3.unread x1) ![0, 128] inb_S256x512_S256x128_0_128) (ldC arg4 (harg4.unread x2) ![0, 128] inb_S256x512_S256x128_0_128) (ldVC arg6 (harg6.unread x4) ![80, 0] inb_S320x256_S80x256_80_0))
        (headCtx (ldC arg3 (harg3.unread x1) ![0, 256] inb_S256x512_S256x128_0_256) (ldC arg4 (harg4.unread x2) ![0, 256] inb_S256x512_S256x128_0_256) (ldVC arg6 (harg6.unread x4) ![160, 0] inb_S320x256_S80x256_160_0))
        (headCtx (ldC arg3 (harg3.unread x1) ![0, 384] inb_S256x512_S256x128_0_384) (ldC arg4 (harg4.unread x2) ![0, 384] inb_S256x512_S256x128_0_384) (ldVC arg6 (harg6.unread x4) ![240, 0] inb_S320x256_S80x256_240_0)) := by
      intro L
      rw [row0Ctx, row1Ctx, row2Ctx, row3Ctx]
      rfl
    exact key _
  isplitl [HS0]
  · iexists _, _; isplitr; swap; · iexact HS0
    ipureintro; rfl
  iexists _, _; isplitr; swap; · iexact HS1
  ipureintro; rfl

end Cert.AttnIdeal.Attention

end
-- ==== Proof.Attention.Launch.lean ====
/-
  The launch of the attention: the sixteen grid points (a batch and a group of four heads each) run the body on their
  blocks, and after the launch each output array holds, block by block, what the body makes of the blocks of its inputs.
-/
module

public import proofs.«01_k».proof.Proof.Attention.Run
public import Idealize.ShloMosaic.Lib.Claim
public import Idealize.ShloMosaic.Lib.Pipeline.Value

@[expose] public section

set_option maxRecDepth 16384

noncomputable section

namespace Cert.AttnIdeal.Attention

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The proof data of the one pipeline on core `c`: the arrays as the launch finds them; after the body at
    point `t` each input's buffer at its block and the outputs' at `outLat` and `outCtx` of the input blocks; the scratch
    at something; nothing owed; each window with its share of its array. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => iblk m c 4 t
    | ⟨5, _⟩ => X0_5 m c t
    | ⟨6, _⟩ => outLat (X0_0 m c t) (iblk m c 2 t) (X0_3 m c t) (iblk m c 4 t) (X0_5 m c t)
    | ⟨7, _⟩ => outCtx (iblk m c 1 t) (iblk m c 2 t) (iblk m c 4 t)
  Φ _ := Pipeline.ΦA spec0 c
  q w := Pipeline.shareOf spec0 w
  owed _ := 0

/-- The proof data's arrays are as the launch finds them. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = outLat (X0_0 m c t) (iblk m c 2 t) (X0_3 m c t) (iblk m c 4 t) (X0_5 m c t) := by dsimp only [dats]
theorem after0_7 (c : Dev nD) (t : Fin cfg0.N) : (dats m 0 c).after 7 t = outCtx (iblk m c 1 t) (iblk m c 2 t) (iblk m c 4 t) := by dsimp only [dats]

/-- An input's buffer holds its block at every point. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: its inputs hold their blocks, so `body_run` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) _ _ _ _ _ _ _ _ _ _ _ _ _ _ _ _ _ _ _ _ (X0_0 m c t) (iblk m c 1 t) (iblk m c 2 t) (X0_3 m c t) (iblk m c 4 t) (X0_5 m c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  iintro ⟨H0, H1, H2, H3, H4, H5, H6, H7, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: every execution ends with the arrays at what the proof data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- What point `t` writes back to output window 6's array. -/
theorem flushed6 (c : Dev nD) (t : Fin cfg0.N) :
    (dats m 0 c).flushed 6 t = (cfg0.win 6).cut (grid0.coords t) (outLat (X0_0 m c t) (iblk m c 2 t) (X0_3 m c t) (iblk m c 4 t) (X0_5 m c t)) := by
  show (cfg0.win 6).cut (grid0.coords t) ((dats m 0 c).after 6 t) = _
  rw [after0_6]

/-- The index map sends distinct grid points to distinct block indices (decided over the 16 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- Block `t` of the final array, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- What point `t` writes back to output window 7's array. -/
theorem flushed7 (c : Dev nD) (t : Fin cfg0.N) :
    (dats m 0 c).flushed 7 t = (cfg0.win 7).cut (grid0.coords t) (outCtx (iblk m c 1 t) (iblk m c 2 t) (iblk m c 4 t)) := by
  show (cfg0.win 7).cut (grid0.coords t) ((dats m 0 c).after 7 t) = _
  rw [after0_7]

/-- The index map sends distinct grid points to distinct block indices (decided over the 16 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index. -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- Block `t` of the final array, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v5_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v5_1) = (dats m 0 c).arrAt 7 cfg0.N :=
  (h c).1 7

/-- After the frame run, argument `main_arg0` is as launched: input window 1 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 1).trans (((dats m 0 c).arrAt_in 1 rfl _).trans ((A_eq m c 1).trans (V_main_arg0 m c)))

/-- After the frame run, argument `main_arg1` is as launched: input window 3 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 3).trans (((dats m 0 c).arrAt_in 3 rfl _).trans ((A_eq m c 3).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run named,,
    the arguments unchanged. -/
theorem run_blocks : θ_run defs (onTc (τ := τ) (main (F := F))) ⟨m, fun _ => 0, ρ⟩ fun r => ∀ c : Dev nD,
      r.2.mem ((c : Thread nD τ).loc main_v5_0) = (dats m 0 c).arrAt 6 cfg0.N
      ∧ r.2.mem ((c : Thread nD τ).loc main_v5_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post6 m r h c,
      post7 m r h c,
      kept_main_arg0 m r h c,
      kept_main_arg1 m r h c,
      kept_main_arg2 m r h c⟩)
    (run_main m ρ)

end Cert.AttnIdeal.Attention

end
-- ==== Proof.Attention.Windows.lean ====
/-
  The launch's input blocks at an element: which row and channel of the queries, keys and values each block element is. The
  values reach the launch transposed, 80 rows a head: 64 of values, then 16 of ones.
-/
module

public import proofs.«01_k».proof.Proof.Attention.Launch
public import Idealize.ShloMosaic.Lib.Pipeline.ValueKit
public import Idealize.ShloMosaic.Lib.Pointwise
public import Idealize.ShloMosaic.PureOps.Ideal.Laws

@[expose] public section

set_option maxRecDepth 16384

noncomputable section

namespace Cert.AttnIdeal.Attention

open Cert.AttnIdeal Cert.AttnIdeal.Gen Idealize.ShloMosaic.ValueIdx Idealize.ShloMosaic.TcCoe Idealize.SL.Sem
open Idealize.ShloMosaic hiding ix2 ix3

variable (m : (ℓ : Loc nD τ sig) → Buf (Elt Ideal) ℓ)

/-- The queries. -/
abbrev queries (c : Dev nD) : S17408x2048.Idx → EReal := m ((c : Thread nD τ).loc main_arg0)
/-- The keys. -/
abbrev keys (c : Dev nD) : S17408x2048.Idx → EReal := m ((c : Thread nD τ).loc main_arg1)
/-- The values. -/
abbrev values (c : Dev nD) : S17408x1024.Idx → EReal := m ((c : Thread nD τ).loc main_arg2)

/-- The batch of a grid point. -/
abbrev batch (t : Fin cfg0.N) : ℕ := (grid0.coords t 0).val
/-- The group of four heads of a grid point. -/
abbrev group (t : Fin cfg0.N) : ℕ := (grid0.coords t 1).val

theorem index0 : ∀ t : Fin cfg0.N, win0_0.index t = ![batch t, group t] := (by decide +kernel : ∀ t : Fin grid0.N, _)
theorem index1 : ∀ t : Fin cfg0.N, win0_1.index t = ![64 + batch t, group t] := (by decide +kernel : ∀ t : Fin grid0.N, _)
theorem index2 : ∀ t : Fin cfg0.N, win0_2.index t = ![64 + batch t, group t] := (by decide +kernel : ∀ t : Fin grid0.N, _)
theorem index3 : ∀ t : Fin cfg0.N, win0_3.index t = ![batch t, group t] := (by decide +kernel : ∀ t : Fin grid0.N, _)
theorem index4 : ∀ t : Fin cfg0.N, win0_4.index t = ![group t, 64 + batch t] := (by decide +kernel : ∀ t : Fin grid0.N, _)
theorem index5 : ∀ t : Fin cfg0.N, win0_5.index t = ![group t, batch t] := (by decide +kernel : ∀ t : Fin grid0.N, _)
theorem index6 : ∀ t : Fin cfg0.N, win0_6.index t = ![batch t, group t] := (by decide +kernel : ∀ t : Fin grid0.N, _)
theorem index7 : ∀ t : Fin cfg0.N, win0_7.index t = ![batch t, group t] := (by decide +kernel : ∀ t : Fin grid0.N, _)

theorem X0_0_apply (c : Dev nD) (t : Fin cfg0.N) (i : Fin 4096) (j : Fin 512) (y0 : Fin 17408) (y1 : Fin 2048)
    (h0 : y0.val = 4096 * batch t + i.val) (h1 : y1.val = 512 * group t + j.val) :
    X0_0 m c t (ix2 i j) = queries m c (ix2 y0 y1) := by
  rw [queries, ← V_main_arg0 m c, X0_0, Pipeline.Window.fill, dif_pos (moved0_0 t _)]
  blk_simp [iblk]
  refine congrArg (V m c main_arg0) ?_
  blk_ext [index0 t]
  · show _ + i.val = y0.val; omega
  · show _ + j.val = y1.val; omega

theorem X0_3_apply (c : Dev nD) (t : Fin cfg0.N) (i : Fin 4096) (j : Fin 512) (y0 : Fin 17408) (y1 : Fin 2048)
    (h0 : y0.val = 4096 * batch t + i.val) (h1 : y1.val = 512 * group t + j.val) :
    X0_3 m c t (ix2 i j) = keys m c (ix2 y0 y1) := by
  rw [keys, ← V_main_arg1 m c, X0_3, Pipeline.Window.fill, dif_pos (moved0_3 t _)]
  blk_simp [iblk]
  refine congrArg (V m c main_arg1) ?_
  blk_ext [index3 t]
  · show _ + i.val = y0.val; omega
  · show _ + j.val = y1.val; omega

theorem iblk1_apply (c : Dev nD) (t : Fin cfg0.N) (i : Fin 256) (j : Fin 512) (y0 : Fin 17408) (y1 : Fin 2048)
    (h0 : y0.val = 256 * (64 + batch t) + i.val) (h1 : y1.val = 512 * group t + j.val) :
    iblk m c 1 t (ix2 i j) = queries m c (ix2 y0 y1) := by
  rw [queries, ← V_main_arg0 m c]
  blk_simp [iblk]
  refine congrArg (V m c main_arg0) ?_
  blk_ext [index1 t]
  · show _ + i.val = y0.val; omega
  · show _ + j.val = y1.val; omega

theorem iblk2_apply (c : Dev nD) (t : Fin cfg0.N) (i : Fin 256) (j : Fin 512) (y0 : Fin 17408) (y1 : Fin 2048)
    (h0 : y0.val = 256 * (64 + batch t) + i.val) (h1 : y1.val = 512 * group t + j.val) :
    iblk m c 2 t (ix2 i j) = keys m c (ix2 y0 y1) := by
  rw [keys, ← V_main_arg1 m c]
  blk_simp [iblk]
  refine congrArg (V m c main_arg1) ?_
  blk_ext [index2 t]
  · show _ + i.val = y0.val; omega
  · show _ + j.val = y1.val; omega

theorem iblk4_apply (c : Dev nD) (t : Fin cfg0.N) (i : Fin 320) (j : Fin 256) (y0 : Fin 1280) (y1 : Fin 17408)
    (h0 : y0.val = 320 * group t + i.val) (h1 : y1.val = 256 * (64 + batch t) + j.val) :
    iblk m c 4 t (ix2 i j) = V m c main_v4 (ix2 y0 y1) := by
  blk_simp [iblk]
  refine congrArg (V m c main_v4) ?_
  blk_ext [index4 t]
  · show _ + i.val = y0.val; omega
  · show _ + j.val = y1.val; omega

theorem X0_5_apply (c : Dev nD) (t : Fin cfg0.N) (i : Fin 320) (j : Fin 4096) (y0 : Fin 1280) (y1 : Fin 17408)
    (h0 : y0.val = 320 * group t + i.val) (h1 : y1.val = 4096 * batch t + j.val) :
    X0_5 m c t (ix2 i j) = V m c main_v4 (ix2 y0 y1) := by
  rw [X0_5, Pipeline.Window.fill, dif_pos (moved0_5 t _)]
  blk_simp [iblk]
  refine congrArg (V m c main_v4) ?_
  blk_ext [index5 t]
  · show _ + i.val = y0.val; omega
  · show _ + j.val = y1.val; omega

/-- The transposed values with their rows of ones: row `80 h + i` is value channel `i` of head `h`, or ones. -/
theorem vt_val (c : Dev nD) (h : Fin 16) (i : Fin 64) (y0 : Fin 1280) (y1 : Fin 17408) (h0 : y0.val = 80 * h.val + i.val) :
    V m c main_v4 (ix2 y0 y1) = values m c (ix2 y1 ⟨64 * h.val + i.val, by omega⟩) := by
  entry_read
  pointwise
  have e0 : (ix2 y0 y1 0).val = 80 * h.val + i.val := h0
  rw [dif_pos (show (ix2 y0 y1 0).val % 80 < 64 by omega)]
  refine congrArg (values m c) (funext fun a => Fin.ext ?_)
  match a with
  | ⟨0, _⟩ => rfl
  | ⟨1, _⟩ => show (ix2 y0 y1 0).val / 80 * 64 + (ix2 y0 y1 0).val % 80 = 64 * h.val + i.val; omega

theorem vt_one (c : Dev nD) (h : Fin 16) (i : Fin 16) (y0 : Fin 1280) (y1 : Fin 17408) (h0 : y0.val = 80 * h.val + 64 + i.val) :
    V m c main_v4 (ix2 y0 y1) = (1 : EReal) := by
  entry_read
  pointwise
  have e0 : (ix2 y0 y1 0).val = 80 * h.val + 64 + i.val := h0
  exact dif_neg (show ¬(ix2 y0 y1 0).val % 80 < 64 by omega)

end Cert.AttnIdeal.Attention

end
-- ==== Proof.Attention.Softmax.lean ====
/-
  The running softmax over the extended reals. Scores are real numbers, values are arbitrary. `weighted S V` is the sum of
  the values, each times two to its score less the largest score. A pass over five chunks that rescales its accumulator at
  each new maximum ends at `weighted` (`running`); the softmax with exponentials of scores times the logarithm of two,
  normalised before the product with the values, is `weighted` of the values over `weighted` of ones (`soft_eq`).
-/
module

public import Idealize.ShloMosaic.PureOps.Ideal
public import Mathlib.Analysis.SpecialFunctions.Pow.Real

@[expose] public section

noncomputable section

namespace Cert.Softmax

open Idealize.ShloMosaic

/-- The largest of finitely many real scores. -/
def peak {ι : Type} [Fintype ι] (S : ι → ℝ) : EReal := Finset.univ.sup fun i => (S i : EReal)

/-- Values weighted by two to the score less `M`. -/
def mass {ι : Type} [Fintype ι] (S : ι → ℝ) (V : ι → EReal) (M : EReal) : EReal :=
  ∑ i, V i * Ideal.exp2 ((S i : EReal) - M)

/-- Values weighted by two to the score less the largest score. -/
def weighted {ι : Type} [Fintype ι] (S : ι → ℝ) (V : ι → EReal) : EReal := mass S V (peak S)

theorem peak_real {ι : Type} [Fintype ι] [Nonempty ι] (S : ι → ℝ) : ∃ r : ℝ, peak S = r := by
  obtain ⟨i, -, hi⟩ := Finset.exists_mem_eq_sup (Finset.univ : Finset ι) Finset.univ_nonempty (fun i => (S i : EReal))
  exact ⟨S i, hi⟩

theorem max_real {x y : EReal} (hx : ∃ r : ℝ, x = r) (hy : ∃ r : ℝ, y = r) : ∃ r : ℝ, max x y = r := by
  rcases max_choice x y with h | h <;> rw [h] <;> assumption

theorem exp2_sub (s m : ℝ) : Ideal.exp2 ((s : EReal) - (m : EReal)) = ((Real.rpow 2 (s - m) : ℝ) : EReal) := by
  rw [← EReal.coe_sub, Ideal.exp2_coe]

theorem exp2_nonneg (x : ℝ) : 0 ≤ Real.rpow 2 x := Real.rpow_nonneg (by norm_num) x

/-- A nonnegative real factor goes into a finite sum. -/
theorem mul_sum_real {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- Rescaling moves a weighted sum from one real maximum to another. -/
theorem rescale_mass {ι : Type} [Fintype ι] (S : ι → ℝ) (V : ι → EReal) {m m' : EReal} (hm : ∃ r : ℝ, m = r)
    (hm' : ∃ r : ℝ, m' = r) : Ideal.exp2 (m - m') * mass S V m = mass S V m' := by
  obtain ⟨a, rfl⟩ := hm
  obtain ⟨b, rfl⟩ := hm'
  rw [mass, mass, exp2_sub, mul_sum_real _ _ _ (exp2_nonneg _)]
  refine Finset.sum_congr rfl fun i _ => ?_
  rw [exp2_sub, exp2_sub, mul_left_comm, ← EReal.coe_mul]
  congr 2
  show (2 : ℝ) ^ (a - b) * (2 : ℝ) ^ (S i - a) = (2 : ℝ) ^ (S i - b)
  rw [← Real.rpow_add (by norm_num)]
  congr 1; ring

/-- The same for two sums already at one maximum. -/
theorem rescale_add {x y x' y' m m' : EReal} (hm : ∃ r : ℝ, m = r) (hm' : ∃ r : ℝ, m' = r)
    (hx : Ideal.exp2 (m - m') * x = x') (hy : Ideal.exp2 (m - m') * y = y') :
    Ideal.exp2 (m - m') * (x + y) = x' + y' := by
  subst hx hy
  obtain ⟨a, rfl⟩ := hm
  obtain ⟨b, rfl⟩ := hm'
  rw [exp2_sub]
  exact EReal.left_distrib_of_nonneg_of_ne_top (by exact_mod_cast exp2_nonneg _) (EReal.coe_ne_top _) _ _

/-- The index of key `j` of latent chunk `c` among all keys: the context keys come first. -/
def keyAt (c : Fin 4) (j : Fin 1024) : Fin 4352 := ⟨256 + 1024 * c.val + j.val, by omega⟩

/-- The index of context key `j` among all keys. -/
def ctxAt (j : Fin 256) : Fin 4352 := ⟨j.val, by omega⟩

theorem sum_split {M : Type} [AddCommMonoid M] (f : Fin 4352 → M) :
    ∑ i, f i = ((((∑ j, f (keyAt 0 j)) + ∑ j, f (keyAt 1 j)) + ∑ j, f (keyAt 2 j)) + ∑ j, f (keyAt 3 j)) + ∑ j, f (ctxAt j) := by
  have h : ∑ i, f i = ∑ i : Fin (256 + 1024 + 1024 + 1024 + 1024), f i := rfl
  rw [h, Fin.sum_univ_add, Fin.sum_univ_add, Fin.sum_univ_add, Fin.sum_univ_add]
  have e : ∀ a b c d e a' b' c' d' e' : M, a = a' → b = b' → c = c' → d = d' → e = e' →
      e + a + b + c + d = a' + b' + c' + d' + e' := by
    intro a b c d e a' b' c' d' e' ha hb hc hd he
    subst ha hb hc hd he
    rw [add_assoc, add_assoc, add_assoc, add_comm, ← add_assoc, ← add_assoc]
  refine e _ _ _ _ _ _ _ _ _ _ ?_ ?_ ?_ ?_ ?_ <;>
    exact Finset.sum_congr rfl fun j _ => congrArg f (Fin.ext (by simp [keyAt, ctxAt]))

theorem peak_split (S : Fin 4352 → ℝ) :
    max (max (max (max (max ⊥ (peak fun j => S (keyAt 0 j))) (peak fun j => S (keyAt 1 j))) (peak fun j => S (keyAt 2 j)))
      (peak fun j => S (keyAt 3 j))) (peak fun j => S (ctxAt j)) = peak S := by
  apply le_antisymm
  · have h : ∀ {n : ℕ} (g : Fin n → Fin 4352), peak (fun j => S (g j)) ≤ peak S := fun g =>
      Finset.sup_le fun j _ => Finset.le_sup (f := fun i => (S i : EReal)) (Finset.mem_univ (g j))
    exact max_le (max_le (max_le (max_le (max_le bot_le (h _)) (h _)) (h _)) (h _)) (h _)
  · have h : ∀ {n : ℕ} (g : Fin n → Fin 4352) (j : Fin n), (S (g j) : EReal) ≤ peak (fun j => S (g j)) := fun g j =>
      Finset.le_sup (f := fun j => (S (g j) : EReal)) (Finset.mem_univ j)
    refine Finset.sup_le fun i _ => ?_
    by_cases hc : i.val < 256
    · exact (h ctxAt ⟨i.val, hc⟩).trans (le_max_right _ _)
    · have hi := i.isLt
      have hq : (i.val - 256) / 1024 < 4 := by omega
      have key : i = keyAt ⟨(i.val - 256) / 1024, hq⟩ ⟨(i.val - 256) % 1024, by omega⟩ := Fin.ext (by simp only [keyAt]; omega)
      rw [key]
      generalize (⟨(i.val - 256) % 1024, _⟩ : Fin 1024) = j
      generalize (⟨(i.val - 256) / 1024, hq⟩ : Fin 4) = c
      refine (h (keyAt c) j).trans ?_
      match c with
      | 0 => exact (le_max_right _ _).trans ((le_max_left _ _).trans ((le_max_left _ _).trans ((le_max_left _ _).trans (le_max_left _ _))))
      | 1 => exact (le_max_right _ _).trans ((le_max_left _ _).trans ((le_max_left _ _).trans (le_max_left _ _)))
      | 2 => exact (le_max_right _ _).trans ((le_max_left _ _).trans (le_max_left _ _))
      | 3 => exact (le_max_right _ _).trans (le_max_left _ _)

/-- The pass over four chunks of latent keys and the context, rescaling at each new maximum. -/
theorem running (S : Fin 4352 → ℝ) (V : Fin 4352 → EReal) (m0 m1 m2 m3 m4 m5 : EReal) (h0 : m0 = ⊥)
    (h1 : m1 = max m0 (peak fun j => S (keyAt 0 j))) (h2 : m2 = max m1 (peak fun j => S (keyAt 1 j)))
    (h3 : m3 = max m2 (peak fun j => S (keyAt 2 j))) (h4 : m4 = max m3 (peak fun j => S (keyAt 3 j)))
    (h5 : m5 = max m4 (peak fun j => S (ctxAt j))) :
    Ideal.exp2 (m4 - m5) * (Ideal.exp2 (m3 - m4) * (Ideal.exp2 (m2 - m3) * (Ideal.exp2 (m1 - m2) * (Ideal.exp2 (m0 - m1) * 0
      + mass (fun j => S (keyAt 0 j)) (fun j => V (keyAt 0 j)) m1)
      + mass (fun j => S (keyAt 1 j)) (fun j => V (keyAt 1 j)) m2)
      + mass (fun j => S (keyAt 2 j)) (fun j => V (keyAt 2 j)) m3)
      + mass (fun j => S (keyAt 3 j)) (fun j => V (keyAt 3 j)) m4)
      + mass (fun j => S (ctxAt j)) (fun j => V (ctxAt j)) m5 = weighted S V := by
  have r1 : ∃ r : ℝ, m1 = r := by rw [h1, h0, max_eq_right bot_le]; exact peak_real _
  have r2 : ∃ r : ℝ, m2 = r := h2 ▸ max_real r1 (peak_real _)
  have r3 : ∃ r : ℝ, m3 = r := h3 ▸ max_real r2 (peak_real _)
  have r4 : ∃ r : ℝ, m4 = r := h4 ▸ max_real r3 (peak_real _)
  have r5 : ∃ r : ℝ, m5 = r := h5 ▸ max_real r4 (peak_real _)
  rw [mul_zero, zero_add, rescale_mass _ _ r1 r2,
    rescale_add r2 r3 (rescale_mass _ _ r2 r3) (rescale_mass _ _ r2 r3),
    rescale_add r3 r4 (rescale_add r3 r4 (rescale_mass _ _ r3 r4) (rescale_mass _ _ r3 r4)) (rescale_mass _ _ r3 r4),
    rescale_add r4 r5 (rescale_add r4 r5 (rescale_add r4 r5 (rescale_mass _ _ r4 r5) (rescale_mass _ _ r4 r5)) (rescale_mass _ _ r4 r5))
      (rescale_mass _ _ r4 r5)]
  have hm : m5 = peak S := by rw [h5, h4, h3, h2, h1, h0]; exact peak_split S
  rw [weighted, ← hm]
  exact (sum_split fun i => V i * Ideal.exp2 ((S i : EReal) - m5)).symm

/-- A single chunk. -/
theorem single {ι : Type} [Fintype ι] (S : ι → ℝ) (V : ι → EReal) (m0 m1 : EReal) (h0 : m0 = ⊥) (h1 : m1 = max m0 (peak S)) :
    Ideal.exp2 (m0 - m1) * 0 + mass S V m1 = weighted S V := by
  rw [mul_zero, zero_add, h1, h0, max_eq_right bot_le, weighted]

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem peak_scaled {ι : Type} [Fintype ι] [Nonempty ι] (S : ι → ℝ) {c : ℝ} (hc : 0 ≤ c) {M : ℝ} (hM : peak S = M) :
    (Finset.univ.sup fun i => (S i : EReal) * (c : EReal)) = ((M * c : ℝ) : EReal) := by
  apply le_antisymm
  · refine Finset.sup_le fun i _ => ?_
    rw [← EReal.coe_mul, EReal.coe_le_coe_iff]
    refine mul_le_mul_of_nonneg_right ?_ hc
    rw [← EReal.coe_le_coe_iff, ← hM]
    exact Finset.le_sup (f := fun i => (S i : EReal)) (Finset.mem_univ i)
  · obtain ⟨i, -, hi⟩ := Finset.exists_mem_eq_sup (Finset.univ : Finset ι) Finset.univ_nonempty (fun i => (S i : EReal))
    have : M = S i := EReal.coe_injective (hM.symm.trans hi)
    rw [this, EReal.coe_mul]
    exact Finset.le_sup (f := fun i => (S i : EReal) * (c : EReal)) (Finset.mem_univ i)

/-- The softmax of scores times the logarithm of two, normalised and then applied to the values, is the weighted sum of the
    values over that of ones. -/
theorem soft_eq {ι : Type} [Fintype ι] [Nonempty ι] (S : ι → ℝ) (V : ι → EReal) (L M' : EReal)
    (hL : L = ((Real.log 2 : ℝ) : EReal)) (hM' : M' = max ⊥ (Finset.univ.sup fun i => (S i : EReal) * L)) :
    ∑ i, Ideal.div (Ideal.exp ((S i : EReal) * L - M')) (0 + ∑ i, Ideal.exp ((S i : EReal) * L - M')) * V i
      = Ideal.div (weighted S V) (weighted S fun _ => 1) := by
  obtain ⟨M, hM⟩ := peak_real S
  have hlog : (0 : ℝ) ≤ Real.log 2 := Real.log_nonneg (by norm_num)
  rw [max_eq_right bot_le, hL, peak_scaled S hlog hM] at hM'
  have he : ∀ i, Ideal.exp ((S i : EReal) * L - M') = ((Real.rpow 2 (S i - M) : ℝ) : EReal) := by
    intro i
    rw [hM', hL, ← EReal.coe_mul, ← EReal.coe_sub]
    show ((Real.exp (S i * Real.log 2 - M * Real.log 2) : ℝ) : EReal) = _
    congr 1
    show _ = (2 : ℝ) ^ (S i - M)
    rw [Real.rpow_def_of_pos (by norm_num)]
    congr 1; ring
  have hden : weighted S (fun _ => 1) = ((∑ i, Real.rpow 2 (S i - M) : ℝ) : EReal) := by
    rw [weighted, mass, ← coe_sum, hM]
    exact Finset.sum_congr rfl fun i _ => by rw [one_mul, exp2_sub]
  have hpos : 0 < ∑ i, Real.rpow 2 (S i - M) := Finset.sum_pos (fun i _ => Real.rpow_pos_of_pos (by norm_num) _) Finset.univ_nonempty
  have hnum : weighted S V = ∑ i, V i * ((Real.rpow 2 (S i - M) : ℝ) : EReal) := by
    rw [weighted, mass, hM]
    exact Finset.sum_congr rfl fun i _ => by rw [exp2_sub]
  simp only [he]
  rw [zero_add, coe_sum, hden, hnum]
  generalize hD : (∑ i, Real.rpow 2 (S i - M)) = D at hpos ⊢
  have hne : ((D : ℝ) : EReal) ≠ 0 := by exact_mod_cast hpos.ne'
  simp only [Ideal.div, if_neg hne]
  rw [← EReal.coe_inv, mul_comm (∑ i, V i * _), mul_sum_real _ _ _ (inv_nonneg.2 hpos.le)]
  refine Finset.sum_congr rfl fun i _ => ?_
  rw [mul_comm (V i), ← mul_assoc, mul_comm ((D⁻¹ : ℝ) : EReal)]

end Cert.Softmax

end
-- ==== Proof.Attention.Elements.lean ====
/-
  The functions of a tile at an element, over the extended reals: a score is a sum over the 128 channels, a column's maximum
  the largest score of its query, a step the rescaled accumulator plus the chunk's weighted values.
-/
module

public import proofs.«01_k».proof.Proof.Attention.Block
public import proofs.«01_k».proof.Proof.Attention.Softmax
public import Idealize.ShloMosaic.Lib.ValueLayout
public import Idealize.ShloMosaic.PureOps.Ideal.Laws

@[expose] public section

set_option maxRecDepth 16384

noncomputable section

namespace Cert.AttnIdeal.Attention

open Cert.AttnIdeal Cert.AttnIdeal.Gen Idealize.ShloMosaic Idealize.ShloMosaic.ValueIdx Cert.Softmax

/-- The product of 128-channel rows at an element. -/
theorem scores_apply (q : Vec Ideal S256x128 .bf16) (k : Vec Ideal S1024x128 .bf16) (j : Fin 1024) (r : Fin 256) :
    scores (F := Ideal) q k (ix2 j r) = ∑ d : Fin 128, (k (ix2 j d) : EReal) * q (ix2 r d) := by
  simp only [scores, matmul]
  rw [Ideal.matmul_constant_zero_apply, ← Equiv.sum_comp (contrEquiv1 dot_S1024x128_S256x128_S1024x256_1_1_0_0_n_n 128 rfl rfl).symm]
  refine Finset.sum_congr rfl fun d _ => ?_
  have hd := contrEquiv1_symm_val dot_S1024x128_S256x128_S1024x256_1_1_0_0_n_n 128 rfl rfl d
  congr 1
  · exact congrArg k (funext fun a => Fin.ext (by match a with | ⟨0, _⟩ => rfl | ⟨1, _⟩ => exact hd))
  · exact congrArg q (funext fun a => Fin.ext (by match a with | ⟨0, _⟩ => rfl | ⟨1, _⟩ => exact hd))

theorem scoresCtx_apply (q : Vec Ideal S256x128 .bf16) (k : Vec Ideal S256x128 .bf16) (j : Fin 256) (r : Fin 256) :
    scoresCtx (F := Ideal) q k (ix2 j r) = ∑ d : Fin 128, (k (ix2 j d) : EReal) * q (ix2 r d) := by
  simp only [scoresCtx, matmul]
  rw [Ideal.matmul_constant_zero_apply, ← Equiv.sum_comp (contrEquiv1 dot_S256x128_S256x128_S256x256_1_1_0_0_n_n 128 rfl rfl).symm]
  refine Finset.sum_congr rfl fun d _ => ?_
  have hd := contrEquiv1_symm_val dot_S256x128_S256x128_S256x256_1_1_0_0_n_n 128 rfl rfl d
  congr 1
  · exact congrArg k (funext fun a => Fin.ext (by match a with | ⟨0, _⟩ => rfl | ⟨1, _⟩ => exact hd))
  · exact congrArg q (funext fun a => Fin.ext (by match a with | ⟨0, _⟩ => rfl | ⟨1, _⟩ => exact hd))

theorem low_bits : Ideal.ofBits .f32 0xFF800000#32 = ⊥ := by
  simp [Ideal.ofBits, Ideal.ieee]

theorem colMax_apply (s : FVec Ideal S1024x256 .f32) (r : Fin 256) :
    colMax (F := Ideal) s (ix2 0 r) = Finset.univ.sup fun j : Fin 1024 => (s (ix2 j r) : EReal) := by
  rw [colMax, shapeCast_a_1a_apply]
  refine (Ideal.multiReduction_maximumf_single _ _ _ _ _ _).trans ?_
  show Finset.univ.fold max (Ideal.ofBits .f32 0xFF800000#32) _ = _
  rw [low_bits]
  refine congrArg (fun f => Finset.univ.fold max ⊥ f) (funext fun j => congrArg s (funext fun a => Fin.ext ?_))
  match a with | ⟨0, _⟩ => rfl | ⟨1, _⟩ => rfl

theorem colMaxCtx_apply (s : FVec Ideal S256x256 .f32) (r : Fin 256) :
    colMaxCtx (F := Ideal) s (ix2 0 r) = Finset.univ.sup fun j : Fin 256 => (s (ix2 j r) : EReal) := by
  rw [colMaxCtx, shapeCast_a_1a_apply]
  refine (Ideal.multiReduction_maximumf_single _ _ _ _ _ _).trans ?_
  show Finset.univ.fold max (Ideal.ofBits .f32 0xFF800000#32) _ = _
  rw [low_bits]
  refine congrArg (fun f => Finset.univ.fold max ⊥ f) (funext fun j => congrArg s (funext fun a => Fin.ext ?_))
  match a with | ⟨0, _⟩ => rfl | ⟨1, _⟩ => rfl

theorem step_apply (m c : FVec Ideal S1x256 .f32) (a : FVec Ideal S80x256 .f32) (s : FVec Ideal S1024x256 .f32)
    (w : Vec Ideal S80x1024 .bf16) (i : Fin 80) (r : Fin 256) :
    step (F := Ideal) m c a (slab s) w (ix2 i r)
      = Ideal.exp2 (m (ix2 0 r) - max (m (ix2 0 r)) (c (ix2 0 r))) * a (ix2 i r)
        + ∑ j : Fin 1024, (w (ix2 i j) : EReal) * Ideal.exp2 ((s (ix2 j r) : EReal) - max (m (ix2 0 r)) (c (ix2 0 r))) := by
  have hs : shapeCast S1024x256 (slab s) shapeCasts_S1x1024x256_S1024x256 = s := by
    exact shapeCast_shapeCast _ _ _
  rw [step, hs, shapeCast_self]
  show rescale m (maximumf m c) a (ix2 i r) + _ = _
  congr 1
  · show broadcastTo S80x256 _ _ (ix2 i r) * _ = _
    rw [broadcastTo_1b_ab_apply]; rfl
  · simp only [matmul]
    rw [Ideal.matmul_constant_zero_apply, ← Equiv.sum_comp (contrEquiv1 dot_S80x1024_S1024x256_S80x256_1_0_0_1_n_n 1024 rfl rfl).symm]
    refine Finset.sum_congr rfl fun j _ => ?_
    have hd := contrEquiv1_symm_val dot_S80x1024_S1024x256_S80x256_1_0_0_1_n_n 1024 rfl rfl j
    have el : dot_S80x1024_S1024x256_S80x256_1_0_0_1_n_n.lhsIdx (ix2 i r) ((contrEquiv1 dot_S80x1024_S1024x256_S80x256_1_0_0_1_n_n 1024 rfl rfl).symm j)
        = ix2 i j := funext fun a => Fin.ext (by match a with | ⟨0, _⟩ => rfl | ⟨1, _⟩ => exact hd)
    have er : dot_S80x1024_S1024x256_S80x256_1_0_0_1_n_n.rhsIdx (ix2 i r) ((contrEquiv1 dot_S80x1024_S1024x256_S80x256_1_0_0_1_n_n 1024 rfl rfl).symm j)
        = ix2 j r := funext fun a => Fin.ext (by match a with | ⟨0, _⟩ => exact hd | ⟨1, _⟩ => rfl)
    rw [el, er]
    congr 1
    show Ideal.exp2 (s (ix2 j r) - broadcastTo S1024x256 _ _ (ix2 j r)) = _
    rw [broadcastTo_1b_ab_apply]; rfl

theorem stepCtx_apply (m c : FVec Ideal S1x256 .f32) (a : FVec Ideal S80x256 .f32) (s : FVec Ideal S256x256 .f32)
    (w : Vec Ideal S80x256 .bf16) (i : Fin 80) (r : Fin 256) :
    stepCtx (F := Ideal) m c a (slabCtx s) w (ix2 i r)
      = Ideal.exp2 (m (ix2 0 r) - max (m (ix2 0 r)) (c (ix2 0 r))) * a (ix2 i r)
        + ∑ j : Fin 256, (w (ix2 i j) : EReal) * Ideal.exp2 ((s (ix2 j r) : EReal) - max (m (ix2 0 r)) (c (ix2 0 r))) := by
  have hs : shapeCast S256x256 (slabCtx s) shapeCasts_S1x256x256_S256x256 = s := by
    exact shapeCast_shapeCast _ _ _
  rw [stepCtx, stepFlat, hs, shapeCast_self]
  show rescale m (maximumf m c) a (ix2 i r) + _ = _
  congr 1
  · show broadcastTo S80x256 _ _ (ix2 i r) * _ = _
    rw [broadcastTo_1b_ab_apply]; rfl
  · simp only [matmul]
    rw [Ideal.matmul_constant_zero_apply, ← Equiv.sum_comp (contrEquiv1 dot_S80x256_S256x256_S80x256_1_0_0_1_n_n 256 rfl rfl).symm]
    refine Finset.sum_congr rfl fun j _ => ?_
    have hd := contrEquiv1_symm_val dot_S80x256_S256x256_S80x256_1_0_0_1_n_n 256 rfl rfl j
    have el : dot_S80x256_S256x256_S80x256_1_0_0_1_n_n.lhsIdx (ix2 i r) ((contrEquiv1 dot_S80x256_S256x256_S80x256_1_0_0_1_n_n 256 rfl rfl).symm j)
        = ix2 i j := funext fun a => Fin.ext (by match a with | ⟨0, _⟩ => rfl | ⟨1, _⟩ => exact hd)
    have er : dot_S80x256_S256x256_S80x256_1_0_0_1_n_n.rhsIdx (ix2 i r) ((contrEquiv1 dot_S80x256_S256x256_S80x256_1_0_0_1_n_n 256 rfl rfl).symm j)
        = ix2 j r := funext fun a => Fin.ext (by match a with | ⟨0, _⟩ => exact hd | ⟨1, _⟩ => rfl)
    rw [el, er]
    congr 1
    show Ideal.exp2 (s (ix2 j r) - broadcastTo S256x256 _ _ (ix2 j r)) = _
    rw [broadcastTo_1b_ab_apply]; rfl

/-- A head's value rows over its row of sums, at an element. -/
theorem normed_apply (a : FVec Ideal S80x256 .f32) (i : Fin 64) (r : Fin 256) :
    normed (F := Ideal) a (ix2 i r) = Ideal.div (a (ix2 ⟨i.val, by omega⟩ r)) (a (ix2 ⟨64, by omega⟩ r)) := by
  show Ideal.div (extractStridedSlice S64x256 ![0, 0] a _ (ix2 i r)) (broadcastTo S64x256 _ _ (ix2 i r)) = _
  rw [broadcastTo_1b_ab_apply, extractStridedSlice_apply ![0, 0] a _ _ (ix2 ⟨i.val, by omega⟩ r) (fun
      | ⟨0, _⟩ => by show i.val = 0 + i.val; omega
      | ⟨1, _⟩ => by show r.val = 0 + r.val; omega),
    extractStridedSlice_apply ![64, 0] a _ _ (ix2 ⟨64, by omega⟩ r) (fun
      | ⟨0, _⟩ => by show 64 = 64 + 0; omega
      | ⟨1, _⟩ => by show r.val = 0 + r.val; omega)]

/-- The four heads of a tile, by number. -/
def four {α : Type} (a0 a1 a2 a3 : α) (h : Fin 4) : α :=
  match h with | ⟨0, _⟩ => a0 | ⟨1, _⟩ => a1 | ⟨2, _⟩ => a2 | ⟨3, _⟩ => a3

theorem tile_apply (a0 a1 a2 a3 : FVec Ideal S80x256 .f32) (r : Fin 256) (h : Fin 4) (d : Fin 64) :
    tile (F := Ideal) a0 a1 a2 a3 (ix2 r ⟨64 * h.val + d.val, by omega⟩)
      = Ideal.div (four a0 a1 a2 a3 h (ix2 ⟨d.val, by omega⟩ r)) (four a0 a1 a2 a3 h (ix2 ⟨64, by omega⟩ r)) := by
  rw [← normed_apply]
  show transpose S256x256 [1, 0] (concatenate S256x256 0 (List.ofFn fun n : Fin 4 => (⟨S64x256, normed (four a0 a1 a2 a3 n)⟩ : (s : Shape) × (s.Idx → EReal)))
    concatenates_S64x256_S64x256_S64x256_S64x256_S256x256_d0) _ _ = _
  rw [transpose_apply _ _ _ _ (ix2 ⟨64 * h.val + d.val, by omega⟩ r) (fun b => by
    match b with | ⟨0, _⟩ => rfl | ⟨1, _⟩ => rfl)]
  exact concatenate_ofFn_apply (0 : Fin S256x256.rank) (fun n : Fin 4 => normed (four a0 a1 a2 a3 n)) _ rfl 64 rfl _ h
    (by show (64 * h.val + d.val) / 64 = h.val; omega) (ix2 d r) (by show d.val = (64 * h.val + d.val) % 64; omega)
    (fun b hb => by match b with | ⟨0, _⟩ => exact absurd rfl hb | ⟨1, _⟩ => rfl)

end Cert.AttnIdeal.Attention

end
-- ==== Proof.Attention.Spec.lean ====
/-
  The attention as a function of the queries, keys and values: every batch has 4096 latent rows and 256 context rows, every
  head 128 channels of queries and keys and 64 of values. A latent query sees the context keys and the latent keys of its
  batch, a context query the context keys only.
-/
module

public import proofs.«01_k».proof.Proof.Attention.Softmax
public import Idealize.ShloMosaic.Lib.ValueIdxCore

@[expose] public section

noncomputable section

namespace Cert.Softmax

open Idealize.ShloMosaic Idealize.ShloMosaic.ValueIdx

/-- Queries and keys: 16384 latent rows, then 1024 context rows. -/
abbrev Rows := (⟨2, ![17408, 2048]⟩ : Shape).Idx → EReal

/-- Values of the same rows. -/
abbrev Vals := (⟨2, ![17408, 1024]⟩ : Shape).Idx → EReal

/-- Channel `d` of head `h`. -/
def chan (h : Fin 16) (d : Fin 128) : Fin 2048 := ⟨128 * h.val + d.val, by omega⟩

/-- Value channel `d` of head `h`. -/
def vchan (h : Fin 16) (d : Fin 64) : Fin 1024 := ⟨64 * h.val + d.val, by omega⟩

/-- The score of the query in row `a` and the key in row `b`. -/
def score (q k : Rows) (h : Fin 16) (a b : Fin 17408) : ℝ :=
  ∑ d : Fin 128, (k (ix2 b (chan h d))).toReal * (q (ix2 a (chan h d))).toReal

/-- The attention of the query in row `a` over the keys in `rows`, at value channel `d` of head `h`. -/
def attend {ι : Type} [Fintype ι] (q k : Rows) (v : Vals) (h : Fin 16) (d : Fin 64) (a : Fin 17408) (rows : ι → Fin 17408) : EReal :=
  Ideal.div (weighted (fun j => score q k h a (rows j)) fun j => v (ix2 (rows j) (vchan h d)))
    (weighted (fun j => score q k h a (rows j)) fun _ => 1)

/-- The context rows of batch `b`. -/
def ctxRow (b : Fin 4) (j : Fin 256) : Fin 17408 := ⟨16384 + 256 * b.val + j.val, by omega⟩

/-- All key rows of batch `b`, the context first. -/
def keyRow (b : Fin 4) (i : Fin 4352) : Fin 17408 :=
  if i.val < 256 then ⟨16384 + 256 * b.val + i.val % 256, by omega⟩ else ⟨4096 * b.val + (i.val - 256), by omega⟩

/-- The latent result at row `y`, channel `z`. -/
def latAt (q k : Rows) (v : Vals) (y : Fin 16384) (z : Fin 1024) : EReal :=
  attend q k v ⟨z.val / 64, by omega⟩ ⟨z.val % 64, by omega⟩ ⟨y.val, by omega⟩ (keyRow ⟨y.val / 4096, by omega⟩)

/-- The context result at row `y`, channel `z`. -/
def ctxAtRow (q k : Rows) (v : Vals) (y : Fin 1024) (z : Fin 1024) : EReal :=
  attend q k v ⟨z.val / 64, by omega⟩ ⟨z.val % 64, by omega⟩ ⟨16384 + y.val, by omega⟩ (ctxRow ⟨y.val / 256, by omega⟩)

theorem keyRow_ctx (b : Fin 4) (j : Fin 256) : keyRow b (ctxAt j) = ctxRow b j := by
  have hj := j.isLt
  rw [keyRow, if_pos (show (ctxAt j).val < 256 from hj)]
  exact Fin.ext (by simp only [ctxAt, ctxRow]; omega)

theorem keyRow_val_ctx (b : Fin 4) (j : Fin 256) : (keyRow b (ctxAt j)).val = 16384 + 256 * b.val + j.val := by
  rw [keyRow_ctx]; rfl

theorem keyRow_val (b : Fin 4) (c : Fin 4) (j : Fin 1024) :
    (keyRow b (keyAt c j)).val = 4096 * b.val + 1024 * c.val + j.val := by
  rw [keyRow, if_neg (by simp only [keyAt]; omega)]
  simp only [keyAt]; omega

/-- With finite queries and keys a score is the sum of the products. -/
theorem score_eq (q k : Rows) (hq : ∀ i, ∃ r : ℝ, q i = r) (hk : ∀ i, ∃ r : ℝ, k i = r) (h : Fin 16) (a b : Fin 17408) :
    (∑ d : Fin 128, k (ix2 b (chan h d)) * q (ix2 a (chan h d))) = ((score q k h a b : ℝ) : EReal) := by
  rw [score, ← coe_sum]
  refine Finset.sum_congr rfl fun d _ => ?_
  obtain ⟨x, hx⟩ := hk (ix2 b (chan h d))
  obtain ⟨y, hy⟩ := hq (ix2 a (chan h d))
  rw [hx, hy, EReal.coe_mul]; rfl

end Cert.Softmax

end
-- ==== Proof.Attention.Heads.lean ====
/-
  A head's accumulator after its pass over the keys is the weighted sum of its rows of values.
-/
module

public import proofs.«01_k».proof.Proof.Attention.Elements
public import proofs.«01_k».proof.Proof.Attention.Spec

@[expose] public section

set_option maxRecDepth 16384

noncomputable section

namespace Cert.AttnIdeal.Attention

open Cert.AttnIdeal Cert.AttnIdeal.Gen Idealize.ShloMosaic Idealize.ShloMosaic.ValueIdx Cert.Softmax

theorem start_max (r : Fin 256) : (k0_pay217 (F := Ideal)) (ix2 0 r) = (⊥ : EReal) := low_bits

theorem start_acc (i : Fin 80) (r : Fin 256) : (k0_pay218 (F := Ideal)) (ix2 i r) = (0 : EReal) := Ideal.ofBits_zero_f32

theorem max_at (a b : FVec Ideal S1x256 .f32) (i : S1x256.Idx) : maximumf a b i = max (a i : EReal) (b i) := rfl

theorem headLat_apply (q : Vec Ideal S256x128 .bf16) (k : Fin 4 → Vec Ideal S1024x128 .bf16) (kc : Vec Ideal S256x128 .bf16)
    (w : Fin 4 → Vec Ideal S80x1024 .bf16) (wc : Vec Ideal S80x256 .bf16) (i : Fin 80) (r : Fin 256)
    (S : Fin 4352 → ℝ) (V : Fin 4352 → EReal)
    (hS : ∀ c j, scores (F := Ideal) q (k c) (ix2 j r) = ((S (keyAt c j) : ℝ) : EReal))
    (hSc : ∀ j, scoresCtx (F := Ideal) q kc (ix2 j r) = ((S (ctxAt j) : ℝ) : EReal))
    (hV : ∀ c j, w c (ix2 i j) = V (keyAt c j)) (hVc : ∀ j, wc (ix2 i j) = V (ctxAt j)) :
    headLat (F := Ideal) q (k 0) (k 1) (k 2) (k 3) kc (w 0) (w 1) (w 2) (w 3) wc (ix2 i r) = weighted S V := by
  have key := running S V _ _ _ _ _ _ rfl rfl rfl rfl rfl rfl
  simp only [mass] at key
  rw [headLat, head]
  simp only [stepCtx_apply, step_apply, max_at, colMax_apply, colMaxCtx_apply, hS, hSc, hV, hVc, start_max, start_acc]
  exact key

theorem headCtx_apply (q : Vec Ideal S256x128 .bf16) (k : Vec Ideal S256x128 .bf16) (w : Vec Ideal S80x256 .bf16) (i : Fin 80)
    (r : Fin 256) (S : Fin 256 → ℝ) (V : Fin 256 → EReal)
    (hS : ∀ j, scoresCtx (F := Ideal) q k (ix2 j r) = ((S j : ℝ) : EReal)) (hV : ∀ j, w (ix2 i j) = V j) :
    headCtx (F := Ideal) q k w (ix2 i r) = weighted S V := by
  have key := single S V _ _ rfl rfl
  simp only [mass] at key
  rw [headCtx]
  simp only [stepCtx_apply, max_at, colMaxCtx_apply, hS, hV, start_max, start_acc]
  exact key

end Cert.AttnIdeal.Attention

end
-- ==== Proof.Attention.Final.lean ====
/-
  The launch's two results at an element, over the extended reals with finite queries and keys: the attention of the row's
  query, at the channel's head.
-/
module

public import proofs.«01_k».proof.Proof.Attention.Windows
public import proofs.«01_k».proof.Proof.Attention.Heads

@[expose] public section

set_option maxRecDepth 16384

noncomputable section

namespace Cert.AttnIdeal.Attention

open Cert.AttnIdeal Cert.AttnIdeal.Gen Idealize.ShloMosaic.ValueIdx Idealize.ShloMosaic.TcCoe Idealize.SL.Sem Cert.Softmax
open Idealize.ShloMosaic hiding ix2 ix3

variable (m : (ℓ : Loc nD τ sig) → Buf (Elt Ideal) ℓ)

theorem coords_lt (t : Fin cfg0.N) : batch t < 4 ∧ group t < 4 := ⟨(grid0.coords t 0).isLt, (grid0.coords t 1).isLt⟩

/-- A latent head's accumulator at query `a`, for any row of the transposed values. -/
theorem headAt_eq (c : Dev nD) (hq : ∀ i, ∃ r : ℝ, queries m c i = r) (hk : ∀ i, ∃ r : ℝ, keys m c i = r) (t : Fin cfg0.N) (T : Fin 16)
    (h : Fin 4) (i : Fin 80) (r : Fin 256) (H : Fin 16) (b : Fin 4) (a : Fin 17408) (y : Fin 1280) (W : Fin 17408 → EReal)
    (hH : H.val = 4 * group t + h.val) (hb : b.val = batch t) (ha : a.val = 4096 * batch t + 256 * T.val + r.val)
    (hy : y.val = 80 * H.val + i.val) (hW : ∀ z, V m c main_v4 (ix2 y z) = W z) :
    headAt (F := Ideal) (X0_0 m c t) (iblk m c 2 t) (X0_3 m c t) (iblk m c 4 t) (X0_5 m c t) T h (ix2 i r)
      = weighted (fun κ => score (queries m c) (keys m c) H a (keyRow b κ)) fun κ => W (keyRow b κ) := by
  refine headLat_apply (qOf (X0_0 m c t) T h) (fun n => kOf (X0_3 m c t) n h) (cOf (iblk m c 2 t) h)
    (fun n => vOf (X0_5 m c t) n h) (vcOf (iblk m c 4 t) h) i r _ _ ?_ ?_ ?_ ?_
  · intro n j
    rw [scores_apply, ← score_eq (queries m c) (keys m c) hq hk]
    refine Finset.sum_congr rfl fun d _ => ?_
    congr 1
    · refine X0_3_apply m c t _ _ _ _ ?_ ?_
      · rw [keyRow_val]; show _ = 4096 * batch t + (1024 * n.val + j.val); omega
      · show 128 * H.val + d.val = 512 * group t + (128 * h.val + d.val); omega
    · refine X0_0_apply m c t _ _ _ _ ?_ ?_
      · show a.val = 4096 * batch t + (256 * T.val + r.val); omega
      · show 128 * H.val + d.val = 512 * group t + (128 * h.val + d.val); omega
  · intro j
    rw [scoresCtx_apply, ← score_eq (queries m c) (keys m c) hq hk]
    refine Finset.sum_congr rfl fun d _ => ?_
    congr 1
    · refine iblk2_apply m c t _ _ _ _ ?_ ?_
      · rw [keyRow_val_ctx]; show _ = 256 * (64 + batch t) + j.val; omega
      · show 128 * H.val + d.val = 512 * group t + (128 * h.val + d.val); omega
    · refine X0_0_apply m c t _ _ _ _ ?_ ?_
      · show a.val = 4096 * batch t + (256 * T.val + r.val); omega
      · show 128 * H.val + d.val = 512 * group t + (128 * h.val + d.val); omega
  · intro n j
    rw [← hW]
    refine X0_5_apply m c t _ _ _ _ ?_ ?_
    · show y.val = 320 * group t + (80 * h.val + i.val); omega
    · rw [keyRow_val]; show _ = 4096 * batch t + (1024 * n.val + j.val); omega
  · intro j
    rw [← hW]
    refine iblk4_apply m c t _ _ _ _ ?_ ?_
    · show y.val = 320 * group t + (80 * h.val + i.val); omega
    · rw [keyRow_val_ctx]; show _ = 256 * (64 + batch t) + j.val; omega

/-- The same for a context head. -/
theorem headCtx_eq (c : Dev nD) (hq : ∀ i, ∃ r : ℝ, queries m c i = r) (hk : ∀ i, ∃ r : ℝ, keys m c i = r) (t : Fin cfg0.N)
    (h : Fin 4) (i : Fin 80) (r : Fin 256) (H : Fin 16) (b : Fin 4) (a : Fin 17408) (y : Fin 1280) (W : Fin 17408 → EReal)
    (hH : H.val = 4 * group t + h.val) (hb : b.val = batch t) (ha : a.val = 16384 + 256 * batch t + r.val)
    (hy : y.val = 80 * H.val + i.val) (hW : ∀ z, V m c main_v4 (ix2 y z) = W z) :
    headCtx (F := Ideal) (cOf (iblk m c 1 t) h) (cOf (iblk m c 2 t) h) (vcOf (iblk m c 4 t) h) (ix2 i r)
      = weighted (fun j => score (queries m c) (keys m c) H a (ctxRow b j)) fun j => W (ctxRow b j) := by
  refine headCtx_apply _ _ _ i r _ _ ?_ ?_
  · intro j
    rw [scoresCtx_apply, ← score_eq (queries m c) (keys m c) hq hk]
    refine Finset.sum_congr rfl fun d _ => ?_
    congr 1
    · refine iblk2_apply m c t _ _ _ _ ?_ ?_
      · show 16384 + 256 * b.val + j.val = 256 * (64 + batch t) + j.val; omega
      · show 128 * H.val + d.val = 512 * group t + (128 * h.val + d.val); omega
    · refine iblk1_apply m c t _ _ _ _ ?_ ?_
      · show a.val = 256 * (64 + batch t) + r.val; omega
      · show 128 * H.val + d.val = 512 * group t + (128 * h.val + d.val); omega
  · intro j
    rw [← hW]
    refine iblk4_apply m c t _ _ _ _ ?_ ?_
    · show y.val = 320 * group t + (80 * h.val + i.val); omega
    · show 16384 + 256 * b.val + j.val = 256 * (64 + batch t) + j.val; omega

theorem out_lat (c : Dev nD) (hq : ∀ i, ∃ r : ℝ, queries m c i = r) (hk : ∀ i, ∃ r : ℝ, keys m c i = r) (t : Fin cfg0.N)
    (i : Fin 4096) (j : Fin 256) (y : Fin 16384) (z : Fin 1024) (hy : y.val = 4096 * batch t + i.val) (hz : z.val = 256 * group t + j.val) :
    outLat (F := Ideal) (X0_0 m c t) (iblk m c 2 t) (X0_3 m c t) (iblk m c 4 t) (X0_5 m c t) (ix2 i j)
      = latAt (queries m c) (keys m c) (values m c) y z := by
  obtain ⟨hb, hg⟩ := coords_lt t
  have hh : j.val / 64 < 4 := by omega
  have hT : i.val / 256 < 16 := by omega
  have e : outLat (F := Ideal) (X0_0 m c t) (iblk m c 2 t) (X0_3 m c t) (iblk m c 4 t) (X0_5 m c t) (ix2 i j)
      = tileLat (X0_0 m c t) (iblk m c 2 t) (X0_3 m c t) (iblk m c 4 t) (X0_5 m c t) ⟨i.val / 256, hT⟩
        (ix2 ⟨i.val % 256, Nat.mod_lt _ (by omega)⟩ ⟨64 * (⟨j.val / 64, hh⟩ : Fin 4).val + (⟨j.val % 64, Nat.mod_lt _ (by omega)⟩ : Fin 64).val, by
          show 64 * (j.val / 64) + j.val % 64 < 256; omega⟩) :=
    congrArg (tileLat (F := Ideal) (X0_0 m c t) (iblk m c 2 t) (X0_3 m c t) (iblk m c 4 t) (X0_5 m c t) ⟨i.val / 256, hT⟩)
      (funext fun a => Fin.ext (by match a with
        | ⟨0, _⟩ => rfl
        | ⟨1, _⟩ => show j.val = 64 * (j.val / 64) + j.val % 64; omega))
  have f : ∀ h : Fin 4, four (headAt (F := Ideal) (X0_0 m c t) (iblk m c 2 t) (X0_3 m c t) (iblk m c 4 t) (X0_5 m c t) ⟨i.val / 256, hT⟩ 0)
      (headAt (X0_0 m c t) (iblk m c 2 t) (X0_3 m c t) (iblk m c 4 t) (X0_5 m c t) ⟨i.val / 256, hT⟩ 1)
      (headAt (X0_0 m c t) (iblk m c 2 t) (X0_3 m c t) (iblk m c 4 t) (X0_5 m c t) ⟨i.val / 256, hT⟩ 2)
      (headAt (X0_0 m c t) (iblk m c 2 t) (X0_3 m c t) (iblk m c 4 t) (X0_5 m c t) ⟨i.val / 256, hT⟩ 3) h
      = headAt (X0_0 m c t) (iblk m c 2 t) (X0_3 m c t) (iblk m c 4 t) (X0_5 m c t) ⟨i.val / 256, hT⟩ h := by
    intro h; match h with | ⟨0, _⟩ => rfl | ⟨1, _⟩ => rfl | ⟨2, _⟩ => rfl | ⟨3, _⟩ => rfl
  rw [e, tileLat, tile_apply, f]
  have eH : z.val / 64 = 4 * group t + j.val / 64 := by omega
  have eD : z.val % 64 = j.val % 64 := by omega
  rw [latAt, attend]
  refine congrArg₂ Ideal.div ?_ ?_
  · exact headAt_eq m c hq hk t ⟨i.val / 256, hT⟩ ⟨j.val / 64, hh⟩ ⟨j.val % 64, by omega⟩ ⟨i.val % 256, Nat.mod_lt _ (by omega)⟩
      ⟨z.val / 64, by omega⟩ ⟨y.val / 4096, by omega⟩ ⟨y.val, by omega⟩ ⟨80 * (z.val / 64) + j.val % 64, by omega⟩
      (fun x => values m c (ix2 x (vchan ⟨z.val / 64, by omega⟩ ⟨z.val % 64, by omega⟩))) eH
      (by show y.val / 4096 = batch t; omega) (by show y.val = 4096 * batch t + 256 * (i.val / 256) + i.val % 256; omega) rfl
      (fun x => vt_val m c ⟨z.val / 64, by omega⟩ ⟨z.val % 64, by omega⟩ _ x
        (by show 80 * (z.val / 64) + j.val % 64 = 80 * (z.val / 64) + z.val % 64; omega))
  · exact headAt_eq m c hq hk t ⟨i.val / 256, hT⟩ ⟨j.val / 64, hh⟩ ⟨64, by omega⟩ ⟨i.val % 256, Nat.mod_lt _ (by omega)⟩
      ⟨z.val / 64, by omega⟩ ⟨y.val / 4096, by omega⟩ ⟨y.val, by omega⟩ ⟨80 * (z.val / 64) + 64, by omega⟩
      (fun x => 1) eH
      (by show y.val / 4096 = batch t; omega) (by show y.val = 4096 * batch t + 256 * (i.val / 256) + i.val % 256; omega) rfl
      (fun x => vt_one m c ⟨z.val / 64, by omega⟩ 0 _ x (by show 80 * (z.val / 64) + 64 = 80 * (z.val / 64) + 64 + (0 : Fin 16).val; rw [Fin.val_zero]))

theorem out_ctx (c : Dev nD) (hq : ∀ i, ∃ r : ℝ, queries m c i = r) (hk : ∀ i, ∃ r : ℝ, keys m c i = r) (t : Fin cfg0.N)
    (i : Fin 256) (j : Fin 256) (y : Fin 1024) (z : Fin 1024) (hy : y.val = 256 * batch t + i.val) (hz : z.val = 256 * group t + j.val) :
    outCtx (F := Ideal) (iblk m c 1 t) (iblk m c 2 t) (iblk m c 4 t) (ix2 i j)
      = ctxAtRow (queries m c) (keys m c) (values m c) y z := by
  obtain ⟨hb, hg⟩ := coords_lt t
  have hh : j.val / 64 < 4 := by omega
  have e : outCtx (F := Ideal) (iblk m c 1 t) (iblk m c 2 t) (iblk m c 4 t) (ix2 i j)
      = outCtx (F := Ideal) (iblk m c 1 t) (iblk m c 2 t) (iblk m c 4 t)
        (ix2 i ⟨64 * (⟨j.val / 64, hh⟩ : Fin 4).val + (⟨j.val % 64, Nat.mod_lt _ (by omega)⟩ : Fin 64).val, by
          show 64 * (j.val / 64) + j.val % 64 < 256; omega⟩) :=
    congrArg (outCtx (F := Ideal) (iblk m c 1 t) (iblk m c 2 t) (iblk m c 4 t))
      (funext fun a => Fin.ext (by match a with
        | ⟨0, _⟩ => rfl
        | ⟨1, _⟩ => show j.val = 64 * (j.val / 64) + j.val % 64; omega))
  have f : ∀ h : Fin 4, four (headCtx (F := Ideal) (cOf (iblk m c 1 t) 0) (cOf (iblk m c 2 t) 0) (vcOf (iblk m c 4 t) 0))
      (headCtx (cOf (iblk m c 1 t) 1) (cOf (iblk m c 2 t) 1) (vcOf (iblk m c 4 t) 1))
      (headCtx (cOf (iblk m c 1 t) 2) (cOf (iblk m c 2 t) 2) (vcOf (iblk m c 4 t) 2))
      (headCtx (cOf (iblk m c 1 t) 3) (cOf (iblk m c 2 t) 3) (vcOf (iblk m c 4 t) 3)) h
      = headCtx (cOf (iblk m c 1 t) h) (cOf (iblk m c 2 t) h) (vcOf (iblk m c 4 t) h) := by
    intro h; match h with | ⟨0, _⟩ => rfl | ⟨1, _⟩ => rfl | ⟨2, _⟩ => rfl | ⟨3, _⟩ => rfl
  rw [e, outCtx, tile_apply, f]
  have eH : z.val / 64 = 4 * group t + j.val / 64 := by omega
  have eD : z.val % 64 = j.val % 64 := by omega
  rw [ctxAtRow, attend]
  refine congrArg₂ Ideal.div ?_ ?_
  · exact headCtx_eq m c hq hk t ⟨j.val / 64, hh⟩ ⟨j.val % 64, by omega⟩ i
      ⟨z.val / 64, by omega⟩ ⟨y.val / 256, by omega⟩ ⟨16384 + y.val, by omega⟩ ⟨80 * (z.val / 64) + j.val % 64, by omega⟩
      (fun x => values m c (ix2 x (vchan ⟨z.val / 64, by omega⟩ ⟨z.val % 64, by omega⟩))) eH
      (by show y.val / 256 = batch t; omega) (by show 16384 + y.val = 16384 + 256 * batch t + i.val; omega) rfl
      (fun x => vt_val m c ⟨z.val / 64, by omega⟩ ⟨z.val % 64, by omega⟩ _ x
        (by show 80 * (z.val / 64) + j.val % 64 = 80 * (z.val / 64) + z.val % 64; omega))
  · exact headCtx_eq m c hq hk t ⟨j.val / 64, hh⟩ ⟨64, by omega⟩ i
      ⟨z.val / 64, by omega⟩ ⟨y.val / 256, by omega⟩ ⟨16384 + y.val, by omega⟩ ⟨80 * (z.val / 64) + 64, by omega⟩
      (fun x => 1) eH
      (by show y.val / 256 = batch t; omega) (by show 16384 + y.val = 16384 + 256 * batch t + i.val; omega) rfl
      (fun x => vt_one m c ⟨z.val / 64, by omega⟩ 0 _ x (by show 80 * (z.val / 64) + 64 = 80 * (z.val / 64) + 64 + (0 : Fin 16).val; rw [Fin.val_zero]))

/-- The latent result array after the launch. -/
theorem final_lat (c : Dev nD) (hq : ∀ i, ∃ r : ℝ, queries m c i = r) (hk : ∀ i, ∃ r : ℝ, keys m c i = r) :
    (dats m 0 c).arrAt 6 cfg0.N = fun y : S16384x1024.Idx => latAt (queries m c) (keys m c) (values m c) (y 0) (y 1) := by
  refine (dats m 0 c).arrAt_eq_of_covers 6 _ (by decide +kernel) fun t hf y => ?_
  rw [after0_6]
  refine (congrArg _ (eq_ix2 _)).trans (out_lat m c hq hk t _ _ _ _ ?_ ?_)
  · blk_simp [index6 t]; exact (congrArg (· + _) (Nat.mul_comm _ _))
  · blk_simp [index6 t]; exact (congrArg (· + _) (Nat.mul_comm _ _))

/-- The context result array after the launch. -/
theorem final_ctx (c : Dev nD) (hq : ∀ i, ∃ r : ℝ, queries m c i = r) (hk : ∀ i, ∃ r : ℝ, keys m c i = r) :
    (dats m 0 c).arrAt 7 cfg0.N = fun y : S1024x1024.Idx => ctxAtRow (queries m c) (keys m c) (values m c) (y 0) (y 1) := by
  refine (dats m 0 c).arrAt_eq_of_covers 7 _ (by decide +kernel) fun t hf y => ?_
  rw [after0_7]
  refine (congrArg _ (eq_ix2 _)).trans (out_ctx m c hq hk t _ _ _ _ ?_ ?_)
  · blk_simp [index7 t]; exact (congrArg (· + _) (Nat.mul_comm _ _))
  · blk_simp [index7 t]; exact (congrArg (· + _) (Nat.mul_comm _ _))

end Cert.AttnIdeal.Attention

end
-- ==== Proof.Attention.RefValue.lean ====
/-
  The reference's two results at an element: the softmax of scores times the logarithm of two, normalised and applied to the
  values, is the attention of `Spec.lean`, for finite queries and keys.
-/
module

public import proofs.«01_k».proof.Proof.Attention.Spec
public import proofs.«01_k».proof.Proof.Gen.AttnRefIdeal.Read
public import Idealize.ShloMosaic.Lib.Pointwise.SelectCore

@[expose] public section

set_option maxRecDepth 16384

noncomputable section

namespace Cert.AttnRefIdeal.Attention

open Cert.AttnRefIdeal Cert.AttnRefIdeal.Gen Cert.AttnRefIdeal.Read Idealize.ShloMosaic.ValueIdx Cert.Softmax
open Idealize.ShloMosaic hiding ix2 ix3

/-- The coordinates of an index of rank four. -/
def co0 {a b c d : ℕ} (i : (⟨4, ![a, b, c, d]⟩ : Shape).Idx) : Fin a := i 0
def co1 {a b c d : ℕ} (i : (⟨4, ![a, b, c, d]⟩ : Shape).Idx) : Fin b := i 1
def co2 {a b c d : ℕ} (i : (⟨4, ![a, b, c, d]⟩ : Shape).Idx) : Fin c := i 2
def co3 {a b c d : ℕ} (i : (⟨4, ![a, b, c, d]⟩ : Shape).Idx) : Fin d := i 3

theorem exp_sub (x y : EReal) : FloatOps.hostUnary (F := Ideal) (φ := .f32) .exp (FloatOps.subf (F := Ideal) (φ := .f32) x y) = Ideal.exp (x - y) := rfl

theorem keyRow_lt (b : Fin 4) (i : Fin 4352) (h : i.val < 256) : (keyRow b i).val = 16384 + 256 * b.val + i.val := by
  unfold keyRow
  rw [if_pos h]
  show 16384 + 256 * b.val + i.val % 256 = _
  omega

theorem keyRow_ge (b : Fin 4) (i : Fin 4352) (h : ¬ i.val < 256) : (keyRow b i).val = 4096 * b.val + (i.val - 256) := by
  unfold keyRow
  rw [if_neg h]

theorem low_bits : Ideal.ofBits .f32 0xFF800000#32 = ⊥ := by
  simp [Ideal.ofBits, Ideal.ieee]

theorem two_bits : Ideal.ofBits .f32 0x40000000#32 = ((2 : ℝ) : EReal) := by
  simp [Ideal.ofBits, Ideal.ieee]
  rw [← EReal.coe_mul]
  norm_num

theorem log_two : Ideal.log (Ideal.ofBits .f32 0x40000000#32) = ((Real.log 2 : ℝ) : EReal) := by
  rw [two_bits, Ideal.log_coe, if_neg (by norm_num)]

/-- The latent keys by batch, head and row. -/
theorem k_lat (x : Cert.Softmax.Rows) (i : S4x16x4096x128.Idx) (a : Fin 17408) (e : Fin 2048)
    (ha : a.val = 4096 * (i 0).val + (i 2).val) (he : e.val = 128 * (i 1).val + (i 3).val) :
    val_main_v2 (F := Ideal) x i = x (ix2 a e) := by
  have h0 : (i 0).val < 4 := (co0 i).isLt
  have h1 : (i 1).val < 16 := (co1 i).isLt
  have h2 : (i 2).val < 4096 := (co2 i).isLt
  have h3 : (i 3).val < 128 := (co3 i).isLt
  rw [val_main_v2_apply, val_main_v1_apply, val_main_v0_apply]
  refine congrArg x (funext fun k => Fin.ext ?_)
  match k with
  | ⟨0, _⟩ =>
    show ((((i 0).val * 4096 + (i 2).val) * 16 + (i 1).val) * 128 + (i 3).val) / 2048 = a.val
    omega
  | ⟨1, _⟩ =>
    show ((((i 0).val * 4096 + (i 2).val) * 16 + (i 1).val) * 128 + (i 3).val) % 2048 = e.val
    omega

/-- The context keys. -/
theorem k_ctx (x : Cert.Softmax.Rows) (i : S4x16x256x128.Idx) (a : Fin 17408) (e : Fin 2048)
    (ha : a.val = 16384 + 256 * (i 0).val + (i 2).val) (he : e.val = 128 * (i 1).val + (i 3).val) :
    val_main_v5 (F := Ideal) x i = x (ix2 a e) := by
  have h0 : (i 0).val < 4 := (co0 i).isLt
  have h1 : (i 1).val < 16 := (co1 i).isLt
  have h2 : (i 2).val < 256 := (co2 i).isLt
  have h3 : (i 3).val < 128 := (co3 i).isLt
  rw [val_main_v5_apply, val_main_v4_apply, val_main_v3_apply]
  refine congrArg x (funext fun k => Fin.ext ?_)
  match k with
  | ⟨0, _⟩ =>
    show 16384 + ((((i 0).val * 256 + (i 2).val) * 16 + (i 1).val) * 128 + (i 3).val) / 2048 = a.val
    omega
  | ⟨1, _⟩ =>
    show ((((i 0).val * 256 + (i 2).val) * 16 + (i 1).val) * 128 + (i 3).val) % 2048 = e.val
    omega

/-- The latent values. -/
theorem v_lat (x : Cert.Softmax.Vals) (i : S4x16x4096x64.Idx) (a : Fin 17408) (e : Fin 1024)
    (ha : a.val = 4096 * (i 0).val + (i 2).val) (he : e.val = 64 * (i 1).val + (i 3).val) :
    val_main_v8 (F := Ideal) x i = x (ix2 a e) := by
  have h0 : (i 0).val < 4 := (co0 i).isLt
  have h1 : (i 1).val < 16 := (co1 i).isLt
  have h2 : (i 2).val < 4096 := (co2 i).isLt
  have h3 : (i 3).val < 64 := (co3 i).isLt
  rw [val_main_v8_apply, val_main_v7_apply, val_main_v6_apply]
  refine congrArg x (funext fun k => Fin.ext ?_)
  match k with
  | ⟨0, _⟩ =>
    show ((((i 0).val * 4096 + (i 2).val) * 16 + (i 1).val) * 64 + (i 3).val) / 1024 = a.val
    omega
  | ⟨1, _⟩ =>
    show ((((i 0).val * 4096 + (i 2).val) * 16 + (i 1).val) * 64 + (i 3).val) % 1024 = e.val
    omega

/-- The context values. -/
theorem v_ctx (x : Cert.Softmax.Vals) (i : S4x16x256x64.Idx) (a : Fin 17408) (e : Fin 1024)
    (ha : a.val = 16384 + 256 * (i 0).val + (i 2).val) (he : e.val = 64 * (i 1).val + (i 3).val) :
    val_main_v11 (F := Ideal) x i = x (ix2 a e) := by
  have h0 : (i 0).val < 4 := (co0 i).isLt
  have h1 : (i 1).val < 16 := (co1 i).isLt
  have h2 : (i 2).val < 256 := (co2 i).isLt
  have h3 : (i 3).val < 64 := (co3 i).isLt
  rw [val_main_v11_apply, val_main_v10_apply, val_main_v9_apply]
  refine congrArg x (funext fun k => Fin.ext ?_)
  match k with
  | ⟨0, _⟩ =>
    show 16384 + ((((i 0).val * 256 + (i 2).val) * 16 + (i 1).val) * 64 + (i 3).val) / 1024 = a.val
    omega
  | ⟨1, _⟩ =>
    show ((((i 0).val * 256 + (i 2).val) * 16 + (i 1).val) * 64 + (i 3).val) % 1024 = e.val
    omega

/-- The latent queries. -/
theorem q_lat (x : Cert.Softmax.Rows) (i : S4x16x4096x128.Idx) (a : Fin 17408) (e : Fin 2048)
    (ha : a.val = 4096 * (i 0).val + (i 2).val) (he : e.val = 128 * (i 1).val + (i 3).val) :
    val_main_v16 (F := Ideal) x i = x (ix2 a e) := by
  have h0 : (i 0).val < 4 := (co0 i).isLt
  have h1 : (i 1).val < 16 := (co1 i).isLt
  have h2 : (i 2).val < 4096 := (co2 i).isLt
  have h3 : (i 3).val < 128 := (co3 i).isLt
  rw [val_main_v16_apply, val_main_v15_apply, val_main_v14_apply]
  refine congrArg x (funext fun k => Fin.ext ?_)
  match k with
  | ⟨0, _⟩ =>
    show ((((i 0).val * 4096 + (i 2).val) * 16 + (i 1).val) * 128 + (i 3).val) / 2048 = a.val
    omega
  | ⟨1, _⟩ =>
    show ((((i 0).val * 4096 + (i 2).val) * 16 + (i 1).val) * 128 + (i 3).val) % 2048 = e.val
    omega

/-- The context queries. -/
theorem q_ctx (x : Cert.Softmax.Rows) (i : S4x16x256x128.Idx) (a : Fin 17408) (e : Fin 2048)
    (ha : a.val = 16384 + 256 * (i 0).val + (i 2).val) (he : e.val = 128 * (i 1).val + (i 3).val) :
    val_main_v39 (F := Ideal) x i = x (ix2 a e) := by
  have h0 : (i 0).val < 4 := (co0 i).isLt
  have h1 : (i 1).val < 16 := (co1 i).isLt
  have h2 : (i 2).val < 256 := (co2 i).isLt
  have h3 : (i 3).val < 128 := (co3 i).isLt
  rw [val_main_v39_apply, val_main_v38_apply, val_main_v37_apply]
  refine congrArg x (funext fun k => Fin.ext ?_)
  match k with
  | ⟨0, _⟩ =>
    show 16384 + ((((i 0).val * 256 + (i 2).val) * 16 + (i 1).val) * 128 + (i 3).val) / 2048 = a.val
    omega
  | ⟨1, _⟩ =>
    show ((((i 0).val * 256 + (i 2).val) * 16 + (i 1).val) * 128 + (i 3).val) % 2048 = e.val
    omega

/-- All keys of a batch, the context first. -/
theorem k_all (x : Cert.Softmax.Rows) (i : S4x16x4352x128.Idx) :
    val_main_v12 (F := Ideal) x i = x (ix2 (keyRow (co0 i) (co2 i)) (chan (co1 i) (co3 i))) := by
  have h2 : (i 2).val < 4352 := (co2 i).isLt
  unfold val_main_v12
  rw [concatenate_pair_apply]
  by_cases hc : (co2 i).val < 256
  · refine (dif_pos hc).trans (k_ctx x _ _ _ (keyRow_lt (co0 i) (co2 i) hc) rfl)
  · refine (dif_neg hc).trans (k_lat x _ _ _ (keyRow_ge (co0 i) (co2 i) hc) rfl)

/-- All values of a batch, the context first. -/
theorem v_all (x : Cert.Softmax.Vals) (i : S4x16x4352x64.Idx) :
    val_main_v13 (F := Ideal) x i = x (ix2 (keyRow (co0 i) (co2 i)) (vchan (co1 i) (co3 i))) := by
  have h2 : (i 2).val < 4352 := (co2 i).isLt
  unfold val_main_v13
  rw [concatenate_pair_apply]
  by_cases hc : (co2 i).val < 256
  · refine (dif_pos hc).trans (v_ctx x _ _ _ (keyRow_lt (co0 i) (co2 i) hc) rfl)
  · refine (dif_neg hc).trans (v_lat x _ _ _ (keyRow_ge (co0 i) (co2 i) hc) rfl)

/-- A latent row of batch `b`. -/
def latRow (b : Fin 4) (t : Fin 4096) : Fin 17408 := ⟨4096 * b.val + t.val, by omega⟩

/-- The lat scores times the logarithm of two. -/
theorem lat_scores (q k : Cert.Softmax.Rows) (hq : ∀ i, ∃ r : ℝ, q i = r) (hk : ∀ i, ∃ r : ℝ, k i = r) (i : S4x16x4096x4352.Idx) :
    val_main_v20 (F := Ideal) q k i
      = ((score q k (co1 i) (latRow (co0 i) (co2 i)) (keyRow (co0 i) (co3 i)) : ℝ) : EReal) * ((Real.log 2 : ℝ) : EReal) := by
  rw [val_main_v20_apply, val_main_v19_apply, val_main_v18_apply]
  show val_main_v17 (F := Ideal) q k i * Ideal.log (Ideal.ofBits .f32 0x40000000#32) = _
  rw [log_two, val_main_v17_apply, ← score_eq q k hq hk]
  refine congrArg (· * _) (Finset.sum_congr rfl fun d _ => ?_)
  rw [mul_comm]
  exact congrArg₂ (· * ·) (k_all k _) (q_lat q _ _ _ rfl rfl)

/-- The largest lat score of a query, times the logarithm of two. -/
theorem lat_max (q k : Cert.Softmax.Rows) (hq : ∀ i, ∃ r : ℝ, q i = r) (hk : ∀ i, ∃ r : ℝ, k i = r) (b : Fin 4) (h : Fin 16) (t : Fin 4096) :
    val_main_v23 (F := Ideal) q k (ValueIdx.ix3 b h t) = max ⊥ (Finset.univ.sup fun j : Fin 4352 =>
      ((score q k h (latRow b t) (keyRow b j) : ℝ) : EReal) * ((Real.log 2 : ℝ) : EReal)) := by
  rw [val_main_v23_apply, val_main_v22_apply, val_main_cst_1_apply]
  show max (Ideal.ofBits .f32 0xFF800000#32) _ = _
  rw [low_bits]
  refine congrArg (max ⊥) ?_
  unfold val_main_v21
  rw [Host.reduce_eq_fold_single FloatOps.maximumf _ _ reducesTo_S4x16x4096x4352_S4x16x4096_d3 (by decide) h_S_]
  show Finset.univ.fold max (Ideal.ofBits .f32 0xFF800000#32) _ = _
  rw [low_bits]
  exact congrArg (fun f => Finset.univ.fold max ⊥ f) (funext fun j => lat_scores q k hq hk _)

/-- The lat attention at batch, head, query and channel. -/
theorem lat_apply (q k : Cert.Softmax.Rows) (v : Cert.Softmax.Vals) (hq : ∀ i, ∃ r : ℝ, q i = r) (hk : ∀ i, ∃ r : ℝ, k i = r)
    (i : S4x16x4096x64.Idx) :
    val_main_v33 (F := Ideal) q k v i = attend q k v (co1 i) (co3 i) (latRow (co0 i) (co2 i)) (keyRow (co0 i)) := by
  have he : ∀ j : S4x16x4096x4352.Idx, val_main_v27 (F := Ideal) q k j
      = Ideal.exp (((score q k (co1 j) (latRow (co0 j) (co2 j)) (keyRow (co0 j) (co3 j)) : ℝ) : EReal) * ((Real.log 2 : ℝ) : EReal)
        - max ⊥ (Finset.univ.sup fun x : Fin 4352 =>
          ((score q k (co1 j) (latRow (co0 j) (co2 j)) (keyRow (co0 j) x) : ℝ) : EReal) * ((Real.log 2 : ℝ) : EReal))) := by
    intro j
    have e : idx_main_v24 (idx_main_v25 j) = ValueIdx.ix3 (co0 j) (co1 j) (co2 j) :=
      funext fun a => match a with | ⟨0, _⟩ => rfl | ⟨1, _⟩ => rfl | ⟨2, _⟩ => rfl
    have hm := lat_max q k hq hk (co0 j) (co1 j) (co2 j)
    rw [← e] at hm
    rw [val_main_v27_apply, val_main_v26_apply, val_main_v25_apply, val_main_v24_apply, lat_scores q k hq hk, hm, exp_sub]
  rw [val_main_v33_apply, attend, ← soft_eq _ _ ((Real.log 2 : ℝ) : EReal) _ rfl rfl]
  refine Finset.sum_congr rfl fun j _ => congrArg₂ (· * ·) ?_ (v_all v _)
  rw [val_main_v32_apply, val_main_v31_apply, val_main_v30_apply, val_main_v29_apply, val_main_v28_apply, he]
  refine congrArg₂ Ideal.div rfl (congrArg₂ (· + ·) Ideal.ofBits_zero_f32 (Finset.sum_congr rfl fun x _ => ?_))
  rw [he]
  rfl

/-- The ctx scores times the logarithm of two. -/
theorem ctx_scores (q k : Cert.Softmax.Rows) (hq : ∀ i, ∃ r : ℝ, q i = r) (hk : ∀ i, ∃ r : ℝ, k i = r) (i : S4x16x256x256.Idx) :
    val_main_v43 (F := Ideal) q k i
      = ((score q k (co1 i) (ctxRow (co0 i) (co2 i)) (ctxRow (co0 i) (co3 i)) : ℝ) : EReal) * ((Real.log 2 : ℝ) : EReal) := by
  rw [val_main_v43_apply, val_main_v42_apply, val_main_v41_apply]
  show val_main_v40 (F := Ideal) q k i * Ideal.log (Ideal.ofBits .f32 0x40000000#32) = _
  rw [log_two, val_main_v40_apply, ← score_eq q k hq hk]
  refine congrArg (· * _) (Finset.sum_congr rfl fun d _ => ?_)
  rw [mul_comm]
  exact congrArg₂ (· * ·) (k_ctx k _ _ _ rfl rfl) (q_ctx q _ _ _ rfl rfl)

/-- The largest ctx score of a query, times the logarithm of two. -/
theorem ctx_max (q k : Cert.Softmax.Rows) (hq : ∀ i, ∃ r : ℝ, q i = r) (hk : ∀ i, ∃ r : ℝ, k i = r) (b : Fin 4) (h : Fin 16) (t : Fin 256) :
    val_main_v46 (F := Ideal) q k (ValueIdx.ix3 b h t) = max ⊥ (Finset.univ.sup fun j : Fin 256 =>
      ((score q k h (ctxRow b t) (ctxRow b j) : ℝ) : EReal) * ((Real.log 2 : ℝ) : EReal)) := by
  rw [val_main_v46_apply, val_main_v45_apply, val_main_cst_5_apply]
  show max (Ideal.ofBits .f32 0xFF800000#32) _ = _
  rw [low_bits]
  refine congrArg (max ⊥) ?_
  unfold val_main_v44
  rw [Host.reduce_eq_fold_single FloatOps.maximumf _ _ reducesTo_S4x16x256x256_S4x16x256_d3 (by decide) h_S_]
  show Finset.univ.fold max (Ideal.ofBits .f32 0xFF800000#32) _ = _
  rw [low_bits]
  exact congrArg (fun f => Finset.univ.fold max ⊥ f) (funext fun j => ctx_scores q k hq hk _)

/-- The ctx attention at batch, head, query and channel. -/
theorem ctx_apply (q k : Cert.Softmax.Rows) (v : Cert.Softmax.Vals) (hq : ∀ i, ∃ r : ℝ, q i = r) (hk : ∀ i, ∃ r : ℝ, k i = r)
    (i : S4x16x256x64.Idx) :
    val_main_v56 (F := Ideal) q k v i = attend q k v (co1 i) (co3 i) (ctxRow (co0 i) (co2 i)) (ctxRow (co0 i)) := by
  have he : ∀ j : S4x16x256x256.Idx, val_main_v50 (F := Ideal) q k j
      = Ideal.exp (((score q k (co1 j) (ctxRow (co0 j) (co2 j)) (ctxRow (co0 j) (co3 j)) : ℝ) : EReal) * ((Real.log 2 : ℝ) : EReal)
        - max ⊥ (Finset.univ.sup fun x : Fin 256 =>
          ((score q k (co1 j) (ctxRow (co0 j) (co2 j)) (ctxRow (co0 j) x) : ℝ) : EReal) * ((Real.log 2 : ℝ) : EReal))) := by
    intro j
    have e : idx_main_v47 (idx_main_v48 j) = ValueIdx.ix3 (co0 j) (co1 j) (co2 j) :=
      funext fun a => match a with | ⟨0, _⟩ => rfl | ⟨1, _⟩ => rfl | ⟨2, _⟩ => rfl
    have hm := ctx_max q k hq hk (co0 j) (co1 j) (co2 j)
    rw [← e] at hm
    rw [val_main_v50_apply, val_main_v49_apply, val_main_v48_apply, val_main_v47_apply, ctx_scores q k hq hk, hm, exp_sub]
  rw [val_main_v56_apply, attend, ← soft_eq _ _ ((Real.log 2 : ℝ) : EReal) _ rfl rfl]
  refine Finset.sum_congr rfl fun j _ => congrArg₂ (· * ·) ?_ (v_ctx v _ _ _ rfl rfl)
  rw [val_main_v55_apply, val_main_v54_apply, val_main_v53_apply, val_main_v52_apply, val_main_v51_apply, he]
  refine congrArg₂ Ideal.div rfl (congrArg₂ (· + ·) Ideal.ofBits_zero_f32 (Finset.sum_congr rfl fun x _ => ?_))
  rw [he]
  rfl

/-- The reference's latent result. -/
theorem result_lat (q k : Cert.Softmax.Rows) (v : Cert.Softmax.Vals) (hq : ∀ i, ∃ r : ℝ, q i = r) (hk : ∀ i, ∃ r : ℝ, k i = r) :
    val_main_v36 (F := Ideal) q k v = fun y : S16384x1024.Idx => latAt q k v (y 0) (y 1) := by
  funext y
  have h0 : (y 0).val < 16384 := (y 0).isLt
  have h1 : (y 1).val < 1024 := (y 1).isLt
  rw [val_main_v36_apply, val_main_v35_apply, val_main_v34_apply]
  refine (lat_apply q k v hq hk _).trans ?_
  have e : ∀ (h h' : Fin 16) (d d' : Fin 64) (a a' : Fin 17408) (b b' : Fin 4), h.val = h'.val → d.val = d'.val → a.val = a'.val →
      b.val = b'.val → attend q k v h d a (keyRow b) = attend q k v h' d' a' (keyRow b') := by
    intro h h' d d' a a' b b' e1 e2 e3 e4
    rw [Fin.ext e1, Fin.ext e2, Fin.ext e3, Fin.ext e4]
  refine e _ _ _ _ _ _ _ _ ?_ ?_ ?_ ?_
  · show ((y 0).val * 1024 + (y 1).val) / 64 % 16 = (y 1).val / 64; omega
  · show ((y 0).val * 1024 + (y 1).val) % 64 = (y 1).val % 64; omega
  · show 4096 * (((y 0).val * 1024 + (y 1).val) / 4194304) + ((y 0).val * 1024 + (y 1).val) / 1024 % 4096 = (y 0).val; omega
  · show ((y 0).val * 1024 + (y 1).val) / 4194304 = (y 0).val / 4096; omega

/-- The reference's context result. -/
theorem result_ctx (q k : Cert.Softmax.Rows) (v : Cert.Softmax.Vals) (hq : ∀ i, ∃ r : ℝ, q i = r) (hk : ∀ i, ∃ r : ℝ, k i = r) :
    val_main_v59 (F := Ideal) q k v = fun y : S1024x1024.Idx => ctxAtRow q k v (y 0) (y 1) := by
  funext y
  have h0 : (y 0).val < 1024 := (y 0).isLt
  have h1 : (y 1).val < 1024 := (y 1).isLt
  rw [val_main_v59_apply, val_main_v58_apply, val_main_v57_apply]
  refine (ctx_apply q k v hq hk _).trans ?_
  have e : ∀ (h h' : Fin 16) (d d' : Fin 64) (a a' : Fin 17408) (b b' : Fin 4), h.val = h'.val → d.val = d'.val → a.val = a'.val →
      b.val = b'.val → attend q k v h d a (ctxRow b) = attend q k v h' d' a' (ctxRow b') := by
    intro h h' d d' a a' b b' e1 e2 e3 e4
    rw [Fin.ext e1, Fin.ext e2, Fin.ext e3, Fin.ext e4]
  refine e _ _ _ _ _ _ _ _ ?_ ?_ ?_ ?_
  · show ((y 0).val * 1024 + (y 1).val) / 64 % 16 = (y 1).val / 64; omega
  · show ((y 0).val * 1024 + (y 1).val) % 64 = (y 1).val % 64; omega
  · show 16384 + 256 * (((y 0).val * 1024 + (y 1).val) / 262144) + ((y 0).val * 1024 + (y 1).val) / 1024 % 256 = 16384 + (y 0).val; omega
  · show ((y 0).val * 1024 + (y 1).val) / 262144 = (y 0).val / 256; omega

end Cert.AttnRefIdeal.Attention

end
-- ==== Proof.Attention.Finite.lean ====
/-
  What the precondition says: every query and every key is a real number. Its side conditions are proved here too.
-/
module

public import proofs.«01_k».proof.Pre_finite_qk
public import proofs.«01_k».proof.Proof.Attention.Spec
public import Idealize.ShloMosaic.Lib.ReduceAll
public import Idealize.ShloMosaic.Lib.Decide

@[expose] public section

set_option maxRecDepth 16384

noncomputable section

namespace Cert.Pre_finite_qk

open Idealize.ShloMosaic

instance facts : Facts where
  bitsLt_bf16_f32 := by decide
  bcast_S_S17408x2048 := by decide
  reducesTo_S17408x2048_S_d0_1 := by decide
  h_S_ := by decide

theorem inf_bits : Ideal.ofBits .f32 0x7F800000#32 = ⊤ := by
  simp [Ideal.ofBits, Ideal.ieee]

/-- A number whose magnitude is below infinity is real. -/
theorem real_of_lt (x : EReal) (h : max x (-x) < ⊤) : ∃ r : ℝ, x = r := by
  induction x using EReal.rec with
  | bot => simp at h
  | coe r => exact ⟨r, rfl⟩
  | top => simp at h

theorem all_real (x : Cert.Softmax.Rows) (j : S_.Idx)
    (h : Host.reduce IntOp.andi (cmpf (F := Ideal) .olt (Host.absf (extf .f32 (φ := .bf16) x Facts.bitsLt_bf16_f32))
      (broadcastInDim S17408x2048 ![] Facts.bcast_S_S17408x2048 (constant S_ .f32 0x7F800000#32))) (constantI S_ 1 1#1)
      Facts.reducesTo_S17408x2048_S_d0_1 Facts.h_S_ j = 1#1) : ∀ i, ∃ r : ℝ, x i = r := by
  intro i
  have e := Host.reduce_andi_all _ _ _ _ j h i
  refine real_of_lt _ ?_
  have e' : Ideal.cmp .olt (max (x i) (-(x i))) (Ideal.ofBits .f32 0x7F800000#32) = 1#1 := e
  rw [inf_bits] at e'
  have e2 : BitVec.ofBool (decide (max (x i) (-(x i)) < ⊤)) = 1#1 := e'
  by_contra hn
  rw [decide_eq_false hn] at e2
  exact absurd e2 (by decide)

/-- The precondition makes the queries and the keys real. -/
theorem real_qk (q k : Cert.Softmax.Rows) (v : Cert.Softmax.Vals) (h : fn (F := Ideal) q k v = fun _ => 1#1) :
    (∀ i, ∃ r : ℝ, q i = r) ∧ ∀ i, ∃ r : ℝ, k i = r := by
  have j : S_.Idx := fun a => a.elim0
  have e := IntOp.andi_eq_one.1 (congrFun h j)
  exact ⟨all_real q j e.1, all_real k j e.2⟩

end Cert.Pre_finite_qk

end
-- ==== Proof.Attention.Agree.lean ====
/-
  The kernel's and the reference's attention end with the same two arrays, from memories agreeing on the arguments, for
  finite queries and keys.
-/
module

public import proofs.«01_k».proof.Defs
public import proofs.«01_k».proof.Proof.Attention.Final
public import proofs.«01_k».proof.Proof.Attention.RefValue
public import proofs.«01_k».proof.Proof.Attention.Finite

@[expose] public section

set_option maxRecDepth 16384

noncomputable section

namespace Cert.Proof

open Idealize.ShloMosaic Idealize.SL.Sem Cert.Softmax

/-- The two runs' results are the same function of the arguments. -/
theorem attention_agrees : Cert.algebraic_AttnIdeal_AttnRefIdeal_pre_finite_qk := by
  intro m g m' g' hpre hag
  have hr := fun c => Cert.Pre_finite_qk.real_qk _ _ _ (hpre c)
  refine ⟨fun c y => latAt (AttnIdeal.Attention.queries m c) (AttnIdeal.Attention.keys m c) (AttnIdeal.Attention.values m c) (y 0) (y 1),
    fun c y => ctxAtRow (AttnIdeal.Attention.queries m c) (AttnIdeal.Attention.keys m c) (AttnIdeal.Attention.values m c) (y 0) (y 1),
    (θ_run AttnIdeal.defs _ _).mono (fun r h c => ?_) (AttnIdeal.Attention.run_blocks m g),
    (θ_run AttnRefIdeal.defs _ _).mono (fun r h c => ?_) (AttnRefIdeal.Value.run m' g')⟩
  · obtain ⟨h6, h7, ha⟩ := h c
    exact ⟨h6.trans (AttnIdeal.Attention.final_lat m c (hr c).1 (hr c).2), h7.trans (AttnIdeal.Attention.final_ctx m c (hr c).1 (hr c).2), ha⟩
  · obtain ⟨h36, h59, ha⟩ := h c
    obtain ⟨e0, e1, e2⟩ := hag c
    refine ⟨h36.trans ((AttnRefIdeal.Read.val_main_v36_eq m' c).trans ?_), h59.trans ((AttnRefIdeal.Read.val_main_v59_eq m' c).trans ?_), ha⟩
    · rw [e0, e1, e2]
      exact AttnRefIdeal.Attention.result_lat _ _ _ (hr c).1 (hr c).2
    · rw [e0, e1, e2]
      exact AttnRefIdeal.Attention.result_ctx _ _ _ (hr c).1 (hr c).2

end Cert.Proof

end
-- ==== Proof.ExpertsMlpBits.Tables.lean ====
/-
The routed tables of the experts' call, and its pipeline at them.

The call reads two prefetched tables: the expert of each of the 72 row tiles, and the number of tiles in
use. `Tab` is such a pair within range: every expert below 8, the number of tiles between 1 and 72. At any
of them every block of every window lies inside its array, so the pipeline is defined (`cfgA`). The facts of
the control at a grid point are proved from four comparisons of small words, for every table at once.
-/
module

public import proofs.«01_k».proof.Defs
public import proofs.«01_k».proof.Proof.Gen.Experts.Flash.Runs

@[expose] public section

set_option maxRecDepth 16384
set_option Elab.async false

noncomputable section

namespace Cert.Experts.Routed

open Cert.Experts
open Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- A pair of tables within range: the expert of each tile, and the number of tiles in use less one. -/
structure Tab where
  te : Fin 72 → Fin 8
  last : Fin 72

variable (ch : Tab)

/-- The word of the number of tiles in use. -/
def ntW (n : Fin 72) : BitVec 32 := BitVec.ofNat 32 (n.val + 1)

/-- The first table: the expert of each tile. -/
def pinT_0 (ch : Tab) : S72.Idx → BitVec 32 := fun x => BitVec.ofNat 32 (ch.te (x 0)).val

/-- The second table: the number of tiles in use. -/
def pinT_1 (ch : Tab) : S1.Idx → BitVec 32 := fun _ => ntW ch.last

set_option backward.proofsInPublic true in
/-- The contents of the two tables. -/
def pfN : pre0.Contents (Elt Bits) := fun | ⟨0, _⟩ => pinT_0 ch | ⟨1, _⟩ => pinT_1 ch | ⟨_ + 2, h⟩ => absurd h (by simp)

/-- The launch memory holds the tables `ch` on every device. -/
def Pinned (m : (ℓ : Loc nD τ sig) → Buf (Elt Bits) ℓ) : Prop :=
  (∀ c : Dev nD, m ((c : Thread nD τ).loc main_arg0) = pinT_0 ch)
  ∧ (∀ c : Dev nD, m ((c : Thread nD τ).loc main_arg1) = pinT_1 ch)

/-! ## Comparisons of the small words -/

theorem slt_word : ∀ (i n : Fin 72), Scalar.cmpi .slt (BitVec.ofNat 32 i.val) (ntW n) = if i.val ≤ n.val then 1#1 else 0#1 := by decide +kernel

theorem minsi_word : ∀ (i n : Fin 72), (Scalar.minsi (BitVec.ofNat 32 i.val) (Scalar.subi (ntW n) 1#32)).toNat = min i.val n.val := by decide +kernel

theorem off_word : ∀ (i : Fin 72), (Scalar.indexCast (BitVec.ofNat 32 i.val)).toNat = i.val := by decide +kernel

/-! ## The blocks lie inside their arrays -/

/-- A bound of every entry of a list of three from its entries. -/
theorem inb_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The first coordinate of a grid point, a tile. -/
abbrev tileOf (i : grid0.Coords) : Fin 72 := ⟨(i 0).val, (i 0).isLt⟩
/-- The second coordinate of a grid point, a half of the hidden features. -/
abbrev halfOf (i : grid0.Coords) : Fin 2 := ⟨(i 1).val, (i 1).isLt⟩

theorem at1 : (pfN ch).at 1 (Rect.unit (s := S1) ![0] S1.size inb_S1_S1_0) numel1_S1 = ntW ch.last := rfl

theorem at0 (i : grid0.Coords) :
    (pfN ch).at 0 (Rect.unit (s := S72) ![(Scalar.indexCast (BitVec.ofNat 32 (i 0).val)).toNat] S1.size (k0_off1_inb i)) numel1_S1
      = BitVec.ofNat 32 (ch.te (tileOf i)).val := by
  have e : (pfN ch).at 0 (Rect.unit (s := S72) ![(Scalar.indexCast (BitVec.ofNat 32 (i 0).val)).toNat] S1.size (k0_off1_inb i)) numel1_S1
      = pinT_0 ch ((Rect.unit (s := S72) ![(Scalar.indexCast (BitVec.ofNat 32 (i 0).val)).toNat] S1.size (k0_off1_inb i)).idx
          (Shape.Idx.first (numel1_S1.symm ▸ Nat.one_pos))) := rfl
  rw [e]; unfold pinT_0
  refine congrArg (fun q : Fin 72 => BitVec.ofNat 32 (ch.te q).val) (Fin.ext ?_)
  have h0 : (Scalar.indexCast (BitVec.ofNat 32 (i 0).val)).toNat = (i 0).val := off_word (tileOf i)
  have h1 : (Scalar.indexCast (BitVec.ofNat 32 (i 0).val)).toNat + 1 * 0 = (i 0).val := by rw [h0]; omega
  exact h1

/-- The expert a tile's blocks are of. -/
theorem word_te (x : Fin 8) : (BitVec.ofNat 32 x.val).toNat = x.val := by
  revert x; decide +kernel

theorem sel_word : ∀ (f : Fin 2) (b : Bool), (Scalar.select (if b then 1#1 else 0#1) (BitVec.ofNat 32 f.val) 1#32).toNat = if b then f.val else 1 := by decide +kernel

/-- The half a tile's weights are of: the point's own where the tile is in use, else the last. -/
def halfAt (ch : Tab) (i : grid0.Coords) : ℕ := if (i 0).val ≤ ch.last.val then (i 1).val else 1

theorem halfAt_le (i : grid0.Coords) : halfAt ch i ≤ 1 := by
  unfold halfAt; split
  · exact Nat.le_of_lt_succ (i 1).isLt
  · exact le_rfl

theorem sel_eq (i : grid0.Coords) :
    (Scalar.select (Scalar.cmpi .slt (BitVec.ofNat 32 (i 0).val) (ntW ch.last)) (BitVec.ofNat 32 (i 1).val) 1#32).toNat = halfAt ch i := by
  have h1 : Scalar.cmpi .slt (BitVec.ofNat 32 (i 0).val) (ntW ch.last) = if (i 0).val ≤ ch.last.val then 1#1 else 0#1 := slt_word (tileOf i) ch.last
  rw [h1]; unfold halfAt
  have h2 := sel_word (halfOf i) (decide ((i 0).val ≤ ch.last.val))
  simpa using h2

theorem tr0 (i : grid0.Coords) : cc0_transform_0 inb_S1_S1_0 numel1_S1 (pfN ch) i = ![min (i 0).val ch.last.val, 0] := by
  have h : cc0_transform_0 inb_S1_S1_0 numel1_S1 (pfN ch) i = ![(Scalar.minsi (BitVec.ofNat 32 (i 0).val) (Scalar.subi (ntW ch.last) 1#32)).toNat, 0] := rfl
  rw [h]
  have h2 : (Scalar.minsi (BitVec.ofNat 32 (i 0).val) (Scalar.subi (ntW ch.last) 1#32)).toNat = min (i 0).val ch.last.val := minsi_word (tileOf i) ch.last
  rw [h2]

theorem tr1 (i : grid0.Coords) : cc0_transform_1 k0_off1_inb numel1_S1 inb_S1_S1_0 (pfN ch) i = ![(ch.te (tileOf i)).val, 0, halfAt ch i] := by
  have h : cc0_transform_1 k0_off1_inb numel1_S1 inb_S1_S1_0 (pfN ch) i
      = ![((pfN ch).at 0 (Rect.unit (s := S72) ![(Scalar.indexCast (BitVec.ofNat 32 (i 0).val)).toNat] S1.size (k0_off1_inb i)) numel1_S1).toNat, 0,
          (Scalar.select (Scalar.cmpi .slt (BitVec.ofNat 32 (i 0).val) (ntW ch.last)) (BitVec.ofNat 32 (i 1).val) 1#32).toNat] := rfl
  rw [h, at0, sel_eq, word_te]

theorem tr2 (i : grid0.Coords) : cc0_transform_2 k0_off1_inb numel1_S1 inb_S1_S1_0 (pfN ch) i = ![(ch.te (tileOf i)).val, 0, halfAt ch i] := tr1 ch i

theorem tr3 (i : grid0.Coords) : cc0_transform_3 k0_off1_inb numel1_S1 inb_S1_S1_0 (pfN ch) i = ![(ch.te (tileOf i)).val, halfAt ch i, 0] := by
  have h : cc0_transform_3 k0_off1_inb numel1_S1 inb_S1_S1_0 (pfN ch) i
      = ![((pfN ch).at 0 (Rect.unit (s := S72) ![(Scalar.indexCast (BitVec.ofNat 32 (i 0).val)).toNat] S1.size (k0_off1_inb i)) numel1_S1).toNat,
          (Scalar.select (Scalar.cmpi .slt (BitVec.ofNat 32 (i 0).val) (ntW ch.last)) (BitVec.ofNat 32 (i 1).val) 1#32).toNat, 0] := rfl
  rw [h, at0, sel_eq, word_te]

theorem ok_0_inb (i : grid0.Coords) : ∀ a, (cc0_transform_0 inb_S1_S1_0 numel1_S1 (pfN ch) i a + 1) * S512x1024.size a ≤ S36864x1024.size a := by
  rw [tr0]
  have h : (i 0).val < 72 := (i 0).isLt
  exact inb_cons (by omega) (inb_cons (by omega) fun a => a.elim0)

theorem ok_1_inb (i : grid0.Coords) : ∀ a, (cc0_transform_1 k0_off1_inb numel1_S1 inb_S1_S1_0 (pfN ch) i a + 1) * S1x1024x1792.size a ≤ S8x1024x3584.size a := by
  rw [tr1]
  have h := halfAt_le ch i
  have h2 := (ch.te (tileOf i)).isLt
  exact inb_cons (by omega) (inb_cons (by omega) (inb_cons (by omega) fun a => a.elim0))

theorem ok_3_inb (i : grid0.Coords) : ∀ a, (cc0_transform_3 k0_off1_inb numel1_S1 inb_S1_S1_0 (pfN ch) i a + 1) * S1x1792x1024.size a ≤ S8x3584x1024.size a := by
  rw [tr3]
  have h := halfAt_le ch i
  have h2 := (ch.te (tileOf i)).isLt
  exact inb_cons (by omega) (inb_cons (by omega) (inb_cons (by omega) fun a => a.elim0))

theorem ok_pfN : ok0 (F := Bits) (pfN ch) :=
  ⟨fun i => ⟨ok_0_inb ch i, .inl rfl⟩,
   fun i => ⟨ok_1_inb ch i, .inr (Affine.block_words_dvd (s := S8x1024x3584) (p := EltTy.packing .bf16) (by decide) (by decide))⟩,
   fun i => ⟨ok_1_inb ch i, .inr (Affine.block_words_dvd (s := S8x1024x3584) (p := EltTy.packing .bf16) (by decide) (by decide))⟩,
   fun i => ⟨ok_3_inb ch i, .inr (Affine.block_words_dvd (s := S8x3584x1024) (p := EltTy.packing .bf16) (by decide) (by decide))⟩⟩

/-- The tables as admissible contents, and the pipeline at them: 144 grid points. -/
def adm : (pcfg0 (F := Bits)).Adm := ⟨pfN ch, ok_pfN ch⟩
abbrev cfgA : Pipeline.Cfg sig Λ₀ := cfg0 (F := Bits) (adm ch)
abbrev pcs : Fin 1 → Pipeline.Cfg sig Λ₀ := Pipeline.pin (pcfgs (F := Bits)) fun _ => adm ch

variable (m : (ℓ : Loc nD τ sig) → Buf (Elt Bits) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x1792 .bf16 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x1792 .bf16 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1792x1024 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S512x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Bits ((cfgA ch).win w).elt :=
  (((cfgA ch).win w).blk t).view.read (Elt Bits) ((s₀ m ρ).mem (((cfgA ch).win w).arr.view.loc (c : Thread nD τ)))

/-! ## The control's decisions at a point, at the tables' words -/

abbrev P0_0 (t : Fin (cfgA ch).N) : Prop := (Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1
abbrev P0_1 (t : Fin (cfgA ch).N) : Prop := k0_cond2 (crd ch t) (View.readAt (Elt Bits) (tbM0_1).view (Rect.unit (s := S1) ![0] S1.size inb_S1_S1_0).toLoadRect (pinT_1 ch) (Shape.Idx.first (numel1_S1.symm ▸ Nat.one_pos))) = 1#1
abbrev P0_2 (t : Fin (cfgA ch).N) : Prop := k0_cond5 (crd ch t) (View.readAt (Elt Bits) (tbM0_1).view (Rect.unit (s := S1) ![0] S1.size inb_S1_S1_0).toLoadRect (pinT_1 ch) (Shape.Idx.first (numel1_S1.symm ▸ Nat.one_pos))) = 1#1

/-- Whether scratch 0 (`cc0_scratch0`) holds nothing a point has determined, before position `n`: until a path that stores it
    whole first (A) has run. -/
def sfresh0_0 : ℕ → Bool
  | 0 => true
  | n + 1 => if h : n < (cfgA ch).N then (if P0_0 ch ⟨n, h⟩ then false else (if P0_1 ch ⟨n, h⟩ then sfresh0_0 n else (if P0_2 ch ⟨n, h⟩ then sfresh0_0 n else sfresh0_0 n))) else true

/-- In closed form: fresh before the first point only, since the first tile is always in use. -/
def sfirst0_0 (ch : Tab) : ℕ := 0
def sfrTab0_0 : ℕ → Bool := fun n => decide (n ≤ sfirst0_0 ch)

/-- Whether the output's buffer holds nothing since its last write-back, before each position: it is written
    back after each second point, so before the even positions. -/
def frTab0_4 (ch : Tab) : ℕ → Bool := fun n => decide (n % 2 = 0)

end Cert.Experts.Routed

end
-- ==== Proof.ExpertsMlpBits.Launch.lean ====
/-
The launch of the experts' call at routed tables.

The invariant between grid points holds the scratch buffer of rounded rows, once some point has filled it,
and the body's share of the two tables. The body obligation is proved at a generic point, case by case, from
the body's run of that case; the launch then follows from the library.
-/
module

public import proofs.«01_k».proof.Proof.ExpertsMlpBits.Facts
public import Idealize.ShloMosaic.Lib.Claim

@[expose] public section

set_option maxRecDepth 16384
set_option Elab.async false

noncomputable section

namespace Cert.Experts.Routed

open Cert.Experts
open Cert.Experts.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-- The proof's resource algebra: the rounds library's, for the pipeline's staging cells, embedded whole. -/
abbrev EP : Emb (UR sig nD τ) 𝕄 := emb₁

variable (ch : Tab)
variable (m : (ℓ : Loc nD τ sig) → Buf (Elt Bits) ℓ) (ρ : Dev nD → PrngReg)

/-! ## The named facts — the freshness tables' steps, each path's hypotheses and schedule —: its projections -/

theorem sfrTab0_0_step : ∀ (ch : Tab) (t : Fin (cfgA ch).N), sfrTab0_0 ch (t.val + 1) = (if P0_0 ch t then false else (if P0_1 ch t then sfrTab0_0 ch t.val else (if P0_2 ch t then sfrTab0_0 ch t.val else sfrTab0_0 ch t.val))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem frTab0_4_step : ∀ (ch : Tab) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.1
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- At a point of path A, the path's hypotheses hold of the words the body reads there . -/
theorem hyps0_A : ∀ (ch : Tab) (t : Fin (cfgA ch).N), P0_0 ch t →
    ((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ ((k0_cond2 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((k0_cond3 (crd ch t) = 1#1) ∧ ((¬(k0_cond4 (crd ch t) = 1#1)) ∧ ((¬(k0_cond5 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))))) := fun ch t => (allFacts ch t).2.2.1

theorem hypsR0_A : ∀ (ch : Tab) (t : Fin (cfgA ch).N), P0_0 ch t →
    ((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ ((k0_cond2 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((k0_cond3 (crd ch t) = 1#1) ∧ ((¬(k0_cond4 (crd ch t) = 1#1)) ∧ ((¬(k0_cond5 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))))) := hyps0_A

/-- At a point of path A: the idle table, the write-backs and which buffers hold junk (decided over the
    freshness tables `frTab`/`sfrTab`, restated over `Cfg.fresh`/`sfresh` by their agreement). -/
theorem sched0_A : ∀ (ch : Tab) (t : Fin (cfgA ch).N), P0_0 ch t →
    (cfgA ch).idle (4 : Fin 5) ((cfgA ch).grid.coords t) = false ∧ ((cfgA ch).win (4 : Fin 5)).flush t = false ∧ (cfgA ch).fresh (4 : Fin 5) t.val = true ∧ True ∧ sfresh0_0 ch (t.val + 1) = false := by
  intro ch t; rw [freshF0_4 ch t, sfreshS0_0 ch t]; exact (fun ch t => (allFacts ch t).2.2.2.1) ch t

/-- At a point of path B, the path's hypotheses hold of the words the body reads there . -/
theorem hyps0_B : ∀ (ch : Tab) (t : Fin (cfgA ch).N), ¬P0_0 ch t → P0_1 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((k0_cond2 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond3 (crd ch t) = 1#1)) ∧ ((k0_cond4 (crd ch t) = 1#1) ∧ ((¬(k0_cond5 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))))) := fun ch t => (allFacts ch t).2.2.2.2.1

theorem hypsR0_B : ∀ (ch : Tab) (t : Fin (cfgA ch).N), ¬P0_0 ch t → P0_1 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((k0_cond2 (crd ch t) (View.readAt (Elt Bits) (tbM0_1).view (Rect.unit (s := S1) ![0] S1.size inb_S1_S1_0).toLoadRect (pinT_1 ch) (Shape.Idx.first (numel1_S1.symm ▸ Nat.one_pos))) = 1#1) ∧ ((¬(k0_cond3 (crd ch t) = 1#1)) ∧ ((k0_cond4 (crd ch t) = 1#1) ∧ ((¬(k0_cond5 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))))) := hyps0_B

/-- At a point of path B: the idle table, the write-backs and which buffers hold junk (decided over the
    freshness tables `frTab`/`sfrTab`, restated over `Cfg.fresh`/`sfresh` by their agreement). -/
theorem sched0_B : ∀ (ch : Tab) (t : Fin (cfgA ch).N), ¬P0_0 ch t → P0_1 ch t →
    (cfgA ch).idle (4 : Fin 5) ((cfgA ch).grid.coords t) = false ∧ ((cfgA ch).win (4 : Fin 5)).flush t = true ∧ (cfgA ch).fresh (4 : Fin 5) t.val = false ∧ sfresh0_0 ch t.val = false ∧ sfresh0_0 ch (t.val + 1) = false := by
  intro ch t; rw [freshF0_4 ch t, sfreshF0_0 ch t, sfreshS0_0 ch t]; exact (fun ch t => (allFacts ch t).2.2.2.2.2.1) ch t

/-- At a point of path C, the path's hypotheses hold of the words the body reads there . -/
theorem hyps0_C : ∀ (ch : Tab) (t : Fin (cfgA ch).N), ¬P0_0 ch t → ¬P0_1 ch t → P0_2 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬(k0_cond2 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond5 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True))) := fun ch t => (allFacts ch t).2.2.2.2.2.2.1

theorem hypsR0_C : ∀ (ch : Tab) (t : Fin (cfgA ch).N), ¬P0_0 ch t → ¬P0_1 ch t → P0_2 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬(k0_cond2 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((k0_cond5 (crd ch t) (View.readAt (Elt Bits) (tbM0_1).view (Rect.unit (s := S1) ![0] S1.size inb_S1_S1_0).toLoadRect (pinT_1 ch) (Shape.Idx.first (numel1_S1.symm ▸ Nat.one_pos))) = 1#1) ∧ (True))) := hyps0_C

/-- At a point of path C: the idle table, the write-backs and which buffers hold junk (decided over the
    freshness tables `frTab`/`sfrTab`, restated over `Cfg.fresh`/`sfresh` by their agreement). -/
theorem sched0_C : ∀ (ch : Tab) (t : Fin (cfgA ch).N), ¬P0_0 ch t → ¬P0_1 ch t → P0_2 ch t →
    (cfgA ch).idle (4 : Fin 5) ((cfgA ch).grid.coords t) = false ∧ ((cfgA ch).win (4 : Fin 5)).flush t = false ∧ (cfgA ch).fresh (4 : Fin 5) t.val = true ∧ sfresh0_0 ch t.val = false ∧ sfresh0_0 ch (t.val + 1) = false := by
  intro ch t; rw [freshF0_4 ch t, sfreshF0_0 ch t, sfreshS0_0 ch t]; exact (fun ch t => (allFacts ch t).2.2.2.2.2.2.2.1) ch t

/-- At a point of path D, the path's hypotheses hold of the words the body reads there . -/
theorem hyps0_D : ∀ (ch : Tab) (t : Fin (cfgA ch).N), ¬P0_0 ch t → ¬P0_1 ch t → ¬P0_2 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬(k0_cond2 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond5 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.2.2.2.2.1

theorem hypsR0_D : ∀ (ch : Tab) (t : Fin (cfgA ch).N), ¬P0_0 ch t → ¬P0_1 ch t → ¬P0_2 ch t →
    (¬((Scalar.cmpi .ne (Scalar.extui (Scalar.andi (Scalar.cmpi .slt (BitVec.ofNat 32 ((crd ch t) 0).val) (View.readAt (Elt Bits) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬(k0_cond2 (crd ch t) (View.readAt (Elt Bits) (tbM0_1).view (Rect.unit (s := S1) ![0] S1.size inb_S1_S1_0).toLoadRect (pinT_1 ch) (Shape.Idx.first (numel1_S1.symm ▸ Nat.one_pos))) = 1#1)) ∧ ((¬(k0_cond5 (crd ch t) (View.readAt (Elt Bits) (tbM0_1).view (Rect.unit (s := S1) ![0] S1.size inb_S1_S1_0).toLoadRect (pinT_1 ch) (Shape.Idx.first (numel1_S1.symm ▸ Nat.one_pos))) = 1#1)) ∧ (True))) := hyps0_D

/-- At a point of path D: the idle table, the write-backs and which buffers hold junk (decided over the
    freshness tables `frTab`/`sfrTab`, restated over `Cfg.fresh`/`sfresh` by their agreement). -/
theorem sched0_D : ∀ (ch : Tab) (t : Fin (cfgA ch).N), ¬P0_0 ch t → ¬P0_1 ch t → ¬P0_2 ch t →
    (cfgA ch).idle (4 : Fin 5) ((cfgA ch).grid.coords t) = true ∧ ((cfgA ch).win (4 : Fin 5)).flush t = true ∧ (cfgA ch).fresh (4 : Fin 5) t.val = false ∧ sfresh0_0 ch t.val = false ∧ sfresh0_0 ch (t.val + 1) = false := by
  intro ch t; rw [freshF0_4 ch t, sfreshF0_0 ch t, sfreshS0_0 ch t]; exact (fun ch t => (allFacts ch t).2.2.2.2.2.2.2.2.2) ch t

/-! ## What the outputs and scratches hold after each point -/

/-- ONE STEP of the trajectory: what the outputs' current buffers and the scratches hold after the body at point `t`
    (output 4, scratch 0), from what they held before (`prev`): the path the decisions select at `t`, its
    run's contents; an output the path leaves idle keeps what it held (junk — `default`, named by nothing — where fresh). -/
def step0 (c : Dev nD) (t : Fin (cfgA ch).N) (prev : (S512x1024.Idx → Elt Bits .f32) × Buf (Elt Bits) ((c : Thread nD τ).loc cc0_scratch0)) : (S512x1024.Idx → Elt Bits .f32) × Buf (Elt Bits) ((c : Thread nD τ).loc cc0_scratch0) :=
  if q0 : P0_0 ch t then
    (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1 (hypsR0_A ch t q0).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1 (hypsR0_A ch t q0).2.2.2.2.1).2.1)
  else
    if q1 : P0_1 ch t then
      (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.1 prev.2 (hypsR0_B ch t q0 q1).1 (hypsR0_B ch t q0 q1).2.1 (hypsR0_B ch t q0 q1).2.2.1 (hypsR0_B ch t q0 q1).2.2.2.1 (hypsR0_B ch t q0 q1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.1 prev.2 (hypsR0_B ch t q0 q1).1 (hypsR0_B ch t q0 q1).2.1 (hypsR0_B ch t q0 q1).2.2.1 (hypsR0_B ch t q0 q1).2.2.2.1 (hypsR0_B ch t q0 q1).2.2.2.2.1).2.1)
    else
      if q2 : P0_2 ch t then
        (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1).2.1)
      else
        ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_D ch t q0 q1 q2).1 (hypsR0_D ch t q0 q1 q2).2.1 (hypsR0_D ch t q0 q1 q2).2.2.1).1)

/-- THE TRAJECTORY: after position `n`. -/
def traj0 (c : Dev nD) : (n : ℕ) → n < (cfgA ch).N → (S512x1024.Idx → Elt Bits .f32) × Buf (Elt Bits) ((c : Thread nD τ).loc cc0_scratch0)
  | 0, h => step0 ch m ρ c ⟨0, h⟩ (default, default)
  | n + 1, h => step0 ch m ρ c ⟨n + 1, h⟩ (traj0 c n (Nat.lt_of_succ_lt h))

/-- What they held BEFORE point `t` (junk before the first). -/
def prev0 (c : Dev nD) (t : Fin (cfgA ch).N) : (S512x1024.Idx → Elt Bits .f32) × Buf (Elt Bits) ((c : Thread nD τ).loc cc0_scratch0) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S512x1024.Idx → Elt Bits .f32) × Buf (Elt Bits) ((c : Thread nD τ).loc cc0_scratch0)) (q0 : P0_0 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1 (hypsR0_A ch t q0).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1 (hypsR0_A ch t q0).2.2.2.2.1).2.1) := by
  unfold step0; simp only [dif_pos q0]

/-- `step0` at a point of path B. -/
theorem step0_B (c : Dev nD) (t : Fin (cfgA ch).N) (prev : (S512x1024.Idx → Elt Bits .f32) × Buf (Elt Bits) ((c : Thread nD τ).loc cc0_scratch0)) (q0 : ¬P0_0 ch t) (q1 : P0_1 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.1 prev.2 (hypsR0_B ch t q0 q1).1 (hypsR0_B ch t q0 q1).2.1 (hypsR0_B ch t q0 q1).2.2.1 (hypsR0_B ch t q0 q1).2.2.2.1 (hypsR0_B ch t q0 q1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.1 prev.2 (hypsR0_B ch t q0 q1).1 (hypsR0_B ch t q0 q1).2.1 (hypsR0_B ch t q0 q1).2.2.1 (hypsR0_B ch t q0 q1).2.2.2.1 (hypsR0_B ch t q0 q1).2.2.2.2.1).2.1) := by
  unfold step0; simp only [dif_neg q0, dif_pos q1]

/-- `step0` at a point of path C. -/
theorem step0_C (c : Dev nD) (t : Fin (cfgA ch).N) (prev : (S512x1024.Idx → Elt Bits .f32) × Buf (Elt Bits) ((c : Thread nD τ).loc cc0_scratch0)) (q0 : ¬P0_0 ch t) (q1 : ¬P0_1 ch t) (q2 : P0_2 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1).2.1) := by
  unfold step0; simp only [dif_neg q0, dif_neg q1, dif_pos q2]

/-- `step0` at a point of path D. -/
theorem step0_D (c : Dev nD) (t : Fin (cfgA ch).N) (prev : (S512x1024.Idx → Elt Bits .f32) × Buf (Elt Bits) ((c : Thread nD τ).loc cc0_scratch0)) (q0 : ¬P0_0 ch t) (q1 : ¬P0_1 ch t) (q2 : ¬P0_2 ch t) :
    step0 ch m ρ c t prev = ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_D ch t q0 q1 q2).1 (hypsR0_D ch t q0 q1 q2).2.1 (hypsR0_D ch t q0 q1 q2).2.2.1).1) := by
  unfold step0; simp only [dif_neg q0, dif_neg q1, dif_neg q2]

/-! ## The pipeline's proof data -/

/-- What the tracked buffers held before position `t` of `Fin (N+1)` (the invariant's index). -/
def prev0T (c : Dev nD) (t : Fin ((cfgA ch).N + 1)) : (S512x1024.Idx → Elt Bits .f32) × Buf (Elt Bits) ((c : Thread nD τ).loc cc0_scratch0) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Bits) ℓ) (ρ : Dev nD → PrngReg) (c : Dev nD) (t : Fin ((cfgA ch).N + 1)) : sProp 𝕄 :=
  iprop((∃ a, ⌜sfresh0_0 ch t.val = false → a = (prev0T ch m ρ c t).2⌝ ∗ (scM0_0.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Bits) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · obtain ⟨i4, -, -, -, -⟩ := sched0_A ch t q0
    rw [i4] at hi; exact absurd hi (by decide)
  · by_cases q1 : P0_1 ch t
    · obtain ⟨i4, -, -, -, -⟩ := sched0_B ch t q0 q1
      rw [i4] at hi; exact absurd hi (by decide)
    · by_cases q2 : P0_2 ch t
      · obtain ⟨i4, -, -, -, -⟩ := sched0_C ch t q0 q1 q2
        rw [i4] at hi; exact absurd hi (by decide)
      · rw [step0_D ch m ρ c t _ q0 q1 q2]
        simp only [hf, Bool.false_eq_true, ↓reduceIte]
        unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Bits) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Bits)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4, sf0, sfn0⟩ := sched0_A ch t q0
    have F0 := hypsR0_A ch t q0
    have hc0 := F0.1; have F1 := F0.2
    have k0_h2 := F1.1; have F2 := F1.2
    have k0_h3 := F2.1; have F3 := F2.2
    have k0_h4 := F3.1; have F4 := F3.2
    have k0_h5 := F4.1; have F5 := F4.2
    clear F0 F1 F2 F3 F4 F5
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 k0_h2 k0_h3 k0_h4 k0_h5).2.2 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    iintro ⟨H0, H1, H2, H3, HT0, HT1, ⟨%e4, H4⟩, HS0⟩
    isplitl [HS0 HT0 HT1]
    · isplitl [HS0]
      · iexists _; isplitr; swap
        · iexact HS0
        · ipureintro; intro hn; first | rfl | exact absurd hn (by first | (rw [sfn0]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _ _ _ _)
  · by_cases q1 : P0_1 ch t
    · obtain ⟨i4, f4, fr4, sf0, sfn0⟩ := sched0_B ch t q0 q1
      have F0 := hypsR0_B ch t q0 q1
      have hc0 := F0.1; have F1 := F0.2
      have k0_h2 := F1.1; have F2 := F1.2
      have k0_h3 := F2.1; have F3 := F2.2
      have k0_h4 := F3.1; have F4 := F3.2
      have k0_h5 := F4.1; have F5 := F4.2
      clear F0 F1 F2 F3 F4 F5
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 k0_h2 k0_h3 k0_h4 k0_h5).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _ _ _)
    · by_cases q2 : P0_2 ch t
      · obtain ⟨i4, f4, fr4, sf0, sfn0⟩ := sched0_C ch t q0 q1 q2
        have F0 := hypsR0_C ch t q0 q1 q2
        have hc0 := F0.1; have F1 := F0.2
        have k0_h2 := F1.1; have F2 := F1.2
        have k0_h5 := F2.1; have F3 := F2.2
        clear F0 F1 F2 F3
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ hc0 k0_h2 k0_h5).2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        iintro ⟨H0, H1, H2, H3, HT0, HT1, ⟨%e4, H4⟩, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _)
      · obtain ⟨i4, f4, fr4, sf0, sfn0⟩ := sched0_D ch t q0 q1 q2
        have F0 := hypsR0_D ch t q0 q1 q2
        have hc0 := F0.1; have F1 := F0.2
        have k0_h2 := F1.1; have F2 := F1.2
        have k0_h5 := F2.1; have F3 := F2.2
        clear F0 F1 F2 F3
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1 q2]
        unfold Phi; simp only [prev0T_castSucc, prev0T_succ, traj0_eq, step0_D ch m ρ c t _ q0 q1 q2, Fin.val_castSucc, Fin.val_succ, fr4, Bool.false_eq_true, ↓reduceIte]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ hc0 k0_h2 k0_h5).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Pinned ch m) (c : Dev nD) : BodyObligation (dats ch m ρ 0 c) (defs₀ (F := Bits)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Bits)).cellOf_inj fun _ => adm ch))
    (Pipeline.launchToks (pcs ch) ((launch0 (F := Bits)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Bits) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are the tables `ch`: every weakly
    fair execution of @main on the TensorCores terminates, and every final state has each array at the computed contents,
    and every semaphore counter of the machine at zero. -/
theorem run_main_quiescent (hp : Pinned ch m) : θ_run (defs (F := Bits)) (onTc (τ := τ) (main (F := Bits))) (s₀ m ρ) (fun r => QC ch m ρ r ∧ r.2.sem = fun _ => 0) :=
  Pipeline.θ_run_region_noSem_pf_quiescent pcfgs (fun _ => adm ch) (dats ch m ρ) () ((launch0 (F := Bits)).cellOf_inj fun _ => adm ch) (0 : Fin 1)
    (launch0 (F := Bits)).win.to₀ (launch0 (F := Bits)).pre EP defs₀ Variants.none m ρ main
    (hbody := fun c => (body_obligation ch m ρ hp c).loose) (hne := (launch0 (F := Bits)).block_pos)
    (harr := (launch0 (F := Bits)).arr_whole) (hstage := (launch0 (F := Bits)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Bits)).win.arr_inj c (launch0 (F := Bits)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Bits)) (onTc (τ := τ) (main (F := Bits))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- THE FRAME under the pinning: from a launch memory whose tables and steering words are the tables `ch`, every weakly fair
    execution terminates, nothing faults, every argument array ends unchanged and every semaphore counter of the machine reads
    zero at every final state — `Cert.quiescent_Experts`'s post. -/
theorem frame (hp : Pinned ch m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.Experts.Routed

end
-- ==== Proof.ExpertsMlp.Range.lean ====
/-
  What the precondition `routed` says: each tile's expert is one of the eight, and between 1 and 72 tiles are in use. Its side
  conditions are proved here too.
-/
module

public import proofs.«01_k».proof.Pre_routed
public import Idealize.ShloMosaic.Lib.ReduceAll
public import Idealize.ShloMosaic.Lib.Decide
public import Idealize.ShloMosaic.Lib.Affine

@[expose] public section

set_option maxRecDepth 16384

noncomputable section

namespace Cert.Pre_routed

open Idealize.ShloMosaic

instance facts : Facts where
  bcast_S_S72 := by decide
  reducesTo_S72_S_d0 := by decide
  h_S_ := by decide
  bcast_S_S1 := by decide
  reducesTo_S1_S_d0 := by decide

/-- A word between two small bounds is the word of a number between them. -/
theorem word_of_range (x : BitVec 32) (n : ℕ) (hn : n < 2 ^ 31) (h0 : 0 ≤ x.toInt) (h1 : x.toInt < n) : x.toNat < n ∧ x = BitVec.ofNat 32 x.toNat := by
  have hx := x.isLt
  rw [BitVec.toInt_eq_toNat_cond] at h0 h1
  refine ⟨?_, (BitVec.ofNat_toNat 32 x).symm ▸ (BitVec.setWidth_eq x).symm⟩
  split at h1 <;> split at h0 <;> omega

/-- The place of tile `a` in the table. -/
abbrev tileIx (a : Fin 72) : S72.Idx := fun | ⟨0, _⟩ => a

/-- The two tables of a launch that meets the precondition. -/
theorem tables {F : FTy → Type} [FloatOps F] (x0 : IVec S72 32) (x1 : IVec S1 32) (x2 : FVec F S36864x1024 .f32) (x3 x4 : FVec F S8x1024x3584 .bf16)
    (x5 : FVec F S8x3584x1024 .bf16) (h : fn (F := F) x0 x1 x2 x3 x4 x5 = fun _ => 1#1) :
    ∃ (te : Fin 72 → Fin 8) (last : Fin 72), x0 = (fun x => BitVec.ofNat 32 (te (x 0)).val) ∧ x1 = fun _ => BitVec.ofNat 32 (last.val + 1) := by
  have j : S_.Idx := fun a => a.elim0
  have e := IntOp.andi_eq_one.1 (congrFun h j)
  have e1 := IntOp.andi_eq_one.1 e.1
  have e2 := IntOp.andi_eq_one.1 e1.1
  have lo : ∀ i, (0 : ℤ) ≤ (x0 i).toInt := fun i => IntOp.cmpi_sge.1 (Host.reduce_andi_all _ _ _ _ j e2.1 i)
  have hi : ∀ i, (x0 i).toInt < 8 := fun i => IntOp.cmpi_slt.1 (Host.reduce_andi_all _ _ _ _ j e2.2 i)
  have nlo : ∀ i, (1 : ℤ) ≤ (x1 i).toInt := fun i => IntOp.cmpi_sge.1 (Host.reduce_andi_all _ _ _ _ j e1.2 i)
  have nhi : ∀ i, (x1 i).toInt ≤ 72 := fun i => IntOp.cmpi_sle.1 (Host.reduce_andi_all _ _ _ _ j e.2 i)
  have ht := fun i => word_of_range (x0 i) 8 (by decide) (lo i) (hi i)
  let i0 : S1.Idx := fun | ⟨0, _⟩ => (⟨0, by decide⟩ : Fin 1)
  have hu : ∀ i : S1.Idx, i = i0 := fun i => funext fun a => match a with | ⟨0, _⟩ => Fin.ext (Nat.lt_one_iff.1 (i (0 : Fin 1)).isLt)
  have hl := word_of_range (x1 i0) 73 (by decide) (by have := nlo i0; omega) (by have := nhi i0; omega)
  have h1 : 1 ≤ (x1 i0).toNat := by
    by_contra hc
    have hz : x1 i0 = 0#32 := by rw [hl.2, show (x1 i0).toNat = 0 by omega]
    have := nlo i0
    rw [hz] at this
    exact absurd this (by decide)
  refine ⟨fun a => ⟨(x0 (tileIx a)).toNat, (ht _).1⟩, ⟨(x1 i0).toNat - 1, by omega⟩, funext fun x => ?_, funext fun x => ?_⟩
  · have ex : x = tileIx (x 0) := funext fun a => match a with | ⟨0, _⟩ => rfl
    exact (ht x).2.trans (congrArg (fun z => BitVec.ofNat 32 (x0 z).toNat) ex)
  · rw [hu x]
    show x1 i0 = BitVec.ofNat 32 ((x1 i0).toNat - 1 + 1)
    rw [Nat.sub_add_cancel h1]; exact hl.2

end Cert.Pre_routed

end
-- ==== Proof.ExpertsMlpBits.Frame.lean ====
/-
  The frame of the kernel's experts at a launch that meets the precondition.
-/
module

public import proofs.«01_k».proof.Defs
public import proofs.«01_k».proof.Proof.ExpertsMlpBits.Launch
public import proofs.«01_k».proof.Proof.ExpertsMlp.Range

@[expose] public section

set_option maxRecDepth 16384

noncomputable section

namespace Cert.Proof

open Idealize.ShloMosaic Idealize.SL.Sem

/-- The experts' call ends, changes no argument and leaves every counter at zero. -/
theorem experts_frame : Cert.quiescent_Experts := fun m ρ hpre => by
  obtain ⟨te, last, h0, h1⟩ := Cert.Pre_routed.tables _ _ _ _ _ _ (hpre ⟨0, by decide⟩)
  have hc : ∀ c : Dev Experts.nD, c = ⟨0, by decide⟩ := fun c => Fin.ext (Nat.lt_one_iff.1 c.isLt)
  exact Experts.Routed.frame ⟨te, last⟩ m ρ ⟨fun c => by rw [hc c]; exact h0, fun c => by rw [hc c]; exact h1⟩

end Cert.Proof

end
-- ==== Proof.ExpertsMlp.Tables.lean ====
/-
The routed tables of the experts' call, and its pipeline at them.

The call reads two prefetched tables: the expert of each of the 72 row tiles, and the number of tiles in
use. `Tab` is such a pair within range: every expert below 8, the number of tiles between 1 and 72. At any
of them every block of every window lies inside its array, so the pipeline is defined (`cfgA`). The facts of
the control at a grid point are proved from four comparisons of small words, for every table at once.
-/
module

public import proofs.«01_k».proof.Defs
public import proofs.«01_k».proof.Proof.Gen.ExpertsIdeal.Flash.Runs

@[expose] public section

set_option maxRecDepth 16384
set_option Elab.async false

noncomputable section

namespace Cert.ExpertsIdeal.Routed

open Cert.ExpertsIdeal
open Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- A pair of tables within range: the expert of each tile, and the number of tiles in use less one. -/
structure Tab where
  te : Fin 72 → Fin 8
  last : Fin 72

variable (ch : Tab)

/-- The word of the number of tiles in use. -/
def ntW (n : Fin 72) : BitVec 32 := BitVec.ofNat 32 (n.val + 1)

/-- The first table: the expert of each tile. -/
def pinT_0 (ch : Tab) : S72.Idx → BitVec 32 := fun x => BitVec.ofNat 32 (ch.te (x 0)).val

/-- The second table: the number of tiles in use. -/
def pinT_1 (ch : Tab) : S1.Idx → BitVec 32 := fun _ => ntW ch.last

set_option backward.proofsInPublic true in
/-- The contents of the two tables. -/
def pfN : pre0.Contents (Elt Ideal) := fun | ⟨0, _⟩ => pinT_0 ch | ⟨1, _⟩ => pinT_1 ch | ⟨_ + 2, h⟩ => absurd h (by simp)

/-- The launch memory holds the tables `ch` on every device. -/
def Pinned (m : (ℓ : Loc nD τ sig) → Buf (Elt Ideal) ℓ) : Prop :=
  (∀ c : Dev nD, m ((c : Thread nD τ).loc main_arg0) = pinT_0 ch)
  ∧ (∀ c : Dev nD, m ((c : Thread nD τ).loc main_arg1) = pinT_1 ch)

/-! ## Comparisons of the small words -/

theorem slt_word : ∀ (i n : Fin 72), Scalar.cmpi .slt (BitVec.ofNat 32 i.val) (ntW n) = if i.val ≤ n.val then 1#1 else 0#1 := by decide +kernel

theorem minsi_word : ∀ (i n : Fin 72), (Scalar.minsi (BitVec.ofNat 32 i.val) (Scalar.subi (ntW n) 1#32)).toNat = min i.val n.val := by decide +kernel

theorem off_word : ∀ (i : Fin 72), (Scalar.indexCast (BitVec.ofNat 32 i.val)).toNat = i.val := by decide +kernel

/-! ## The blocks lie inside their arrays -/

/-- A bound of every entry of a list of three from its entries. -/
theorem inb_cons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- The first coordinate of a grid point, a tile. -/
abbrev tileOf (i : grid0.Coords) : Fin 72 := ⟨(i 0).val, (i 0).isLt⟩
/-- The second coordinate of a grid point, a half of the hidden features. -/
abbrev halfOf (i : grid0.Coords) : Fin 2 := ⟨(i 1).val, (i 1).isLt⟩

theorem at1 : (pfN ch).at 1 (Rect.unit (s := S1) ![0] S1.size inb_S1_S1_0) numel1_S1 = ntW ch.last := rfl

theorem at0 (i : grid0.Coords) :
    (pfN ch).at 0 (Rect.unit (s := S72) ![(Scalar.indexCast (BitVec.ofNat 32 (i 0).val)).toNat] S1.size (k0_off1_inb i)) numel1_S1
      = BitVec.ofNat 32 (ch.te (tileOf i)).val := by
  have e : (pfN ch).at 0 (Rect.unit (s := S72) ![(Scalar.indexCast (BitVec.ofNat 32 (i 0).val)).toNat] S1.size (k0_off1_inb i)) numel1_S1
      = pinT_0 ch ((Rect.unit (s := S72) ![(Scalar.indexCast (BitVec.ofNat 32 (i 0).val)).toNat] S1.size (k0_off1_inb i)).idx
          (Shape.Idx.first (numel1_S1.symm ▸ Nat.one_pos))) := rfl
  rw [e]; unfold pinT_0
  refine congrArg (fun q : Fin 72 => BitVec.ofNat 32 (ch.te q).val) (Fin.ext ?_)
  have h0 : (Scalar.indexCast (BitVec.ofNat 32 (i 0).val)).toNat = (i 0).val := off_word (tileOf i)
  have h1 : (Scalar.indexCast (BitVec.ofNat 32 (i 0).val)).toNat + 1 * 0 = (i 0).val := by rw [h0]; omega
  exact h1

/-- The expert a tile's blocks are of. -/
theorem word_te (x : Fin 8) : (BitVec.ofNat 32 x.val).toNat = x.val := by
  revert x; decide +kernel

theorem sel_word : ∀ (f : Fin 2) (b : Bool), (Scalar.select (if b then 1#1 else 0#1) (BitVec.ofNat 32 f.val) 1#32).toNat = if b then f.val else 1 := by decide +kernel

/-- The half a tile's weights are of: the point's own where the tile is in use, else the last. -/
def halfAt (ch : Tab) (i : grid0.Coords) : ℕ := if (i 0).val ≤ ch.last.val then (i 1).val else 1

theorem halfAt_le (i : grid0.Coords) : halfAt ch i ≤ 1 := by
  unfold halfAt; split
  · exact Nat.le_of_lt_succ (i 1).isLt
  · exact le_rfl

theorem sel_eq (i : grid0.Coords) :
    (Scalar.select (Scalar.cmpi .slt (BitVec.ofNat 32 (i 0).val) (ntW ch.last)) (BitVec.ofNat 32 (i 1).val) 1#32).toNat = halfAt ch i := by
  have h1 : Scalar.cmpi .slt (BitVec.ofNat 32 (i 0).val) (ntW ch.last) = if (i 0).val ≤ ch.last.val then 1#1 else 0#1 := slt_word (tileOf i) ch.last
  rw [h1]; unfold halfAt
  have h2 := sel_word (halfOf i) (decide ((i 0).val ≤ ch.last.val))
  simpa using h2

theorem tr0 (i : grid0.Coords) : cc0_transform_0 inb_S1_S1_0 numel1_S1 (pfN ch) i = ![min (i 0).val ch.last.val, 0] := by
  have h : cc0_transform_0 inb_S1_S1_0 numel1_S1 (pfN ch) i = ![(Scalar.minsi (BitVec.ofNat 32 (i 0).val) (Scalar.subi (ntW ch.last) 1#32)).toNat, 0] := rfl
  rw [h]
  have h2 : (Scalar.minsi (BitVec.ofNat 32 (i 0).val) (Scalar.subi (ntW ch.last) 1#32)).toNat = min (i 0).val ch.last.val := minsi_word (tileOf i) ch.last
  rw [h2]

theorem tr1 (i : grid0.Coords) : cc0_transform_1 k0_off1_inb numel1_S1 inb_S1_S1_0 (pfN ch) i = ![(ch.te (tileOf i)).val, 0, halfAt ch i] := by
  have h : cc0_transform_1 k0_off1_inb numel1_S1 inb_S1_S1_0 (pfN ch) i
      = ![((pfN ch).at 0 (Rect.unit (s := S72) ![(Scalar.indexCast (BitVec.ofNat 32 (i 0).val)).toNat] S1.size (k0_off1_inb i)) numel1_S1).toNat, 0,
          (Scalar.select (Scalar.cmpi .slt (BitVec.ofNat 32 (i 0).val) (ntW ch.last)) (BitVec.ofNat 32 (i 1).val) 1#32).toNat] := rfl
  rw [h, at0, sel_eq, word_te]

theorem tr2 (i : grid0.Coords) : cc0_transform_2 k0_off1_inb numel1_S1 inb_S1_S1_0 (pfN ch) i = ![(ch.te (tileOf i)).val, 0, halfAt ch i] := tr1 ch i

theorem tr3 (i : grid0.Coords) : cc0_transform_3 k0_off1_inb numel1_S1 inb_S1_S1_0 (pfN ch) i = ![(ch.te (tileOf i)).val, halfAt ch i, 0] := by
  have h : cc0_transform_3 k0_off1_inb numel1_S1 inb_S1_S1_0 (pfN ch) i
      = ![((pfN ch).at 0 (Rect.unit (s := S72) ![(Scalar.indexCast (BitVec.ofNat 32 (i 0).val)).toNat] S1.size (k0_off1_inb i)) numel1_S1).toNat,
          (Scalar.select (Scalar.cmpi .slt (BitVec.ofNat 32 (i 0).val) (ntW ch.last)) (BitVec.ofNat 32 (i 1).val) 1#32).toNat, 0] := rfl
  rw [h, at0, sel_eq, word_te]

theorem ok_0_inb (i : grid0.Coords) : ∀ a, (cc0_transform_0 inb_S1_S1_0 numel1_S1 (pfN ch) i a + 1) * S512x1024.size a ≤ S36864x1024.size a := by
  rw [tr0]
  have h : (i 0).val < 72 := (i 0).isLt
  exact inb_cons (by omega) (inb_cons (by omega) fun a => a.elim0)

theorem ok_1_inb (i : grid0.Coords) : ∀ a, (cc0_transform_1 k0_off1_inb numel1_S1 inb_S1_S1_0 (pfN ch) i a + 1) * S1x1024x1792.size a ≤ S8x1024x3584.size a := by
  rw [tr1]
  have h := halfAt_le ch i
  have h2 := (ch.te (tileOf i)).isLt
  exact inb_cons (by omega) (inb_cons (by omega) (inb_cons (by omega) fun a => a.elim0))

theorem ok_3_inb (i : grid0.Coords) : ∀ a, (cc0_transform_3 k0_off1_inb numel1_S1 inb_S1_S1_0 (pfN ch) i a + 1) * S1x1792x1024.size a ≤ S8x3584x1024.size a := by
  rw [tr3]
  have h := halfAt_le ch i
  have h2 := (ch.te (tileOf i)).isLt
  exact inb_cons (by omega) (inb_cons (by omega) (inb_cons (by omega) fun a => a.elim0))

theorem ok_pfN : ok0 (F := Ideal) (pfN ch) :=
  ⟨fun i => ⟨ok_0_inb ch i, .inl rfl⟩,
   fun i => ⟨ok_1_inb ch i, .inr (Affine.block_words_dvd (s := S8x1024x3584) (p := EltTy.packing .bf16) (by decide) (by decide))⟩,
   fun i => ⟨ok_1_inb ch i, .inr (Affine.block_words_dvd (s := S8x1024x3584) (p := EltTy.packing .bf16) (by decide) (by decide))⟩,
   fun i => ⟨ok_3_inb ch i, .inr (Affine.block_words_dvd (s := S8x3584x1024) (p := EltTy.packing .bf16) (by decide) (by decide))⟩⟩

/-- The tables as admissible contents, and the pipeline at them: 144 grid points. -/
def adm : (pcfg0 (F := Ideal)).Adm := ⟨pfN ch, ok_pfN ch⟩
abbrev cfgA : Pipeline.Cfg sig Λ₀ := cfg0 (F := Ideal) (adm ch)
abbrev pcs : Fin 1 → Pipeline.Cfg sig Λ₀ := Pipeline.pin (pcfgs (F := Ideal)) fun _ => adm ch

variable (m : (ℓ : Loc nD τ sig) → Buf (Elt Ideal) ℓ) (ρ : Dev nD → PrngReg)

/-! ## A point's coordinates, words and staging memrefs -/

/-- Point `t`'s coordinates. -/
abbrev crd (t : Fin (cfgA ch).N) : (cfgA ch).grid.Coords := (cfgA ch).grid.coords t

/-- Each window's current staging memref at point `t`, spelled as the pipeline passes it, and its wholeness. -/
abbrev ms0_0 (t : Fin (cfgA ch).N) : Memref sig .tc .vmem S512x1024 .f32 := spec0_0.stage ((cfgA ch).slots t (0 : Fin 5))
abbrev hs0_0 (t : Fin (cfgA ch).N) : (ms0_0 ch t).IsWhole := hstage0_0 (((cfgA ch).slots t (0 : Fin 5)).cast nbuf0_0)
abbrev ms0_1 (t : Fin (cfgA ch).N) : Memref sig .tc .vmem S1x1024x1792 .bf16 := spec0_1.stage ((cfgA ch).slots t (1 : Fin 5))
abbrev hs0_1 (t : Fin (cfgA ch).N) : (ms0_1 ch t).IsWhole := hstage0_1 (((cfgA ch).slots t (1 : Fin 5)).cast nbuf0_1)
abbrev ms0_2 (t : Fin (cfgA ch).N) : Memref sig .tc .vmem S1x1024x1792 .bf16 := spec0_2.stage ((cfgA ch).slots t (2 : Fin 5))
abbrev hs0_2 (t : Fin (cfgA ch).N) : (ms0_2 ch t).IsWhole := hstage0_2 (((cfgA ch).slots t (2 : Fin 5)).cast nbuf0_2)
abbrev ms0_3 (t : Fin (cfgA ch).N) : Memref sig .tc .vmem S1x1792x1024 .bf16 := spec0_3.stage ((cfgA ch).slots t (3 : Fin 5))
abbrev hs0_3 (t : Fin (cfgA ch).N) : (ms0_3 ch t).IsWhole := hstage0_3 (((cfgA ch).slots t (3 : Fin 5)).cast nbuf0_3)
abbrev ms0_4 (t : Fin (cfgA ch).N) : Memref sig .tc .vmem S512x1024 .f32 := spec0_4.stage ((cfgA ch).slots t (4 : Fin 5))
abbrev hs0_4 (t : Fin (cfgA ch).N) : (ms0_4 ch t).IsWhole := hstage0_4 (((cfgA ch).slots t (4 : Fin 5)).cast nbuf0_4)

/-! ## The windows' blocks -/

/-- Window `w`'s block at point `t`, read off its array at launch. -/
def iblk (c : Dev nD) (w : Fin (cfgA ch).W) (t : Fin (cfgA ch).N) : (((cfgA ch).win w).xblock (crd ch t)).Idx → Elt Ideal ((cfgA ch).win w).elt :=
  (((cfgA ch).win w).blk t).view.read (Elt Ideal) ((s₀ m ρ).mem (((cfgA ch).win w).arr.view.loc (c : Thread nD τ)))

/-! ## The control's decisions at a point, at the tables' words -/

abbrev P0_0 (t : Fin (cfgA ch).N) : Prop := (Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1
abbrev P0_1 (t : Fin (cfgA ch).N) : Prop := k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1
abbrev P0_2 (t : Fin (cfgA ch).N) : Prop := k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1

/-- Whether scratch 0 (`cc0_scratch0`) holds nothing a point has determined, before position `n`: until a path that stores it
    whole first (A) has run. -/
def sfresh0_0 : ℕ → Bool
  | 0 => true
  | n + 1 => if h : n < (cfgA ch).N then (if P0_0 ch ⟨n, h⟩ then false else (if P0_1 ch ⟨n, h⟩ then sfresh0_0 n else (if P0_2 ch ⟨n, h⟩ then sfresh0_0 n else sfresh0_0 n))) else true

/-- In closed form: fresh before the first point only, since the first tile is always in use. -/
def sfirst0_0 (ch : Tab) : ℕ := 0
def sfrTab0_0 : ℕ → Bool := fun n => decide (n ≤ sfirst0_0 ch)

/-- Whether the output's buffer holds nothing since its last write-back, before each position: it is written
    back after each second point, so before the even positions. -/
def frTab0_4 (ch : Tab) : ℕ → Bool := fun n => decide (n % 2 = 0)

end Cert.ExpertsIdeal.Routed

end
-- ==== Proof.ExpertsMlp.Facts.lean ====
/-
What the control of the experts' call decides at each grid point, for every routed table.

Point `t` is of tile `t / 2` and half `t % 2`. The kernel tells four cases apart: a tile in use at its first
half (it multiplies and stores the output tile), a tile in use at its second half (it multiplies and adds), a
tile not in use at its first half (it stores zeros), and one not in use at its second half (it does nothing).
-/
module

public import proofs.«01_k».proof.Proof.ExpertsMlp.Tables

@[expose] public section

set_option maxRecDepth 16384
set_option Elab.async false

noncomputable section

namespace Cert.ExpertsIdeal.Routed

open Cert.ExpertsIdeal
open Cert.ExpertsIdeal.Gen
open Idealize.ShloMosaic
open Idealize.ShloMosaic.TcCoe Idealize.ShloMosaic.Tactic
open Idealize.ShloMosaic.Pipeline (Dat Cfg Window BodyObligation BodyObligationLoose cellOf)

variable (ch : Tab)

/-! ## The conditions of the kernel's branches -/

theorem coords_tile : ∀ t : Fin grid0.N, ((grid0.coords t) 0).val = t.val / 2 := by decide +kernel
theorem coords_half : ∀ t : Fin grid0.N, ((grid0.coords t) 1).val = t.val % 2 := by decide +kernel

/-- The word of a half is zero exactly at the first one, -/
theorem eq_word : ∀ f : Fin 2, Scalar.cmpi .eq (BitVec.ofNat 32 f.val) 0#32 = if f.val = 0 then 1#1 else 0#1 := by decide +kernel
/-- and positive exactly at the second. -/
theorem sgt_word : ∀ f : Fin 2, Scalar.cmpi .sgt (BitVec.ofNat 32 f.val) 0#32 = if f.val = 0 then 0#1 else 1#1 := by decide +kernel

theorem slt_crd (i : grid0.Coords) (n : Fin 72) :
    Scalar.cmpi .slt (BitVec.ofNat 32 (i 0).val) (ntW n) = if (i 0).val ≤ n.val then 1#1 else 0#1 := slt_word (tileOf i) n
theorem eq_crd (i : grid0.Coords) :
    Scalar.cmpi .eq (BitVec.ofNat 32 (i 1).val) 0#32 = if (i 1).val = 0 then 1#1 else 0#1 := eq_word (halfOf i)
theorem sgt_crd (i : grid0.Coords) :
    Scalar.cmpi .sgt (BitVec.ofNat 32 (i 1).val) 0#32 = if (i 1).val = 0 then 0#1 else 1#1 := sgt_word (halfOf i)

/-- The condition of the branch that rounds the rows into the scratch buffer. -/
theorem cond1_iff (i : grid0.Coords) (n : Fin 72) :
    Scalar.cmpi .ne (Scalar.extui (Scalar.andi (Scalar.cmpi .slt (BitVec.ofNat 32 (i 0).val) (ntW n)) (Scalar.cmpi .eq (BitVec.ofNat 32 (i 1).val) 0#32))) 0#32 = 1#1
      ↔ (i 0).val ≤ n.val ∧ (i 1).val = 0 := by
  rw [slt_crd, eq_crd]; split <;> split <;> rename_i h1 h2 <;> simp only [h1, h2, and_self, and_true, true_and, and_false, false_and] <;> decide
/-- The condition of the branch that multiplies. -/
theorem cond2_iff (i : grid0.Coords) (n : Fin 72) : k0_cond2 i (ntW n) = 1#1 ↔ (i 0).val ≤ n.val := by
  unfold k0_cond2; dsimp only; rw [slt_crd]; split <;> rename_i h1 <;> simp only [h1] <;> decide
/-- The condition under which the product is stored, -/
theorem cond3_iff (i : grid0.Coords) : k0_cond3 i = 1#1 ↔ (i 1).val = 0 := by
  unfold k0_cond3; dsimp only; rw [eq_crd]; split <;> rename_i h1 <;> simp only [h1] <;> decide
/-- and the one under which it is added. -/
theorem cond4_iff (i : grid0.Coords) : k0_cond4 i = 1#1 ↔ ¬(i 1).val = 0 := by
  unfold k0_cond4; dsimp only; rw [sgt_crd]; split <;> rename_i h1 <;> simp only [h1] <;> decide
/-- The condition of the branch that stores zeros. -/
theorem cond5_iff (i : grid0.Coords) (n : Fin 72) : k0_cond5 i (ntW n) = 1#1 ↔ ¬(i 0).val ≤ n.val ∧ (i 1).val = 0 := by
  unfold k0_cond5; dsimp only; rw [slt_crd, eq_crd]
  split <;> split <;> rename_i h1 h2 <;> simp only [h1, h2, and_self, and_true, true_and, and_false, false_and, not_true, not_false_iff] <;> decide

/-- The word the body reads from the second table. -/
theorem word1 : View.readAt (Elt Ideal) (tbM0_1).view (Rect.unit (s := S1) ![0] S1.size inb_S1_S1_0).toLoadRect (pinT_1 ch) (Shape.Idx.first (numel1_S1.symm ▸ Nat.one_pos)) = ntW ch.last := rfl

theorem tile_iff (t : Fin (cfgA ch).N) : ((crd ch t) 0).val ≤ ch.last.val ↔ t.val / 2 ≤ ch.last.val :=
  iff_of_eq (congrArg (· ≤ ch.last.val) (coords_tile t))
theorem half_iff (t : Fin (cfgA ch).N) : ((crd ch t) 1).val = 0 ↔ t.val % 2 = 0 :=
  iff_of_eq (congrArg (· = 0) (coords_half t))

theorem P0_0_iff (t : Fin (cfgA ch).N) : P0_0 ch t ↔ t.val / 2 ≤ ch.last.val ∧ t.val % 2 = 0 :=
  (cond1_iff (grid0.coords t) ch.last).trans (and_congr (tile_iff ch t) (half_iff ch t))
theorem P0_1_iff (t : Fin (cfgA ch).N) : P0_1 ch t ↔ t.val / 2 ≤ ch.last.val :=
  (cond2_iff (grid0.coords t) ch.last).trans (tile_iff ch t)
theorem P0_2_iff (t : Fin (cfgA ch).N) : P0_2 ch t ↔ ¬t.val / 2 ≤ ch.last.val ∧ t.val % 2 = 0 :=
  (cond5_iff (grid0.coords t) ch.last).trans (and_congr (not_congr (tile_iff ch t)) (half_iff ch t))
theorem c3_iff (t : Fin (cfgA ch).N) : k0_cond3 (crd ch t) = 1#1 ↔ t.val % 2 = 0 :=
  (cond3_iff (grid0.coords t)).trans (half_iff ch t)
theorem c4_iff (t : Fin (cfgA ch).N) : k0_cond4 (crd ch t) = 1#1 ↔ ¬t.val % 2 = 0 :=
  (cond4_iff (grid0.coords t)).trans (not_congr (half_iff ch t))

/-- The output is left alone exactly at the second half of a tile not in use. -/
theorem idle4_eq (t : Fin (cfgA ch).N) : (cfgA ch).idle (4 : Fin 5) ((cfgA ch).grid.coords t) = decide (¬t.val / 2 ≤ ch.last.val ∧ t.val % 2 = 1) := by
  have e : (cfgA ch).idle (4 : Fin 5) ((cfgA ch).grid.coords t)
      = (!(k0_cond2 (crd ch t) (ntW ch.last) == 1#1 && k0_cond3 (crd ch t) == 1#1) && !(k0_cond2 (crd ch t) (ntW ch.last) == 1#1 && k0_cond4 (crd ch t) == 1#1) && !(k0_cond5 (crd ch t) (ntW ch.last) == 1#1)) := rfl
  rw [e, Bool.eq_iff_iff]
  have h2 : k0_cond2 (crd ch t) (ntW ch.last) = 1#1 ↔ t.val / 2 ≤ ch.last.val := P0_1_iff ch t
  have h5 : k0_cond5 (crd ch t) (ntW ch.last) = 1#1 ↔ ¬t.val / 2 ≤ ch.last.val ∧ t.val % 2 = 0 := P0_2_iff ch t
  have h3 := c3_iff ch t
  have h4 := c4_iff ch t
  simp only [Bool.and_eq_true, Bool.not_eq_true', Bool.and_eq_false_iff, beq_eq_false_iff_ne, ne_eq, h2, h3, h4, h5, decide_eq_true_eq]
  omega

/-- The output tile is written back after each second point. -/
theorem flushOf4 : ∀ t : Fin grid0.N, Window.flushOf grid0 true cc0_transform_4 t = decide (t.val % 2 = 1) := by decide +kernel
theorem flush4_eq (t : Fin (cfgA ch).N) : ((cfgA ch).win (4 : Fin 5)).flush t = decide (t.val % 2 = 1) := flushOf4 t

/-! ## Every fact of a point -/

/-- The facts of point `t` the launch uses: the two freshness tables' steps, and per case the branches' conditions, whether the
    output is left alone or written back there, and which buffers hold nothing yet. -/
abbrev FactsAt (ch : Tab) (t : Fin (cfgA ch).N) : Prop :=
  (sfrTab0_0 ch (t.val + 1) = (if P0_0 ch t then false else (if P0_1 ch t then sfrTab0_0 ch t.val else (if P0_2 ch t then sfrTab0_0 ch t.val else sfrTab0_0 ch t.val))))
  ∧ (frTab0_4 ch (t.val + 1) = (((cfgA ch).win (4 : Fin 5)).flush t || ((cfgA ch).idle (4 : Fin 5) ((cfgA ch).grid.coords t) && frTab0_4 ch t.val)))
  ∧ (P0_0 ch t → ((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ ((k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((k0_cond3 (crd ch t) = 1#1) ∧ ((¬(k0_cond4 (crd ch t) = 1#1)) ∧ ((¬(k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))))
  ∧ (P0_0 ch t → (cfgA ch).idle (4 : Fin 5) ((cfgA ch).grid.coords t) = false ∧ ((cfgA ch).win (4 : Fin 5)).flush t = false ∧ frTab0_4 ch t.val = true ∧ True ∧ sfrTab0_0 ch (t.val + 1) = false)
  ∧ (¬P0_0 ch t → P0_1 ch t → (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond3 (crd ch t) = 1#1)) ∧ ((k0_cond4 (crd ch t) = 1#1) ∧ ((¬(k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))))
  ∧ (¬P0_0 ch t → P0_1 ch t → (cfgA ch).idle (4 : Fin 5) ((cfgA ch).grid.coords t) = false ∧ ((cfgA ch).win (4 : Fin 5)).flush t = true ∧ frTab0_4 ch t.val = false ∧ sfrTab0_0 ch t.val = false ∧ sfrTab0_0 ch (t.val + 1) = false)
  ∧ (¬P0_0 ch t → ¬P0_1 ch t → P0_2 ch t → (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True))))
  ∧ (¬P0_0 ch t → ¬P0_1 ch t → P0_2 ch t → (cfgA ch).idle (4 : Fin 5) ((cfgA ch).grid.coords t) = false ∧ ((cfgA ch).win (4 : Fin 5)).flush t = false ∧ frTab0_4 ch t.val = true ∧ sfrTab0_0 ch t.val = false ∧ sfrTab0_0 ch (t.val + 1) = false)
  ∧ (¬P0_0 ch t → ¬P0_1 ch t → ¬P0_2 ch t → (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))
  ∧ (¬P0_0 ch t → ¬P0_1 ch t → ¬P0_2 ch t → (cfgA ch).idle (4 : Fin 5) ((cfgA ch).grid.coords t) = true ∧ ((cfgA ch).win (4 : Fin 5)).flush t = true ∧ frTab0_4 ch t.val = false ∧ sfrTab0_0 ch t.val = false ∧ sfrTab0_0 ch (t.val + 1) = false)

/-- They hold at every point of every routed table. -/
theorem allFacts : ∀ (ch : Tab) (t : Fin (cfgA ch).N), FactsAt ch t := by
  intro ch t
  have p0 := P0_0_iff ch t
  have p1 := P0_1_iff ch t
  have p2 := P0_2_iff ch t
  have c3 := c3_iff ch t
  have c4 := c4_iff ch t
  have hi := idle4_eq ch t
  have hf := flush4_eq ch t
  have hs : ∀ n, sfrTab0_0 ch n = decide (n ≤ 0) := fun n => rfl
  have hr : ∀ n, frTab0_4 ch n = decide (n % 2 = 0) := fun n => rfl
  by_cases hl : t.val / 2 ≤ ch.last.val <;> rcases Nat.mod_two_eq_zero_or_one t.val with he | he
  · have q0 : P0_0 ch t := p0.2 ⟨hl, he⟩
    have q1 : P0_1 ch t := p1.2 hl
    have q2 : ¬P0_2 ch t := fun h => (p2.1 h).1 hl
    have d3 := c3.2 he
    have d4 : ¬k0_cond4 (crd ch t) = 1#1 := fun h => c4.1 h he
    refine ⟨?_, ?_, fun _ => ⟨q0, q1, d3, d4, q2, trivial⟩, fun _ => ⟨?_, ?_, ?_, trivial, ?_⟩, fun h => absurd q0 h, fun h => absurd q0 h, fun h => absurd q0 h, fun h => absurd q0 h, fun h => absurd q0 h, fun h => absurd q0 h⟩
    · rw [if_pos q0, hs]; simp
    · rw [hr, hr, hf, hi, Bool.eq_iff_iff]; simp only [Bool.or_eq_true, Bool.and_eq_true, decide_eq_true_eq]; omega
    · rw [hi]; simp only [decide_eq_false_iff_not]; omega
    · rw [hf]; simp only [decide_eq_false_iff_not]; omega
    · rw [hr]; simp only [decide_eq_true_eq]; omega
    · rw [hs]; simp
  · have q0 : ¬P0_0 ch t := fun h => by have := (p0.1 h).2; omega
    have q1 : P0_1 ch t := p1.2 hl
    have q2 : ¬P0_2 ch t := fun h => (p2.1 h).1 hl
    have d3 : ¬k0_cond3 (crd ch t) = 1#1 := fun h => by have := c3.1 h; omega
    have d4 := c4.2 (by omega)
    refine ⟨?_, ?_, fun h => absurd h q0, fun h => absurd h q0, fun _ _ => ⟨q0, q1, d3, d4, q2, trivial⟩, fun _ _ => ⟨?_, ?_, ?_, ?_, ?_⟩, fun _ h => absurd q1 h, fun _ h => absurd q1 h, fun _ h => absurd q1 h, fun _ h => absurd q1 h⟩
    · rw [if_neg q0, if_pos q1, hs, hs, Bool.eq_iff_iff]; simp only [decide_eq_true_eq]; omega
    · rw [hr, hr, hf, hi, Bool.eq_iff_iff]; simp only [Bool.or_eq_true, Bool.and_eq_true, decide_eq_true_eq]; omega
    · rw [hi]; simp only [decide_eq_false_iff_not]; omega
    · rw [hf]; simp only [decide_eq_true_eq]; omega
    · rw [hr]; simp only [decide_eq_false_iff_not]; omega
    · rw [hs]; simp only [decide_eq_false_iff_not]; omega
    · rw [hs]; simp
  · have q0 : ¬P0_0 ch t := fun h => hl (p0.1 h).1
    have q1 : ¬P0_1 ch t := fun h => hl (p1.1 h)
    have q2 : P0_2 ch t := p2.2 ⟨hl, he⟩
    have hz : t.val ≠ 0 := fun h => hl (by rw [h]; exact Nat.zero_le _)
    refine ⟨?_, ?_, fun h => absurd h q0, fun h => absurd h q0, fun _ h => absurd h q1, fun _ h => absurd h q1, fun _ _ _ => ⟨q0, q1, q2, trivial⟩, fun _ _ _ => ⟨?_, ?_, ?_, ?_, ?_⟩, fun _ _ h => absurd q2 h, fun _ _ h => absurd q2 h⟩
    · rw [if_neg q0, if_neg q1, if_pos q2, hs, hs, Bool.eq_iff_iff]; simp only [decide_eq_true_eq]; omega
    · rw [hr, hr, hf, hi, Bool.eq_iff_iff]; simp only [Bool.or_eq_true, Bool.and_eq_true, decide_eq_true_eq]; omega
    · rw [hi]; simp only [decide_eq_false_iff_not]; omega
    · rw [hf]; simp only [decide_eq_false_iff_not]; omega
    · rw [hr]; simp only [decide_eq_true_eq]; omega
    · rw [hs]; simp only [decide_eq_false_iff_not]; omega
    · rw [hs]; simp
  · have q0 : ¬P0_0 ch t := fun h => hl (p0.1 h).1
    have q1 : ¬P0_1 ch t := fun h => hl (p1.1 h)
    have q2 : ¬P0_2 ch t := fun h => by have := (p2.1 h).2; omega
    have hz : t.val ≠ 0 := fun h => hl (by rw [h]; exact Nat.zero_le _)
    refine ⟨?_, ?_, fun h => absurd h q0, fun h => absurd h q0, fun _ h => absurd h q1, fun _ h => absurd h q1, fun _ _ h => absurd h q2, fun _ _ h => absurd h q2, fun _ _ _ => ⟨q0, q1, q2, trivial⟩, fun _ _ _ => ⟨?_, ?_, ?_, ?_, ?_⟩⟩
    · rw [if_neg q0, if_neg q1, if_neg q2, hs, hs, Bool.eq_iff_iff]; simp only [decide_eq_true_eq]; omega
    · rw [hr, hr, hf, hi, Bool.eq_iff_iff]; simp only [Bool.or_eq_true, Bool.and_eq_true, decide_eq_true_eq]; omega
    · rw [hi]; simp only [decide_eq_true_eq]; omega
    · rw [hf]; simp only [decide_eq_true_eq]; omega
    · rw [hr]; simp only [decide_eq_false_iff_not]; omega
    · rw [hs]; simp only [decide_eq_false_iff_not]; omega
    · rw [hs]; simp

end Cert.ExpertsIdeal.Routed

end
-- ==== Proof.ExpertsMlp.Launch.lean ====
/-
The launch of the experts' call at routed tables.

The invariant between grid points holds the scratch buffer of rounded rows, once some point has filled it,
and the body's share of the two tables. The body obligation is proved at a generic point, case by case, from
the body's run of that case; the launch then follows from the library.
-/
module

public import proofs.«01_k».proof.Proof.ExpertsMlp.Facts
public import Idealize.ShloMosaic.Lib.Claim

@[expose] public section

set_option maxRecDepth 16384
set_option Elab.async false

noncomputable section

namespace Cert.ExpertsIdeal.Routed

open Cert.ExpertsIdeal
open Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: the rounds library's, for the pipeline's staging cells, embedded whole. -/
abbrev EP : Emb (UR sig nD τ) 𝕄 := emb₁

variable (ch : Tab)
variable (m : (ℓ : Loc nD τ sig) → Buf (Elt Ideal) ℓ) (ρ : Dev nD → PrngReg)

/-! ## The named facts — the freshness tables' steps, each path's hypotheses and schedule —: its projections -/

theorem sfrTab0_0_step : ∀ (ch : Tab) (t : Fin (cfgA ch).N), sfrTab0_0 ch (t.val + 1) = (if P0_0 ch t then false else (if P0_1 ch t then sfrTab0_0 ch t.val else (if P0_2 ch t then sfrTab0_0 ch t.val else sfrTab0_0 ch t.val))) := fun ch t => (allFacts ch t).1
theorem sfresh0_0_eq : ∀ n, n ≤ (cfgA ch).N → sfresh0_0 ch n = sfrTab0_0 ch n
  | 0, _ => by simp only [sfresh0_0, sfrTab0_0, Nat.zero_le, decide_true]
  | n + 1, h => by simp only [sfresh0_0, dif_pos (show n < (cfgA ch).N from h), sfresh0_0_eq n (Nat.le_of_lt h), sfrTab0_0_step ch ⟨n, h⟩]
theorem sfreshF0_0 (t : Fin (cfgA ch).N) : sfresh0_0 ch t.val = sfrTab0_0 ch t.val := sfresh0_0_eq ch t.val (Nat.le_of_lt t.isLt)
theorem sfreshS0_0 (t : Fin (cfgA ch).N) : sfresh0_0 ch (t.val + 1) = sfrTab0_0 ch (t.val + 1) := sfresh0_0_eq ch (t.val + 1) t.isLt

theorem frTab0_4_step : ∀ (ch : Tab) (t : Fin (cfgA ch).N),
    frTab0_4 ch (t.val + 1) = (((cfgA ch).win (4 : Fin 5)).flush t || ((cfgA ch).idle (4 : Fin 5) ((cfgA ch).grid.coords t) && frTab0_4 ch t.val)) := fun ch t => (allFacts ch t).2.1
theorem freshF0_4 (t : Fin (cfgA ch).N) : (cfgA ch).fresh (4 : Fin 5) t.val = frTab0_4 ch t.val :=
  Pipeline.Cfg.fresh_tab (cfgA ch) (4 : Fin 5) (frTab0_4 ch) rfl (frTab0_4_step ch) t.val (Nat.le_of_lt t.isLt)

/-- At a point of path A, the path's hypotheses hold of the words the body reads there . -/
theorem hyps0_A : ∀ (ch : Tab) (t : Fin (cfgA ch).N), P0_0 ch t →
    ((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ ((k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((k0_cond3 (crd ch t) = 1#1) ∧ ((¬(k0_cond4 (crd ch t) = 1#1)) ∧ ((¬(k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))) := fun ch t => (allFacts ch t).2.2.1

theorem hypsR0_A : ∀ (ch : Tab) (t : Fin (cfgA ch).N), P0_0 ch t →
    ((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1) ∧ ((k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((k0_cond3 (crd ch t) = 1#1) ∧ ((¬(k0_cond4 (crd ch t) = 1#1)) ∧ ((¬(k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))) := hyps0_A

/-- At a point of path A: the idle table, the write-backs and which buffers hold junk (decided over the
    freshness tables `frTab`/`sfrTab`, restated over `Cfg.fresh`/`sfresh` by their agreement). -/
theorem sched0_A : ∀ (ch : Tab) (t : Fin (cfgA ch).N), P0_0 ch t →
    (cfgA ch).idle (4 : Fin 5) ((cfgA ch).grid.coords t) = false ∧ ((cfgA ch).win (4 : Fin 5)).flush t = false ∧ (cfgA ch).fresh (4 : Fin 5) t.val = true ∧ True ∧ sfresh0_0 ch (t.val + 1) = false := by
  intro ch t; rw [freshF0_4 ch t, sfreshS0_0 ch t]; exact (fun ch t => (allFacts ch t).2.2.2.1) ch t

/-- At a point of path B, the path's hypotheses hold of the words the body reads there . -/
theorem hyps0_B : ∀ (ch : Tab) (t : Fin (cfgA ch).N), ¬P0_0 ch t → P0_1 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond3 (crd ch t) = 1#1)) ∧ ((k0_cond4 (crd ch t) = 1#1) ∧ ((¬(k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))) := fun ch t => (allFacts ch t).2.2.2.2.1

theorem hypsR0_B : ∀ (ch : Tab) (t : Fin (cfgA ch).N), ¬P0_0 ch t → P0_1 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1) ∧ ((¬(k0_cond3 (crd ch t) = 1#1)) ∧ ((k0_cond4 (crd ch t) = 1#1) ∧ ((¬(k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))))) := hyps0_B

/-- At a point of path B: the idle table, the write-backs and which buffers hold junk (decided over the
    freshness tables `frTab`/`sfrTab`, restated over `Cfg.fresh`/`sfresh` by their agreement). -/
theorem sched0_B : ∀ (ch : Tab) (t : Fin (cfgA ch).N), ¬P0_0 ch t → P0_1 ch t →
    (cfgA ch).idle (4 : Fin 5) ((cfgA ch).grid.coords t) = false ∧ ((cfgA ch).win (4 : Fin 5)).flush t = true ∧ (cfgA ch).fresh (4 : Fin 5) t.val = false ∧ sfresh0_0 ch t.val = false ∧ sfresh0_0 ch (t.val + 1) = false := by
  intro ch t; rw [freshF0_4 ch t, sfreshF0_0 ch t, sfreshS0_0 ch t]; exact (fun ch t => (allFacts ch t).2.2.2.2.2.1) ch t

/-- At a point of path C, the path's hypotheses hold of the words the body reads there . -/
theorem hyps0_C : ∀ (ch : Tab) (t : Fin (cfgA ch).N), ¬P0_0 ch t → ¬P0_1 ch t → P0_2 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True))) := fun ch t => (allFacts ch t).2.2.2.2.2.2.1

theorem hypsR0_C : ∀ (ch : Tab) (t : Fin (cfgA ch).N), ¬P0_0 ch t → ¬P0_1 ch t → P0_2 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1) ∧ (True))) := hyps0_C

/-- At a point of path C: the idle table, the write-backs and which buffers hold junk (decided over the
    freshness tables `frTab`/`sfrTab`, restated over `Cfg.fresh`/`sfresh` by their agreement). -/
theorem sched0_C : ∀ (ch : Tab) (t : Fin (cfgA ch).N), ¬P0_0 ch t → ¬P0_1 ch t → P0_2 ch t →
    (cfgA ch).idle (4 : Fin 5) ((cfgA ch).grid.coords t) = false ∧ ((cfgA ch).win (4 : Fin 5)).flush t = false ∧ (cfgA ch).fresh (4 : Fin 5) t.val = true ∧ sfresh0_0 ch t.val = false ∧ sfresh0_0 ch (t.val + 1) = false := by
  intro ch t; rw [freshF0_4 ch t, sfreshF0_0 ch t, sfreshS0_0 ch t]; exact (fun ch t => (allFacts ch t).2.2.2.2.2.2.2.1) ch t

/-- At a point of path D, the path's hypotheses hold of the words the body reads there . -/
theorem hyps0_D : ∀ (ch : Tab) (t : Fin (cfgA ch).N), ¬P0_0 ch t → ¬P0_1 ch t → ¬P0_2 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := fun ch t => (allFacts ch t).2.2.2.2.2.2.2.2.1

theorem hypsR0_D : ∀ (ch : Tab) (t : Fin (cfgA ch).N), ¬P0_0 ch t → ¬P0_1 ch t → ¬P0_2 ch t →
    (¬((Scalar.cmpi .ne (Scalar.extui (Scalar.andi (Scalar.cmpi .slt (BitVec.ofNat 32 ((crd ch t) 0).val) (View.readAt (Elt Ideal) (tbM0_1).view (Rect.unit (s := S1) ![0] S1.size inb_S1_S1_0).toLoadRect (pinT_1 ch) (Shape.Idx.first (numel1_S1.symm ▸ Nat.one_pos)))) (Scalar.cmpi .eq (BitVec.ofNat 32 ((crd ch t) 1).val) 0#32))) 0#32) = 1#1)) ∧ ((¬(k0_cond2 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ ((¬(k0_cond5 (crd ch t) (View.readAt (Elt Ideal) (tbM0_1).view (Rect.unit (s := S1) ![0] S1.size inb_S1_S1_0).toLoadRect (pinT_1 ch) (Shape.Idx.first (numel1_S1.symm ▸ Nat.one_pos))) = 1#1)) ∧ (True))) := hyps0_D

/-- At a point of path D: the idle table, the write-backs and which buffers hold junk (decided over the
    freshness tables `frTab`/`sfrTab`, restated over `Cfg.fresh`/`sfresh` by their agreement). -/
theorem sched0_D : ∀ (ch : Tab) (t : Fin (cfgA ch).N), ¬P0_0 ch t → ¬P0_1 ch t → ¬P0_2 ch t →
    (cfgA ch).idle (4 : Fin 5) ((cfgA ch).grid.coords t) = true ∧ ((cfgA ch).win (4 : Fin 5)).flush t = true ∧ (cfgA ch).fresh (4 : Fin 5) t.val = false ∧ sfresh0_0 ch t.val = false ∧ sfresh0_0 ch (t.val + 1) = false := by
  intro ch t; rw [freshF0_4 ch t, sfreshF0_0 ch t, sfreshS0_0 ch t]; exact (fun ch t => (allFacts ch t).2.2.2.2.2.2.2.2.2) ch t

/-! ## What the outputs and scratches hold after each point -/

/-- ONE STEP of the trajectory: what the outputs' current buffers and the scratches hold after the body at point `t`
    (output 4, scratch 0), from what they held before (`prev`): the path the decisions select at `t`, its
    run's contents; an output the path leaves idle keeps what it held (junk — `default`, named by nothing — where fresh). -/
def step0 (c : Dev nD) (t : Fin (cfgA ch).N) (prev : (S512x1024.Idx → Elt Ideal .f32) × Buf (Elt Ideal) ((c : Thread nD τ).loc cc0_scratch0)) : (S512x1024.Idx → Elt Ideal .f32) × Buf (Elt Ideal) ((c : Thread nD τ).loc cc0_scratch0) :=
  if q0 : P0_0 ch t then
    (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1 (hypsR0_A ch t q0).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1 (hypsR0_A ch t q0).2.2.2.2.1).2.1)
  else
    if q1 : P0_1 ch t then
      (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.1 prev.2 (hypsR0_B ch t q0 q1).1 (hypsR0_B ch t q0 q1).2.1 (hypsR0_B ch t q0 q1).2.2.1 (hypsR0_B ch t q0 q1).2.2.2.1 (hypsR0_B ch t q0 q1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.1 prev.2 (hypsR0_B ch t q0 q1).1 (hypsR0_B ch t q0 q1).2.1 (hypsR0_B ch t q0 q1).2.2.1 (hypsR0_B ch t q0 q1).2.2.2.1 (hypsR0_B ch t q0 q1).2.2.2.2.1).2.1)
    else
      if q2 : P0_2 ch t then
        (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1).2.1)
      else
        ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_D ch t q0 q1 q2).1 (hypsR0_D ch t q0 q1 q2).2.1 (hypsR0_D ch t q0 q1 q2).2.2.1).1)

/-- THE TRAJECTORY: after position `n`. -/
def traj0 (c : Dev nD) : (n : ℕ) → n < (cfgA ch).N → (S512x1024.Idx → Elt Ideal .f32) × Buf (Elt Ideal) ((c : Thread nD τ).loc cc0_scratch0)
  | 0, h => step0 ch m ρ c ⟨0, h⟩ (default, default)
  | n + 1, h => step0 ch m ρ c ⟨n + 1, h⟩ (traj0 c n (Nat.lt_of_succ_lt h))

/-- What they held BEFORE point `t` (junk before the first). -/
def prev0 (c : Dev nD) (t : Fin (cfgA ch).N) : (S512x1024.Idx → Elt Ideal .f32) × Buf (Elt Ideal) ((c : Thread nD τ).loc cc0_scratch0) :=
  if h : t.val = 0 then (default, default) else traj0 ch m ρ c (t.val - 1) (by omega)

theorem traj0_eq (c : Dev nD) (t : Fin (cfgA ch).N) : traj0 ch m ρ c t.val t.isLt = step0 ch m ρ c t (prev0 ch m ρ c t) := by
  obtain ⟨n, hn⟩ := t
  cases n with
  | zero => rfl
  | succ n => unfold prev0; simp only [Nat.add_one_ne_zero, dif_neg, not_false_eq_true]; rfl

/-- `step0` at a point of path A. -/
theorem step0_A (c : Dev nD) (t : Fin (cfgA ch).N) (prev : (S512x1024.Idx → Elt Ideal .f32) × Buf (Elt Ideal) ((c : Thread nD τ).loc cc0_scratch0)) (q0 : P0_0 ch t) :
    step0 ch m ρ c t prev = (out0_A_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1 (hypsR0_A ch t q0).2.2.2.2.1, (kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) (hypsR0_A ch t q0).1 (hypsR0_A ch t q0).2.1 (hypsR0_A ch t q0).2.2.1 (hypsR0_A ch t q0).2.2.2.1 (hypsR0_A ch t q0).2.2.2.2.1).2.1) := by
  unfold step0; simp only [dif_pos q0]

/-- `step0` at a point of path B. -/
theorem step0_B (c : Dev nD) (t : Fin (cfgA ch).N) (prev : (S512x1024.Idx → Elt Ideal .f32) × Buf (Elt Ideal) ((c : Thread nD τ).loc cc0_scratch0)) (q0 : ¬P0_0 ch t) (q1 : P0_1 ch t) :
    step0 ch m ρ c t prev = (out0_B_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.1 prev.2 (hypsR0_B ch t q0 q1).1 (hypsR0_B ch t q0 q1).2.1 (hypsR0_B ch t q0 q1).2.2.1 (hypsR0_B ch t q0 q1).2.2.2.1 (hypsR0_B ch t q0 q1).2.2.2.2.1, (kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.1 prev.2 (hypsR0_B ch t q0 q1).1 (hypsR0_B ch t q0 q1).2.1 (hypsR0_B ch t q0 q1).2.2.1 (hypsR0_B ch t q0 q1).2.2.2.1 (hypsR0_B ch t q0 q1).2.2.2.2.1).2.1) := by
  unfold step0; simp only [dif_neg q0, dif_pos q1]

/-- `step0` at a point of path C. -/
theorem step0_C (c : Dev nD) (t : Fin (cfgA ch).N) (prev : (S512x1024.Idx → Elt Ideal .f32) × Buf (Elt Ideal) ((c : Thread nD τ).loc cc0_scratch0)) (q0 : ¬P0_0 ch t) (q1 : ¬P0_1 ch t) (q2 : P0_2 ch t) :
    step0 ch m ρ c t prev = (out0_C_4 c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1, (kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_C ch t q0 q1 q2).1 (hypsR0_C ch t q0 q1 q2).2.1 (hypsR0_C ch t q0 q1 q2).2.2.1).2.1) := by
  unfold step0; simp only [dif_neg q0, dif_neg q1, dif_pos q2]

/-- `step0` at a point of path D. -/
theorem step0_D (c : Dev nD) (t : Fin (cfgA ch).N) (prev : (S512x1024.Idx → Elt Ideal .f32) × Buf (Elt Ideal) ((c : Thread nD τ).loc cc0_scratch0)) (q0 : ¬P0_0 ch t) (q1 : ¬P0_1 ch t) (q2 : ¬P0_2 ch t) :
    step0 ch m ρ c t prev = ((if (cfgA ch).fresh (4 : Fin 5) t.val then default else prev.1), (kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) prev.2 (hypsR0_D ch t q0 q1 q2).1 (hypsR0_D ch t q0 q1 q2).2.1 (hypsR0_D ch t q0 q1 q2).2.2.1).1) := by
  unfold step0; simp only [dif_neg q0, dif_neg q1, dif_neg q2]

/-! ## The pipeline's proof data -/

/-- What the tracked buffers held before position `t` of `Fin (N+1)` (the invariant's index). -/
def prev0T (c : Dev nD) (t : Fin ((cfgA ch).N + 1)) : (S512x1024.Idx → Elt Ideal .f32) × Buf (Elt Ideal) ((c : Thread nD τ).loc cc0_scratch0) :=
  if h : t.val = 0 then (default, default) else traj0 ch m ρ c (t.val - 1) (by omega)

theorem prev0T_castSucc (c : Dev nD) (t : Fin (cfgA ch).N) : prev0T ch m ρ c t.castSucc = prev0 ch m ρ c t := by
  unfold prev0T prev0; simp only [Fin.val_castSucc]
theorem prev0T_succ (c : Dev nD) (t : Fin (cfgA ch).N) : prev0T ch m ρ c t.succ = traj0 ch m ρ c t.val t.isLt := by
  unfold prev0T; simp only [Fin.val_succ, Nat.add_one_ne_zero, ↓reduceDIte, Nat.add_one_sub_one]

/-- THE INVARIANT before point `t`: each scratch at what the trajectory says once a point has determined it (anything
    before), the body's halves of the tables. -/
def Phi (m : (ℓ : Loc nD τ sig) → Buf (Elt Ideal) ℓ) (ρ : Dev nD → PrngReg) (c : Dev nD) (t : Fin ((cfgA ch).N + 1)) : sProp 𝕄 :=
  iprop((∃ a, ⌜sfresh0_0 ch t.val = false → a = (prev0T ch m ρ c t).2⌝ ∗ (scM0_0.view.loc (c : Thread nD τ) ↦{fullShare} a)) ∗ (tbM0_0.view.loc (c : Thread nD τ) ↦{fullShare.right} pinT_0 ch) ∗ (tbM0_1.view.loc (c : Thread nD τ) ↦{fullShare.right} pinT_1 ch))

/-- The proof data of the one pipeline on core `c`. -/
def dats (_ : Fin 1) (c : Dev nD) : Dat τ (Elt Ideal) Unit ℕ (UR sig nD τ) ℕ (cfgA ch) c where
  A w := (s₀ m ρ).mem (((cfgA ch).win w).arr.view.loc (c : Thread nD τ))
  after w t := match w with
    | ⟨0, _⟩ => iblk ch m ρ c (0 : Fin 5) t
    | ⟨1, _⟩ => iblk ch m ρ c (1 : Fin 5) t
    | ⟨2, _⟩ => iblk ch m ρ c (2 : Fin 5) t
    | ⟨3, _⟩ => iblk ch m ρ c (3 : Fin 5) t
    | ⟨4, _⟩ => (traj0 ch m ρ c t.val t.isLt).1
  Φ t := Phi ch m ρ c t
  q _ := fullShare
  owed _ := 0

theorem after0_0 (c : Dev nD) (t : Fin (cfgA ch).N) : (dats ch m ρ 0 c).after (0 : Fin 5) t = iblk ch m ρ c (0 : Fin 5) t := rfl
theorem after0_1 (c : Dev nD) (t : Fin (cfgA ch).N) : (dats ch m ρ 0 c).after (1 : Fin 5) t = iblk ch m ρ c (1 : Fin 5) t := rfl
theorem after0_2 (c : Dev nD) (t : Fin (cfgA ch).N) : (dats ch m ρ 0 c).after (2 : Fin 5) t = iblk ch m ρ c (2 : Fin 5) t := rfl
theorem after0_3 (c : Dev nD) (t : Fin (cfgA ch).N) : (dats ch m ρ 0 c).after (3 : Fin 5) t = iblk ch m ρ c (3 : Fin 5) t := rfl
theorem after0_4 (c : Dev nD) (t : Fin (cfgA ch).N) : (dats ch m ρ 0 c).after (4 : Fin 5) t = (traj0 ch m ρ c t.val t.isLt).1 := rfl

/-! ## What each window's staging buffer holds when the body runs -/

/-- Input window 0 holds its block, fetched there or not (Lib/Pipeline/FrameBody.lean `Dat.before_in_eq_fetched`). -/
theorem before0_0 (c : Dev nD) (t : Fin (cfgA ch).N) (d) : (dats ch m ρ 0 c).before (0 : Fin 5) t d = iblk ch m ρ c (0 : Fin 5) t :=
  ((dats ch m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA ch).N) (d) : (dats ch m ρ 0 c).before (1 : Fin 5) t d = iblk ch m ρ c (1 : Fin 5) t :=
  ((dats ch m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)

/-- Input window 2 holds its block, fetched there or not (Lib/Pipeline/FrameBody.lean `Dat.before_in_eq_fetched`). -/
theorem before0_2 (c : Dev nD) (t : Fin (cfgA ch).N) (d) : (dats ch m ρ 0 c).before (2 : Fin 5) t d = iblk ch m ρ c (2 : Fin 5) t :=
  ((dats ch m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)

/-- Input window 3 holds its block, fetched there or not (Lib/Pipeline/FrameBody.lean `Dat.before_in_eq_fetched`). -/
theorem before0_3 (c : Dev nD) (t : Fin (cfgA ch).N) (d) : (dats ch m ρ 0 c).before (3 : Fin 5) t d = iblk ch m ρ c (3 : Fin 5) t :=
  ((dats ch m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- Output 4's `after` carries through the points that leave it idle. -/
theorem hcarry0_4 (c : Dev nD) : ∀ (t : Fin (cfgA ch).N) (ht : t.val ≠ 0), (cfgA ch).idle (4 : Fin 5) ((cfgA ch).grid.coords t) = true → (cfgA ch).fresh (4 : Fin 5) t.val = false →
    (dats ch m ρ 0 c).after (4 : Fin 5) t = (dats ch m ρ 0 c).after (4 : Fin 5) ⟨t.val - 1, by omega⟩ := by
  intro t ht hi hf
  rw [after0_4, after0_4, traj0_eq]
  by_cases q0 : P0_0 ch t
  · obtain ⟨i4, -, -, -, -⟩ := sched0_A ch t q0
    rw [i4] at hi; exact absurd hi (by decide)
  · by_cases q1 : P0_1 ch t
    · obtain ⟨i4, -, -, -, -⟩ := sched0_B ch t q0 q1
      rw [i4] at hi; exact absurd hi (by decide)
    · by_cases q2 : P0_2 ch t
      · obtain ⟨i4, -, -, -, -⟩ := sched0_C ch t q0 q1 q2
        rw [i4] at hi; exact absurd hi (by decide)
      · rw [step0_D ch m ρ c t _ q0 q1 q2]
        simp only [hf, Bool.false_eq_true, ↓reduceIte]
        unfold prev0; rw [dif_neg ht]

/-- Output window 4 holds, when the body runs at `t`: junk if nothing was stored since its last write-back (`Cfg.fresh`),
    else what the point before left (TableIdle.lean `Dat.before_out_traj`). -/
theorem before0_4 (c : Dev nD) (t : Fin (cfgA ch).N) (d) :
    (dats ch m ρ 0 c).before (4 : Fin 5) t d = if (cfgA ch).fresh (4 : Fin 5) t.val then d else (prev0 ch m ρ c t).1 := by
  rw [(dats ch m ρ 0 c).before_out_traj (4 : Fin 5) rfl (fun _ _ => rfl) (hcarry0_4 ch m ρ c) t.val t rfl d]
  by_cases hf : (cfgA ch).fresh (4 : Fin 5) t.val = true
  · simp only [hf, ↓reduceIte]
  · have h0 : t.val ≠ 0 := fun h0 => hf (by rw [h0]; exact Pipeline.Cfg.fresh_zero _ _)
    rw [Bool.not_eq_true] at hf
    simp only [hf, Bool.false_eq_true, ↓reduceIte, after0_4]; unfold prev0; rw [dif_neg h0]

/-! ## The body obligation, at a generic point, by path -/

/-- The body at point `t` on its staging memrefs, as the pipeline calls it. -/
abbrev bodyAt0 (t : Fin (cfgA ch).N) : Prog (TpuEff nD τ sig (Elt Ideal) Λ₀ .tc) PUnit :=
  cc0_moe_experts (crd ch t) (Memref.whole main_arg0) (Memref.isWhole_whole _) (Memref.whole main_arg1) (Memref.isWhole_whole _) (ms0_0 ch t) (hs0_0 ch t) (ms0_1 ch t) (hs0_1 ch t) (ms0_2 ch t) (hs0_2 ch t) (ms0_3 ch t) (hs0_3 ch t) (ms0_4 ch t) (hs0_4 ch t) (Memref.whole cc0_scratch0) (Memref.isWhole_whole _)

set_option maxHeartbeats 4000000 in
/-- THE BODY OBLIGATION at point `t`: the decisions there tell the path (`by_cases` on `P0_·`); its hypotheses and schedule are
    the decided facts'; the inputs hold their blocks, a live buffer what the trajectory says; the path's run applies; the
    idle windows' matches in the post reduce by the decided idle table. -/
theorem sound_body (hp : Pinned ch m) (c : Dev nD) (t : Fin (cfgA ch).N) :
    iprop((dats ch m ρ 0 c).Φ t.castSucc ∗ (dats ch m ρ 0 c).owesAt () t.castSucc
        ∗ (∃ d, owns (c : Thread nD τ) (ms0_0 ch t) fullShare ((dats ch m ρ 0 c).before (0 : Fin 5) t d))
        ∗ (∃ d, owns (c : Thread nD τ) (ms0_1 ch t) fullShare ((dats ch m ρ 0 c).before (1 : Fin 5) t d))
        ∗ (∃ d, owns (c : Thread nD τ) (ms0_2 ch t) fullShare ((dats ch m ρ 0 c).before (2 : Fin 5) t d))
        ∗ (∃ d, owns (c : Thread nD τ) (ms0_3 ch t) fullShare ((dats ch m ρ 0 c).before (3 : Fin 5) t d))
        ∗ (∃ d, owns (c : Thread nD τ) (ms0_4 ch t) fullShare ((dats ch m ρ 0 c).before (4 : Fin 5) t d)))
      ⊢ wp frame (wpE (defs₀ (F := Ideal)) Variants.none c none) Set.univ (bodyAt0 ch t) fun _ =>
          iprop((dats ch m ρ 0 c).Φ t.succ ∗ (dats ch m ρ 0 c).owesAt () t.succ
            ∗ bigSep Finset.univ fun w : Fin (cfgA ch).W =>
                match (cfgA ch).idle w ((cfgA ch).grid.coords t) with
                | true =>
                  match ((cfgA ch).win w).flush t with
                  | false => iprop(∃ d, owns (c : Thread nD τ) (((cfgA ch).win w).stage ((cfgA ch).slots t w)) fullShare ((dats ch m ρ 0 c).before w t d))
                  | true => owns (c : Thread nD τ) (((cfgA ch).win w).stage ((cfgA ch).slots t w)) fullShare ((dats ch m ρ 0 c).after w t)
                | false => owns (c : Thread nD τ) (((cfgA ch).win w).stage ((cfgA ch).slots t w)) fullShare ((dats ch m ρ 0 c).after w t)) := by
  rw [bigSep_W0]
  by_cases q0 : P0_0 ch t
  · obtain ⟨i4, f4, fr4, sf0, sfn0⟩ := sched0_A ch t q0
    have F0 := hypsR0_A ch t q0
    have hc0 := F0.1; have F1 := F0.2
    have k0_h2 := F1.1; have F2 := F1.2
    have k0_h3 := F2.1; have F3 := F2.2
    have k0_h4 := F3.1; have F4 := F3.2
    have k0_h5 := F4.1; have F5 := F4.2
    clear F0 F1 F2 F3 F4 F5
    rewrite [i4]
    simp only [before0_0, before0_1, before0_2, before0_3, before0_4, after0_0, after0_1, after0_2, after0_3, after0_4, f4]
    simp only [fr4, Bool.false_eq_true, ↓reduceIte]
    rewrite [show (dats ch m ρ 0 c).Φ t.succ = Phi ch m ρ c t.succ from rfl, show (dats ch m ρ 0 c).Φ t.castSucc = Phi ch m ρ c t.castSucc from rfl,
      show (dats ch m ρ 0 c).owesAt () t.succ = (dats ch m ρ 0 c).owesAt () t.castSucc from rfl]
    try rewrite [traj0_eq, step0_A ch m ρ c t _ q0]
    unfold Phi; simp only [prev0T_castSucc, prev0T_succ, traj0_eq, step0_A ch m ρ c t _ q0, Fin.val_castSucc, Fin.val_succ]
    iintro ⟨⟨⟨%a0, %ha0, HS0⟩, HT0, HT1⟩, Ho, ⟨%d0, H0⟩, ⟨%d1, H1⟩, ⟨%d2, H2⟩, ⟨%d3, H3⟩, ⟨%d4, H4⟩⟩
    iapply ((kernelRun0_A c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) hc0 k0_h2 k0_h3 k0_h4 k0_h5).2.2 a0 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    isplitl [HS0]; · iexact HS0
    iintro ⟨H0, H1, H2, H3, HT0, HT1, ⟨%e4, H4⟩, HS0⟩
    isplitl [HS0 HT0 HT1]
    · isplitl [HS0]
      · iexists _; isplitr; swap
        · iexact HS0
        · ipureintro; intro hn; first | rfl | exact absurd hn (by first | (rw [sfn0]; decide) | decide)
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact View.read_writes_of_cover _ _ _ _ _ (cover0_A_4 c _ _ _ _ _ _ _ _ _ _ _ _ _ _ _ _ _ _ _ _ _ _)
  · by_cases q1 : P0_1 ch t
    · obtain ⟨i4, f4, fr4, sf0, sfn0⟩ := sched0_B ch t q0 q1
      have F0 := hypsR0_B ch t q0 q1
      have hc0 := F0.1; have F1 := F0.2
      have k0_h2 := F1.1; have F2 := F1.2
      have k0_h3 := F2.1; have F3 := F2.2
      have k0_h4 := F3.1; have F4 := F3.2
      have k0_h5 := F4.1; have F5 := F4.2
      clear F0 F1 F2 F3 F4 F5
      rewrite [i4]
      simp only [before0_0, before0_1, before0_2, before0_3, before0_4, after0_0, after0_1, after0_2, after0_3, after0_4, f4]
      simp only [fr4, Bool.false_eq_true, ↓reduceIte]
      rewrite [show (dats ch m ρ 0 c).Φ t.succ = Phi ch m ρ c t.succ from rfl, show (dats ch m ρ 0 c).Φ t.castSucc = Phi ch m ρ c t.castSucc from rfl,
        show (dats ch m ρ 0 c).owesAt () t.succ = (dats ch m ρ 0 c).owesAt () t.castSucc from rfl]
      try rewrite [traj0_eq, step0_B ch m ρ c t _ q0 q1]
      unfold Phi; simp only [prev0T_castSucc, prev0T_succ, traj0_eq, step0_B ch m ρ c t _ q0 q1, Fin.val_castSucc, Fin.val_succ]
      simp only [exists_held sf0]
      iintro ⟨⟨HS0, HT0, HT1⟩, Ho, ⟨%d0, H0⟩, ⟨%d1, H1⟩, ⟨%d2, H2⟩, ⟨%d3, H3⟩, ⟨%d4, H4⟩⟩
      iapply ((kernelRun0_B c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ _ hc0 k0_h2 k0_h3 k0_h4 k0_h5).2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      iintro ⟨H0, H1, H2, H3, HT0, HT1, ⟨%e4, H4⟩, HS0⟩
      isplitl [HS0 HT0 HT1]
      · isplitl [HS0]
        · iexists _; isplitr; swap
          · iexact HS0
          · ipureintro; intro hn; first | rfl | exact absurd hn (by first | (rw [sfn0]; decide) | decide)
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      unfold owns; iexists _; isplitr; swap
      · iexact H4
      · ipureintro; exact View.read_writes_of_cover _ _ _ _ _ (cover0_B_4 c _ _ _ _ _ _ _ _ _ _ _ _ _ _ _ _ _ _ _ _ _ _ _ _)
    · by_cases q2 : P0_2 ch t
      · obtain ⟨i4, f4, fr4, sf0, sfn0⟩ := sched0_C ch t q0 q1 q2
        have F0 := hypsR0_C ch t q0 q1 q2
        have hc0 := F0.1; have F1 := F0.2
        have k0_h2 := F1.1; have F2 := F1.2
        have k0_h5 := F2.1; have F3 := F2.2
        clear F0 F1 F2 F3
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_C ch m ρ c t _ q0 q1 q2]
        unfold Phi; simp only [prev0T_castSucc, prev0T_succ, traj0_eq, step0_C ch m ρ c t _ q0 q1 q2, Fin.val_castSucc, Fin.val_succ]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_C c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ hc0 k0_h2 k0_h5).2.2 _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexists _; iexact H4
        isplitl [HS0]; · iexact HS0
        iintro ⟨H0, H1, H2, H3, HT0, HT1, ⟨%e4, H4⟩, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        unfold owns; iexists _; isplitr; swap
        · iexact H4
        · ipureintro; exact View.read_writes_of_cover _ _ _ _ _ (cover0_C_4 c _ _ _ _ _ _ _ _ _ _ _ _ _ _ _ _ _ _ _ _ _)
      · obtain ⟨i4, f4, fr4, sf0, sfn0⟩ := sched0_D ch t q0 q1 q2
        have F0 := hypsR0_D ch t q0 q1 q2
        have hc0 := F0.1; have F1 := F0.2
        have k0_h2 := F1.1; have F2 := F1.2
        have k0_h5 := F2.1; have F3 := F2.2
        clear F0 F1 F2 F3
        rewrite [i4]
        simp only [before0_0, before0_1, before0_2, before0_3, before0_4, after0_0, after0_1, after0_2, after0_3, after0_4, f4]
        simp only [fr4, Bool.false_eq_true, ↓reduceIte]
        rewrite [show (dats ch m ρ 0 c).Φ t.succ = Phi ch m ρ c t.succ from rfl, show (dats ch m ρ 0 c).Φ t.castSucc = Phi ch m ρ c t.castSucc from rfl,
          show (dats ch m ρ 0 c).owesAt () t.succ = (dats ch m ρ 0 c).owesAt () t.castSucc from rfl]
        try rewrite [traj0_eq, step0_D ch m ρ c t _ q0 q1 q2]
        unfold Phi; simp only [prev0T_castSucc, prev0T_succ, traj0_eq, step0_D ch m ρ c t _ q0 q1 q2, Fin.val_castSucc, Fin.val_succ, fr4, Bool.false_eq_true, ↓reduceIte]
        simp only [exists_held sf0]
        iintro ⟨⟨HS0, HT0, HT1⟩, Ho, ⟨%d0, H0⟩, ⟨%d1, H1⟩, ⟨%d2, H2⟩, ⟨%d3, H3⟩, ⟨%d4, H4⟩⟩
        iapply ((kernelRun0_D c (crd ch t) (ms0_0 ch t) (hs0_0 ch t) (ms0_1 ch t) (hs0_1 ch t) (ms0_2 ch t) (hs0_2 ch t) (ms0_3 ch t) (hs0_3 ch t) (ms0_4 ch t) (hs0_4 ch t) (pinT_0 ch) (pinT_1 ch) (iblk ch m ρ c (0 : Fin 5) t) (iblk ch m ρ c (1 : Fin 5) t) (iblk ch m ρ c (2 : Fin 5) t) (iblk ch m ρ c (3 : Fin 5) t) _ hc0 k0_h2 k0_h5).2 _ _)
        isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        isplitl [HT1]; · iexact HT1
        isplitl [H4]; · iexact H4
        isplitl [HS0]; · iexact HS0
        iintro ⟨H0, H1, H2, H3, HT0, HT1, H4, HS0⟩
        isplitl [HS0 HT0 HT1]
        · isplitl [HS0]
          · iexists _; isplitr; swap
            · iexact HS0
            · ipureintro; intro hn; first | rfl | exact absurd hn (by first | (rw [sfn0]; decide) | decide)
          isplitl [HT0]
          · iexact HT0
          iexact HT1
        isplitl [Ho]; · iexact Ho
        isplitl [H0]
        · iapply owns_of_rep; iexact H0
        isplitl [H1]
        · iapply owns_of_rep; iexact H1
        isplitl [H2]
        · iapply owns_of_rep; iexact H2
        isplitl [H3]
        · iapply owns_of_rep; iexact H3
        first | (iexists d4; iexact H4) | iexact H4

/-- The library's body obligation, at every point. -/
theorem body_obligation (hp : Pinned ch m) (c : Dev nD) : BodyObligation (dats ch m ρ 0 c) (defs₀ (F := Ideal)) Variants.none () Set.univ := fun t => by
  rw [bigSep_W0]
  exact sound_body ch m ρ hp c t

/-! ## The launch -/

/-- The rounds library's launch element. -/
def u₀ : UR sig nD τ :=
  initOf (Pipeline.cells (pcs ch) ((launch0 (F := Ideal)).cellOf_inj fun _ => adm ch))
    (Pipeline.launchToks (pcs ch) ((launch0 (F := Ideal)).cellOf_inj fun _ => adm ch))

theorem share_eq (c : Dev nD) (w : Fin (cfgA ch).W) : (dats ch m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm ch).1 ∗ Pipeline.scopedRest spec0 c) ⊢ (dats ch m ρ 0 c).Φ 0 := by
  rw [prefHeld_eq, scopedRest0_eq, show (dats ch m ρ 0 c).Φ 0 = Phi ch m ρ c 0 from rfl]
  unfold Phi
  iintro ⟨-, ⟨HT0, HT1⟩, ⟨%a0, HS0⟩⟩
  isplitl [HS0]
  · iexists a0; isplitr; swap
    · iexact HS0
    · ipureintro; intro h; exact absurd (h.symm.trans (show sfresh0_0 ch 0 = true from rfl)) Bool.false_ne_true
  isplitl [HT0]
  · iexact HT0
  iexact HT1

/-- at the last point it gives the scratch buffers back (`hout`), the tables let go. -/
theorem phiN_exit (c : Dev nD) : (dats ch m ρ 0 c).Φ (Fin.last (cfgA ch).N) ⊢ iprop(BI.emp ∗ Pipeline.scopedRest spec0 c) := by
  rw [scopedRest0_eq, show (dats ch m ρ 0 c).Φ (Fin.last (cfgA ch).N) = Phi ch m ρ c (Fin.last _) from rfl]
  unfold Phi
  iintro ⟨⟨%a0, -, HS0⟩, -, -⟩
  isplitr; · iempintro
  iexists a0; iexact HS0

/-- The physical post: every array at what the library computes, every table at what the pipeline ran at. -/
def QC : PUnit × MemSt nD τ sig (Elt Ideal) → Prop := fun r =>
  ∀ c : Dev nD, (∀ w : Fin (cfgA ch).W, r.2.mem (((cfgA ch).win w).arr.view.loc (c : Thread nD τ)) = (dats ch m ρ 0 c).arrAt w (cfgA ch).N)
    ∧ ∀ j, r.2.mem ((c : Thread nD τ).loc (pre0.ref j)) = (adm ch).1 j

theorem V_pre (hp : Pinned ch m) (c : Dev nD) (j : Fin 2) : m ((c : Thread nD τ).loc (pre0.ref j)) = (adm ch).1 j := by
  fin_cases j
  · exact hp.1 c
  · exact hp.2 c

set_option backward.isDefEq.respectTransparency.types false in
set_option maxHeartbeats 4000000 in
/-- At the compiled mesh, from any memory with zero counters whose tables and steering words are the tables `ch`: every weakly
    fair execution of @main on the TensorCores terminates, and every final state has each array at the computed contents,
    and every semaphore counter of the machine at zero. -/
theorem run_main_quiescent (hp : Pinned ch m) : θ_run (defs (F := Ideal)) (onTc (τ := τ) (main (F := Ideal))) (s₀ m ρ) (fun r => QC ch m ρ r ∧ r.2.sem = fun _ => 0) :=
  Pipeline.θ_run_region_noSem_pf_quiescent pcfgs (fun _ => adm ch) (dats ch m ρ) () ((launch0 (F := Ideal)).cellOf_inj fun _ => adm ch) (0 : Fin 1)
    (launch0 (F := Ideal)).win.to₀ (launch0 (F := Ideal)).pre EP defs₀ Variants.none m ρ main
    (hbody := fun c => (body_obligation ch m ρ hp c).loose) (hne := (launch0 (F := Ideal)).block_pos)
    (harr := (launch0 (F := Ideal)).arr_whole) (hstage := (launch0 (F := Ideal)).stage_whole) (howed := fun _ _ => rfl)
    (u₀ := u₀ ch) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs ch) (dats ch m ρ) 0 (launch0 (F := Ideal)).win.arr_inj c (launch0 (F := Ideal)).arr_whole
      (share_eq ch m ρ c) _ _ fun _ => rfl)
    (hpf := V_pre ch m hp)
    (X := fun _ => iprop(emp)) (Y := fun _ => iprop(emp)) (Z := fun _ => iprop(emp))
    (hX := fun c => by rw [unscopedRestP0_eq]; iintro -; isplitr <;> iempintro)
    (hin := phi0_intro ch m ρ)
    (hout := phiN_exit ch m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned ch m) : θ_run (defs (F := Ideal)) (onTc (τ := τ) (main (F := Ideal))) (s₀ m ρ) (QC ch m ρ) :=
  (θ_run defs _ _).mono (fun _ h => h.1) (run_main_quiescent ch m ρ hp)

/-- `frame` without the counters: the argument arrays end unchanged. -/
theorem unchanged (hp : Pinned ch m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats ch m ρ 0 c).arrAt_in (0 : Fin 5) rfl _), ((h c).1 (1 : Fin 5)).trans ((dats ch m ρ 0 c).arrAt_in (1 : Fin 5) rfl _), ((h c).1 (2 : Fin 5)).trans ((dats ch m ρ 0 c).arrAt_in (2 : Fin 5) rfl _), ((h c).1 (3 : Fin 5)).trans ((dats ch m ρ 0 c).arrAt_in (3 : Fin 5) rfl _)⟩) (run_main ch m ρ hp)

/-- THE FRAME under the pinning: from a launch memory whose tables and steering words are the tables `ch`, every weakly fair
    execution terminates, nothing faults, every argument array ends unchanged and every semaphore counter of the machine reads
    zero at every final state — `Cert.quiescent_ExpertsIdeal`'s post. -/
theorem frame (hp : Pinned ch m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged ch m ρ hp) ((θ_run defs _ _).mono (fun _ h => h.2) (run_main_quiescent ch m ρ hp))

end Cert.ExpertsIdeal.Routed

end
-- ==== Proof.ExpertsMlp.Swiglu.lean ====
/-
  An expert's SwiGLU on one row, over the extended reals: `silu` of the gate times the up product, for each of the hidden
  channels, and their sum against the down weights. A sum over the hidden channels is the sum of its parts.
-/
module

public import Idealize.ShloMosaic.PureOps.Ideal.Laws

@[expose] public section

noncomputable section

namespace Cert.Swiglu

open Idealize.ShloMosaic

/-- `z / (1 + exp (-z))`. -/
def silu (z : EReal) : EReal := Ideal.div z (1 + Ideal.exp (0 - z))

/-- Hidden channel `f` of a row `x`. -/
def hid {K : ℕ} (x : Fin 1024 → EReal) (g u : Fin 1024 → Fin K → EReal) (f : Fin K) : EReal :=
  silu (∑ d : Fin 1024, x d * g d f) * ∑ d : Fin 1024, x d * u d f

/-- Channel `n` of the row's result. -/
def mlp {K : ℕ} (x : Fin 1024 → EReal) (g u : Fin 1024 → Fin K → EReal) (w : Fin K → Fin 1024 → EReal) (n : Fin 1024) : EReal :=
  ∑ f : Fin K, hid x g u f * w f n

/-- The hidden channels of two parts, one after the other. -/
theorem mlp_add {K L : ℕ} (x : Fin 1024 → EReal) (g u : Fin 1024 → Fin (K + L) → EReal) (w : Fin (K + L) → Fin 1024 → EReal) (n : Fin 1024) :
    mlp x g u w n = mlp x (fun d f => g d (Fin.castAdd L f)) (fun d f => u d (Fin.castAdd L f)) (fun f => w (Fin.castAdd L f)) n
      + mlp x (fun d f => g d (Fin.natAdd K f)) (fun d f => u d (Fin.natAdd K f)) (fun f => w (Fin.natAdd K f)) n :=
  Fin.sum_univ_add fun f : Fin (K + L) => hid x g u f * w f n

/-- Equal tables give equal results. -/
theorem mlp_congr {K : ℕ} {x x' : Fin 1024 → EReal} {g g' u u' : Fin 1024 → Fin K → EReal} {w w' : Fin K → Fin 1024 → EReal} (n : Fin 1024)
    (hx : ∀ d, x d = x' d) (hg : ∀ d f, g d f = g' d f) (hu : ∀ d f, u d f = u' d f) (hw : ∀ f, w f n = w' f n) :
    mlp x g u w n = mlp x' g' u' w' n := by
  obtain rfl : x = x' := funext hx
  obtain rfl : g = g' := funext fun d => funext fun f => hg d f
  obtain rfl : u = u' := funext fun d => funext fun f => hu d f
  exact Finset.sum_congr rfl fun f _ => congrArg (_ * ·) (hw f)

end Cert.Swiglu

end
-- ==== Proof.ExpertsMlp.Elements.lean ====
/-
  The experts' body at an element, over the extended reals: each chunk of hidden channels as a sum, and the four chunks of a
  half together.
-/
module

public import proofs.«01_k».proof.Proof.Gen.ExpertsIdeal.Skeleton
public import proofs.«01_k».proof.Proof.ExpertsMlp.Swiglu
public import Idealize.ShloMosaic.Lib.ValueLayout
public import Idealize.ShloMosaic.PureOps.Ideal.Laws

@[expose] public section

set_option maxRecDepth 16384

noncomputable section

namespace Cert.ExpertsIdeal.Routed

open Cert.ExpertsIdeal Cert.ExpertsIdeal.Gen Idealize.ShloMosaic Idealize.ShloMosaic.ValueIdx Cert.Swiglu

/-- A row of a tile. -/
abbrev rowOf (x : S512x1024.Idx → EReal) (r : Fin 512) : Fin 1024 → EReal := fun d => x (ix2 r d)
/-- A block of weights without its leading axis. -/
abbrev matOf {a b : ℕ} (g : (⟨3, ![1, a, b]⟩ : Shape).Idx → EReal) : Fin a → Fin b → EReal := fun d f => g (ix3 0 d f)

theorem one_bits : Ideal.ofBits .f32 0x3F800000#32 = 1 := by
  simp [Ideal.ofBits, Ideal.ieee]
  rw [← EReal.coe_mul]; norm_num
theorem zero_bits : Ideal.ofBits .f32 0x00000000#32 = 0 := by
  simp [Ideal.ofBits, Ideal.ieee]

/-- Rows times 512 columns of weights. -/
abbrev up512 (x : FVec Ideal S512x1024 .bf16) (g : Vec Ideal S1x1024x512 .bf16) : S512x512.Idx → EReal :=
  matmul (F := Ideal) (φ₁ := .bf16) (φ₂ := .bf16) dot_S512x1024_S1024x512_S512x512_1_0_0_1_n_n none x (shapeCast S1024x512 g shapeCasts_S1x1024x512_S1024x512) (constant S512x512 .f32 0x00000000#32)
/-- Rows times 256 columns of weights. -/
abbrev up256 (x : FVec Ideal S512x1024 .bf16) (g : Vec Ideal S1x1024x256 .bf16) : S512x256.Idx → EReal :=
  matmul (F := Ideal) (φ₁ := .bf16) (φ₂ := .bf16) dot_S512x1024_S1024x256_S512x256_1_0_0_1_n_n none x (shapeCast S1024x256 g shapeCasts_S1x1024x256_S1024x256) (constant S512x256 .f32 0x00000000#32)

/-- A row times a column of 512 weights. -/
theorem into512 (x : FVec Ideal S512x1024 .bf16) (g : Vec Ideal S1x1024x512 .bf16) (r : Fin 512) (f : Fin 512) :
    up512 x g (ix2 r f)
      = ∑ d : Fin 1024, rowOf x r d * matOf g d f := by
  simp only [up512, matmul]
  rw [Ideal.matmul_constant_zero_apply, ← Equiv.sum_comp (contrEquiv1 dot_S512x1024_S1024x512_S512x512_1_0_0_1_n_n 1024 rfl rfl).symm]
  refine Finset.sum_congr rfl fun d _ => ?_
  have hd := contrEquiv1_symm_val dot_S512x1024_S1024x512_S512x512_1_0_0_1_n_n 1024 rfl rfl d
  congr 1
  · exact congrArg x (funext fun a => Fin.ext (by match a with | ⟨0, _⟩ => rfl | ⟨1, _⟩ => exact hd))
  · refine Eq.trans (congrArg _ (funext fun a => Fin.ext (?_ : _ = (ix2 d f a).val))) (shapeCast_1ab_ab_apply g _ d f)
    match a with | ⟨0, _⟩ => exact hd | ⟨1, _⟩ => rfl

/-- A row times a column of 256 weights. -/
theorem into256 (x : FVec Ideal S512x1024 .bf16) (g : Vec Ideal S1x1024x256 .bf16) (r : Fin 512) (f : Fin 256) :
    up256 x g (ix2 r f)
      = ∑ d : Fin 1024, rowOf x r d * matOf g d f := by
  simp only [up256, matmul]
  rw [Ideal.matmul_constant_zero_apply, ← Equiv.sum_comp (contrEquiv1 dot_S512x1024_S1024x256_S512x256_1_0_0_1_n_n 1024 rfl rfl).symm]
  refine Finset.sum_congr rfl fun d _ => ?_
  have hd := contrEquiv1_symm_val dot_S512x1024_S1024x256_S512x256_1_0_0_1_n_n 1024 rfl rfl d
  congr 1
  · exact congrArg x (funext fun a => Fin.ext (by match a with | ⟨0, _⟩ => rfl | ⟨1, _⟩ => exact hd))
  · refine Eq.trans (congrArg _ (funext fun a => Fin.ext (?_ : _ = (ix2 d f a).val))) (shapeCast_1ab_ab_apply g _ d f)
    match a with | ⟨0, _⟩ => exact hd | ⟨1, _⟩ => rfl

/-- Hidden channels times 512 rows of down weights. -/
theorem from512 (h : FVec Ideal S512x512 .bf16) (w : Vec Ideal S1x512x1024 .bf16) (r : Fin 512) (n : Fin 1024) :
    matmul (F := Ideal) (φ₁ := .bf16) (φ₂ := .bf16) dot_S512x512_S512x1024_S512x1024_1_0_0_1_n_n none h (shapeCast S512x1024 w shapeCasts_S1x512x1024_S512x1024) (constant S512x1024 .f32 0x00000000#32) (ix2 r n)
      = ∑ f : Fin 512, (h (ix2 r f) : EReal) * matOf w f n := by
  simp only [matmul]
  rw [Ideal.matmul_constant_zero_apply, ← Equiv.sum_comp (contrEquiv1 dot_S512x512_S512x1024_S512x1024_1_0_0_1_n_n 512 rfl rfl).symm]
  refine Finset.sum_congr rfl fun d _ => ?_
  have hd := contrEquiv1_symm_val dot_S512x512_S512x1024_S512x1024_1_0_0_1_n_n 512 rfl rfl d
  congr 1
  · exact congrArg h (funext fun a => Fin.ext (by match a with | ⟨0, _⟩ => rfl | ⟨1, _⟩ => exact hd))
  · refine Eq.trans (congrArg _ (funext fun a => Fin.ext (?_ : _ = (ix2 d n a).val))) (shapeCast_1ab_ab_apply w _ d n)
    match a with | ⟨0, _⟩ => exact hd | ⟨1, _⟩ => rfl

/-- Hidden channels times 256 rows of down weights. -/
theorem from256 (h : FVec Ideal S512x256 .bf16) (w : Vec Ideal S1x256x1024 .bf16) (r : Fin 512) (n : Fin 1024) :
    matmul (F := Ideal) (φ₁ := .bf16) (φ₂ := .bf16) dot_S512x256_S256x1024_S512x1024_1_0_0_1_n_n none h (shapeCast S256x1024 w shapeCasts_S1x256x1024_S256x1024) (constant S512x1024 .f32 0x00000000#32) (ix2 r n)
      = ∑ f : Fin 256, (h (ix2 r f) : EReal) * matOf w f n := by
  simp only [matmul]
  rw [Ideal.matmul_constant_zero_apply, ← Equiv.sum_comp (contrEquiv1 dot_S512x256_S256x1024_S512x1024_1_0_0_1_n_n 256 rfl rfl).symm]
  refine Finset.sum_congr rfl fun d _ => ?_
  have hd := contrEquiv1_symm_val dot_S512x256_S256x1024_S512x1024_1_0_0_1_n_n 256 rfl rfl d
  congr 1
  · exact congrArg h (funext fun a => Fin.ext (by match a with | ⟨0, _⟩ => rfl | ⟨1, _⟩ => exact hd))
  · refine Eq.trans (congrArg _ (funext fun a => Fin.ext (?_ : _ = (ix2 d n a).val))) (shapeCast_1ab_ab_apply w _ d n)
    match a with | ⟨0, _⟩ => exact hd | ⟨1, _⟩ => rfl

theorem pay1_apply (x : Vec Ideal S512x1024 .f32) : k0_pay1 (F := Ideal) x = x := by
  unfold k0_pay1
  exact shapeCast_self _ _

theorem pay4_apply (i : S512x1024.Idx) : k0_pay4 (F := Ideal) i = (0 : EReal) := zero_bits

/-- The second chunk's hidden channels. -/
theorem pay6_apply (x : Vec Ideal S512x1024 .bf16) (g u : Vec Ideal S1x1024x512 .bf16) (r f : Fin 512) :
    k0_pay6 (F := Ideal) x g u (ix2 r f) = hid (rowOf x r) (matOf g) (matOf u) f := by
  show Ideal.div (up512 x g (ix2 r f)) (Ideal.ofBits .f32 0x3F800000#32 + Ideal.exp (Ideal.ofBits .f32 0x00000000#32 - up512 x g (ix2 r f)))
    * up512 x u (ix2 r f) = _
  rw [one_bits, zero_bits, into512, into512]; rfl

/-- The first chunk's part of the result. -/
theorem pay5_apply (x : Vec Ideal S512x1024 .bf16) (g u : Vec Ideal S1x1024x512 .bf16) (w : Vec Ideal S1x512x1024 .bf16) (r : Fin 512) (n : Fin 1024) :
    k0_pay5 (F := Ideal) x g u w (ix2 r n) = mlp (rowOf x r) (matOf g) (matOf u) (matOf w) n := by
  refine (from512 (k0_pay6 (F := Ideal) x g u) w r n).trans (Finset.sum_congr rfl fun f _ => ?_)
  rw [pay6_apply]

/-- The second and third chunks' parts put to the first's. -/
theorem pay7_apply (x : Vec Ideal S512x1024 .bf16) (a : FVec Ideal S512x1024 .f32) (h : FVec Ideal S512x512 .bf16) (w1 : Vec Ideal S1x512x1024 .bf16)
    (g u : Vec Ideal S1x1024x512 .bf16) (w2 : Vec Ideal S1x512x1024 .bf16) (r : Fin 512) (n : Fin 1024) :
    k0_pay7 (F := Ideal) x a h w1 g u w2 (ix2 r n)
      = a (ix2 r n) + (∑ f : Fin 512, (h (ix2 r f) : EReal) * matOf w1 f n) + mlp (rowOf x r) (matOf g) (matOf u) (matOf w2) n := by
  rw [← from512, ← pay5_apply]; rfl

theorem pay8_apply (x : Vec Ideal S512x1024 .bf16) (g : Vec Ideal S1x1024x256 .bf16) (r : Fin 512) (f : Fin 256) :
    k0_pay8 (F := Ideal) x g (ix2 r f) = silu (∑ d : Fin 1024, rowOf x r d * matOf g d f) := by
  show Ideal.div (up256 x g (ix2 r f)) (Ideal.ofBits .f32 0x3F800000#32 + Ideal.exp (Ideal.ofBits .f32 0x00000000#32 - up256 x g (ix2 r f))) = _
  rw [one_bits, zero_bits, into256]; rfl

theorem pay9_apply (x : Vec Ideal S512x1024 .bf16) (g : Vec Ideal S1x1024x256 .bf16) (r : Fin 512) (f : Fin 256) :
    k0_pay9 (F := Ideal) x g (ix2 r f) = ∑ d : Fin 1024, rowOf x r d * matOf g d f := into256 x g r f

/-- The last chunk's part put to the others'. -/
theorem pay2_apply (a : FVec Ideal S512x1024 .f32) (s p : FVec Ideal S512x256 .f32) (w : Vec Ideal S1x256x1024 .bf16) (r : Fin 512) (n : Fin 1024) :
    k0_pay2 (F := Ideal) a s p w (ix2 r n) = a (ix2 r n) + ∑ f : Fin 256, ((s (ix2 r f) : EReal) * p (ix2 r f)) * matOf w f n := by
  rw [← from256 (fun i => (s i : EReal) * p i)]; rfl

theorem pay3_apply (a : FVec Ideal S512x1024 .f32) (s p : FVec Ideal S512x256 .f32) (w : Vec Ideal S1x256x1024 .bf16) (o : Vec Ideal S512x1024 .f32) (i : S512x1024.Idx) :
    k0_pay3 (F := Ideal) a s p w o i = o i + k0_pay2 (F := Ideal) a s p w i := by
  show shapeCast S512x1024 o _ i + _ = _
  rw [shapeCast_self]

/-- The four chunks of a half, as the body puts them together, are the half's part of the result: the chunks are windows of the
    half's blocks. -/
theorem half_apply (x : Vec Ideal S512x1024 .bf16) (G U : Vec Ideal S1x1024x1792 .bf16) (W : Vec Ideal S1x1792x1024 .bf16)
    (g0 g1 g2 u0 u1 u2 : Vec Ideal S1x1024x512 .bf16) (w0 w1 w2 : Vec Ideal S1x512x1024 .bf16) (g3 u3 : Vec Ideal S1x1024x256 .bf16) (w3 : Vec Ideal S1x256x1024 .bf16)
    (hg0 : ∀ d (f : Fin 512), matOf g0 d f = matOf G d ⟨f.val, by omega⟩) (hu0 : ∀ d (f : Fin 512), matOf u0 d f = matOf U d ⟨f.val, by omega⟩)
    (hw0 : ∀ (f : Fin 512) n, matOf w0 f n = matOf W ⟨f.val, by omega⟩ n)
    (hg1 : ∀ d (f : Fin 512), matOf g1 d f = matOf G d ⟨512 + f.val, by omega⟩) (hu1 : ∀ d (f : Fin 512), matOf u1 d f = matOf U d ⟨512 + f.val, by omega⟩)
    (hw1 : ∀ (f : Fin 512) n, matOf w1 f n = matOf W ⟨512 + f.val, by omega⟩ n)
    (hg2 : ∀ d (f : Fin 512), matOf g2 d f = matOf G d ⟨1024 + f.val, by omega⟩) (hu2 : ∀ d (f : Fin 512), matOf u2 d f = matOf U d ⟨1024 + f.val, by omega⟩)
    (hw2 : ∀ (f : Fin 512) n, matOf w2 f n = matOf W ⟨1024 + f.val, by omega⟩ n)
    (hg3 : ∀ d (f : Fin 256), matOf g3 d f = matOf G d ⟨1536 + f.val, by omega⟩) (hu3 : ∀ d (f : Fin 256), matOf u3 d f = matOf U d ⟨1536 + f.val, by omega⟩)
    (hw3 : ∀ (f : Fin 256) n, matOf w3 f n = matOf W ⟨1536 + f.val, by omega⟩ n) (r : Fin 512) (n : Fin 1024) :
    k0_pay2 (F := Ideal) (k0_pay7 x (k0_pay5 x g0 u0 w0) (k0_pay6 x g1 u1) w1 g2 u2 w2) (k0_pay8 x g3) (k0_pay9 x u3) w3 (ix2 r n)
      = mlp (rowOf x r) (matOf G) (matOf U) (matOf W) n := by
  rw [pay2_apply, pay7_apply, pay5_apply]
  have e1 : (∑ f : Fin 512, (k0_pay6 (F := Ideal) x g1 u1 (ix2 r f) : EReal) * matOf w1 f n) = mlp (rowOf x r) (matOf g1) (matOf u1) (matOf w1) n :=
    Finset.sum_congr rfl fun f _ => by rw [pay6_apply]
  have e3 : (∑ f : Fin 256, ((k0_pay8 (F := Ideal) x g3 (ix2 r f) : EReal) * k0_pay9 (F := Ideal) x u3 (ix2 r f)) * matOf w3 f n)
      = mlp (rowOf x r) (matOf g3) (matOf u3) (matOf w3) n :=
    Finset.sum_congr rfl fun f _ => by rw [pay8_apply, pay9_apply]; rfl
  rw [e1, e3]
  have s1 := mlp_add (K := 1536) (L := 256) (rowOf x r) (matOf G) (matOf U) (matOf W) n
  have s2 := mlp_add (K := 1024) (L := 512) (rowOf x r) (fun d f => matOf G d (Fin.castAdd 256 f)) (fun d f => matOf U d (Fin.castAdd 256 f))
    (fun f => matOf W (Fin.castAdd 256 f)) n
  have s3 := mlp_add (K := 512) (L := 512) (rowOf x r) (fun d f => matOf G d (Fin.castAdd 256 (Fin.castAdd 512 f))) (fun d f => matOf U d (Fin.castAdd 256 (Fin.castAdd 512 f)))
    (fun f => matOf W (Fin.castAdd 256 (Fin.castAdd 512 f))) n
  refine Eq.trans ?_ s1.symm
  refine congrArg₂ (· + ·) ?_ (mlp_congr n (fun _ => rfl) hg3 hu3 fun f => hw3 f n)
  refine Eq.trans ?_ s2.symm
  refine congrArg₂ (· + ·) ?_ (mlp_congr n (fun _ => rfl) hg2 hu2 fun f => hw2 f n)
  refine Eq.trans ?_ s3.symm
  exact congrArg₂ (· + ·) (mlp_congr n (fun _ => rfl) hg0 hu0 fun f => hw0 f n) (mlp_congr n (fun _ => rfl) hg1 hu1 fun f => hw1 f n)

end Cert.ExpertsIdeal.Routed

end
-- ==== Proof.ExpertsMlp.Steps.lean ====
/-
  What one point of the experts' launch leaves, over the extended reals: at a tile's first half its rows' part of the result and
  the rows kept for the second half; at the second half what was there plus that half's part; zeros at a tile not in use.
-/
module

public import proofs.«01_k».proof.Proof.ExpertsMlp.Launch
public import proofs.«01_k».proof.Proof.ExpertsMlp.Elements
public import Idealize.ShloMosaic.Lib.VecWindow

@[expose] public section

set_option maxRecDepth 16384

noncomputable section

namespace Cert.ExpertsIdeal.Routed

open Cert.ExpertsIdeal Cert.ExpertsIdeal.Gen Idealize.ShloMosaic Idealize.ShloMosaic.TcCoe Idealize.ShloMosaic.ValueIdx Idealize.SL.Sem Cert.Swiglu

variable {κ : Kind} {sp : Space}

/-- A chunk of 512 gate or up columns. -/
theorem cols512 (v : View sig κ sp S1x1024x1792 .bf16) (x : S1x1024x1792.Idx → Elt Ideal .bf16) (o : ℕ) (inb) (ho : o + 512 ≤ 1792)
    (d : Fin 1024) (f : Fin 512) :
    matOf (v.readAt (Elt Ideal) (Rect.unit (s := S1x1024x1792) ![0, 0, o] S1x1024x512.size inb).toLoadRect (v.rep x)) d f = matOf x d ⟨o + f.val, by omega⟩ := by
  rw [matOf, View.readAt_rep]
  exact congrArg x (funext fun a => Fin.ext (by
    match a with
    | ⟨0, _⟩ => rfl
    | ⟨1, _⟩ => show 0 + 1 * d.val = d.val; omega
    | ⟨2, _⟩ => show o + 1 * f.val = o + f.val; omega))

/-- A chunk of 256 gate or up columns. -/
theorem cols256 (v : View sig κ sp S1x1024x1792 .bf16) (x : S1x1024x1792.Idx → Elt Ideal .bf16) (o : ℕ) (inb) (ho : o + 256 ≤ 1792)
    (d : Fin 1024) (f : Fin 256) :
    matOf (v.readAt (Elt Ideal) (Rect.unit (s := S1x1024x1792) ![0, 0, o] S1x1024x256.size inb).toLoadRect (v.rep x)) d f = matOf x d ⟨o + f.val, by omega⟩ := by
  rw [matOf, View.readAt_rep]
  exact congrArg x (funext fun a => Fin.ext (by
    match a with
    | ⟨0, _⟩ => rfl
    | ⟨1, _⟩ => show 0 + 1 * d.val = d.val; omega
    | ⟨2, _⟩ => show o + 1 * f.val = o + f.val; omega))

/-- A chunk of 512 down rows. -/
theorem rows512 (v : View sig κ sp S1x1792x1024 .bf16) (x : S1x1792x1024.Idx → Elt Ideal .bf16) (o : ℕ) (inb) (ho : o + 512 ≤ 1792)
    (f : Fin 512) (n : Fin 1024) :
    matOf (v.readAt (Elt Ideal) (Rect.unit (s := S1x1792x1024) ![0, o, 0] S1x512x1024.size inb).toLoadRect (v.rep x)) f n = matOf x ⟨o + f.val, by omega⟩ n := by
  rw [matOf, View.readAt_rep]
  exact congrArg x (funext fun a => Fin.ext (by
    match a with
    | ⟨0, _⟩ => rfl
    | ⟨1, _⟩ => show o + 1 * f.val = o + f.val; omega
    | ⟨2, _⟩ => show 0 + 1 * n.val = n.val; omega))

/-- A chunk of 256 down rows. -/
theorem rows256 (v : View sig κ sp S1x1792x1024 .bf16) (x : S1x1792x1024.Idx → Elt Ideal .bf16) (o : ℕ) (inb) (ho : o + 256 ≤ 1792)
    (f : Fin 256) (n : Fin 1024) :
    matOf (v.readAt (Elt Ideal) (Rect.unit (s := S1x1792x1024) ![0, o, 0] S1x256x1024.size inb).toLoadRect (v.rep x)) f n = matOf x ⟨o + f.val, by omega⟩ n := by
  rw [matOf, View.readAt_rep]
  exact congrArg x (funext fun a => Fin.ext (by
    match a with
    | ⟨0, _⟩ => rfl
    | ⟨1, _⟩ => show o + 1 * f.val = o + f.val; omega
    | ⟨2, _⟩ => show 0 + 1 * n.val = n.val; omega))

/-- The chunks as the body loads them, put together, for any rows `x`. -/
theorem loads_apply (x : Vec Ideal S512x1024 .bf16) {s5 s6 s7 : Space} (v5 : View sig .tc s5 S1x1024x1792 .bf16) (v6 : View sig .tc s6 S1x1024x1792 .bf16) (v7 : View sig .tc s7 S1x1792x1024 .bf16)
    (G U : S1x1024x1792.Idx → Elt Ideal .bf16) (W : S1x1792x1024.Idx → Elt Ideal .bf16) (r : Fin 512) (n : Fin 1024) :
    k0_pay2 (F := Ideal) (k0_pay7 x (k0_pay5 x
          (v5.readAt (Elt Ideal) (Rect.unit (s := S1x1024x1792) ![0, 0, 0] S1x1024x512.size inb_S1x1024x1792_S1x1024x512_0_0_0).toLoadRect (v5.rep G))
          (v6.readAt (Elt Ideal) (Rect.unit (s := S1x1024x1792) ![0, 0, 0] S1x1024x512.size inb_S1x1024x1792_S1x1024x512_0_0_0).toLoadRect (v6.rep U))
          (v7.readAt (Elt Ideal) (Rect.unit (s := S1x1792x1024) ![0, 0, 0] S1x512x1024.size inb_S1x1792x1024_S1x512x1024_0_0_0).toLoadRect (v7.rep W)))
        (k0_pay6 x
          (v5.readAt (Elt Ideal) (Rect.unit (s := S1x1024x1792) ![0, 0, 512] S1x1024x512.size inb_S1x1024x1792_S1x1024x512_0_0_512).toLoadRect (v5.rep G))
          (v6.readAt (Elt Ideal) (Rect.unit (s := S1x1024x1792) ![0, 0, 512] S1x1024x512.size inb_S1x1024x1792_S1x1024x512_0_0_512).toLoadRect (v6.rep U)))
        (v7.readAt (Elt Ideal) (Rect.unit (s := S1x1792x1024) ![0, 512, 0] S1x512x1024.size inb_S1x1792x1024_S1x512x1024_0_512_0).toLoadRect (v7.rep W))
        (v5.readAt (Elt Ideal) (Rect.unit (s := S1x1024x1792) ![0, 0, 1024] S1x1024x512.size inb_S1x1024x1792_S1x1024x512_0_0_1024).toLoadRect (v5.rep G))
        (v6.readAt (Elt Ideal) (Rect.unit (s := S1x1024x1792) ![0, 0, 1024] S1x1024x512.size inb_S1x1024x1792_S1x1024x512_0_0_1024).toLoadRect (v6.rep U))
        (v7.readAt (Elt Ideal) (Rect.unit (s := S1x1792x1024) ![0, 1024, 0] S1x512x1024.size inb_S1x1792x1024_S1x512x1024_0_1024_0).toLoadRect (v7.rep W)))
      (k0_pay8 x (v5.readAt (Elt Ideal) (Rect.unit (s := S1x1024x1792) ![0, 0, 1536] S1x1024x256.size inb_S1x1024x1792_S1x1024x256_0_0_1536).toLoadRect (v5.rep G)))
      (k0_pay9 x (v6.readAt (Elt Ideal) (Rect.unit (s := S1x1024x1792) ![0, 0, 1536] S1x1024x256.size inb_S1x1024x1792_S1x1024x256_0_0_1536).toLoadRect (v6.rep U)))
      (v7.readAt (Elt Ideal) (Rect.unit (s := S1x1792x1024) ![0, 1536, 0] S1x256x1024.size inb_S1x1792x1024_S1x256x1024_0_1536_0).toLoadRect (v7.rep W)) (ix2 r n)
      = mlp (rowOf x r) (matOf G) (matOf U) (matOf W) n :=
  half_apply x G U W _ _ _ _ _ _ _ _ _ _ _ _
    (fun d f => (cols512 v5 G 0 _ (by omega) d f).trans (congrArg (matOf G d) (Fin.ext (Nat.zero_add _))))
    (fun d f => (cols512 v6 U 0 _ (by omega) d f).trans (congrArg (matOf U d) (Fin.ext (Nat.zero_add _))))
    (fun f n => (rows512 v7 W 0 _ (by omega) f n).trans (congrArg (matOf W · n) (Fin.ext (Nat.zero_add _))))
    (fun d f => cols512 v5 G 512 _ (by omega) d f) (fun d f => cols512 v6 U 512 _ (by omega) d f) (fun f n => rows512 v7 W 512 _ (by omega) f n)
    (fun d f => cols512 v5 G 1024 _ (by omega) d f) (fun d f => cols512 v6 U 1024 _ (by omega) d f) (fun f n => rows512 v7 W 1024 _ (by omega) f n)
    (fun d f => cols256 v5 G 1536 _ (by omega) d f) (fun d f => cols256 v6 U 1536 _ (by omega) d f) (fun f n => rows256 v7 W 1536 _ (by omega) f n) r n

variable (ch : Tab) (m : (ℓ : Loc nD τ sig) → Buf (Elt Ideal) ℓ) (ρ : Dev nD → PrngReg)

/-- What the body reads of the kept rows. -/
abbrev kept (c : Dev nD) (a : Buf (Elt Ideal) ((c : Thread nD τ).loc cc0_scratch0)) : S512x1024.Idx → EReal :=
  View.readAt (Elt Ideal) scM0_0.view (Rect.unit (s := S512x1024) ![0, 0] S512x1024.size inb_S512x1024_S512x1024_0_0).toLoadRect a

/-- A tile's first half: the half's part of the result. -/
theorem first_out (c : Dev nD) (t : Fin (cfgA ch).N) (prev) (q0 : P0_0 ch t) (r : Fin 512) (n : Fin 1024) :
    (step0 ch m ρ c t prev).1 (ix2 r n)
      = mlp (rowOf (iblk ch m ρ c (0 : Fin 5) t) r) (matOf (iblk ch m ρ c (1 : Fin 5) t)) (matOf (iblk ch m ρ c (2 : Fin 5) t)) (matOf (iblk ch m ρ c (3 : Fin 5) t)) n := by
  rw [step0_A ch m ρ c t prev q0]
  dsimp only
  unfold out0_A_4 kernelRun0_A
  dsimp only
  unfold kernelRun0_A.sl.HO4_1
  refine (congrFun (View.read_writes_full _ _ _ _ _) (ix2 r n)).trans ?_
  have hx : kernelRun0_A.sl.v13 (ms0_0 ch t) (iblk ch m ρ c (0 : Fin 5) t) = iblk ch m ρ c (0 : Fin 5) t := by
    unfold kernelRun0_A.sl.v13 kernelRun0_A.sl.HS0_1
    refine (View.readCov_full _ _ _ _ _).trans ?_
    rw [pay1_apply]
    exact View.readAt_rep_full _ _ _
  have e := loads_apply (kernelRun0_A.sl.v13 (ms0_0 ch t) (iblk ch m ρ c (0 : Fin 5) t)) (ms0_1 ch t).view (ms0_2 ch t).view (ms0_3 ch t).view
    (iblk ch m ρ c (1 : Fin 5) t) (iblk ch m ρ c (2 : Fin 5) t) (iblk ch m ρ c (3 : Fin 5) t) r n
  exact e.trans (congrArg (fun x => mlp (rowOf x r) (matOf (iblk ch m ρ c (1 : Fin 5) t)) (matOf (iblk ch m ρ c (2 : Fin 5) t)) (matOf (iblk ch m ρ c (3 : Fin 5) t)) n) hx)

/-- A tile's first half: the rows are kept. -/
theorem first_kept (c : Dev nD) (t : Fin (cfgA ch).N) (prev) (q0 : P0_0 ch t) :
    kept c (step0 ch m ρ c t prev).2 = iblk ch m ρ c (0 : Fin 5) t := by
  rw [step0_A ch m ρ c t prev q0]
  dsimp only
  unfold kernelRun0_A
  dsimp only
  unfold kernelRun0_A.sl.HS0_1
  refine (View.readAt_writes_full _ _ _ _ _ _).trans ?_
  rw [pay1_apply]
  exact View.readAt_rep_full _ _ _

/-- A tile's second half: what was there plus the half's part, of the kept rows. -/
theorem second_out (c : Dev nD) (t : Fin (cfgA ch).N) (prev) (q0 : ¬P0_0 ch t) (q1 : P0_1 ch t) (r : Fin 512) (n : Fin 1024) :
    (step0 ch m ρ c t prev).1 (ix2 r n)
      = prev.1 (ix2 r n) + mlp (rowOf (kept c prev.2) r) (matOf (iblk ch m ρ c (1 : Fin 5) t)) (matOf (iblk ch m ρ c (2 : Fin 5) t)) (matOf (iblk ch m ρ c (3 : Fin 5) t)) n := by
  rw [step0_B ch m ρ c t prev q0 q1]
  dsimp only
  unfold out0_B_4 kernelRun0_B
  dsimp only
  unfold kernelRun0_B.sl.HO4_1
  refine (congrFun (View.read_writes_full _ _ _ _ _) (ix2 r n)).trans ?_
  rw [pay3_apply]
  refine congrArg₂ (· + ·) ?_ (loads_apply (kept c prev.2) (ms0_1 ch t).view (ms0_2 ch t).view (ms0_3 ch t).view _ _ _ r n)
  have e := View.readAt_full (Val := Elt Ideal) (ms0_4 ch t).view ((hs0_4 ch t).unread prev.1) (off := ![0, 0]) inb_S512x1024_S512x1024_0_0
  exact (congrFun e _).trans (congrFun (Memref.IsWhole.read_unread _ _) _)

/-- A tile not in use: zeros. -/
theorem idle_out (c : Dev nD) (t : Fin (cfgA ch).N) (prev) (q0 : ¬P0_0 ch t) (q1 : ¬P0_1 ch t) (q2 : P0_2 ch t) (i : S512x1024.Idx) :
    (step0 ch m ρ c t prev).1 i = (0 : EReal) := by
  rw [step0_C ch m ρ c t prev q0 q1 q2]
  dsimp only
  unfold out0_C_4 kernelRun0_C
  dsimp only
  unfold kernelRun0_C.sl.HO4_1
  exact (congrFun (View.read_writes_full _ _ _ _ _) i).trans (pay4_apply i)

end Cert.ExpertsIdeal.Routed

end
-- ==== Proof.ExpertsMlp.Final.lean ====
/-
  The experts' result array at an element, over the extended reals: a row of a tile in use is its expert's SwiGLU, a row of any
  other tile is zero.
-/
module

public import proofs.«01_k».proof.Proof.ExpertsMlp.Steps
public import Idealize.ShloMosaic.Lib.Pipeline.Covers
public import Idealize.ShloMosaic.Lib.Pipeline.Value
public import Idealize.ShloMosaic.Lib.Pipeline.ValueKit
public import Idealize.ShloMosaic.Lib.Pointwise

@[expose] public section

set_option maxRecDepth 16384

noncomputable section

namespace Cert.ExpertsIdeal.Routed

open Cert.ExpertsIdeal Cert.ExpertsIdeal.Gen Idealize.ShloMosaic.TcCoe Idealize.ShloMosaic.ValueIdx Idealize.SL.Sem Cert.Swiglu
open Idealize.ShloMosaic hiding ix2 ix3

variable (ch : Tab) (m : (ℓ : Loc nD τ sig) → Buf (Elt Ideal) ℓ) (ρ : Dev nD → PrngReg)

/-- The sorted rows. -/
abbrev xsOf (c : Dev nD) : S36864x1024.Idx → EReal := m ((c : Thread nD τ).loc main_arg2)
/-- The experts' gate weights. -/
abbrev wgOf (c : Dev nD) : S8x1024x3584.Idx → EReal := m ((c : Thread nD τ).loc main_arg3)
/-- The experts' up weights. -/
abbrev wuOf (c : Dev nD) : S8x1024x3584.Idx → EReal := m ((c : Thread nD τ).loc main_arg4)
/-- The experts' down weights. -/
abbrev wdOf (c : Dev nD) : S8x3584x1024.Idx → EReal := m ((c : Thread nD τ).loc main_arg5)

theorem index0 (t : Fin (cfgA ch).N) : ((cfgA ch).win (0 : Fin 5)).index t = ![min ((crd ch t) 0).val ch.last.val, 0] := tr0 ch (crd ch t)
theorem index1 (t : Fin (cfgA ch).N) : ((cfgA ch).win (1 : Fin 5)).index t = ![(ch.te (tileOf (crd ch t))).val, 0, halfAt ch (crd ch t)] := tr1 ch (crd ch t)
theorem index2 (t : Fin (cfgA ch).N) : ((cfgA ch).win (2 : Fin 5)).index t = ![(ch.te (tileOf (crd ch t))).val, 0, halfAt ch (crd ch t)] := tr2 ch (crd ch t)
theorem index3 (t : Fin (cfgA ch).N) : ((cfgA ch).win (3 : Fin 5)).index t = ![(ch.te (tileOf (crd ch t))).val, halfAt ch (crd ch t), 0] := tr3 ch (crd ch t)

theorem index4 (t : Fin (cfgA ch).N) : ((cfgA ch).win (4 : Fin 5)).index t = ![t.val / 2, 0] :=
  (by decide +kernel : ∀ t : Fin grid0.N, cc0_transform_4 (grid0.coords t) = ![t.val / 2, 0]) t

theorem half_live (t : Fin (cfgA ch).N) (hl : t.val / 2 ≤ ch.last.val) : halfAt ch (crd ch t) = t.val % 2 := by
  have h0 : ((crd ch t) 0).val = t.val / 2 := coords_tile t
  have h1 : ((crd ch t) 1).val = t.val % 2 := coords_half t
  unfold halfAt
  rw [if_pos (h0.trans_le hl)]
  exact h1

theorem rows_apply (c : Dev nD) (t : Fin (cfgA ch).N) (hl : t.val / 2 ≤ ch.last.val) (r : Fin 512) (d : Fin 1024) (y : Fin 36864)
    (hy : y.val = 512 * (t.val / 2) + r.val) :
    iblk ch m ρ c (0 : Fin 5) t (ix2 r d) = xsOf m c (ix2 y d) := by
  have h0 : ((crd ch t) 0).val = t.val / 2 := coords_tile t
  blk_simp [iblk]
  refine congrArg (xsOf m c) ?_
  blk_ext [index0 ch t]
  show min ((crd ch t) 0).val ch.last.val * 512 + r.val = y.val
  rw [h0, Nat.min_eq_left hl]; omega

theorem gate_apply (c : Dev nD) (t : Fin (cfgA ch).N) (hl : t.val / 2 ≤ ch.last.val) (d : Fin 1024) (f : Fin 1792) (e : Fin 8) (z : Fin 3584)
    (he : e = ch.te (tileOf (crd ch t))) (hz : z.val = 1792 * (t.val % 2) + f.val) :
    matOf (iblk ch m ρ c (1 : Fin 5) t) d f = wgOf m c (ix3 e d z) := by
  subst he
  rw [matOf]
  blk_simp [iblk]
  refine congrArg (wgOf m c) ?_
  blk_ext [index1 ch t]
  show halfAt ch (crd ch t) * 1792 + f.val = z.val
  rw [half_live ch t hl]; omega

theorem up_apply (c : Dev nD) (t : Fin (cfgA ch).N) (hl : t.val / 2 ≤ ch.last.val) (d : Fin 1024) (f : Fin 1792) (e : Fin 8) (z : Fin 3584)
    (he : e = ch.te (tileOf (crd ch t))) (hz : z.val = 1792 * (t.val % 2) + f.val) :
    matOf (iblk ch m ρ c (2 : Fin 5) t) d f = wuOf m c (ix3 e d z) := by
  subst he
  rw [matOf]
  blk_simp [iblk]
  refine congrArg (wuOf m c) ?_
  blk_ext [index2 ch t]
  show halfAt ch (crd ch t) * 1792 + f.val = z.val
  rw [half_live ch t hl]; omega

theorem down_apply (c : Dev nD) (t : Fin (cfgA ch).N) (hl : t.val / 2 ≤ ch.last.val) (f : Fin 1792) (n : Fin 1024) (e : Fin 8) (z : Fin 3584)
    (he : e = ch.te (tileOf (crd ch t))) (hz : z.val = 1792 * (t.val % 2) + f.val) :
    matOf (iblk ch m ρ c (3 : Fin 5) t) f n = wdOf m c (ix3 e z n) := by
  subst he
  rw [matOf]
  blk_simp [iblk]
  refine congrArg (wdOf m c) ?_
  blk_ext [index3 ch t]
  show halfAt ch (crd ch t) * 1792 + f.val = z.val
  rw [half_live ch t hl]; omega

/-- Row `a`, channel `n` of expert `e`'s SwiGLU. -/
def expertAt (xs : S36864x1024.Idx → EReal) (wg wu : S8x1024x3584.Idx → EReal) (wd : S8x3584x1024.Idx → EReal) (e : Fin 8)
    (a : Fin 36864) (n : Fin 1024) : EReal :=
  mlp (K := 3584) (fun d => xs (ix2 a d)) (fun d f => wg (ix3 e d f)) (fun d f => wu (ix3 e d f)) (fun f z => wd (ix3 e f z)) n

/-- The tile of a row. -/
abbrev tileRow (a : Fin 36864) : Fin 72 := ⟨a.val / 512, by omega⟩

/-- Row `a`, channel `n` of the experts' result. -/
def routedAt (xs : S36864x1024.Idx → EReal) (wg wu : S8x1024x3584.Idx → EReal) (wd : S8x3584x1024.Idx → EReal)
    (a : Fin 36864) (n : Fin 1024) : EReal :=
  if (tileRow a).val ≤ ch.last.val then expertAt xs wg wu wd (ch.te (tileRow a)) a n else 0

/-- The part of one half of the hidden channels. -/
theorem half_part (c : Dev nD) (t : Fin (cfgA ch).N) (hl : t.val / 2 ≤ ch.last.val) (x : Fin 1024 → EReal) (a : Fin 36864) (n : Fin 1024) (r : Fin 512)
    (ha : a.val = 512 * (t.val / 2) + r.val) (hx : ∀ d, x d = xsOf m c (ix2 a d)) (o : Fin 1792 → Fin 3584) (ho : ∀ f, (o f).val = 1792 * (t.val % 2) + f.val) :
    mlp x (matOf (iblk ch m ρ c (1 : Fin 5) t)) (matOf (iblk ch m ρ c (2 : Fin 5) t)) (matOf (iblk ch m ρ c (3 : Fin 5) t)) n
      = mlp (fun d => xsOf m c (ix2 a d)) (fun d f => wgOf m c (ix3 (ch.te (tileRow a)) d (o f))) (fun d f => wuOf m c (ix3 (ch.te (tileRow a)) d (o f)))
          (fun f z => wdOf m c (ix3 (ch.te (tileRow a)) (o f) z)) n := by
  have h0 : ((crd ch t) 0).val = t.val / 2 := coords_tile t
  have he : ch.te (tileRow a) = ch.te (tileOf (crd ch t)) := congrArg ch.te (Fin.ext (by show a.val / 512 = ((crd ch t) 0).val; omega))
  exact mlp_congr n hx (fun d f => gate_apply ch m ρ c t hl d f _ _ he (ho f)) (fun d f => up_apply ch m ρ c t hl d f _ _ he (ho f))
    (fun f => down_apply ch m ρ c t hl f n _ _ he (ho f))

/-- What is written back of a tile, after its second point. -/
theorem after_odd (c : Dev nD) (t : Fin (cfgA ch).N) (ht : t.val % 2 = 1) (r : Fin 512) (n : Fin 1024) (a : Fin 36864) (z : Fin 1024) (ha : a.val = 512 * (t.val / 2) + r.val)
    (hz : z.val = n.val) :
    (traj0 ch m ρ c t.val t.isLt).1 (ix2 r n) = routedAt ch (xsOf m c) (wgOf m c) (wuOf m c) (wdOf m c) a z := by
  obtain rfl : n = z := (Fin.ext hz).symm
  have ht0 : t.val ≠ 0 := by omega
  obtain ⟨s, hs⟩ : ∃ s : Fin (cfgA ch).N, s.val = t.val - 1 := ⟨⟨t.val - 1, by have := t.isLt; omega⟩, rfl⟩
  have hp : prev0 ch m ρ c t = step0 ch m ρ c s (prev0 ch m ρ c s) := by
    rw [← traj0_eq]
    unfold prev0; rw [dif_neg ht0]
    obtain ⟨s, hs'⟩ := s
    obtain rfl : s = t.val - 1 := hs
    rfl
  have hat : (tileRow a).val = t.val / 2 := by show a.val / 512 = t.val / 2; omega
  rw [traj0_eq, hp, routedAt]
  by_cases hl : t.val / 2 ≤ ch.last.val
  · have hls : s.val / 2 ≤ ch.last.val := by omega
    have qt0 : ¬P0_0 ch t := fun h => by have := (P0_0_iff ch t).1 h; omega
    have qt1 : P0_1 ch t := (P0_1_iff ch t).2 hl
    have qs0 : P0_0 ch s := (P0_0_iff ch s).2 ⟨hls, by omega⟩
    rw [if_pos (hat.trans_le hl), second_out ch m ρ c t _ qt0 qt1, first_out ch m ρ c s _ qs0, first_kept ch m ρ c s _ qs0]
    refine Eq.trans ?_ (mlp_add (K := 1792) (L := 1792) _ _ _ _ n).symm
    refine congrArg₂ (· + ·) ?_ ?_
    · exact half_part ch m ρ c s hls _ a n r (by omega) (fun d => rows_apply ch m ρ c s hls r d a (by omega)) _
        (fun f => by show f.val = _; omega)
    · exact half_part ch m ρ c t hl _ a n r ha (fun d => rows_apply ch m ρ c s hls r d a (by omega)) _
        (fun f => by show 1792 + f.val = _; omega)
  · have qt0 : ¬P0_0 ch t := fun h => hl ((P0_0_iff ch t).1 h).1
    have qt1 : ¬P0_1 ch t := fun h => hl ((P0_1_iff ch t).1 h)
    have qt2 : ¬P0_2 ch t := fun h => by have := (P0_2_iff ch t).1 h; omega
    have qs0 : ¬P0_0 ch s := fun h => by have := (P0_0_iff ch s).1 h; omega
    have qs1 : ¬P0_1 ch s := fun h => by have := (P0_1_iff ch s).1 h; omega
    have qs2 : P0_2 ch s := (P0_2_iff ch s).2 ⟨by omega, by omega⟩
    rw [if_neg (fun h => hl (hat ▸ h)), step0_D ch m ρ c t _ qt0 qt1 qt2]
    have hf := (sched0_D ch t qt0 qt1 qt2).2.2.1
    simp only [hf, Bool.false_eq_true, ↓reduceIte]
    exact idle_out ch m ρ c s _ qs0 qs1 qs2 _

theorem covers4 : ((cfgA ch).win (4 : Fin 5)).Covers := by
  refine Pipeline.Window.covers_of_index_surj _ rfl (fun a => by match a with | ⟨0, _⟩ => exact (by decide : 0 < 512) | ⟨1, _⟩ => exact (by decide : 0 < 1024)) fun β => ?_
  have h0 : (β (0 : Fin 2)).val < 72 := lt_of_lt_of_eq (β (0 : Fin 2)).isLt (show (36864 + 512 - 1) / 512 = 72 from rfl)
  have h1 : (β (1 : Fin 2)).val < 1 := lt_of_lt_of_eq (β (1 : Fin 2)).isLt (show (1024 + 1024 - 1) / 1024 = 1 from rfl)
  refine ⟨⟨2 * (β (0 : Fin 2)).val, by show _ < 144; omega⟩, fun a => ?_⟩
  rw [index4]
  match a with
  | ⟨0, _⟩ => show 2 * (β (0 : Fin 2)).val / 2 = (β (0 : Fin 2)).val; omega
  | ⟨1, _⟩ => show 0 = (β (1 : Fin 2)).val; omega

/-- The experts' result array after the launch. -/
theorem final_routed (c : Dev nD) :
    (dats ch m ρ 0 c).arrAt (4 : Fin 5) (cfgA ch).N
      = fun y : S36864x1024.Idx => routedAt ch (xsOf m c) (wgOf m c) (wuOf m c) (wdOf m c) (y 0) (y 1) := by
  refine (dats ch m ρ 0 c).arrAt_eq_of_covers (4 : Fin 5) _ (covers4 ch) fun t hf y => ?_
  have ho : t.val % 2 = 1 := by rw [flush4_eq] at hf; exact of_decide_eq_true hf
  rw [after0_4]
  refine (congrArg _ (eq_ix2 _)).trans (after_odd ch m ρ c t ho _ _ _ _ ?_ ?_)
  · blk_simp [index4 ch t]; exact (congrArg (· + _) (Nat.mul_comm _ _))
  · blk_simp [index4 ch t]

end Cert.ExpertsIdeal.Routed

end
-- ==== Proof.ExpertsMlp.RefValue.lean ====
/-
  The reference's result at an element: the sum over the eight experts of one at the row's expert, zero at any other, times the
  expert's SwiGLU.
-/
module

public import proofs.«01_k».proof.Proof.Gen.ExpertsRefIdeal.Read
public import proofs.«01_k».proof.Proof.ExpertsMlp.Final

@[expose] public section

set_option maxRecDepth 16384

noncomputable section

namespace Cert.ExpertsRefIdeal.Routed

open Cert.ExpertsRefIdeal Cert.ExpertsRefIdeal.Gen Cert.ExpertsRefIdeal.Read Idealize.ShloMosaic.ValueIdx Cert.Swiglu
open Idealize.ShloMosaic hiding ix2 ix3
open Cert.ExpertsIdeal.Routed (Tab expertAt routedAt tileRow one_bits zero_bits slt_word ntW)

theorem exp_nonneg (z : EReal) : 0 ≤ Ideal.exp z := by
  induction z using EReal.rec with
  | bot => exact le_refl _
  | coe r => exact EReal.coe_nonneg.2 (Real.exp_pos r).le
  | top => exact le_top

/-- A number times its logistic is the quotient the kernel takes. -/
theorem silu_eq (z : EReal) : z * Ideal.div 1 (1 + Ideal.exp (-z)) = silu z := by
  have h0 : (0 : EReal) < 1 + Ideal.exp (-z) := lt_of_lt_of_le zero_lt_one (le_add_of_nonneg_right (exp_nonneg _))
  rw [silu, zero_sub, Ideal.div, Ideal.div, if_neg h0.ne', if_neg h0.ne', one_mul]

theorem gate_apply (x2 : S36864x1024.Idx → EReal) (x3 : S8x1024x3584.Idx → EReal) (a : Fin 36864) (e : Fin 8) (f : Fin 3584) :
    val_main_v10 (F := Ideal) x2 x3 (ix3 a e f) = ∑ d : Fin 1024, x2 (ix2 a d) * x3 (ix3 e d f) := by
  rw [val_main_v10_apply]
  refine Finset.sum_congr rfl fun d _ => ?_
  rw [val_main_v9_apply]
  exact congrArg₂ (· * ·) (congrArg x2 (funext fun | ⟨0, _⟩ => rfl | ⟨1, _⟩ => rfl)) (congrArg x3 (funext fun | ⟨0, _⟩ => rfl | ⟨1, _⟩ => rfl | ⟨2, _⟩ => rfl))

theorem up_apply (x2 : S36864x1024.Idx → EReal) (x4 : S8x1024x3584.Idx → EReal) (a : Fin 36864) (e : Fin 8) (f : Fin 3584) :
    val_main_v12 (F := Ideal) x2 x4 (ix3 a e f) = ∑ d : Fin 1024, x2 (ix2 a d) * x4 (ix3 e d f) := by
  rw [val_main_v12_apply]
  refine Finset.sum_congr rfl fun d _ => ?_
  rw [val_main_v9_apply]
  exact congrArg₂ (· * ·) (congrArg x2 (funext fun | ⟨0, _⟩ => rfl | ⟨1, _⟩ => rfl)) (congrArg x4 (funext fun | ⟨0, _⟩ => rfl | ⟨1, _⟩ => rfl | ⟨2, _⟩ => rfl))

theorem hid_apply (x2 : S36864x1024.Idx → EReal) (x3 x4 : S8x1024x3584.Idx → EReal) (a : Fin 36864) (e : Fin 8) (f : Fin 3584) :
    val_main_v14 (F := Ideal) x2 x3 x4 (ix3 a e f)
      = hid (fun d => x2 (ix2 a d)) (fun d f => x3 (ix3 e d f)) (fun d f => x4 (ix3 e d f)) f := by
  rw [val_main_v14_apply, val_main_v13_apply, val_main_v11_apply, val_main_call2_v5_apply, val_main_call2_v4_apply, val_main_call2_cst_0_apply,
    val_main_call2_v3_apply, val_main_call2_v2_apply, val_main_call2_cst_apply, val_main_call2_v1_apply, val_main_call2_v0_apply, up_apply, gate_apply]
  show (_ * Ideal.div (Ideal.ofBits .f32 0x3F800000#32) (Ideal.ofBits .f32 0x3F800000#32 + Ideal.exp (-_))) * _ = _
  rw [one_bits, silu_eq]; rfl

/-- Every expert's result on every row. -/
theorem expert_apply (x2 : S36864x1024.Idx → EReal) (x3 x4 : S8x1024x3584.Idx → EReal) (x5 : S8x3584x1024.Idx → EReal) (a : Fin 36864) (e : Fin 8) (n : Fin 1024) :
    val_main_v16 (F := Ideal) x2 x3 x4 x5 (ix3 a e n) = expertAt x2 x3 x4 x5 e a n := by
  rw [val_main_v16_apply, val_main_v15_apply]
  unfold expertAt mlp
  refine Finset.sum_congr rfl fun f _ => ?_
  rw [mul_comm]
  refine congrArg₂ (· * ·) ?_ (congrArg x5 (funext fun | ⟨0, _⟩ => rfl | ⟨1, _⟩ => rfl | ⟨2, _⟩ => rfl))
  rw [← hid_apply]
  exact congrArg (val_main_v14 (F := Ideal) x2 x3 x4) (funext fun | ⟨0, _⟩ => rfl | ⟨1, _⟩ => rfl | ⟨2, _⟩ => rfl)

theorem hot_word : ∀ (b : Bool) (t e : Fin 8),
    IntOp.cmpi .eq (Scalar.select (if b then 1#1 else 0#1) (BitVec.ofNat 32 t.val) 4294967295#32) (BitVec.ofNat 32 e.val) = if b && t == e then 1#1 else 0#1 := by
  decide +kernel

/-- One at the row's expert, zero elsewhere and where the row's tile is not in use. -/
theorem hot_apply (ch : Tab) (x0 : S72.Idx → BitVec 32) (x1 : S1.Idx → BitVec 32) (h0 : ∀ i, x0 i = BitVec.ofNat 32 (ch.te (i 0)).val) (h1 : ∀ i, x1 i = ntW ch.last)
    (a : Fin 36864) (e : Fin 8) (n : Fin 1024) :
    val_main_v18 (F := Ideal) x0 x1 (ix3 a e n) = if (tileRow a).val ≤ ch.last.val ∧ ch.te (tileRow a) = e then (1 : EReal) else 0 := by
  rw [val_main_v18_apply, val_main_v17_apply, val_main_v8_apply, val_main_call1_v4_apply, val_main_call1_v2_apply, val_main_call1_v0_apply, val_main_v7_apply,
    val_main_v6_apply, val_main_v5_apply, val_main_v4_apply, val_main_v3_apply, val_main_v2_apply, val_main_call1_v3_apply, val_main_call1_v1_apply,
    val_main_call0_v1_apply, val_main_call0_v0_apply, val_main_c_apply, val_main_v0_apply, h0]
  have hn : ∀ j, val_main_v1 (F := Ideal) x1 j = ntW ch.last := fun j => h1 _
  rw [hn]
  have hs : IntOp.cmpi .slt (BitVec.ofNat 32 (tileRow a).val) (ntW ch.last) = if decide ((tileRow a).val ≤ ch.last.val) then 1#1 else 0#1 := by
    refine (slt_word (tileRow a) ch.last).trans ?_
    simp only [decide_eq_true_eq]
  have hh := hot_word (decide ((tileRow a).val ≤ ch.last.val)) (ch.te (tileRow a)) e
  rw [← hs] at hh
  refine (congrArg (FloatOps.uitofp (F := Ideal) .f32) hh).trans ?_
  show (((if _ then 1#1 else 0#1 : BitVec 1).toNat : ℝ) : EReal) = _
  by_cases hc : (tileRow a).val ≤ ch.last.val ∧ ch.te (tileRow a) = e
  · rw [if_pos hc, if_pos (by simpa using hc)]; simp
  · rw [if_neg hc, if_neg (by simpa using hc)]; simp

/-- The reference's result. -/
theorem out_apply (ch : Tab) (x0 : S72.Idx → BitVec 32) (x1 : S1.Idx → BitVec 32) (h0 : ∀ i, x0 i = BitVec.ofNat 32 (ch.te (i 0)).val) (h1 : ∀ i, x1 i = ntW ch.last)
    (x2 : S36864x1024.Idx → EReal) (x3 x4 : S8x1024x3584.Idx → EReal) (x5 : S8x3584x1024.Idx → EReal) (a : Fin 36864) (n : Fin 1024) :
    val_main_v20 (F := Ideal) x0 x1 x2 x3 x4 x5 (ix2 a n) = routedAt ch x2 x3 x4 x5 a n := by
  have hv : ∀ e : Fin 8, val_main_v19 (F := Ideal) x0 x1 x2 x3 x4 x5 (idx_main_v20 (ix2 a n) e)
      = (if (tileRow a).val ≤ ch.last.val ∧ ch.te (tileRow a) = e then (1 : EReal) else 0) * expertAt x2 x3 x4 x5 e a n := fun e => by
    have ei : idx_main_v20 (ix2 a n) e = ix3 a e n := funext fun | ⟨0, _⟩ => rfl | ⟨1, _⟩ => rfl | ⟨2, _⟩ => rfl
    rw [ei, val_main_v19_apply, hot_apply ch x0 x1 h0 h1, expert_apply]; rfl
  rw [val_main_v20_apply, val_main_cst_apply, Finset.sum_congr rfl fun e _ => hv e]
  show Ideal.ofBits .f32 0x00000000#32 + _ = _
  rw [zero_bits, zero_add, routedAt]
  by_cases hl : (tileRow a).val ≤ ch.last.val
  · rw [if_pos hl, Finset.sum_eq_single (ch.te (tileRow a))]
    · rw [if_pos ⟨hl, rfl⟩, one_mul]
    · intro e _ he
      rw [if_neg fun h => he h.2.symm, zero_mul]
    · exact fun h => absurd (Finset.mem_univ _) h
  · rw [if_neg hl]
    exact Finset.sum_eq_zero fun e _ => by rw [if_neg fun h => hl h.1, zero_mul]

end Cert.ExpertsRefIdeal.Routed

end
-- ==== Proof.ExpertsMlp.Agree.lean ====
/-
  The kernel's and the reference's experts end with the same array, from memories agreeing on the arguments, for a table of
  tiles within range.
-/
module

public import proofs.«01_k».proof.Defs
public import proofs.«01_k».proof.Proof.ExpertsMlp.Final
public import proofs.«01_k».proof.Proof.ExpertsMlp.RefValue
public import proofs.«01_k».proof.Proof.ExpertsMlp.Range

@[expose] public section

set_option maxRecDepth 16384

noncomputable section

namespace Cert.Proof

open Idealize.ShloMosaic Idealize.SL.Sem

/-- A launch that meets the precondition holds tables within range. -/
theorem experts_pinned (m : (ℓ : Loc Cert.ExpertsIdeal.nD Cert.ExpertsIdeal.τ Cert.ExpertsIdeal.sig) → Buf (Elt Ideal) ℓ)
    (hpre : Cert.Pre_ExpertsIdeal m) : ∃ ch : ExpertsIdeal.Routed.Tab, ExpertsIdeal.Routed.Pinned ch m := by
  obtain ⟨te, last, h0, h1⟩ := Cert.Pre_routed.tables _ _ _ _ _ _ (hpre ⟨0, by decide⟩)
  have hc : ∀ c : Dev ExpertsIdeal.nD, c = ⟨0, by decide⟩ := fun c => Fin.ext (Nat.lt_one_iff.1 c.isLt)
  exact ⟨⟨te, last⟩, fun c => by rw [hc c]; exact h0, fun c => by rw [hc c]; exact h1⟩

/-- The frame of the kernel's experts over the extended reals. -/
theorem experts_ideal_frame : Cert.quiescent_ExpertsIdeal := fun m ρ hpre => by
  obtain ⟨ch, hp⟩ := experts_pinned m hpre
  exact ExpertsIdeal.Routed.frame ch m ρ hp

/-- The two runs' results are the same function of the arguments. -/
theorem experts_agree : Cert.algebraic_ExpertsIdeal_ExpertsRefIdeal := by
  intro m g m' g' hpre hag
  obtain ⟨ch, hp⟩ := experts_pinned m hpre
  refine ⟨fun c y => ExpertsIdeal.Routed.routedAt ch (ExpertsIdeal.Routed.xsOf m c) (ExpertsIdeal.Routed.wgOf m c) (ExpertsIdeal.Routed.wuOf m c)
      (ExpertsIdeal.Routed.wdOf m c) (y 0) (y 1),
    (θ_run ExpertsIdeal.defs _ _).mono (fun r h c => ?_)
      (θ_run_and (ExpertsIdeal.Routed.run_main ch m g hp) (ExpertsIdeal.Routed.unchanged ch m g hp)),
    (θ_run ExpertsRefIdeal.defs _ _).mono (fun r h c => ?_) (ExpertsRefIdeal.Value.run m' g')⟩
  · exact ⟨((h.1 c).1 (4 : Fin 5)).trans (ExpertsIdeal.Routed.final_routed ch m g c), h.2 c⟩
  · obtain ⟨h20, ha⟩ := h c
    obtain ⟨e0, e1, e2, e3, e4, e5⟩ := hag c
    refine ⟨h20.trans ((ExpertsRefIdeal.Read.val_main_v20_eq _ _ _ _ _ _).trans ?_), ha⟩
    rw [e0, e1, e2, e3, e4, e5]
    funext y
    have ey : y = ValueIdx.ix2 (y 0) (y 1) := funext fun a => match a with | ⟨0, _⟩ => rfl | ⟨1, _⟩ => rfl
    exact (congrArg _ ey).trans (ExpertsRefIdeal.Routed.out_apply ch _ _ (fun i => congrFun (hp.1 c) i) (fun i => congrFun (hp.2 c) i) _ _ _ _ (y 0) (y 1))

end Cert.Proof

end
-- ==== Proof.FeedForward.Row.lean ====
/-
  A row of the dense feed-forward's result, over the extended reals: the residual, plus the gate times the SwiGLU of the row
  brought to unit mean square and times the gain.
-/
module

public import proofs.«01_k».proof.Proof.ExpertsMlp.Swiglu
public import Idealize.ShloMosaic.Lib.ValueIdx

@[expose] public section

noncomputable section

namespace Cert.Swiglu

open Idealize.ShloMosaic Idealize.ShloMosaic.ValueIdx

/-- The index of a two-axis array as a table. -/
abbrev tab {a b : ℕ} (g : (⟨2, ![a, b]⟩ : Shape).Idx → EReal) : Fin a → Fin b → EReal := fun d f => g (ix2 d f)

/-- A row over the root of its mean square, the words 1024 and 1e-6 as they stand in the program. -/
def unitRow (y : Fin 1024 → EReal) (n : Fin 1024) : EReal :=
  y n * Ideal.rsqrt (Ideal.div (∑ k : Fin 1024, y k * y k) (Ideal.ofBits .f32 0x44800000#32) + Ideal.ofBits .f32 0x358637BD#32)

/-- The sequence whose gate a row takes: a latent row its own, a context row the fifth. -/
def gateOf (a : Fin 17408) : Fin 8 := if h : a.val < 16384 then ⟨a.val / 4096, by omega⟩ else 4

/-- The dense feed-forward's result at row `a` and channel `n`. -/
def ffnAt (u : (⟨2, ![17408, 1024]⟩ : Shape).Idx → EReal) (wg wu : (⟨2, ![1024, 2816]⟩ : Shape).Idx → EReal)
    (wd : (⟨2, ![2816, 1024]⟩ : Shape).Idx → EReal) (h : (⟨2, ![17408, 1024]⟩ : Shape).Idx → EReal)
    (mods : (⟨4, ![2, 8, 6, 1024]⟩ : Shape).Idx → EReal) (g : (⟨2, ![4, 1024]⟩ : Shape).Idx → EReal) (a : Fin 17408) (n : Fin 1024) : EReal :=
  h (ix2 a n) + mods (ix4 0 (gateOf a) 5 n) * (unitRow (mlp (tab u a) (tab wg) (tab wu) (tab wd)) n * g (ix2 3 n))

end Cert.Swiglu

end
-- ==== Proof.FeedForward.Elements.lean ====
/-
  The feed-forward's body at an element, over the extended reals: each chunk of hidden channels as a sum, the six chunks
  together, and the row's mean square.
-/
module

public import proofs.«01_k».proof.Proof.Gen.FfnIdeal.Value
public import proofs.«01_k».proof.Proof.ExpertsMlp.Elements
public import proofs.«01_k».proof.Proof.FeedForward.Row
public import Idealize.ShloMosaic.Lib.ValueLayout
public import Idealize.ShloMosaic.Lib.Pointwise
public import Idealize.ShloMosaic.PureOps.Ideal.Laws

@[expose] public section

set_option maxRecDepth 16384

noncomputable section

namespace Cert.FfnIdeal.Dense

open Cert.FfnIdeal Cert.FfnIdeal.Gen Idealize.ShloMosaic.ValueIdx Cert.Swiglu
open Idealize.ShloMosaic hiding ix2 ix3 ix4
open Cert.ExpertsIdeal.Routed (one_bits zero_bits)

/-- Rows times 512 columns of weights. -/
abbrev up512 (x : FVec Ideal S512x1024 .bf16) (g : Vec Ideal S1024x512 .bf16) : S512x512.Idx → EReal :=
  matmul (F := Ideal) (φ₁ := .bf16) (φ₂ := .bf16) dot_S512x1024_S1024x512_S512x512_1_0_0_1_n_n none x g (constant S512x512 .f32 0x00000000#32)
/-- Rows times 256 columns of weights. -/
abbrev up256 (x : FVec Ideal S512x1024 .bf16) (g : Vec Ideal S1024x256 .bf16) : S512x256.Idx → EReal :=
  matmul (F := Ideal) (φ₁ := .bf16) (φ₂ := .bf16) dot_S512x1024_S1024x256_S512x256_1_0_0_1_n_n none x g (constant S512x256 .f32 0x00000000#32)
/-- Hidden channels times 512 rows of down weights. -/
abbrev down512 (h : FVec Ideal S512x512 .bf16) (w : Vec Ideal S512x1024 .bf16) : S512x1024.Idx → EReal :=
  matmul (F := Ideal) (φ₁ := .bf16) (φ₂ := .bf16) dot_S512x512_S512x1024_S512x1024_1_0_0_1_n_n none h w (constant S512x1024 .f32 0x00000000#32)
/-- Hidden channels times 256 rows of down weights. -/
abbrev down256 (h : FVec Ideal S512x256 .bf16) (w : Vec Ideal S256x1024 .bf16) : S512x1024.Idx → EReal :=
  matmul (F := Ideal) (φ₁ := .bf16) (φ₂ := .bf16) dot_S512x256_S256x1024_S512x1024_1_0_0_1_n_n none h w (constant S512x1024 .f32 0x00000000#32)

theorem into512 (x : FVec Ideal S512x1024 .bf16) (g : Vec Ideal S1024x512 .bf16) (r : Fin 512) (f : Fin 512) :
    up512 x g (ix2 r f) = ∑ d : Fin 1024, tab (a := 512) (b := 1024) x r d * tab (a := 1024) (b := 512) g d f := by
  simp only [up512, matmul]
  rw [Ideal.matmul_constant_zero_apply, ← Equiv.sum_comp (contrEquiv1 dot_S512x1024_S1024x512_S512x512_1_0_0_1_n_n 1024 rfl rfl).symm]
  refine Finset.sum_congr rfl fun d _ => ?_
  have hd := contrEquiv1_symm_val dot_S512x1024_S1024x512_S512x512_1_0_0_1_n_n 1024 rfl rfl d
  congr 1
  · exact congrArg x (funext fun a => Fin.ext (by match a with | ⟨0, _⟩ => rfl | ⟨1, _⟩ => exact hd))
  · exact congrArg g (funext fun a => Fin.ext (by match a with | ⟨0, _⟩ => exact hd | ⟨1, _⟩ => rfl))

theorem into256 (x : FVec Ideal S512x1024 .bf16) (g : Vec Ideal S1024x256 .bf16) (r : Fin 512) (f : Fin 256) :
    up256 x g (ix2 r f) = ∑ d : Fin 1024, tab (a := 512) (b := 1024) x r d * tab (a := 1024) (b := 256) g d f := by
  simp only [up256, matmul]
  rw [Ideal.matmul_constant_zero_apply, ← Equiv.sum_comp (contrEquiv1 dot_S512x1024_S1024x256_S512x256_1_0_0_1_n_n 1024 rfl rfl).symm]
  refine Finset.sum_congr rfl fun d _ => ?_
  have hd := contrEquiv1_symm_val dot_S512x1024_S1024x256_S512x256_1_0_0_1_n_n 1024 rfl rfl d
  congr 1
  · exact congrArg x (funext fun a => Fin.ext (by match a with | ⟨0, _⟩ => rfl | ⟨1, _⟩ => exact hd))
  · exact congrArg g (funext fun a => Fin.ext (by match a with | ⟨0, _⟩ => exact hd | ⟨1, _⟩ => rfl))

theorem from512 (h : FVec Ideal S512x512 .bf16) (w : Vec Ideal S512x1024 .bf16) (r : Fin 512) (n : Fin 1024) :
    down512 h w (ix2 r n) = ∑ f : Fin 512, (h (ix2 r f) : EReal) * tab (a := 512) (b := 1024) w f n := by
  simp only [down512, matmul]
  rw [Ideal.matmul_constant_zero_apply, ← Equiv.sum_comp (contrEquiv1 dot_S512x512_S512x1024_S512x1024_1_0_0_1_n_n 512 rfl rfl).symm]
  refine Finset.sum_congr rfl fun d _ => ?_
  have hd := contrEquiv1_symm_val dot_S512x512_S512x1024_S512x1024_1_0_0_1_n_n 512 rfl rfl d
  congr 1
  · exact congrArg h (funext fun a => Fin.ext (by match a with | ⟨0, _⟩ => rfl | ⟨1, _⟩ => exact hd))
  · exact congrArg w (funext fun a => Fin.ext (by match a with | ⟨0, _⟩ => exact hd | ⟨1, _⟩ => rfl))

theorem from256 (h : FVec Ideal S512x256 .bf16) (w : Vec Ideal S256x1024 .bf16) (r : Fin 512) (n : Fin 1024) :
    down256 h w (ix2 r n) = ∑ f : Fin 256, (h (ix2 r f) : EReal) * tab (a := 256) (b := 1024) w f n := by
  simp only [down256, matmul]
  rw [Ideal.matmul_constant_zero_apply, ← Equiv.sum_comp (contrEquiv1 dot_S512x256_S256x1024_S512x1024_1_0_0_1_n_n 256 rfl rfl).symm]
  refine Finset.sum_congr rfl fun d _ => ?_
  have hd := contrEquiv1_symm_val dot_S512x256_S256x1024_S512x1024_1_0_0_1_n_n 256 rfl rfl d
  congr 1
  · exact congrArg h (funext fun a => Fin.ext (by match a with | ⟨0, _⟩ => rfl | ⟨1, _⟩ => exact hd))
  · exact congrArg w (funext fun a => Fin.ext (by match a with | ⟨0, _⟩ => exact hd | ⟨1, _⟩ => rfl))

/-- The quotient the body takes of a gate product. -/
def quot (z : EReal) : EReal := Ideal.div z (Ideal.ofBits .f32 0x3F800000#32 + Ideal.exp (Ideal.ofBits .f32 0x00000000#32 - z))

theorem quot_eq (z : EReal) : quot z = silu z := by rw [quot, one_bits, zero_bits]; rfl

/-- A chunk of 512 hidden channels' part of the result, from its gate product `z`. -/
theorem part512 (x : FVec Ideal S512x1024 .bf16) (g u : Vec Ideal S1024x512 .bf16) (w : Vec Ideal S512x1024 .bf16) (z : S512x512.Idx → EReal)
    (hz : ∀ r f : Fin 512, z (ix2 r f) = quot (up512 x g (ix2 r f))) (r : Fin 512) (n : Fin 1024) :
    down512 (fun i => z i * up512 x u i) w (ix2 r n)
      = mlp (tab (a := 512) (b := 1024) x r) (tab (a := 1024) (b := 512) g) (tab (a := 1024) (b := 512) u) (tab (a := 512) (b := 1024) w) n := by
  rw [from512]
  unfold mlp
  refine Finset.sum_congr rfl fun f _ => ?_
  rw [hz, quot_eq, into512, into512]; rfl

/-- A chunk of 256 hidden channels' part of the result. -/
theorem part256 (x : FVec Ideal S512x1024 .bf16) (g u : Vec Ideal S1024x256 .bf16) (w : Vec Ideal S256x1024 .bf16) (r : Fin 512) (n : Fin 1024) :
    down256 (fun i => quot (up256 x g i) * up256 x u i) w (ix2 r n)
      = mlp (tab (a := 512) (b := 1024) x r) (tab (a := 1024) (b := 256) g) (tab (a := 1024) (b := 256) u) (tab (a := 256) (b := 1024) w) n := by
  rw [from256]
  unfold mlp
  refine Finset.sum_congr rfl fun f _ => ?_
  rw [quot_eq, into256, into256]; rfl

/-- The first two chunks. -/
theorem pay2_apply (x : Vec Ideal S512x1024 .bf16) (g0 u0 : Vec Ideal S1024x512 .bf16) (w0 : Vec Ideal S512x1024 .bf16) (g1 u1 : Vec Ideal S1024x512 .bf16)
    (w1 : Vec Ideal S512x1024 .bf16) (r : Fin 512) (n : Fin 1024) :
    k0_pay2 (F := Ideal) x g0 u0 w0 g1 u1 w1 (ix2 r n)
      = mlp (tab (a := 512) (b := 1024) x r) (tab (a := 1024) (b := 512) g0) (tab (a := 1024) (b := 512) u0) (tab (a := 512) (b := 1024) w0) n
        + mlp (tab (a := 512) (b := 1024) x r) (tab (a := 1024) (b := 512) g1) (tab (a := 1024) (b := 512) u1) (tab (a := 512) (b := 1024) w1) n := by
  rw [← part512 x g0 u0 w0 (fun i => quot (up512 x g0 i)) (fun _ _ => rfl), ← part512 x g1 u1 w1 (fun i => quot (up512 x g1 i)) (fun _ _ => rfl)]
  rfl

/-- The third and fourth chunks put to the first two. -/
theorem pay4_apply (x : Vec Ideal S512x1024 .bf16) (a : FVec Ideal S512x1024 .f32) (g2 u2 : Vec Ideal S1024x512 .bf16) (w2 : Vec Ideal S512x1024 .bf16)
    (g3 u3 : Vec Ideal S1024x512 .bf16) (w3 : Vec Ideal S512x1024 .bf16) (r : Fin 512) (n : Fin 1024) :
    k0_pay4 (F := Ideal) x a (k0_pay3 x g2) u2 w2 g3 u3 w3 (ix2 r n)
      = a (ix2 r n) + mlp (tab (a := 512) (b := 1024) x r) (tab (a := 1024) (b := 512) g2) (tab (a := 1024) (b := 512) u2) (tab (a := 512) (b := 1024) w2) n
        + mlp (tab (a := 512) (b := 1024) x r) (tab (a := 1024) (b := 512) g3) (tab (a := 1024) (b := 512) u3) (tab (a := 512) (b := 1024) w3) n := by
  rw [← part512 x g2 u2 w2 (fun i => quot (up512 x g2 i)) (fun _ _ => rfl), ← part512 x g3 u3 w3 (fun i => quot (up512 x g3 i)) (fun _ _ => rfl)]
  rfl

/-- The fifth chunk and the last, of 256 channels, put to the others. -/
theorem pay6_apply (x : Vec Ideal S512x1024 .bf16) (a : FVec Ideal S512x1024 .f32) (g4 u4 : Vec Ideal S1024x512 .bf16) (w4 : Vec Ideal S512x1024 .bf16)
    (g5 u5 : Vec Ideal S1024x256 .bf16) (w5 : Vec Ideal S256x1024 .bf16) (r : Fin 512) (n : Fin 1024) :
    k0_pay6 (F := Ideal) x a (k0_pay5 x g4) u4 w4 g5 u5 w5 (ix2 r n)
      = a (ix2 r n) + mlp (tab (a := 512) (b := 1024) x r) (tab (a := 1024) (b := 512) g4) (tab (a := 1024) (b := 512) u4) (tab (a := 512) (b := 1024) w4) n
        + mlp (tab (a := 512) (b := 1024) x r) (tab (a := 1024) (b := 256) g5) (tab (a := 1024) (b := 256) u5) (tab (a := 256) (b := 1024) w5) n := by
  rw [← part512 x g4 u4 w4 (fun i => quot (up512 x g4 i)) (fun _ _ => rfl), ← part256 x g5 u5 w5]
  rfl

/-- The part of a row's result from the first `K` hidden channels. -/
def first (x : Fin 1024 → EReal) (G U : S1024x2816.Idx → EReal) (W : S2816x1024.Idx → EReal) (n : Fin 1024) (K : ℕ) (h : K ≤ 2816) : EReal :=
  mlp x (fun d (f : Fin K) => G (ix2 d ⟨f.val, by omega⟩)) (fun d f => U (ix2 d ⟨f.val, by omega⟩)) (fun f j => W (ix2 ⟨f.val, by omega⟩ j)) n

/-- The part from the `L` hidden channels after the first `K`. -/
def after (x : Fin 1024 → EReal) (G U : S1024x2816.Idx → EReal) (W : S2816x1024.Idx → EReal) (n : Fin 1024) (K L : ℕ) (h : K + L ≤ 2816) : EReal :=
  mlp x (fun d (f : Fin L) => G (ix2 d ⟨K + f.val, by omega⟩)) (fun d f => U (ix2 d ⟨K + f.val, by omega⟩)) (fun f j => W (ix2 ⟨K + f.val, by omega⟩ j)) n

theorem first_add (x : Fin 1024 → EReal) (G U : S1024x2816.Idx → EReal) (W : S2816x1024.Idx → EReal) (n : Fin 1024) (K L N : ℕ) (hN : K + L = N) (h : N ≤ 2816)
    (h1 : K ≤ 2816) (h2 : K + L ≤ 2816) : first x G U W n K h1 + after x G U W n K L h2 = first x G U W n N h := by
  subst hN
  unfold first after
  rw [mlp_add (K := K) (L := L)]
  rfl

theorem first_all (x : Fin 1024 → EReal) (G U : S1024x2816.Idx → EReal) (W : S2816x1024.Idx → EReal) (n : Fin 1024) :
    first x G U W n 2816 (le_refl _) = mlp x (tab (a := 1024) (b := 2816) G) (tab (a := 1024) (b := 2816) U) (tab (a := 2816) (b := 1024) W) n := rfl

/-- The six chunks, as the body puts them together, are the whole SwiGLU: each is a window of the resident weights. -/
theorem whole_apply (x : Vec Ideal S512x1024 .bf16) (G U : Vec Ideal S1024x2816 .bf16) (W : Vec Ideal S2816x1024 .bf16) (r : Fin 512) (n : Fin 1024) :
    k0_pay6 (F := Ideal) x
        (k0_pay4 x (k0_pay2 x (View.ld G r0_1) (View.ld U r0_1) (View.ld W r0_2) (View.ld G r0_3) (View.ld U r0_3) (View.ld W r0_4))
          (k0_pay3 x (View.ld G r0_5)) (View.ld U r0_5) (View.ld W r0_6) (View.ld G r0_7) (View.ld U r0_7) (View.ld W r0_8))
        (k0_pay5 x (View.ld G r0_9)) (View.ld U r0_9) (View.ld W r0_10) (View.ld G r0_11) (View.ld U r0_11) (View.ld W r0_12) (ix2 r n)
      = mlp (tab (a := 512) (b := 1024) x r) (tab (a := 1024) (b := 2816) G) (tab (a := 1024) (b := 2816) U) (tab (a := 2816) (b := 1024) W) n := by
  rw [pay6_apply, pay4_apply, pay2_apply]
  have hc : ∀ (M : S1024x2816.Idx → EReal) (K o : ℕ) (inb) (ho : o + K ≤ 2816) (d : Fin 1024) (f : Fin K),
      View.ld (Val := Elt Ideal) (e' := .bf16) M (Rect.unit (s := S1024x2816) ![0, o] ![1024, K] inb) (ix2 d f) = M (ix2 d ⟨o + f.val, by omega⟩) :=
    fun M K o inb ho d f => congrArg M (funext fun a => Fin.ext (by
      match a with | ⟨0, _⟩ => show 0 + 1 * d.val = d.val; omega | ⟨1, _⟩ => show o + 1 * f.val = o + f.val; omega))
  have hr : ∀ (M : S2816x1024.Idx → EReal) (K o : ℕ) (inb) (ho : o + K ≤ 2816) (f : Fin K) (j : Fin 1024),
      View.ld (Val := Elt Ideal) (e' := .bf16) M (Rect.unit (s := S2816x1024) ![o, 0] ![K, 1024] inb) (ix2 f j) = M (ix2 ⟨o + f.val, by omega⟩ j) :=
    fun M K o inb ho f j => congrArg M (funext fun a => Fin.ext (by
      match a with | ⟨0, _⟩ => show o + 1 * f.val = o + f.val; omega | ⟨1, _⟩ => show 0 + 1 * j.val = j.val; omega))
  refine Eq.trans ?_ (first_all (tab (a := 512) (b := 1024) x r) G U W n)
  rw [← first_add _ G U W n 2560 256 2816 rfl (by decide) (by decide) (by decide), ← first_add _ G U W n 2048 512 2560 rfl (by decide) (by decide) (by decide), ← first_add _ G U W n 1536 512 2048 rfl (by decide) (by decide) (by decide),
    ← first_add _ G U W n 1024 512 1536 rfl (by decide) (by decide) (by decide), ← first_add _ G U W n 512 512 1024 rfl (by decide) (by decide) (by decide)]
  refine congrArg₂ (· + ·) (congrArg₂ (· + ·) (congrArg₂ (· + ·) (congrArg₂ (· + ·) (congrArg₂ (· + ·) ?_ ?_) ?_) ?_) ?_) ?_
  · exact mlp_congr n (fun _ => rfl) (fun d f => (hc G 512 0 _ (by omega) d f).trans (congrArg (fun z => G (ix2 d z)) (Fin.ext (Nat.zero_add _))))
      (fun d f => (hc U 512 0 _ (by omega) d f).trans (congrArg (fun z => U (ix2 d z)) (Fin.ext (Nat.zero_add _))))
      (fun f => (hr W 512 0 _ (by omega) f n).trans (congrArg (fun z => W (ix2 z n)) (Fin.ext (Nat.zero_add _))))
  · exact mlp_congr n (fun _ => rfl) (hc G 512 512 _ (by omega)) (hc U 512 512 _ (by omega)) (fun f => hr W 512 512 _ (by omega) f n)
  · exact mlp_congr n (fun _ => rfl) (hc G 512 1024 _ (by omega)) (hc U 512 1024 _ (by omega)) (fun f => hr W 512 1024 _ (by omega) f n)
  · exact mlp_congr n (fun _ => rfl) (hc G 512 1536 _ (by omega)) (hc U 512 1536 _ (by omega)) (fun f => hr W 512 1536 _ (by omega) f n)
  · exact mlp_congr n (fun _ => rfl) (hc G 512 2048 _ (by omega)) (hc U 512 2048 _ (by omega)) (fun f => hr W 512 2048 _ (by omega) f n)
  · exact mlp_congr n (fun _ => rfl) (hc G 256 2560 _ (by omega)) (hc U 256 2560 _ (by omega)) (fun f => hr W 256 2560 _ (by omega) f n)

/-- The sum along a row. -/
theorem rowSum_apply (v : S512x1024.Idx → EReal) (i : S512.Idx) :
    multiReduction (F := Ideal) (φ := .f32) .add [1] S512 v 0x00000000#32 reduces_S512x1024_S512 (.inl rfl) rfl i = ∑ k : Fin 1024, v (ix2 (i 0) k) :=
  (Ideal.reduceAdd_r2_a1 (n0 := 512) (n1 := 1024) reduces_S512x1024_S512 v i).trans
    (Finset.sum_congr rfl fun k _ => congrArg v (funext fun | ⟨0, _⟩ => rfl | ⟨1, _⟩ => rfl))

/-- The body's result at a row of the tile. -/
theorem out_apply (x0 : Vec Ideal S512x1024 .bf16) (x1 x2 : Vec Ideal S1024x2816 .bf16) (x3 : Vec Ideal S2816x1024 .bf16) (x4 : Vec Ideal S512x1024 .f32)
    (x5 : Vec Ideal S1x1x6x1024 .f32) (x6 : Vec Ideal S4x1024 .f32) (r : Fin 512) (n : Fin 1024) :
    out0_7 (F := Ideal) x0 x1 x2 x3 x4 x5 x6 (ix2 r n)
      = x4 (ix2 r n) + x5 (ix4 0 0 5 n) * (unitRow (mlp (tab (a := 512) (b := 1024) x0 r) (tab (a := 1024) (b := 2816) x1) (tab (a := 1024) (b := 2816) x2) (tab (a := 2816) (b := 1024) x3)) n
        * x6 (ix2 3 n)) := by
  have hx : ∀ (X : S512x1024.Idx → EReal) (e : EltTy) (i : S512x1024.Idx), X (r0_0.idx i) = X i := fun X e i => congrArg X (funext fun a => Fin.ext (by
    match a with | ⟨0, _⟩ => show 0 + 1 * (i 0).val = (i 0).val; omega | ⟨1, _⟩ => show 0 + 1 * (i 1).val = (i 1).val; omega))
  have h0 : View.ld (Val := Elt Ideal) (e' := .bf16) x0 r0_0 = x0 := funext fun i => hx x0 .bf16 i
  have h4 : View.ld (Val := Elt Ideal) (e' := .f32) x4 r0_0 = x4 := funext fun i => hx x4 .f32 i
  unfold out0_7 k0_pay11 k0_pay10
  rw [h0, h4, Value.canon7_eq]
  have hy := whole_apply x0 x1 x2 x3
  show x4 _ + x5 _ * ((k0_pay6 (F := Ideal) x0 _ _ _ _ _ _ _ _ * Ideal.rsqrt (Ideal.div (multiReduction (F := Ideal) (φ := .f32) .add [1] S512 _ 0x00000000#32 reduces_S512x1024_S512 (.inl rfl) rfl _) _ + _)) * x6 _) = _
  rw [rowSum_apply]
  refine congrArg₂ (· + ·) (congrArg x4 (funext fun | ⟨0, _⟩ => rfl | ⟨1, _⟩ => rfl)) (congrArg₂ (· * ·) ?_ (congrArg₂ (· * ·) (congrArg₂ (· * ·) ?_ ?_) ?_))
  · exact congrArg x5 (funext fun a => Fin.ext (by
      match a with
      | ⟨0, _⟩ => rfl
      | ⟨1, _⟩ => rfl
      | ⟨2, _⟩ => rfl
      | ⟨3, _⟩ => show 0 + 1 * n.val = n.val; omega))
  · exact (congrArg _ (ValueIdx.eq_ix2 (n0 := 512) (n1 := 1024) _)).trans (hy r n)
  · refine congrArg Ideal.rsqrt (congrArg₂ (· + ·) (congrArg₂ Ideal.div (Finset.sum_congr rfl fun k _ => ?_) rfl) rfl)
    exact congrArg₂ (· * ·) (hy r k) (hy r k)
  · exact congrArg x6 (funext fun a => Fin.ext (by
      match a with
      | ⟨0, _⟩ => rfl
      | ⟨1, _⟩ => show 0 + 1 * n.val = n.val; omega))

end Cert.FfnIdeal.Dense

end
-- ==== Proof.FeedForward.Final.lean ====
/-
  The feed-forward's result array after the launch: which row of the arguments each block element is, and the array whole.
-/
module

public import proofs.«01_k».proof.Proof.FeedForward.Elements
public import Idealize.ShloMosaic.Lib.Pipeline.ValueKit
public import Idealize.ShloMosaic.Lib.Pipeline.Covers

@[expose] public section

set_option maxRecDepth 16384

noncomputable section

namespace Cert.FfnIdeal.Dense

open Cert.FfnIdeal Cert.FfnIdeal.Gen Idealize.ShloMosaic.ValueIdx Idealize.ShloMosaic.TcCoe Idealize.SL.Sem Cert.Swiglu
open Idealize.ShloMosaic hiding ix2 ix3 ix4 eq_ix2

variable (m : (ℓ : Loc nD τ sig) → Buf (Elt Ideal) ℓ)

/-- The rows. -/
abbrev uOf (c : Dev nD) : S17408x1024.Idx → EReal := m ((c : Thread nD τ).loc main_arg0)
/-- The gate weights. -/
abbrev wgOf (c : Dev nD) : S1024x2816.Idx → EReal := m ((c : Thread nD τ).loc main_arg1)
/-- The up weights. -/
abbrev wuOf (c : Dev nD) : S1024x2816.Idx → EReal := m ((c : Thread nD τ).loc main_arg2)
/-- The down weights. -/
abbrev wdOf (c : Dev nD) : S2816x1024.Idx → EReal := m ((c : Thread nD τ).loc main_arg3)
/-- The residual. -/
abbrev hOf (c : Dev nD) : S17408x1024.Idx → EReal := m ((c : Thread nD τ).loc main_arg4)
/-- The modulation. -/
abbrev modsOf (c : Dev nD) : S2x8x6x1024.Idx → EReal := m ((c : Thread nD τ).loc main_arg5)
/-- The gains. -/
abbrev gOf (c : Dev nD) : S4x1024.Idx → EReal := m ((c : Thread nD τ).loc main_arg6)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, if t.val < 32 then t.val / 8 else 4, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

theorem u_apply (c : Dev nD) (t : Fin cfg0.N) (r : Fin 512) (d : Fin 1024) (a : Fin 17408) (ha : a.val = 512 * t.val + r.val) :
    iblk m c 0 t (ix2 r d) = uOf m c (ix2 a d) := by
  rw [uOf, ← V_main_arg0 m c]
  blk_simp [iblk]
  refine congrArg (V m c main_arg0) ?_
  blk_ext [index0 t]
  · show _ + r.val = a.val; omega

theorem h_apply (c : Dev nD) (t : Fin cfg0.N) (r : Fin 512) (d : Fin 1024) (a : Fin 17408) (ha : a.val = 512 * t.val + r.val) :
    iblk m c 4 t (ix2 r d) = hOf m c (ix2 a d) := by
  rw [hOf, ← V_main_arg4 m c]
  blk_simp [iblk]
  refine congrArg (V m c main_arg4) ?_
  blk_ext [index4 t]
  · show _ + r.val = a.val; omega

theorem wg_apply (c : Dev nD) (t : Fin cfg0.N) (d : Fin 1024) (f : Fin 2816) : iblk m c 1 t (ix2 d f) = wgOf m c (ix2 d f) := by
  rw [wgOf, ← V_main_arg1 m c]
  blk_simp [iblk]
  refine congrArg (V m c main_arg1) ?_
  blk_ext [index1 t]

theorem wu_apply (c : Dev nD) (t : Fin cfg0.N) (d : Fin 1024) (f : Fin 2816) : iblk m c 2 t (ix2 d f) = wuOf m c (ix2 d f) := by
  rw [wuOf, ← V_main_arg2 m c]
  blk_simp [iblk]
  refine congrArg (V m c main_arg2) ?_
  blk_ext [index2 t]

theorem wd_apply (c : Dev nD) (t : Fin cfg0.N) (f : Fin 2816) (n : Fin 1024) : iblk m c 3 t (ix2 f n) = wdOf m c (ix2 f n) := by
  rw [wdOf, ← V_main_arg3 m c]
  blk_simp [iblk]
  refine congrArg (V m c main_arg3) ?_
  blk_ext [index3 t]

theorem mods_apply (c : Dev nD) (t : Fin cfg0.N) (n : Fin 1024) (a : Fin 17408) (ha : a.val / 512 = t.val) :
    iblk m c 5 t (ix4 0 0 5 n) = modsOf m c (ix4 0 (gateOf a) 5 n) := by
  rw [modsOf, ← V_main_arg5 m c]
  blk_simp [iblk]
  refine congrArg (V m c main_arg5) ?_
  blk_ext [index5 t]
  · show (if t.val < 32 then t.val / 8 else 4) = (gateOf a).val
    unfold gateOf
    by_cases hc : a.val < 16384
    · rw [if_pos (by omega), dif_pos hc]
      show t.val / 8 = a.val / 4096
      omega
    · rw [if_neg (by omega), dif_neg hc]; rfl

theorem g_apply (c : Dev nD) (t : Fin cfg0.N) (i : Fin 4) (n : Fin 1024) : iblk m c 6 t (ix2 i n) = gOf m c (ix2 i n) := by
  rw [gOf, ← V_main_arg6 m c]
  blk_simp [iblk]
  refine congrArg (V m c main_arg6) ?_
  blk_ext [index6 t]

/-- A tile's result at a row. -/
theorem tile_apply (c : Dev nD) (t : Fin cfg0.N) (r : Fin 512) (n : Fin 1024) (a : Fin 17408) (z : Fin 1024) (ha : a.val = 512 * t.val + r.val) (hz : z.val = n.val) :
    out0_7 (F := Ideal) (iblk m c 0 t) (iblk m c 1 t) (iblk m c 2 t) (iblk m c 3 t) (iblk m c 4 t) (iblk m c 5 t) (iblk m c 6 t) (ix2 r n)
      = ffnAt (uOf m c) (wgOf m c) (wuOf m c) (wdOf m c) (hOf m c) (modsOf m c) (gOf m c) a z := by
  obtain rfl : z = n := Fin.ext hz
  have hq : a.val / 512 = t.val := by have := r.isLt; omega
  unfold ffnAt
  rw [out_apply, h_apply m c t r z a ha, mods_apply m c t z a hq, g_apply m c t]
  have e : ∀ k, mlp (tab (a := 512) (b := 1024) (iblk m c 0 t) r) (tab (a := 1024) (b := 2816) (iblk m c 1 t)) (tab (a := 1024) (b := 2816) (iblk m c 2 t))
      (tab (a := 2816) (b := 1024) (iblk m c 3 t)) k
      = mlp (tab (a := 17408) (b := 1024) (uOf m c) a) (tab (a := 1024) (b := 2816) (wgOf m c)) (tab (a := 1024) (b := 2816) (wuOf m c)) (tab (a := 2816) (b := 1024) (wdOf m c)) k :=
    fun k => mlp_congr k (fun d => u_apply m c t r d a ha) (wg_apply m c t) (wu_apply m c t) (fun f => wd_apply m c t f k)
  rw [funext e]

theorem covers7 : (cfg0.win 7).Covers := by
  refine Pipeline.Window.covers_of_index_surj _ rfl (fun a => by match a with | ⟨0, _⟩ => exact (by decide : 0 < 512) | ⟨1, _⟩ => exact (by decide : 0 < 1024)) fun β => ?_
  have h0 : (β (0 : Fin 2)).val < 34 := lt_of_lt_of_eq (β (0 : Fin 2)).isLt (show (17408 + 512 - 1) / 512 = 34 from rfl)
  have h1 : (β (1 : Fin 2)).val < 1 := lt_of_lt_of_eq (β (1 : Fin 2)).isLt (show (1024 + 1024 - 1) / 1024 = 1 from rfl)
  refine ⟨⟨(β (0 : Fin 2)).val, h0⟩, fun a => ?_⟩
  refine (congrFun (index7 _) a).trans ?_
  match a with
  | ⟨0, _⟩ => rfl
  | ⟨1, _⟩ => show 0 = (β (1 : Fin 2)).val; omega

/-- The result array after the launch. -/
theorem final_ffn (c : Dev nD) :
    (dats m 0 c).arrAt 7 cfg0.N
      = fun y : S17408x1024.Idx => ffnAt (uOf m c) (wgOf m c) (wuOf m c) (wdOf m c) (hOf m c) (modsOf m c) (gOf m c) (y 0) (y 1) := by
  refine (dats m 0 c).arrAt_eq_of_covers 7 _ covers7 fun t hf y => ?_
  rw [after0_7]
  have key := tile_apply m c t
  generalize out0_7 (F := Ideal) (iblk m c 0 t) (iblk m c 1 t) (iblk m c 2 t) (iblk m c 3 t) (iblk m c 4 t) (iblk m c 5 t) (iblk m c 6 t) = X at key ⊢
  refine (congrArg X (eq_ix2 _)).trans (key _ _ _ _ ?_ ?_)
  · blk_simp [index7 t]; exact (congrArg (· + _) (Nat.mul_comm _ _))
  · blk_simp [index7 t]

end Cert.FfnIdeal.Dense

end
-- ==== Proof.FeedForward.RefValue.lean ====
/-
  The reference's dense feed-forward at an element: the same function of the arguments.
-/
module

public import proofs.«01_k».proof.Proof.Gen.FfnRefIdeal.Read
public import proofs.«01_k».proof.Proof.ExpertsMlp.RefValue
public import proofs.«01_k».proof.Proof.FeedForward.Row
public import Idealize.ShloMosaic.Lib.Pointwise

@[expose] public section

set_option maxRecDepth 16384

noncomputable section

namespace Cert.FfnRefIdeal.Dense

open Cert.FfnRefIdeal Cert.FfnRefIdeal.Gen Cert.FfnRefIdeal.Read Idealize.ShloMosaic.ValueIdx Cert.Swiglu
open Idealize.ShloMosaic hiding ix2 ix3 ix4
open Cert.ExpertsIdeal.Routed (one_bits zero_bits)
open Cert.ExpertsRefIdeal.Routed (silu_eq)

theorem gate_apply (x0 : S17408x1024.Idx → EReal) (x1 : S1024x2816.Idx → EReal) (a : Fin 17408) (f : Fin 2816) :
    val_main_v0 (F := Ideal) x0 x1 (ix2 a f) = ∑ d : Fin 1024, tab (a := 17408) (b := 1024) x0 a d * tab (a := 1024) (b := 2816) x1 d f := by
  rw [val_main_v0_apply]
  exact Finset.sum_congr rfl fun d _ => congrArg₂ (· * ·) (congrArg x0 (funext fun | ⟨0, _⟩ => rfl | ⟨1, _⟩ => rfl)) (congrArg x1 (funext fun | ⟨0, _⟩ => rfl | ⟨1, _⟩ => rfl))

theorem up_apply (x0 : S17408x1024.Idx → EReal) (x2 : S1024x2816.Idx → EReal) (a : Fin 17408) (f : Fin 2816) :
    val_main_v2 (F := Ideal) x0 x2 (ix2 a f) = ∑ d : Fin 1024, tab (a := 17408) (b := 1024) x0 a d * tab (a := 1024) (b := 2816) x2 d f := by
  rw [val_main_v2_apply]
  exact Finset.sum_congr rfl fun d _ => congrArg₂ (· * ·) (congrArg x0 (funext fun | ⟨0, _⟩ => rfl | ⟨1, _⟩ => rfl)) (congrArg x2 (funext fun | ⟨0, _⟩ => rfl | ⟨1, _⟩ => rfl))

theorem hid_apply (x0 : S17408x1024.Idx → EReal) (x1 x2 : S1024x2816.Idx → EReal) (a : Fin 17408) (f : Fin 2816) :
    val_main_v4 (F := Ideal) x0 x1 x2 (ix2 a f)
      = hid (tab (a := 17408) (b := 1024) x0 a) (tab (a := 1024) (b := 2816) x1) (tab (a := 1024) (b := 2816) x2) f := by
  rw [val_main_v4_apply, val_main_v3_apply, val_main_v1_apply, val_main_call0_v5_apply, val_main_call0_v4_apply, val_main_call0_cst_0_apply,
    val_main_call0_v3_apply, val_main_call0_v2_apply, val_main_call0_cst_apply, val_main_call0_v1_apply, val_main_call0_v0_apply, up_apply, gate_apply]
  show (_ * Ideal.div (Ideal.ofBits .f32 0x3F800000#32) (Ideal.ofBits .f32 0x3F800000#32 + Ideal.exp (-_))) * _ = _
  rw [one_bits, silu_eq]; rfl

/-- The SwiGLU of a row. -/
theorem mlp_apply (x0 : S17408x1024.Idx → EReal) (x1 x2 : S1024x2816.Idx → EReal) (x3 : S2816x1024.Idx → EReal) (a : Fin 17408) (n : Fin 1024) :
    val_main_v5 (F := Ideal) x0 x1 x2 x3 (ix2 a n)
      = mlp (tab (a := 17408) (b := 1024) x0 a) (tab (a := 1024) (b := 2816) x1) (tab (a := 1024) (b := 2816) x2) (tab (a := 2816) (b := 1024) x3) n := by
  rw [val_main_v5_apply]
  unfold mlp
  refine Finset.sum_congr rfl fun f _ => ?_
  refine congrArg₂ (· * ·) ?_ (congrArg x3 (funext fun | ⟨0, _⟩ => rfl | ⟨1, _⟩ => rfl))
  rw [← hid_apply]
  exact congrArg (val_main_v4 (F := Ideal) x0 x1 x2) (funext fun | ⟨0, _⟩ => rfl | ⟨1, _⟩ => rfl)

/-- The row of the modulation a row's gate is. -/
theorem mod_apply (x5 : S2x8x6x1024.Idx → EReal) (a : Fin 17408) (n : Fin 1024) :
    val_main_v14 (F := Ideal) x5 (ix2 a n) = x5 (ix4 0 (gateOf a) 5 n) := by
  unfold val_main_v14
  rw [concatenate_pair_apply]
  by_cases hc : a.val < 16384
  · refine (dif_pos hc).trans ?_
    rw [val_main_v10_apply, val_main_v9_apply, val_main_v8_apply, val_main_v7_apply, val_main_v6_apply]
    refine congrArg x5 (funext fun b => Fin.ext ?_)
    rw [gateOf, dif_pos hc]
    match b with
    | ⟨0, _⟩ => rfl
    | ⟨1, _⟩ => show ((a.val * 1024 + n.val) / 4194304 * 1024 + (a.val * 1024 + n.val) % 1024) / 1024 % 4 = a.val / 4096; omega
    | ⟨2, _⟩ => rfl
    | ⟨3, _⟩ => show ((a.val * 1024 + n.val) / 4194304 * 1024 + (a.val * 1024 + n.val) % 1024) % 1024 = n.val; omega
  · refine (dif_neg hc).trans ?_
    rw [val_main_v13_apply, val_main_v12_apply, val_main_v11_apply]
    refine congrArg x5 (funext fun b => Fin.ext ?_)
    rw [gateOf, dif_neg hc]
    match b with
    | ⟨0, _⟩ => rfl
    | ⟨1, _⟩ => rfl
    | ⟨2, _⟩ => rfl
    | ⟨3, _⟩ => show n.val % 1024 = n.val; omega

/-- The reference's result. -/
theorem out_apply (x0 : S17408x1024.Idx → EReal) (x1 x2 : S1024x2816.Idx → EReal) (x3 : S2816x1024.Idx → EReal) (x4 : S17408x1024.Idx → EReal)
    (x5 : S2x8x6x1024.Idx → EReal) (x6 : S4x1024.Idx → EReal) (a : Fin 17408) (n : Fin 1024) :
    val_main_v31 (F := Ideal) x0 x1 x2 x3 x4 x5 x6 (ix2 a n) = ffnAt x0 x1 x2 x3 x4 x5 x6 a n := by
  rw [val_main_v31_apply, val_main_v30_apply, mod_apply, val_main_v29_apply, val_main_v28_apply, val_main_v27_apply, val_main_v16_apply, val_main_v15_apply,
    val_main_v26_apply, val_main_v25_apply, val_main_v24_apply, val_main_v23_apply, val_main_v22_apply, val_main_cst_1_apply, val_main_v21_apply,
    val_main_v20_apply, val_main_cst_0_apply, val_main_v19_apply, val_main_v18_apply, val_main_cst_apply, mlp_apply]
  show _ + _ * ((_ * Ideal.rsqrt (Ideal.div (Ideal.ofBits .f32 0x00000000#32 + _) _ + _)) * _) = _
  rw [zero_bits, zero_add]
  unfold ffnAt unitRow
  refine congrArg₂ (· + ·) rfl (congrArg₂ (· * ·) rfl (congrArg₂ (· * ·) (congrArg₂ (· * ·) rfl ?_) ?_))
  · refine congrArg Ideal.rsqrt (congrArg₂ (· + ·) (congrArg₂ Ideal.div (Finset.sum_congr rfl fun k _ => ?_) rfl) rfl)
    have ek : ∀ i, i = ix2 a k → val_main_v17 (F := Ideal) x0 x1 x2 x3 i = mlp (tab x0 a) (tab x1) (tab x2) (tab x3) k * mlp (tab x0 a) (tab x1) (tab x2) (tab x3) k := by
      rintro i rfl
      rw [val_main_v17_apply, mlp_apply]; rfl
    exact ek _ (funext fun | ⟨0, _⟩ => rfl | ⟨1, _⟩ => rfl)
  · exact congrArg x6 (funext fun b => Fin.ext (by
      match b with
      | ⟨0, _⟩ => rfl
      | ⟨1, _⟩ => show n.val % 1024 = n.val; omega))

end Cert.FfnRefIdeal.Dense

end
-- ==== Proof.FeedForward.Agree.lean ====
/-
  The kernel's and the reference's dense feed-forward end with the same array, from memories agreeing on the arguments.
-/
module

public import proofs.«01_k».proof.Defs
public import proofs.«01_k».proof.Proof.FeedForward.Final
public import proofs.«01_k».proof.Proof.FeedForward.RefValue
public import proofs.«01_k».proof.Proof.Gen.FfnRefIdeal.Run

@[expose] public section

set_option maxRecDepth 16384

noncomputable section

namespace Cert.Proof

open Idealize.ShloMosaic Idealize.SL.Sem Cert.Swiglu

/-- The two runs' results are the same function of the arguments. -/
theorem ffn_agrees : Cert.algebraic_FfnIdeal_FfnRefIdeal := by
  intro m g m' g' hpre hag
  refine ⟨fun c y => ffnAt (FfnIdeal.Dense.uOf m c) (FfnIdeal.Dense.wgOf m c) (FfnIdeal.Dense.wuOf m c) (FfnIdeal.Dense.wdOf m c) (FfnIdeal.Dense.hOf m c)
      (FfnIdeal.Dense.modsOf m c) (FfnIdeal.Dense.gOf m c) (y 0) (y 1),
    (θ_run FfnIdeal.defs _ _).mono (fun r h c => ?_) (FfnIdeal.Value.run_blocks m g),
    (θ_run FfnRefIdeal.defs _ _).mono (fun r h c => ?_) (FfnRefIdeal.Value.run m' g')⟩
  · exact ⟨(h c).1.trans (FfnIdeal.Dense.final_ffn m c), (h c).2⟩
  · obtain ⟨h31, ha⟩ := h c
    obtain ⟨e0, e1, e2, e3, e4, e5, e6⟩ := hag c
    refine ⟨h31.trans ((FfnRefIdeal.Read.val_main_v31_eq _ _ _ _ _ _ _).trans ?_), ha⟩
    rw [e0, e1, e2, e3, e4, e5, e6]
    funext y
    have ey : y = ValueIdx.ix2 (y 0) (y 1) := funext fun a => match a with | ⟨0, _⟩ => rfl | ⟨1, _⟩ => rfl
    exact (congrArg _ ey).trans (FfnRefIdeal.Dense.out_apply _ _ _ _ _ _ _ (y 0) (y 1))

end Cert.Proof

end
-- ==== Proof.OutputProjection.Row.lean ====
/-
  A row of the two results of the attention's output call, over the extended reals: the residual sum, and the rows that the
  feed-forward reads.
-/
module

public import proofs.«01_k».proof.Proof.FeedForward.Row

@[expose] public section

noncomputable section

namespace Cert.OutRow

open Idealize.ShloMosaic Idealize.ShloMosaic.ValueIdx Cert.Swiglu

/-- The latent rows, then the context rows. -/
def stack (lat : (⟨2, ![16384, 1024]⟩ : Shape).Idx → EReal) (ctx : (⟨2, ![1024, 1024]⟩ : Shape).Idx → EReal) (a : Fin 17408) (d : Fin 1024) : EReal :=
  if h : a.val < 16384 then lat (ix2 ⟨a.val, h⟩ d) else ctx (ix2 ⟨a.val - 16384, by omega⟩ d)

/-- A row of merged heads times the output weights. -/
def project (o : Fin 1024 → EReal) (w : (⟨2, ![1024, 1024]⟩ : Shape).Idx → EReal) (n : Fin 1024) : EReal := ∑ d : Fin 1024, o d * w (ix2 d n)

/-- A row of the residual sum, from the row `x` it is added to, the row `y` of the projection and the modulation `s`. -/
def residual (x y : Fin 1024 → EReal) (s : Fin 6 → Fin 1024 → EReal) (g : Fin 4 → Fin 1024 → EReal) (n : Fin 1024) : EReal :=
  x n + s 2 n * (unitRow y n * g 1 n)

/-- A row that the feed-forward reads, from the row `h` of the residual sum. -/
def reads (h : Fin 1024 → EReal) (s : Fin 6 → Fin 1024 → EReal) (g : Fin 4 → Fin 1024 → EReal) (n : Fin 1024) : EReal :=
  unitRow h n * g 2 n * (Ideal.ofBits .f32 0x3F800000#32 + s 4 n) + s 3 n

/-- The modulation of a row. -/
def modOf (mods : (⟨4, ![2, 8, 6, 1024]⟩ : Shape).Idx → EReal) (a : Fin 17408) (j : Fin 6) (n : Fin 1024) : EReal := mods (ix4 0 (gateOf a) j n)

/-- The first result at row `a`. -/
def sumAt (ol : (⟨2, ![16384, 1024]⟩ : Shape).Idx → EReal) (oc w : (⟨2, ![1024, 1024]⟩ : Shape).Idx → EReal) (x : (⟨2, ![16384, 1024]⟩ : Shape).Idx → EReal)
    (ctx : (⟨2, ![1024, 1024]⟩ : Shape).Idx → EReal) (mods : (⟨4, ![2, 8, 6, 1024]⟩ : Shape).Idx → EReal) (g : (⟨2, ![4, 1024]⟩ : Shape).Idx → EReal)
    (a : Fin 17408) (n : Fin 1024) : EReal :=
  residual (stack x ctx a) (project (stack ol oc a) w) (modOf mods a) (tab g) n

/-- The second result at row `a`. -/
def readAt (ol : (⟨2, ![16384, 1024]⟩ : Shape).Idx → EReal) (oc w : (⟨2, ![1024, 1024]⟩ : Shape).Idx → EReal) (x : (⟨2, ![16384, 1024]⟩ : Shape).Idx → EReal)
    (ctx : (⟨2, ![1024, 1024]⟩ : Shape).Idx → EReal) (mods : (⟨4, ![2, 8, 6, 1024]⟩ : Shape).Idx → EReal) (g : (⟨2, ![4, 1024]⟩ : Shape).Idx → EReal)
    (a : Fin 17408) (n : Fin 1024) : EReal :=
  reads (sumAt ol oc w x ctx mods g a) (modOf mods a) (tab g) n

end Cert.OutRow

end
-- ==== Proof.OutputProjection.Elements.lean ====
/-
  The output call's body at an element, over the extended reals: the projection as a sum, the row's mean square, and the two
  blocks that the body leaves.
-/
module

public import proofs.«01_k».proof.Proof.Gen.OutIdeal.Value
public import proofs.«01_k».proof.Proof.OutputProjection.Row
public import Idealize.ShloMosaic.Lib.ValueLayout
public import Idealize.ShloMosaic.Lib.ValueLayoutCasts
public import Idealize.ShloMosaic.Lib.Pointwise
public import Idealize.ShloMosaic.PureOps.Ideal.Laws

@[expose] public section

set_option maxRecDepth 16384

noncomputable section

namespace Cert.OutIdeal.Mixer

open Cert.OutIdeal Cert.OutIdeal.Gen Idealize.ShloMosaic.ValueIdx Cert.Swiglu Cert.OutRow
open Idealize.ShloMosaic hiding ix2 ix3 ix4 eq_ix2

/-- The rows times the output weights. -/
abbrev proj (o : Vec Ideal S512x1024 .bf16) (w : Vec Ideal S1024x1024 .bf16) : FVec Ideal S512x1024 .f32 :=
  matmul (F := Ideal) (φ₁ := .bf16) (φ₂ := .bf16) dot_S512x1024_S1024x1024_S512x1024_1_0_0_1_n_n none o w (constant S512x1024 .f32 0x00000000#32)

theorem proj_apply (o : Vec Ideal S512x1024 .bf16) (w : Vec Ideal S1024x1024 .bf16) (r : Fin 512) (n : Fin 1024) :
    proj o w (ix2 r n) = project (tab (a := 512) (b := 1024) o r) w n := by
  simp only [proj, matmul]
  rw [Ideal.matmul_constant_zero_apply, ← Equiv.sum_comp (contrEquiv1 dot_S512x1024_S1024x1024_S512x1024_1_0_0_1_n_n 1024 rfl rfl).symm]
  unfold project
  refine Finset.sum_congr rfl fun d _ => ?_
  have hd := contrEquiv1_symm_val dot_S512x1024_S1024x1024_S512x1024_1_0_0_1_n_n 1024 rfl rfl d
  congr 1
  · exact congrArg o (funext fun a => Fin.ext (by match a with | ⟨0, _⟩ => rfl | ⟨1, _⟩ => exact hd))
  · exact congrArg w (funext fun a => Fin.ext (by match a with | ⟨0, _⟩ => exact hd | ⟨1, _⟩ => rfl))

/-- The sum along a row. -/
theorem rowSum_apply (v : S512x1024.Idx → EReal) (i : S512.Idx) :
    multiReduction (F := Ideal) (φ := .f32) .add [1] S512 v 0x00000000#32 reduces_S512x1024_S512 (.inl rfl) rfl i = ∑ k : Fin 1024, v (ix2 (i 0) k) :=
  (Ideal.reduceAdd_r2_a1 (n0 := 512) (n1 := 1024) reduces_S512x1024_S512 v i).trans
    (Finset.sum_congr rfl fun k _ => congrArg v (funext fun | ⟨0, _⟩ => rfl | ⟨1, _⟩ => rfl))

/-- One over the root of every row's mean square. -/
abbrev scaleOf (y : FVec Ideal S512x1024 .f32) : FVec Ideal S512x1 .f32 :=
  rsqrt (addf (divf (shapeCast S512x1 (multiReduction (F := Ideal) (φ := .f32) .add [1] S512 (mulf y y) 0x00000000#32 reduces_S512x1024_S512 (.inl rfl) rfl) shapeCasts_S512_S512x1)
    (broadcast S512x1 (Scalar.ofBits (F := Ideal) .f32 0x44800000#32))) (broadcast S512x1 (Scalar.ofBits (F := Ideal) .f32 0x358637BD#32)))

/-- The rows brought to unit mean square. -/
abbrev unitT (y : FVec Ideal S512x1024 .f32) : FVec Ideal S512x1024 .f32 :=
  mulf y (broadcastTo S512x1024 (scaleOf y) broadcasts_S512x1_S512x1024)

theorem scale_apply (y : FVec Ideal S512x1024 .f32) (r : Fin 512) :
    scaleOf y (ix2 r 0) = Ideal.rsqrt (Ideal.div (∑ k : Fin 1024, tab (a := 512) (b := 1024) y r k * tab (a := 512) (b := 1024) y r k) (Ideal.ofBits .f32 0x44800000#32) + Ideal.ofBits .f32 0x358637BD#32) := by
  show Ideal.rsqrt (Ideal.div (shapeCast S512x1 _ shapeCasts_S512_S512x1 (ix2 r 0)) _ + _) = _
  rw [shapeCast_a_a1_apply, rowSum_apply]
  rfl

theorem unit_apply (y : FVec Ideal S512x1024 .f32) (r : Fin 512) (n : Fin 1024) :
    unitT y (ix2 r n) = unitRow (tab (a := 512) (b := 1024) y r) n := by
  show (y (ix2 r n) : EReal) * broadcastTo S512x1024 (scaleOf y) broadcasts_S512x1_S512x1024 (ix2 r n) = _
  rw [broadcastTo_apply (scaleOf y) broadcasts_S512x1_S512x1024 (ix2 r n) (ix2 r 0) (fun a => by match a with | ⟨0, _⟩ => rfl | ⟨1, _⟩ => rfl), scale_apply]
  rfl

/-- A row of the modulation's block, spread over the rows. -/
theorem row_apply (v : Vec Ideal S1x1x1x1024 .f32) (n : Fin 1024) :
    shapeCast S1x1024 v shapeCasts_S1x1x1x1024_S1x1024 (ix2 0 n) = v (ix4 0 0 0 n) :=
  shapeCast_apply v _ _ _ (by
    rw [Shape.rowMajor_val_four, Shape.rowMajor_val_two]
    rfl)

/-- The bit that is set while the grid's point is among the latent rows. -/
abbrev bit (i : grid0.Coords) : BitVec 1 := Scalar.cmpi .slt (BitVec.ofNat 32 (i 0).val) 32#32

theorem sum_apply (i : grid0.Coords) (o1 o2 : Vec Ideal S512x1024 .bf16) (w : Vec Ideal S1024x1024 .bf16) (x1 x2 : Vec Ideal S512x1024 .f32)
    (s : Vec Ideal S1x1x1x1024 .f32) (g : Vec Ideal S1x1024 .f32) (r : Fin 512) (n : Fin 1024) :
    k0_pay2 (F := Ideal) i o1 o2 w x1 x2 s g (ix2 r n)
      = (Scalar.select (bit i) x1 x2 (ix2 r n) : EReal) + s (ix4 0 0 0 n)
        * (unitRow (project (tab (a := 512) (b := 1024) (Scalar.select (bit i) o1 o2) r) w) n * g (ix2 0 n)) := by
  show (Scalar.select (bit i) x1 x2 (ix2 r n) : EReal) + broadcastTo S512x1024 (shapeCast S1x1024 s shapeCasts_S1x1x1x1024_S1x1024) broadcasts_S1x1024_S512x1024 (ix2 r n)
    * (unitT (proj (Scalar.select (bit i) o1 o2) w) (ix2 r n) * broadcastTo S512x1024 g broadcasts_S1x1024_S512x1024 (ix2 r n)) = _
  rw [broadcastTo_1b_ab_apply, broadcastTo_1b_ab_apply, row_apply, unit_apply]
  rw [show tab (a := 512) (b := 1024) (proj (Scalar.select (bit i) o1 o2) w) r = project (tab (a := 512) (b := 1024) (Scalar.select (bit i) o1 o2) r) w from
    funext fun k => proj_apply _ _ r k]

theorem read_apply (h : FVec Ideal S512x1024 .f32) (g : Vec Ideal S1x1024 .f32) (s3 s4 : Vec Ideal S1x1x1x1024 .f32) (r : Fin 512) (n : Fin 1024) :
    k0_pay1 (F := Ideal) h g (k0_pay3 s3) s4 (ix2 r n)
      = unitRow (tab (a := 512) (b := 1024) h r) n * g (ix2 0 n) * (Ideal.ofBits .f32 0x3F800000#32 + s4 (ix4 0 0 0 n)) + s3 (ix4 0 0 0 n) := by
  show (unitT h (ix2 r n) * broadcastTo S512x1024 g broadcasts_S1x1024_S512x1024 (ix2 r n)
      * broadcastTo S512x1024 (addf (broadcast S1x1024 (Scalar.ofBits (F := Ideal) .f32 0x3F800000#32)) (shapeCast S1x1024 s4 shapeCasts_S1x1x1x1024_S1x1024)) broadcasts_S1x1024_S512x1024 (ix2 r n)
      + broadcastTo S512x1024 (shapeCast S1x1024 s3 shapeCasts_S1x1x1x1024_S1x1024) broadcasts_S1x1024_S512x1024 (ix2 r n) : EReal) = _
  rw [broadcastTo_1b_ab_apply, broadcastTo_1b_ab_apply, broadcastTo_1b_ab_apply, row_apply, unit_apply]
  show _ * (_ + shapeCast S1x1024 s4 shapeCasts_S1x1x1x1024_S1x1024 (ix2 0 n)) + _ = _
  rw [row_apply]
  rfl

/-- The modulation's block as six rows. -/
abbrev six (x5 : Vec Ideal S1x1x6x1024 .f32) : Fin 6 → Fin 1024 → EReal := fun j n => x5 (ix4 0 0 j n)

theorem mod_load (x5 : Vec Ideal S1x1x6x1024 .f32) (o : ℕ) (inb) (ho : o < 6) (n : Fin 1024) :
    View.ld (Val := Elt Ideal) (e' := .f32) x5 (Rect.unit (s := S1x1x6x1024) ![0, 0, o, 0] S1x1x1x1024.size inb) (ix4 0 0 0 n) = six x5 ⟨o, ho⟩ n :=
  congrArg x5 (funext fun a => Fin.ext (by
    match a with
    | ⟨0, _⟩ => rfl
    | ⟨1, _⟩ => rfl
    | ⟨2, _⟩ => rfl
    | ⟨3, _⟩ => show 0 + 1 * n.val = n.val; omega))

theorem gain_load (x6 : Vec Ideal S4x1024 .f32) (o : ℕ) (inb) (ho : o < 4) (n : Fin 1024) :
    View.ld (Val := Elt Ideal) (e' := .f32) x6 (Rect.unit (s := S4x1024) ![o, 0] S1x1024.size inb) (ix2 0 n) = tab (a := 4) (b := 1024) x6 ⟨o, ho⟩ n :=
  congrArg x6 (funext fun a => Fin.ext (by
    match a with
    | ⟨0, _⟩ => rfl
    | ⟨1, _⟩ => show 0 + 1 * n.val = n.val; omega))

theorem zeros : (![0, 0] : Fin 2 → ℕ) = fun _ => 0 := funext fun a => match a with | ⟨0, _⟩ => rfl | ⟨1, _⟩ => rfl

theorem pay4_apply (i : grid0.Coords) (x0 x1 : Vec Ideal S512x1024 .bf16) (x2 : Vec Ideal S1024x1024 .bf16) (x3 x4 : Vec Ideal S512x1024 .f32)
    (x5 : Vec Ideal S1x1x6x1024 .f32) (x6 : Vec Ideal S4x1024 .f32) (r : Fin 512) (n : Fin 1024) :
    k0_pay4 (F := Ideal) i x0 x1 x2 x3 x4 x5 x6 (ix2 r n)
      = residual (tab (a := 512) (b := 1024) (Scalar.select (bit i) x3 x4) r) (project (tab (a := 512) (b := 1024) (Scalar.select (bit i) x0 x1) r) x2) (six x5) (tab (a := 4) (b := 1024) x6) n := by
  unfold k0_pay4
  rw [sum_apply, mod_load x5 2 _ (by decide), gain_load x6 1 _ (by decide), View.ld_unit_zero zeros, View.ld_unit_zero zeros, View.ld_unit_zero zeros, View.ld_unit_zero zeros,
    View.ld_unit_zero zeros]
  rfl

/-- The first block that the body leaves. -/
theorem out7_apply (i : grid0.Coords) (x0 x1 : Vec Ideal S512x1024 .bf16) (x2 : Vec Ideal S1024x1024 .bf16) (x3 x4 : Vec Ideal S512x1024 .f32)
    (x5 : Vec Ideal S1x1x6x1024 .f32) (x6 : Vec Ideal S4x1024 .f32) (r : Fin 512) (n : Fin 1024) :
    out0_7 (F := Ideal) i x0 x1 x2 x3 x4 x5 x6 (ix2 r n)
      = residual (tab (a := 512) (b := 1024) (Scalar.select (bit i) x3 x4) r) (project (tab (a := 512) (b := 1024) (Scalar.select (bit i) x0 x1) r) x2) (six x5) (tab (a := 4) (b := 1024) x6) n := by
  unfold out0_7
  rw [View.canon_cons_unit_zero zeros]
  exact pay4_apply i x0 x1 x2 x3 x4 x5 x6 r n

/-- The second block. -/
theorem out8_apply (i : grid0.Coords) (x0 x1 : Vec Ideal S512x1024 .bf16) (x2 : Vec Ideal S1024x1024 .bf16) (x3 x4 : Vec Ideal S512x1024 .f32)
    (x5 : Vec Ideal S1x1x6x1024 .f32) (x6 : Vec Ideal S4x1024 .f32) (r : Fin 512) (n : Fin 1024) :
    out0_8 (F := Ideal) i x0 x1 x2 x3 x4 x5 x6 (ix2 r n)
      = reads (residual (tab (a := 512) (b := 1024) (Scalar.select (bit i) x3 x4) r) (project (tab (a := 512) (b := 1024) (Scalar.select (bit i) x0 x1) r) x2) (six x5) (tab (a := 4) (b := 1024) x6))
        (six x5) (tab (a := 4) (b := 1024) x6) n := by
  unfold out0_8
  rw [View.canon_cons_unit_zero zeros, read_apply, mod_load x5 3 _ (by decide), mod_load x5 4 _ (by decide), gain_load x6 2 _ (by decide)]
  rw [show tab (a := 512) (b := 1024) (k0_pay4 (F := Ideal) i x0 x1 x2 x3 x4 x5 x6) r = _ from funext fun k => pay4_apply i x0 x1 x2 x3 x4 x5 x6 r k]
  rfl

end Cert.OutIdeal.Mixer

end
-- ==== Proof.OutputProjection.Final.lean ====
/-
  The output call's two result arrays after the launch: which row of the arguments each block element is, and the arrays whole.
-/
module

public import proofs.«01_k».proof.Proof.OutputProjection.Elements
public import Idealize.ShloMosaic.Lib.Pipeline.ValueKit
public import Idealize.ShloMosaic.Lib.Pipeline.Covers

@[expose] public section

set_option maxRecDepth 16384

noncomputable section

namespace Cert.OutIdeal.Mixer

open Cert.OutIdeal Cert.OutIdeal.Gen Idealize.ShloMosaic.ValueIdx Idealize.ShloMosaic.TcCoe Idealize.SL.Sem Cert.Swiglu Cert.OutRow
open Idealize.ShloMosaic hiding ix2 ix3 ix4 eq_ix2

variable (m : (ℓ : Loc nD τ sig) → Buf (Elt Ideal) ℓ)

/-- The merged heads of the latent rows. -/
abbrev latOf (c : Dev nD) : S16384x1024.Idx → EReal := m ((c : Thread nD τ).loc main_arg0)
/-- The merged heads of the context rows. -/
abbrev ctxOf (c : Dev nD) : S1024x1024.Idx → EReal := m ((c : Thread nD τ).loc main_arg1)
/-- The output weights. -/
abbrev wOf (c : Dev nD) : S1024x1024.Idx → EReal := m ((c : Thread nD τ).loc main_arg2)
/-- The latent rows of the residual. -/
abbrev xOf (c : Dev nD) : S16384x1024.Idx → EReal := m ((c : Thread nD τ).loc main_arg3)
/-- The context rows of the residual. -/
abbrev cOf (c : Dev nD) : S1024x1024.Idx → EReal := m ((c : Thread nD τ).loc main_arg4)
/-- The modulation. -/
abbrev modsOf (c : Dev nD) : S2x8x6x1024.Idx → EReal := m ((c : Thread nD τ).loc main_arg5)
/-- The gains. -/
abbrev gOf (c : Dev nD) : S4x1024.Idx → EReal := m ((c : Thread nD τ).loc main_arg6)

theorem index0 : ∀ t : Fin cfg0.N, t.val < 32 → win0_0.index t = ![t.val, 0] := (by decide +kernel : ∀ t : Fin grid0.N, t.val < 32 → _)
theorem index1 : ∀ t : Fin cfg0.N, ¬ t.val < 32 → win0_1.index t = ![t.val - 32, 0] := (by decide +kernel : ∀ t : Fin grid0.N, ¬ t.val < 32 → _)
theorem index2 : ∀ t : Fin cfg0.N, win0_2.index t = ![0, 0] := (by decide +kernel : ∀ t : Fin grid0.N, _)
theorem index3 : ∀ t : Fin cfg0.N, t.val < 32 → win0_3.index t = ![t.val, 0] := (by decide +kernel : ∀ t : Fin grid0.N, t.val < 32 → _)
theorem index4 : ∀ t : Fin cfg0.N, ¬ t.val < 32 → win0_4.index t = ![t.val - 32, 0] := (by decide +kernel : ∀ t : Fin grid0.N, ¬ t.val < 32 → _)
theorem index5 : ∀ t : Fin cfg0.N, win0_5.index t = ![0, if t.val < 32 then t.val / 8 else 4, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)

theorem bit_one : ∀ t : Fin grid0.N, t.val < 32 → bit (grid0.coords t) = 1#1 := by decide +kernel
theorem bit_zero : ∀ t : Fin grid0.N, ¬ t.val < 32 → bit (grid0.coords t) = 0#1 := by decide +kernel

theorem lat_apply (c : Dev nD) (t : Fin cfg0.N) (ht : t.val < 32) (r : Fin 512) (d : Fin 1024) (a : Fin 16384) (ha : a.val = 512 * t.val + r.val) :
    iblk m c 0 t (ix2 r d) = latOf m c (ix2 a d) := by
  rw [latOf, ← V_main_arg0 m c]
  blk_simp [iblk]
  refine congrArg (V m c main_arg0) ?_
  blk_ext [index0 t ht]
  · show _ + r.val = a.val; omega

theorem ctx_apply (c : Dev nD) (t : Fin cfg0.N) (ht : ¬ t.val < 32) (r : Fin 512) (d : Fin 1024) (a : Fin 1024) (ha : a.val = 512 * (t.val - 32) + r.val) :
    iblk m c 1 t (ix2 r d) = ctxOf m c (ix2 a d) := by
  rw [ctxOf, ← V_main_arg1 m c]
  blk_simp [iblk]
  refine congrArg (V m c main_arg1) ?_
  blk_ext [index1 t ht]
  · show _ + r.val = a.val; omega

theorem x_apply (c : Dev nD) (t : Fin cfg0.N) (ht : t.val < 32) (r : Fin 512) (d : Fin 1024) (a : Fin 16384) (ha : a.val = 512 * t.val + r.val) :
    iblk m c 3 t (ix2 r d) = xOf m c (ix2 a d) := by
  rw [xOf, ← V_main_arg3 m c]
  blk_simp [iblk]
  refine congrArg (V m c main_arg3) ?_
  blk_ext [index3 t ht]
  · show _ + r.val = a.val; omega

theorem c_apply (c : Dev nD) (t : Fin cfg0.N) (ht : ¬ t.val < 32) (r : Fin 512) (d : Fin 1024) (a : Fin 1024) (ha : a.val = 512 * (t.val - 32) + r.val) :
    iblk m c 4 t (ix2 r d) = cOf m c (ix2 a d) := by
  rw [cOf, ← V_main_arg4 m c]
  blk_simp [iblk]
  refine congrArg (V m c main_arg4) ?_
  blk_ext [index4 t ht]
  · show _ + r.val = a.val; omega

theorem w_apply (c : Dev nD) (t : Fin cfg0.N) (d n : Fin 1024) : iblk m c 2 t (ix2 d n) = wOf m c (ix2 d n) := by
  rw [wOf, ← V_main_arg2 m c]
  blk_simp [iblk]
  refine congrArg (V m c main_arg2) ?_
  blk_ext [index2 t]

theorem mods_apply (c : Dev nD) (t : Fin cfg0.N) (j : Fin 6) (n : Fin 1024) (a : Fin 17408) (ha : a.val / 512 = t.val) :
    iblk m c 5 t (ix4 0 0 j n) = modOf (modsOf m c) a j n := by
  rw [modOf, modsOf, ← V_main_arg5 m c]
  blk_simp [iblk]
  refine congrArg (V m c main_arg5) ?_
  blk_ext [index5 t]
  · show (if t.val < 32 then t.val / 8 else 4) = (gateOf a).val
    unfold gateOf
    by_cases hc : a.val < 16384
    · rw [if_pos (by omega), dif_pos hc]
      show t.val / 8 = a.val / 4096
      omega
    · rw [if_neg (by omega), dif_neg hc]; rfl

theorem g_apply (c : Dev nD) (t : Fin cfg0.N) (i : Fin 4) (n : Fin 1024) : iblk m c 6 t (ix2 i n) = gOf m c (ix2 i n) := by
  rw [gOf, ← V_main_arg6 m c]
  blk_simp [iblk]
  refine congrArg (V m c main_arg6) ?_
  blk_ext [index6 t]

/-- The merged heads that a tile's row takes. -/
theorem heads_row (c : Dev nD) (t : Fin cfg0.N) (r : Fin 512) (a : Fin 17408) (ha : a.val = 512 * t.val + r.val) :
    tab (a := 512) (b := 1024) (Scalar.select (bit (grid0.coords t)) (iblk m c 0 t) (iblk m c 1 t)) r = stack (latOf m c) (ctxOf m c) a := by
  have hr := r.isLt
  funext d
  unfold stack
  by_cases ht : t.val < 32
  · rw [bit_one t ht, dif_pos (show a.val < 16384 by omega)]
    exact lat_apply m c t ht r d _ ha
  · rw [bit_zero t ht, dif_neg (show ¬ a.val < 16384 by omega)]
    exact ctx_apply m c t ht r d _ (by show a.val - 16384 = _; omega)

/-- The row that it is added to. -/
theorem base_row (c : Dev nD) (t : Fin cfg0.N) (r : Fin 512) (a : Fin 17408) (ha : a.val = 512 * t.val + r.val) :
    tab (a := 512) (b := 1024) (Scalar.select (bit (grid0.coords t)) (iblk m c 3 t) (iblk m c 4 t)) r = stack (xOf m c) (cOf m c) a := by
  have hr := r.isLt
  funext d
  unfold stack
  by_cases ht : t.val < 32
  · rw [bit_one t ht, dif_pos (show a.val < 16384 by omega)]
    exact x_apply m c t ht r d _ ha
  · rw [bit_zero t ht, dif_neg (show ¬ a.val < 16384 by omega)]
    exact c_apply m c t ht r d _ (by show a.val - 16384 = _; omega)

theorem weights_eq (c : Dev nD) (t : Fin cfg0.N) (o : Fin 1024 → EReal) : project o (iblk m c 2 t) = project o (wOf m c) :=
  funext fun n => Finset.sum_congr rfl fun d _ => congrArg (o d * ·) (w_apply m c t d n)

theorem six_eq (c : Dev nD) (t : Fin cfg0.N) (r : Fin 512) (a : Fin 17408) (ha : a.val = 512 * t.val + r.val) : six (iblk m c 5 t) = modOf (modsOf m c) a :=
  funext fun j => funext fun n => mods_apply m c t j n a (by have := r.isLt; omega)

theorem gains_eq (c : Dev nD) (t : Fin cfg0.N) : tab (a := 4) (b := 1024) (iblk m c 6 t) = tab (a := 4) (b := 1024) (gOf m c) :=
  funext fun i => funext fun n => g_apply m c t i n

theorem tile7_apply (c : Dev nD) (t : Fin cfg0.N) (r : Fin 512) (n : Fin 1024) (a : Fin 17408) (z : Fin 1024) (ha : a.val = 512 * t.val + r.val) (hz : z.val = n.val) :
    out0_7 (F := Ideal) (grid0.coords t) (iblk m c 0 t) (iblk m c 1 t) (iblk m c 2 t) (iblk m c 3 t) (iblk m c 4 t) (iblk m c 5 t) (iblk m c 6 t) (ix2 r n)
      = sumAt (latOf m c) (ctxOf m c) (wOf m c) (xOf m c) (cOf m c) (modsOf m c) (gOf m c) a z := by
  obtain rfl : z = n := Fin.ext hz
  refine (out7_apply (grid0.coords t) (iblk m c 0 t) (iblk m c 1 t) (iblk m c 2 t) (iblk m c 3 t) (iblk m c 4 t) (iblk m c 5 t) (iblk m c 6 t) r z).trans ?_
  rw [heads_row m c t r a ha, base_row m c t r a ha, weights_eq m c t, six_eq m c t r a ha, gains_eq m c t]
  rfl

theorem covers7 : (cfg0.win 7).Covers := by
  refine Pipeline.Window.covers_of_index_surj _ rfl (fun a => by match a with | ⟨0, _⟩ => exact (by decide : 0 < 512) | ⟨1, _⟩ => exact (by decide : 0 < 1024)) fun β => ?_
  have h0 : (β (0 : Fin 2)).val < 34 := lt_of_lt_of_eq (β (0 : Fin 2)).isLt (show (17408 + 512 - 1) / 512 = 34 from rfl)
  have h1 : (β (1 : Fin 2)).val < 1 := lt_of_lt_of_eq (β (1 : Fin 2)).isLt (show (1024 + 1024 - 1) / 1024 = 1 from rfl)
  refine ⟨⟨(β (0 : Fin 2)).val, h0⟩, fun a => ?_⟩
  refine (congrFun (index7 _) a).trans ?_
  match a with
  | ⟨0, _⟩ => rfl
  | ⟨1, _⟩ => show 0 = (β (1 : Fin 2)).val; omega

/-- The first result array after the launch. -/
theorem final7 (c : Dev nD) :
    (dats m 0 c).arrAt 7 cfg0.N = fun y : S17408x1024.Idx => sumAt (latOf m c) (ctxOf m c) (wOf m c) (xOf m c) (cOf m c) (modsOf m c) (gOf m c) (y 0) (y 1) := by
  refine (dats m 0 c).arrAt_eq_of_covers 7 _ covers7 fun t hf y => ?_
  rw [after0_7]
  have key := tile7_apply m c t
  generalize out0_7 (F := Ideal) (grid0.coords t) (iblk m c 0 t) (iblk m c 1 t) (iblk m c 2 t) (iblk m c 3 t) (iblk m c 4 t) (iblk m c 5 t) (iblk m c 6 t) = X at key ⊢
  refine (congrArg X (eq_ix2 _)).trans (key _ _ _ _ ?_ ?_)
  · blk_simp [index7 t]; exact (congrArg (· + _) (Nat.mul_comm _ _))
  · blk_simp [index7 t]

theorem tile8_apply (c : Dev nD) (t : Fin cfg0.N) (r : Fin 512) (n : Fin 1024) (a : Fin 17408) (z : Fin 1024) (ha : a.val = 512 * t.val + r.val) (hz : z.val = n.val) :
    out0_8 (F := Ideal) (grid0.coords t) (iblk m c 0 t) (iblk m c 1 t) (iblk m c 2 t) (iblk m c 3 t) (iblk m c 4 t) (iblk m c 5 t) (iblk m c 6 t) (ix2 r n)
      = readAt (latOf m c) (ctxOf m c) (wOf m c) (xOf m c) (cOf m c) (modsOf m c) (gOf m c) a z := by
  obtain rfl : z = n := Fin.ext hz
  refine (out8_apply (grid0.coords t) (iblk m c 0 t) (iblk m c 1 t) (iblk m c 2 t) (iblk m c 3 t) (iblk m c 4 t) (iblk m c 5 t) (iblk m c 6 t) r z).trans ?_
  rw [heads_row m c t r a ha, base_row m c t r a ha, weights_eq m c t, six_eq m c t r a ha, gains_eq m c t]
  rfl

theorem covers8 : (cfg0.win 8).Covers := by
  refine Pipeline.Window.covers_of_index_surj _ rfl (fun a => by match a with | ⟨0, _⟩ => exact (by decide : 0 < 512) | ⟨1, _⟩ => exact (by decide : 0 < 1024)) fun β => ?_
  have h0 : (β (0 : Fin 2)).val < 34 := lt_of_lt_of_eq (β (0 : Fin 2)).isLt (show (17408 + 512 - 1) / 512 = 34 from rfl)
  have h1 : (β (1 : Fin 2)).val < 1 := lt_of_lt_of_eq (β (1 : Fin 2)).isLt (show (1024 + 1024 - 1) / 1024 = 1 from rfl)
  refine ⟨⟨(β (0 : Fin 2)).val, h0⟩, fun a => ?_⟩
  refine (congrFun (index8 _) a).trans ?_
  match a with
  | ⟨0, _⟩ => rfl
  | ⟨1, _⟩ => show 0 = (β (1 : Fin 2)).val; omega

/-- The second result array after the launch. -/
theorem final8 (c : Dev nD) :
    (dats m 0 c).arrAt 8 cfg0.N = fun y : S17408x1024.Idx => readAt (latOf m c) (ctxOf m c) (wOf m c) (xOf m c) (cOf m c) (modsOf m c) (gOf m c) (y 0) (y 1) := by
  refine (dats m 0 c).arrAt_eq_of_covers 8 _ covers8 fun t hf y => ?_
  rw [after0_8]
  have key := tile8_apply m c t
  generalize out0_8 (F := Ideal) (grid0.coords t) (iblk m c 0 t) (iblk m c 1 t) (iblk m c 2 t) (iblk m c 3 t) (iblk m c 4 t) (iblk m c 5 t) (iblk m c 6 t) = X at key ⊢
  refine (congrArg X (eq_ix2 _)).trans (key _ _ _ _ ?_ ?_)
  · blk_simp [index8 t]; exact (congrArg (· + _) (Nat.mul_comm _ _))
  · blk_simp [index8 t]

end Cert.OutIdeal.Mixer

end
-- ==== Proof.OutputProjection.RefValue.lean ====
/-
  The reference's two results at an element: the same functions of the arguments.
-/
module

public import proofs.«01_k».proof.Proof.Gen.OutRefIdeal.Read
public import proofs.«01_k».proof.Proof.ExpertsMlp.RefValue
public import proofs.«01_k».proof.Proof.OutputProjection.Row
public import Idealize.ShloMosaic.Lib.Pointwise

@[expose] public section

set_option maxRecDepth 16384

noncomputable section

namespace Cert.OutRefIdeal.Mixer

open Cert.OutRefIdeal Cert.OutRefIdeal.Gen Cert.OutRefIdeal.Read Idealize.ShloMosaic.ValueIdx Cert.Swiglu Cert.OutRow
open Idealize.ShloMosaic hiding ix2 ix3 ix4 eq_ix2
open Cert.ExpertsIdeal.Routed (zero_bits)

theorem heads_apply (x0 : S16384x1024.Idx → EReal) (x1 : S1024x1024.Idx → EReal) (a : Fin 17408) (d : Fin 1024) :
    val_main_v0 (F := Ideal) x0 x1 (ix2 a d) = stack x0 x1 a d := by
  unfold val_main_v0 stack
  rw [concatenate_pair_apply]
  by_cases hc : a.val < 16384
  · rw [dif_pos hc]
    exact (dif_pos hc).trans (congrArg x0 (funext fun | ⟨0, _⟩ => rfl | ⟨1, _⟩ => rfl))
  · rw [dif_neg hc]
    exact (dif_neg hc).trans (congrArg x1 (funext fun | ⟨0, _⟩ => rfl | ⟨1, _⟩ => rfl))

theorem base_apply (x3 : S16384x1024.Idx → EReal) (x4 : S1024x1024.Idx → EReal) (a : Fin 17408) (d : Fin 1024) :
    val_main_v2 (F := Ideal) x3 x4 (ix2 a d) = stack x3 x4 a d := by
  unfold val_main_v2 stack
  rw [concatenate_pair_apply]
  by_cases hc : a.val < 16384
  · rw [dif_pos hc]
    exact (dif_pos hc).trans (congrArg x3 (funext fun | ⟨0, _⟩ => rfl | ⟨1, _⟩ => rfl))
  · rw [dif_neg hc]
    exact (dif_neg hc).trans (congrArg x4 (funext fun | ⟨0, _⟩ => rfl | ⟨1, _⟩ => rfl))

theorem proj_apply (x0 : S16384x1024.Idx → EReal) (x1 x2 : S1024x1024.Idx → EReal) (a : Fin 17408) (n : Fin 1024) :
    val_main_v1 (F := Ideal) x0 x1 x2 (ix2 a n) = project (stack x0 x1 a) x2 n := by
  rw [val_main_v1_apply]
  unfold project
  refine Finset.sum_congr rfl fun d _ => congrArg₂ (· * ·) ?_ (congrArg x2 (funext fun | ⟨0, _⟩ => rfl | ⟨1, _⟩ => rfl))
  rw [← heads_apply]
  exact congrArg (val_main_v0 (F := Ideal) x0 x1) (funext fun | ⟨0, _⟩ => rfl | ⟨1, _⟩ => rfl)

/-- The modulation's third row, of every row's sequence. -/
theorem mod2_apply (x5 : S2x8x6x1024.Idx → EReal) (a : Fin 17408) (n : Fin 1024) : val_main_v11 (F := Ideal) x5 (ix2 a n) = modOf x5 a 2 n := by
  unfold val_main_v11 modOf
  rw [concatenate_pair_apply]
  by_cases hc : a.val < 16384
  · refine (dif_pos hc).trans ?_
    rw [val_main_v7_apply, val_main_v6_apply, val_main_v5_apply, val_main_v4_apply, val_main_v3_apply]
    refine congrArg x5 (funext fun b => Fin.ext ?_)
    rw [gateOf, dif_pos hc]
    match b with
    | ⟨0, _⟩ => rfl
    | ⟨1, _⟩ => show ((a.val * 1024 + n.val) / 4194304 * 1024 + (a.val * 1024 + n.val) % 1024) / 1024 % 4 = a.val / 4096; omega
    | ⟨2, _⟩ => rfl
    | ⟨3, _⟩ => show ((a.val * 1024 + n.val) / 4194304 * 1024 + (a.val * 1024 + n.val) % 1024) % 1024 = n.val; omega
  · refine (dif_neg hc).trans ?_
    rw [val_main_v10_apply, val_main_v9_apply, val_main_v8_apply]
    refine congrArg x5 (funext fun b => Fin.ext ?_)
    rw [gateOf, dif_neg hc]
    match b with
    | ⟨0, _⟩ => rfl
    | ⟨1, _⟩ => rfl
    | ⟨2, _⟩ => rfl
    | ⟨3, _⟩ => show n.val % 1024 = n.val; omega

/-- The fifth row is the same reading at another row. -/
theorem mod4_apply (x5 : S2x8x6x1024.Idx → EReal) (a : Fin 17408) (n : Fin 1024) : val_main_v52 (F := Ideal) x5 (ix2 a n) = modOf x5 a 4 n := by
  unfold val_main_v52 modOf
  rw [concatenate_pair_apply]
  by_cases hc : a.val < 16384
  · refine (dif_pos hc).trans ?_
    rw [val_main_v48_apply, val_main_v47_apply, val_main_v46_apply, val_main_v45_apply, val_main_v44_apply]
    refine congrArg x5 (funext fun b => Fin.ext ?_)
    rw [gateOf, dif_pos hc]
    match b with
    | ⟨0, _⟩ => rfl
    | ⟨1, _⟩ => show ((a.val * 1024 + n.val) / 4194304 * 1024 + (a.val * 1024 + n.val) % 1024) / 1024 % 4 = a.val / 4096; omega
    | ⟨2, _⟩ => rfl
    | ⟨3, _⟩ => show ((a.val * 1024 + n.val) / 4194304 * 1024 + (a.val * 1024 + n.val) % 1024) % 1024 = n.val; omega
  · refine (dif_neg hc).trans ?_
    rw [val_main_v51_apply, val_main_v50_apply, val_main_v49_apply]
    refine congrArg x5 (funext fun b => Fin.ext ?_)
    rw [gateOf, dif_neg hc]
    match b with
    | ⟨0, _⟩ => rfl
    | ⟨1, _⟩ => rfl
    | ⟨2, _⟩ => rfl
    | ⟨3, _⟩ => show n.val % 1024 = n.val; omega

/-- And the fourth. -/
theorem mod3_apply (x5 : S2x8x6x1024.Idx → EReal) (a : Fin 17408) (n : Fin 1024) : val_main_v64 (F := Ideal) x5 (ix2 a n) = modOf x5 a 3 n := by
  unfold val_main_v64 modOf
  rw [concatenate_pair_apply]
  by_cases hc : a.val < 16384
  · refine (dif_pos hc).trans ?_
    rw [val_main_v60_apply, val_main_v59_apply, val_main_v58_apply, val_main_v57_apply, val_main_v56_apply]
    refine congrArg x5 (funext fun b => Fin.ext ?_)
    rw [gateOf, dif_pos hc]
    match b with
    | ⟨0, _⟩ => rfl
    | ⟨1, _⟩ => show ((a.val * 1024 + n.val) / 4194304 * 1024 + (a.val * 1024 + n.val) % 1024) / 1024 % 4 = a.val / 4096; omega
    | ⟨2, _⟩ => rfl
    | ⟨3, _⟩ => show ((a.val * 1024 + n.val) / 4194304 * 1024 + (a.val * 1024 + n.val) % 1024) % 1024 = n.val; omega
  · refine (dif_neg hc).trans ?_
    rw [val_main_v63_apply, val_main_v62_apply, val_main_v61_apply]
    refine congrArg x5 (funext fun b => Fin.ext ?_)
    rw [gateOf, dif_neg hc]
    match b with
    | ⟨0, _⟩ => rfl
    | ⟨1, _⟩ => rfl
    | ⟨2, _⟩ => rfl
    | ⟨3, _⟩ => show n.val % 1024 = n.val; omega

/-- The first result. -/
theorem sum_apply (x0 : S16384x1024.Idx → EReal) (x1 x2 : S1024x1024.Idx → EReal) (x3 : S16384x1024.Idx → EReal) (x4 : S1024x1024.Idx → EReal)
    (x5 : S2x8x6x1024.Idx → EReal) (x6 : S4x1024.Idx → EReal) (a : Fin 17408) (n : Fin 1024) :
    val_main_v28 (F := Ideal) x0 x1 x2 x3 x4 x5 x6 (ix2 a n) = sumAt x0 x1 x2 x3 x4 x5 x6 a n := by
  rw [val_main_v28_apply, val_main_v27_apply, base_apply, mod2_apply, val_main_v26_apply, val_main_v25_apply, val_main_v24_apply, val_main_v13_apply, val_main_v12_apply,
    val_main_v23_apply, val_main_v22_apply, val_main_v21_apply, val_main_v20_apply, val_main_v19_apply, val_main_cst_1_apply, val_main_v18_apply,
    val_main_v17_apply, val_main_cst_0_apply, val_main_v16_apply, val_main_v15_apply, val_main_cst_apply, proj_apply]
  show _ + _ * ((_ * Ideal.rsqrt (Ideal.div (Ideal.ofBits .f32 0x00000000#32 + _) _ + _)) * _) = _
  rw [zero_bits, zero_add]
  unfold sumAt OutRow.residual unitRow
  refine congrArg₂ (· + ·) rfl (congrArg₂ (· * ·) rfl (congrArg₂ (· * ·) (congrArg₂ (· * ·) rfl ?_) ?_))
  · refine congrArg Ideal.rsqrt (congrArg₂ (· + ·) (congrArg₂ Ideal.div (Finset.sum_congr rfl fun k _ => ?_) rfl) rfl)
    have ek : ∀ i, i = ix2 a k → val_main_v14 (F := Ideal) x0 x1 x2 i = project (stack x0 x1 a) x2 k * project (stack x0 x1 a) x2 k := by
      rintro i rfl
      rw [val_main_v14_apply, proj_apply]; rfl
    exact ek _ (funext fun | ⟨0, _⟩ => rfl | ⟨1, _⟩ => rfl)
  · exact congrArg x6 (funext fun b => Fin.ext (by
      match b with
      | ⟨0, _⟩ => rfl
      | ⟨1, _⟩ => show n.val % 1024 = n.val; omega))

/-- The second result. -/
theorem read_apply (x0 : S16384x1024.Idx → EReal) (x1 x2 : S1024x1024.Idx → EReal) (x3 : S16384x1024.Idx → EReal) (x4 : S1024x1024.Idx → EReal)
    (x5 : S2x8x6x1024.Idx → EReal) (x6 : S4x1024.Idx → EReal) (a : Fin 17408) (n : Fin 1024) :
    val_main_v66 (F := Ideal) x0 x1 x2 x3 x4 x5 x6 (ix2 a n) = readAt x0 x1 x2 x3 x4 x5 x6 a n := by
  rw [val_main_v66_apply, val_main_v65_apply, mod3_apply, val_main_v55_apply, val_main_v54_apply, mod4_apply, val_main_v53_apply, val_main_cst_5_apply,
    val_main_v43_apply, val_main_v42_apply, val_main_v41_apply, val_main_v30_apply, val_main_v29_apply,
    val_main_v40_apply, val_main_v39_apply, val_main_v38_apply, val_main_v37_apply, val_main_v36_apply, val_main_cst_4_apply, val_main_v35_apply,
    val_main_v34_apply, val_main_cst_3_apply, val_main_v33_apply, val_main_v32_apply, val_main_cst_2_apply, sum_apply]
  show ((_ * Ideal.rsqrt (Ideal.div (Ideal.ofBits .f32 0x00000000#32 + _) _ + _)) * _) * (_ + _) + _ = _
  rw [zero_bits, zero_add]
  unfold readAt reads unitRow
  refine congrArg₂ (· + ·) (congrArg₂ (· * ·) (congrArg₂ (· * ·) (congrArg₂ (· * ·) rfl ?_) ?_) rfl) rfl
  · refine congrArg Ideal.rsqrt (congrArg₂ (· + ·) (congrArg₂ Ideal.div (Finset.sum_congr rfl fun k _ => ?_) rfl) rfl)
    have ek : ∀ i, i = ix2 a k → val_main_v31 (F := Ideal) x0 x1 x2 x3 x4 x5 x6 i = sumAt x0 x1 x2 x3 x4 x5 x6 a k * sumAt x0 x1 x2 x3 x4 x5 x6 a k := by
      rintro i rfl
      rw [val_main_v31_apply, sum_apply]; rfl
    exact ek _ (funext fun | ⟨0, _⟩ => rfl | ⟨1, _⟩ => rfl)
  · exact congrArg x6 (funext fun b => Fin.ext (by
      match b with
      | ⟨0, _⟩ => rfl
      | ⟨1, _⟩ => show n.val % 1024 = n.val; omega))

end Cert.OutRefIdeal.Mixer

end
-- ==== Proof.OutputProjection.Agree.lean ====
/-
  The kernel's and the reference's output call end with the same two arrays, from memories agreeing on the arguments.
-/
module

public import proofs.«01_k».proof.Defs
public import proofs.«01_k».proof.Proof.OutputProjection.Final
public import proofs.«01_k».proof.Proof.OutputProjection.RefValue
public import proofs.«01_k».proof.Proof.Gen.OutRefIdeal.Run

@[expose] public section

set_option maxRecDepth 16384

noncomputable section

namespace Cert.Proof

open Idealize.ShloMosaic Idealize.SL.Sem Cert.OutRow

/-- The two runs' results are the same functions of the arguments. -/
theorem out_agrees : Cert.algebraic_OutIdeal_OutRefIdeal := by
  intro m g m' g' hpre hag
  refine ⟨fun c y => sumAt (OutIdeal.Mixer.latOf m c) (OutIdeal.Mixer.ctxOf m c) (OutIdeal.Mixer.wOf m c) (OutIdeal.Mixer.xOf m c) (OutIdeal.Mixer.cOf m c)
      (OutIdeal.Mixer.modsOf m c) (OutIdeal.Mixer.gOf m c) (y 0) (y 1),
    fun c y => readAt (OutIdeal.Mixer.latOf m c) (OutIdeal.Mixer.ctxOf m c) (OutIdeal.Mixer.wOf m c) (OutIdeal.Mixer.xOf m c) (OutIdeal.Mixer.cOf m c)
      (OutIdeal.Mixer.modsOf m c) (OutIdeal.Mixer.gOf m c) (y 0) (y 1),
    (θ_run OutIdeal.defs _ _).mono (fun r h c => ?_) (OutIdeal.Value.run_blocks m g),
    (θ_run OutRefIdeal.defs _ _).mono (fun r h c => ?_) (OutRefIdeal.Value.run m' g')⟩
  · obtain ⟨h7, h8, ha⟩ := h c
    exact ⟨h7.trans (OutIdeal.Mixer.final7 m c), h8.trans (OutIdeal.Mixer.final8 m c), ha⟩
  · obtain ⟨h28, h66, ha⟩ := h c
    obtain ⟨e0, e1, e2, e3, e4, e5, e6⟩ := hag c
    refine ⟨h28.trans ((OutRefIdeal.Read.val_main_v28_eq _ _ _ _ _ _ _).trans ?_), h66.trans ((OutRefIdeal.Read.val_main_v66_eq m' c).trans ?_), ha⟩
    · rw [e0, e1, e2, e3, e4, e5, e6]
      funext y
      have ey : y = ValueIdx.ix2 (y 0) (y 1) := funext fun a => match a with | ⟨0, _⟩ => rfl | ⟨1, _⟩ => rfl
      exact (congrArg _ ey).trans (OutRefIdeal.Mixer.sum_apply _ _ _ _ _ _ _ (y 0) (y 1))
    · rw [e0, e1, e2, e3, e4, e5, e6]
      funext y
      have ey : y = ValueIdx.ix2 (y 0) (y 1) := funext fun a => match a with | ⟨0, _⟩ => rfl | ⟨1, _⟩ => rfl
      exact (congrArg _ ey).trans (OutRefIdeal.Mixer.read_apply _ _ _ _ _ _ _ (y 0) (y 1))

end Cert.Proof

end
-- ==== Proof.lean ====
/-
  The proof of `Cert.Claim`: the frames of the kernel's attention, output call, experts and dense feed-forward, of their reading
  over the extended reals and of the references, and that the last two agree: the attention for finite queries and keys, the
  experts for a table of tiles within range, the output call and the feed-forward for any arguments.
-/
module

public import proofs.«01_k».proof.Defs
public import proofs.«01_k».proof.Proof.AttentionBits.Launch
public import proofs.«01_k».proof.Proof.Attention.Agree
public import proofs.«01_k».proof.Proof.ExpertsMlpBits.Frame
public import proofs.«01_k».proof.Proof.ExpertsMlp.Agree
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.FeedForward.Agree
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.OutputProjection.Agree
public import Idealize.ShloMosaic.Lib.Claim

@[expose] public section

noncomputable section

namespace Cert.Proof

open Idealize.ShloMosaic Idealize.SL.Sem

/-- The reference changes no argument and leaves every counter at zero. -/
theorem reference_frame : Cert.quiescent_AttnRefIdeal := fun m ρ _ =>
  (θ_run Cert.AttnRefIdeal.defs _ _).mono (fun r h => ⟨fun c => (h c).2.2, sem_eq_zero_of_no_sems (by decide) r.2⟩)
    (Cert.AttnRefIdeal.Value.run (F := Ideal) m ρ)

/-- The same of the experts' reference. -/
theorem experts_reference_frame : Cert.quiescent_ExpertsRefIdeal := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The same of the feed-forward's reference. -/
theorem ffn_reference_frame : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The same of the output call's reference. -/
theorem out_reference_frame : Cert.quiescent_OutRefIdeal := fun m ρ _ =>
  (θ_run Cert.OutRefIdeal.defs _ _).mono (fun r h => ⟨fun c => (h c).2.2, sem_eq_zero_of_no_sems (by decide) r.2⟩)
    (Cert.OutRefIdeal.Value.run (F := Ideal) m ρ)

theorem claim : Cert.Claim := ⟨Cert.Attn.Gen.facts, Cert.AttnIdeal.Gen.facts, Cert.AttnRefIdeal.Gen.facts, Cert.Experts.Gen.facts, Cert.ExpertsIdeal.Gen.facts,
  Cert.ExpertsRefIdeal.Gen.facts, Cert.Ffn.Gen.facts, Cert.FfnIdeal.Gen.facts, Cert.FfnRefIdeal.Gen.facts, Cert.Out.Gen.facts, Cert.OutIdeal.Gen.facts, Cert.OutRefIdeal.Gen.facts,
  Cert.Pre_finite_qk.facts, Cert.Pre_routed.facts,
  fun m ρ _ => Cert.Attn.Attention.frame m ρ,
  fun m ρ _ => Cert.AttnIdeal.Attention.frame m ρ,
  fun m ρ _ => Cert.AttnIdeal.Attention.frame m ρ,
  reference_frame,
  fun m ρ _ => reference_frame m ρ trivial,
  experts_frame,
  experts_ideal_frame,
  experts_reference_frame,
  fun m ρ _ => experts_reference_frame m ρ trivial,
  fun m ρ _ => Cert.Ffn.Gen.frame m ρ,
  fun m ρ _ => Cert.FfnIdeal.Gen.frame m ρ,
  ffn_reference_frame,
  fun m ρ _ => Cert.Out.Gen.frame m ρ,
  fun m ρ _ => Cert.OutIdeal.Gen.frame m ρ,
  out_reference_frame,
  trivial,
  attention_agrees,
  trivial,
  experts_agree,
  trivial,
  ffn_agrees,
  trivial,
  out_agrees⟩

end Cert.Proof

end
